-- ==== Defs.lean ====
def Pre_Kernel [hPre_permutes_heads : Cert.Pre_permutes_heads.Facts] (m : (ℓ : Loc Cert.Kernel.nD Cert.Kernel.τ Cert.Kernel.sig) → Buf (Elt Bits) ℓ) : Prop :=
  ∀ c : Dev Cert.Kernel.nD,
    (Cert.Pre_permutes_heads.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_permutes_heads : Cert.Pre_permutes_heads.Facts] (m : (ℓ : Loc Cert.KernelIdeal.nD Cert.KernelIdeal.τ Cert.KernelIdeal.sig) → Buf (Elt Ideal) ℓ) : Prop :=
  ∀ c : Dev Cert.KernelIdeal.nD,
    (Cert.Pre_permutes_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutes_heads [hPre_permutes_heads : Cert.Pre_permutes_heads.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutes_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_permutes_heads : Cert.Pre_permutes_heads.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_permutes_heads : Cert.Pre_permutes_heads.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_permutes_heads [hReferenceIdeal : Cert.ReferenceIdeal.Facts] [hPre_permutes_heads : Cert.Pre_permutes_heads.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutes_heads m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S3x4x24x2x128 Cert.KernelIdeal.S3x4x24x1x128
  ∧ IdealRules.bf16_pair.Statement Cert.KernelIdeal.S20x1x8x128 Cert.KernelIdeal.S20x1x4x128
  ∧ IdealRules.bf16_pair.Statement Cert.KernelIdeal.S1x1x20x2x128 Cert.KernelIdeal.S1x1x20x1x128
  ∧ IdealRules.bf16_pair.Statement Cert.KernelIdeal.S1x1x24x2x128 Cert.KernelIdeal.S1x1x24x1x128
  ∧ IdealRules.bf16_pair.Statement Cert.KernelIdeal.S48x128 Cert.KernelIdeal.S24x128
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_permutes_heads : Cert.Pre_permutes_heads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_permutes_heads : Cert.Pre_permutes_heads.Facts),
    quiescent_Kernel (hKernel := hKernel) (hPre_permutes_heads := hPre_permutes_heads)
    ∧ quiescent_KernelIdeal (hKernelIdeal := hKernelIdeal) (hPre_permutes_heads := hPre_permutes_heads)
    ∧ quiescent_ReferenceIdeal (hReferenceIdeal := hReferenceIdeal)
    ∧ quiescent_ReferenceIdeal_pre_permutes_heads (hReferenceIdeal := hReferenceIdeal) (hPre_permutes_heads := hPre_permutes_heads)
    ∧ preserves_Kernel_KernelIdeal
    ∧ algebraic_KernelIdeal_ReferenceIdeal (hKernelIdeal := hKernelIdeal) (hReferenceIdeal := hReferenceIdeal) (hPre_permutes_heads := hPre_permutes_heads)
-- ==== Pre_permutes_heads.lean ====
abbrev S256x3 : Shape := ⟨2, ![256, 3]⟩
abbrev S256x20x24x128 : Shape := ⟨4, ![256, 20, 24, 128]⟩
abbrev S256x20x3x128 : Shape := ⟨4, ![256, 20, 3, 128]⟩
abbrev S24576x2x128 : Shape := ⟨3, ![24576, 2, 128]⟩
abbrev S3072x24x128 : Shape := ⟨3, ![3072, 24, 128]⟩
abbrev S256x16x128 : Shape := ⟨3, ![256, 16, 128]⟩
abbrev S256x1 : Shape := ⟨2, ![256, 1]⟩
abbrev S256 : Shape := ⟨1, ![256]⟩
abbrev S_ : Shape := ⟨0, ![]⟩

class Facts : Prop where
  slices_S256x3_S256x1_0_0 : S256x3.Slices ![0, 0] S256x1
  shapeCasts_S256x1_S256 : S256x1.ShapeCasts S256
  slices_S256x3_S256x1_0_1 : S256x3.Slices ![0, 1] S256x1
  slices_S256x3_S256x1_0_2 : S256x3.Slices ![0, 2] S256x1
  bcast_S_S256x3 : S_.BroadcastsInDim S256x3 (![] : Fin 0 → Fin S256x3.rank)
  reducesTo_S256x3_S_d0_1 : S256x3.ReducesTo [0, 1] S_
  h_S_ : 0 < S_.numel
  reducesTo_S256_S_d0 : S256.ReducesTo [0] S_

variable [Facts]

def fn {F : FTy → Type} [FloatOps F] (main_arg0 : IVec S256x3 32) (main_arg1 : FVec F S256x20x24x128 .bf16) (main_arg2 : FVec F S256x20x3x128 .bf16) (main_arg3 : FVec F S256x20x3x128 .bf16) (main_arg4 : IVec S24576x2x128 32) (main_arg5 : IVec S3072x24x128 32) (main_arg6 : FVec F S256x16x128 .f32) : IVec S_ 1 :=
  let main_v0 : IVec S256x1 32 := (extractStridedSlice S256x1 ![0, 0] · slices_S256x3_S256x1_0_0) main_arg0
  let main_v1 : IVec S256 32 := shapeCast S256 main_v0 shapeCasts_S256x1_S256
  let main_v2 : IVec S256x1 32 := (extractStridedSlice S256x1 ![0, 1] · slices_S256x3_S256x1_0_1) main_arg0
  let main_v3 : IVec S256 32 := shapeCast S256 main_v2 shapeCasts_S256x1_S256
  let main_v4 : IVec S256x1 32 := (extractStridedSlice S256x1 ![0, 2] · slices_S256x3_S256x1_0_2) main_arg0
  let main_v5 : IVec S256 32 := shapeCast S256 main_v4 shapeCasts_S256x1_S256
  let main_c : IVec S_ 32 := constantI S_ 32 0#32
  let main_v6 : IVec S256x3 32 := broadcastInDim S256x3 ![] bcast_S_S256x3 main_c
  let main_v7 : IVec S256x3 1 := cmpi .sge main_arg0 main_v6
  let main_c_0 : IVec S_ 32 := constantI S_ 32 3#32
  let main_v8 : IVec S256x3 32 := broadcastInDim S256x3 ![] bcast_S_S256x3 main_c_0
  let main_v9 : IVec S256x3 1 := cmpi .slt main_arg0 main_v8
  let main_v10 : IVec S256x3 1 := andi main_v7 main_v9
  let main_c_1 : IVec S_ 1 := constantI S_ 1 1#1
  let main_v11 : IVec S_ 1 := (fun x v => Host.reduce IntOp.andi x v reducesTo_S256x3_S_d0_1 h_S_) main_v10 main_c_1
  let main_v12 : IVec S256 1 := cmpi .ne main_v1 main_v3
  let main_v13 : IVec S256 1 := cmpi .ne main_v1 main_v5
  let main_v14 : IVec S256 1 := andi main_v12 main_v13
  let main_v15 : IVec S256 1 := cmpi .ne main_v3 main_v5
  let main_v16 : IVec S256 1 := andi main_v14 main_v15
  let main_c_2 : IVec S_ 1 := constantI S_ 1 1#1
  let main_v17 : IVec S_ 1 := (fun x v => Host.reduce IntOp.andi x v reducesTo_S256_S_d0 h_S_) main_v16 main_c_2
  let main_v18 : IVec S_ 1 := andi main_v11 main_v17
  main_v18
-- ==== Kernel.lean ====
abbrev S256x3 : Shape := ⟨2, ![256, 3]⟩
abbrev S256x20x24x128 : Shape := ⟨4, ![256, 20, 24, 128]⟩
abbrev S256x20x3x128 : Shape := ⟨4, ![256, 20, 3, 128]⟩
abbrev S24576x2x128 : Shape := ⟨3, ![24576, 2, 128]⟩
abbrev S3072x24x128 : Shape := ⟨3, ![3072, 24, 128]⟩
abbrev S256x16x128 : Shape := ⟨3, ![256, 16, 128]⟩
abbrev S768 : Shape := ⟨1, ![768]⟩
abbrev S256x20x3x8x128 : Shape := ⟨5, ![256, 20, 3, 8, 128]⟩
abbrev S20x3x256x128 : Shape := ⟨4, ![20, 3, 256, 128]⟩
abbrev S8x20x3x8x128 : Shape := ⟨5, ![8, 20, 3, 8, 128]⟩
abbrev S20x3x8x128 : Shape := ⟨4, ![20, 3, 8, 128]⟩
abbrev S768x2x128 : Shape := ⟨3, ![768, 2, 128]⟩
abbrev S96x24x128 : Shape := ⟨3, ![96, 24, 128]⟩
abbrev S8x16x128 : Shape := ⟨3, ![8, 16, 128]⟩
abbrev S3x4x24x128 : Shape := ⟨4, ![3, 4, 24, 128]⟩
abbrev S128x128 : Shape := ⟨2, ![128, 128]⟩
abbrev S160x128 : Shape := ⟨2, ![160, 128]⟩
abbrev S20x3x4x128 : Shape := ⟨4, ![20, 3, 4, 128]⟩
abbrev S20x1x4x128 : Shape := ⟨4, ![20, 1, 4, 128]⟩
abbrev S20x1x8x128 : Shape := ⟨4, ![20, 1, 8, 128]⟩
abbrev S20x4x128 : Shape := ⟨3, ![20, 4, 128]⟩
abbrev S20x1x128 : Shape := ⟨3, ![20, 1, 128]⟩
abbrev S20x128 : Shape := ⟨2, ![20, 128]⟩
abbrev S1x1x20x128 : Shape := ⟨4, ![1, 1, 20, 128]⟩
abbrev S1 : Shape := ⟨1, ![1]⟩
abbrev S1x20x1x8x128 : Shape := ⟨5, ![1, 20, 1, 8, 128]⟩
abbrev S20x8x128 : Shape := ⟨3, ![20, 8, 128]⟩
abbrev S8x2x128 : Shape := ⟨3, ![8, 2, 128]⟩
abbrev S16x128 : Shape := ⟨2, ![16, 128]⟩
abbrev S16x8x128 : Shape := ⟨3, ![16, 8, 128]⟩
abbrev S16x1x128 : Shape := ⟨3, ![16, 1, 128]⟩
abbrev S1x1x128 : Shape := ⟨3, ![1, 1, 128]⟩
abbrev S128 : Shape := ⟨1, ![128]⟩
abbrev S1x128 : Shape := ⟨2, ![1, 128]⟩
abbrev S32x128 : Shape := ⟨2, ![32, 128]⟩
abbrev S1x16x128 : Shape := ⟨3, ![1, 16, 128]⟩
abbrev S1x1x24x128 : Shape := ⟨4, ![1, 1, 24, 128]⟩
abbrev S24x128 : Shape := ⟨2, ![24, 128]⟩
abbrev S108x128 : Shape := ⟨2, ![108, 128]⟩
abbrev S128x256 : Shape := ⟨2, ![128, 256]⟩
abbrev S160x256 : Shape := ⟨2, ![160, 256]⟩
abbrev S160 : Shape := ⟨1, ![160]⟩
abbrev S160x1 : Shape := ⟨2, ![160, 1]⟩

abbrev nBuf : Space → Nat
  | .hbm => 11
  | .vmem => 16
  | .smem => 1
  | _ => 0

abbrev bufTy : (tb : Table) → Fin (tcTables nBuf tb) → BufTy
  | .hbm, ⟨0, _⟩ => ⟨S256x3, .i32⟩
  | .hbm, ⟨1, _⟩ => ⟨S256x20x24x128, .bf16⟩
  | .hbm, ⟨2, _⟩ => ⟨S256x20x3x128, .bf16⟩
  | .hbm, ⟨3, _⟩ => ⟨S256x20x3x128, .bf16⟩
  | .hbm, ⟨4, _⟩ => ⟨S24576x2x128, .i32⟩
  | .hbm, ⟨5, _⟩ => ⟨S3072x24x128, .i32⟩
  | .hbm, ⟨6, _⟩ => ⟨S256x16x128, .f32⟩
  | .hbm, ⟨7, _⟩ => ⟨S256x20x3x8x128, .bf16⟩
  | .hbm, ⟨8, _⟩ => ⟨S20x3x256x128, .bf16⟩
  | .hbm, ⟨9, _⟩ => ⟨S20x3x256x128, .bf16⟩
  | .hbm, ⟨10, _⟩ => ⟨S256x20x3x8x128, .bf16⟩
  | .local _ .vmem, ⟨0, _⟩ => ⟨S8x20x3x8x128, .bf16⟩
  | .local _ .vmem, ⟨1, _⟩ => ⟨S8x20x3x8x128, .bf16⟩
  | .local _ .vmem, ⟨2, _⟩ => ⟨S20x3x8x128, .bf16⟩
  | .local _ .vmem, ⟨3, _⟩ => ⟨S20x3x8x128, .bf16⟩
  | .local _ .vmem, ⟨4, _⟩ => ⟨S20x3x8x128, .bf16⟩
  | .local _ .vmem, ⟨5, _⟩ => ⟨S20x3x8x128, .bf16⟩
  | .local _ .vmem, ⟨6, _⟩ => ⟨S768x2x128, .i32⟩
  | .local _ .vmem, ⟨7, _⟩ => ⟨S768x2x128, .i32⟩
  | .local _ .vmem, ⟨8, _⟩ => ⟨S96x24x128, .i32⟩
  | .local _ .vmem, ⟨9, _⟩ => ⟨S96x24x128, .i32⟩
  | .local _ .vmem, ⟨10, _⟩ => ⟨S8x16x128, .f32⟩
  | .local _ .vmem, ⟨11, _⟩ => ⟨S8x16x128, .f32⟩
  | .local _ .vmem, ⟨12, _⟩ => ⟨S8x20x3x8x128, .bf16⟩
  | .local _ .vmem, ⟨13, _⟩ => ⟨S8x20x3x8x128, .bf16⟩
  | .local _ .vmem, ⟨14, _⟩ => ⟨S3x4x24x128, .i32⟩
  | .local _ .vmem, ⟨15, _⟩ => ⟨S3x4x24x128, .i32⟩
  | .local _ .smem, ⟨0, _⟩ => ⟨S768, .i32⟩
  | _, _ => ⟨S256x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32_121 : BitVec 32 := 8#32
  let v171 : BitVec 32 := Scalar.muli arg0 c8_i32_121
  let c0_i32_122 : BitVec 32 := 0#32
  let v172 : BitVec 32 := Scalar.addi v171 c0_i32_122
  let c3_i32 : BitVec 32 := 3#32
  let v173 : BitVec 32 := Scalar.muli v172 c3_i32
  let c0_i32_123 : BitVec 32 := 0#32
  let v174 : BitVec 32 := Scalar.addi v173 c0_i32_123
  let v175 : Index := Scalar.indexCast v174
  ![v175.toNat]
def k0_off2 (v176 : BitVec 32) : Fin 5 → Nat :=
  let c0_124 : Index := 0#32
  let c0_125 : Index := 0#32
  let v177 : Index := Scalar.indexCast v176
  let c0_126 : Index := 0#32
  let c0_127 : Index := 0#32
  ![0, 0, v177.toNat, 0, 0]

def k0_off3 (v176 : BitVec 32) : Fin 4 → Nat :=
  let v264 : Index := Scalar.indexCast v176
  let c0_154 : Index := 0#32
  let c0_155 : Index := 0#32
  let c0_156 : Index := 0#32
  ![v264.toNat, 0, 0, 0]

def k0_chk1 (v176 : BitVec 32) : Prop :=
  (∀ a, (k0_off2 v176) a + S1x20x1x8x128.size a ≤ S8x20x3x8x128.size a) ∧
  (∀ a, (k0_off3 v176) a + S1x1x24x128.size a ≤ S3x4x24x128.size a) ∧
  (∀ (hinb : ∀ a, (k0_off2 v176) a + S1x20x1x8x128.size a ≤ S8x20x3x8x128.size a), (Rect.unit (s := S8x20x3x8x128) (k0_off2 v176) S1x20x1x8x128.size hinb).PackedRows (EltTy.packing .bf16))
theorem k0_off2_inb : ∀ (v176 : BitVec 32) (k0_hw1 : k0_chk1 v176), ∀ a, (k0_off2 v176) a + S1x20x1x8x128.size a ≤ S8x20x3x8x128.size a := fun v176 k0_hw1 => k0_hw1.1
theorem k0_off3_inb : ∀ (v176 : BitVec 32) (k0_hw1 : k0_chk1 v176), ∀ a, (k0_off3 v176) a + S1x1x24x128.size a ≤ S3x4x24x128.size a := fun v176 k0_hw1 => k0_hw1.2.1
theorem k0_off2_packedbf16 : ∀ (v176 : BitVec 32) (k0_hw1 : k0_chk1 v176), (Rect.unit (s := S8x20x3x8x128) (k0_off2 v176) S1x20x1x8x128.size (k0_off2_inb v176 k0_hw1)).PackedRows (EltTy.packing .bf16) := fun v176 k0_hw1 => k0_hw1.2.2 (k0_off2_inb v176 k0_hw1)

def k0_off4 (i : grid0.Coords) : Fin 1 → Nat :=
  let arg0 : BitVec 32 := BitVec.ofNat 32 (i 0).val
  let c8_i32_375 : BitVec 32 := 8#32
  let v827 : BitVec 32 := Scalar.muli arg0 c8_i32_375
  let c0_i32_376 : BitVec 32 := 0#32
  let v828 : BitVec 32 := Scalar.addi v827 c0_i32_376
  let c3_i32_377 : BitVec 32 := 3#32
  let v829 : BitVec 32 := Scalar.muli v828 c3_i32_377
  let c1_i32_378 : BitVec 32 := 1#32
  let v830 : BitVec 32 := Scalar.addi v829 c1_i32_378
  let v831 : Index := Scalar.indexCast v830
  ![v831.toNat]
def k0_off5 (v832 : BitVec 32) : Fin 5 → Nat :=
  let c0_379 : Index := 0#32
  let c0_380 : Index := 0#32
  let v833 : Index := Scalar.indexCast v832
  let c0_381 : Index := 0#32
  let c0_382 : Index := 0#32
  ![0, 0, v833.toNat, 0, 0]

def k0_off6 (v832 : BitVec 32) : Fin 4 → Nat :=
  let v920 : Index := Scalar.indexCast v832
  let c0_417 : Index := 0#32
  let c0_418 : Index := 0#32
  let c0_419 : Index := 0#32
  ![v920.toNat, 0, 0, 0]

def k0_chk2 (v832 : BitVec 32) : Prop :=
  (∀ a, (k0_off5 v832) a + S1x20x1x8x128.size a ≤ S8x20x3x8x128.size a) ∧
  (∀ a, (k0_off6 v832) a + S1x1x24x128.size a ≤ S3x4x24x128.size a) ∧
  (∀ (hinb : ∀ a, (k0_off5 v832) a + S1x20x1x8x128.size a ≤ S8x20x3x8x128.size a), (Rect.unit (s := S8x20x3x8x128) (k0_off5 v832) S1x20x1x8x128.size hinb).PackedRows (EltTy.packing .bf16))
theorem k0_off5_inb : ∀ (v832 : BitVec 32) (k0_hw2 : k0_chk2 v832), ∀ a, (k0_off5 v832) a + S1x20x1x8x128.size a ≤ S8x20x3x8x128.size a := fun v832 k0_hw2 => k0_hw2.1
theorem k0_off6_inb : ∀ (v832 : BitVec 32) (k0_hw2 : k0_chk2 v832), ∀ a, (k0_off6 v832) a + S1x1x24x128.size a ≤ S3x4x24x128.size a := fun v832 k0_hw2 => k0_hw2.2.1
theorem k0_off5_packedbf16 : ∀ (v832 : BitVec 32) (k0_hw2 : k0_chk2 v832), (Rect.unit (s := S8x20x3x8x128) (k0_off5 v832) S1x20x1x8x128.size (k0_off5_inb v832 k0_hw2)).PackedRows (EltTy.packing .bf16) := fun v832 k0_hw2 => k0_hw2.2.2 (k0_off5_inb v832 k0_hw2)

def k0_off7 (i : grid0.Coords) : Fin 1 → Nat :=
  let arg0 : BitVec 32 := BitVec.ofNat 32 (i 0).val
  let c8_i32_559 : BitVec 32 := 8#32
  let v1280 : BitVec 32 := Scalar.muli arg0 c8_i32_559
  let c0_i32_560 : BitVec 32 := 0#32
  let v1281 : BitVec 32 := Scalar.addi v1280 c0_i32_560
  let c3_i32_561 : BitVec 32 := 3#32
  let v1282 : BitVec 32 := Scalar.muli v1281 c3_i32_561
  let c2_i32 : BitVec 32 := 2#32
  let v1283 : BitVec 32 := Scalar.addi v1282 c2_i32
  let v1284 : Index := Scalar.indexCast v1283
  ![v1284.toNat]
def k0_off8 (v1285 : BitVec 32) : Fin 5 → Nat :=
  let c0_562 : Index := 0#32
  let c0_563 : Index := 0#32
  let v1286 : Index := Scalar.indexCast v1285
  let c0_564 : Index := 0#32
  let c0_565 : Index := 0#32
  ![0, 0, v1286.toNat, 0, 0]

def k0_off9 (v1285 : BitVec 32) : Fin 4 → Nat :=
  let v1373 : Index := Scalar.indexCast v1285
  let c0_600 : Index := 0#32
  let c0_601 : Index := 0#32
  let c0_602 : Index := 0#32
  ![v1373.toNat, 0, 0, 0]

def k0_chk3 (v1285 : BitVec 32) : Prop :=
  (∀ a, (k0_off8 v1285) a + S1x20x1x8x128.size a ≤ S8x20x3x8x128.size a) ∧
  (∀ a, (k0_off9 v1285) a + S1x1x24x128.size a ≤ S3x4x24x128.size a) ∧
  (∀ (hinb : ∀ a, (k0_off8 v1285) a + S1x20x1x8x128.size a ≤ S8x20x3x8x128.size a), (Rect.unit (s := S8x20x3x8x128) (k0_off8 v1285) S1x20x1x8x128.size hinb).PackedRows (EltTy.packing .bf16))
theorem k0_off8_inb : ∀ (v1285 : BitVec 32) (k0_hw3 : k0_chk3 v1285), ∀ a, (k0_off8 v1285) a + S1x20x1x8x128.size a ≤ S8x20x3x8x128.size a := fun v1285 k0_hw3 => k0_hw3.1
theorem k0_off9_inb : ∀ (v1285 : BitVec 32) (k0_hw3 : k0_chk3 v1285), ∀ a, (k0_off9 v1285) a + S1x1x24x128.size a ≤ S3x4x24x128.size a := fun v1285 k0_hw3 => k0_hw3.2.1
theorem k0_off8_packedbf16 : ∀ (v1285 : BitVec 32) (k0_hw3 : k0_chk3 v1285), (Rect.unit (s := S8x20x3x8x128) (k0_off8 v1285) S1x20x1x8x128.size (k0_off8_inb v1285 k0_hw3)).PackedRows (EltTy.packing .bf16) := fun v1285 k0_hw3 => k0_hw3.2.2 (k0_off8_inb v1285 k0_hw3)

def k0_off10 (i : grid0.Coords) : Fin 1 → Nat :=
  let arg0 : BitVec 32 := BitVec.ofNat 32 (i 0).val
  let c8_i32_663 : BitVec 32 := 8#32
  let v1530 : BitVec 32 := Scalar.muli arg0 c8_i32_663
  let c1_i32_664 : BitVec 32 := 1#32
  let v1531 : BitVec 32 := Scalar.addi v1530 c1_i32_664
  let c3_i32_665 : BitVec 32 := 3#32
  let v1532 : BitVec 32 := Scalar.muli v1531 c3_i32_665
  let c0_i32_666 : BitVec 32 := 0#32
  let v1533 : BitVec 32 := Scalar.addi v1532 c0_i32_666
  let v1534 : Index := Scalar.indexCast v1533
  ![v1534.toNat]
def k0_off11 (v1535 : BitVec 32) : Fin 5 → Nat :=
  let c1_667 : Index := 1#32
  let c0_668 : Index := 0#32
  let v1536 : Index := Scalar.indexCast v1535
  let c0_669 : Index := 0#32
  let c0_670 : Index := 0#32
  ![1, 0, v1536.toNat, 0, 0]

def k0_off12 (v1535 : BitVec 32) : Fin 4 → Nat :=
  let v1623 : Index := Scalar.indexCast v1535
  let c0_705 : Index := 0#32
  let c0_706 : Index := 0#32
  let c0_707 : Index := 0#32
  ![v1623.toNat, 0, 0, 0]

def k0_chk4 (v1535 : BitVec 32) : Prop :=
  (∀ a, (k0_off11 v1535) a + S1x20x1x8x128.size a ≤ S8x20x3x8x128.size a) ∧
  (∀ a, (k0_off12 v1535) a + S1x1x24x128.size a ≤ S3x4x24x128.size a) ∧
  (∀ (hinb : ∀ a, (k0_off11 v1535) a + S1x20x1x8x128.size a ≤ S8x20x3x8x128.size a), (Rect.unit (s := S8x20x3x8x128) (k0_off11 v1535) S1x20x1x8x128.size hinb).PackedRows (EltTy.packing .bf16))
theorem k0_off11_inb : ∀ (v1535 : BitVec 32) (k0_hw4 : k0_chk4 v1535), ∀ a, (k0_off11 v1535) a + S1x20x1x8x128.size a ≤ S8x20x3x8x128.size a := fun v1535 k0_hw4 => k0_hw4.1
theorem k0_off12_inb : ∀ (v1535 : BitVec 32) (k0_hw4 : k0_chk4 v1535), ∀ a, (k0_off12 v1535) a + S1x1x24x128.size a ≤ S3x4x24x128.size a := fun v1535 k0_hw4 => k0_hw4.2.1
theorem k0_off11_packedbf16 : ∀ (v1535 : BitVec 32) (k0_hw4 : k0_chk4 v1535), (Rect.unit (s := S8x20x3x8x128) (k0_off11 v1535) S1x20x1x8x128.size (k0_off11_inb v1535 k0_hw4)).PackedRows (EltTy.packing .bf16) := fun v1535 k0_hw4 => k0_hw4.2.2 (k0_off11_inb v1535 k0_hw4)

def k0_off13 (i : grid0.Coords) : Fin 1 → Nat :=
  let arg0 : BitVec 32 := BitVec.ofNat 32 (i 0).val
  let c8_i32_925 : BitVec 32 := 8#32
  let v2186 : BitVec 32 := Scalar.muli arg0 c8_i32_925
  let c1_i32_926 : BitVec 32 := 1#32
  let v2187 : BitVec 32 := Scalar.addi v2186 c1_i32_926
  let c3_i32_927 : BitVec 32 := 3#32
  let v2188 : BitVec 32 := Scalar.muli v2187 c3_i32_927
  let c1_i32_928 : BitVec 32 := 1#32
  let v2189 : BitVec 32 := Scalar.addi v2188 c1_i32_928
  let v2190 : Index := Scalar.indexCast v2189
  ![v2190.toNat]
def k0_off14 (v2191 : BitVec 32) : Fin 5 → Nat :=
  let c1_929 : Index := 1#32
  let c0_930 : Index := 0#32
  let v2192 : Index := Scalar.indexCast v2191
  let c0_931 : Index := 0#32
  let c0_932 : Index := 0#32
  ![1, 0, v2192.toNat, 0, 0]

def k0_off15 (v2191 : BitVec 32) : Fin 4 → Nat :=
  let v2279 : Index := Scalar.indexCast v2191
  let c0_968 : Index := 0#32
  let c0_969 : Index := 0#32
  let c0_970 : Index := 0#32
  ![v2279.toNat, 0, 0, 0]

def k0_chk5 (v2191 : BitVec 32) : Prop :=
  (∀ a, (k0_off14 v2191) a + S1x20x1x8x128.size a ≤ S8x20x3x8x128.size a) ∧
  (∀ a, (k0_off15 v2191) a + S1x1x24x128.size a ≤ S3x4x24x128.size a) ∧
  (∀ (hinb : ∀ a, (k0_off14 v2191) a + S1x20x1x8x128.size a ≤ S8x20x3x8x128.size a), (Rect.unit (s := S8x20x3x8x128) (k0_off14 v2191) S1x20x1x8x128.size hinb).PackedRows (EltTy.packing .bf16))
theorem k0_off14_inb : ∀ (v2191 : BitVec 32) (k0_hw5 : k0_chk5 v2191), ∀ a, (k0_off14 v2191) a + S1x20x1x8x128.size a ≤ S8x20x3x8x128.size a := fun v2191 k0_hw5 => k0_hw5.1
theorem k0_off15_inb : ∀ (v2191 : BitVec 32) (k0_hw5 : k0_chk5 v2191), ∀ a, (k0_off15 v2191) a + S1x1x24x128.size a ≤ S3x4x24x128.size a := fun v2191 k0_hw5 => k0_hw5.2.1
theorem k0_off14_packedbf16 : ∀ (v2191 : BitVec 32) (k0_hw5 : k0_chk5 v2191), (Rect.unit (s := S8x20x3x8x128) (k0_off14 v2191) S1x20x1x8x128.size (k0_off14_inb v2191 k0_hw5)).PackedRows (EltTy.packing .bf16) := fun v2191 k0_hw5 => k0_hw5.2.2 (k0_off14_inb v2191 k0_hw5)

def k0_off16 (i : grid0.Coords) : Fin 1 → Nat :=
  let arg0 : BitVec 32 := BitVec.ofNat 32 (i 0).val
  let c8_i32_1112 : BitVec 32 := 8#32
  let v2639 : BitVec 32 := Scalar.muli arg0 c8_i32_1112
  let c1_i32_1113 : BitVec 32 := 1#32
  let v2640 : BitVec 32 := Scalar.addi v2639 c1_i32_1113
  let c3_i32_1114 : BitVec 32 := 3#32
  let v2641 : BitVec 32 := Scalar.muli v2640 c3_i32_1114
  let c2_i32_1115 : BitVec 32 := 2#32
  let v2642 : BitVec 32 := Scalar.addi v2641 c2_i32_1115
  let v2643 : Index := Scalar.indexCast v2642
  ![v2643.toNat]
def k0_off17 (v2644 : BitVec 32) : Fin 5 → Nat :=
  let c1_1116 : Index := 1#32
  let c0_1117 : Index := 0#32
  let v2645 : Index := Scalar.indexCast v2644
  let c0_1118 : Index := 0#32
  let c0_1119 : Index := 0#32
  ![1, 0, v2645.toNat, 0, 0]

def k0_off18 (v2644 : BitVec 32) : Fin 4 → Nat :=
  let v2732 : Index := Scalar.indexCast v2644
  let c0_1155 : Index := 0#32
  let c0_1156 : Index := 0#32
  let c0_1157 : Index := 0#32
  ![v2732.toNat, 0, 0, 0]

def k0_chk6 (v2644 : BitVec 32) : Prop :=
  (∀ a, (k0_off17 v2644) a + S1x20x1x8x128.size a ≤ S8x20x3x8x128.size a) ∧
  (∀ a, (k0_off18 v2644) a + S1x1x24x128.size a ≤ S3x4x24x128.size a) ∧
  (∀ (hinb : ∀ a, (k0_off17 v2644) a + S1x20x1x8x128.size a ≤ S8x20x3x8x128.size a), (Rect.unit (s := S8x20x3x8x128) (k0_off17 v2644) S1x20x1x8x128.size hinb).PackedRows (EltTy.packing .bf16))
theorem k0_off17_inb : ∀ (v2644 : BitVec 32) (k0_hw6 : k0_chk6 v2644), ∀ a, (k0_off17 v2644) a + S1x20x1x8x128.size a ≤ S8x20x3x8x128.size a := fun v2644 k0_hw6 => k0_hw6.1
theorem k0_off18_inb : ∀ (v2644 : BitVec 32) (k0_hw6 : k0_chk6 v2644), ∀ a, (k0_off18 v2644) a + S1x1x24x128.size a ≤ S3x4x24x128.size a := fun v2644 k0_hw6 => k0_hw6.2.1
theorem k0_off17_packedbf16 : ∀ (v2644 : BitVec 32) (k0_hw6 : k0_chk6 v2644), (Rect.unit (s := S8x20x3x8x128) (k0_off17 v2644) S1x20x1x8x128.size (k0_off17_inb v2644 k0_hw6)).PackedRows (EltTy.packing .bf16) := fun v2644 k0_hw6 => k0_hw6.2.2 (k0_off17_inb v2644 k0_hw6)

def k0_off19 (i : grid0.Coords) : Fin 1 → Nat :=
  let arg0 : BitVec 32 := BitVec.ofNat 32 (i 0).val
  let c8_i32_1219 : BitVec 32 := 8#32
  let v2889 : BitVec 32 := Scalar.muli arg0 c8_i32_1219
  let c2_i32_1220 : BitVec 32 := 2#32
  let v2890 : BitVec 32 := Scalar.addi v2889 c2_i32_1220
  let c3_i32_1221 : BitVec 32 := 3#32
  let v2891 : BitVec 32 := Scalar.muli v2890 c3_i32_1221
  let c0_i32_1222 : BitVec 32 := 0#32
  let v2892 : BitVec 32 := Scalar.addi v2891 c0_i32_1222
  let v2893 : Index := Scalar.indexCast v2892
  ![v2893.toNat]
def k0_off20 (v2894 : BitVec 32) : Fin 5 → Nat :=
  let c2_1223 : Index := 2#32
  let c0_1224 : Index := 0#32
  let v2895 : Index := Scalar.indexCast v2894
  let c0_1225 : Index := 0#32
  let c0_1226 : Index := 0#32
  ![2, 0, v2895.toNat, 0, 0]

def k0_off21 (v2894 : BitVec 32) : Fin 4 → Nat :=
  let v2982 : Index := Scalar.indexCast v2894
  let c1_1262 : Index := 1#32
  let c0_1263 : Index := 0#32
  let c0_1264 : Index := 0#32
  ![v2982.toNat, 1, 0, 0]

def k0_chk7 (v2894 : BitVec 32) : Prop :=
  (∀ a, (k0_off20 v2894) a + S1x20x1x8x128.size a ≤ S8x20x3x8x128.size a) ∧
  (∀ a, (k0_off21 v2894) a + S1x1x24x128.size a ≤ S3x4x24x128.size a) ∧
  (∀ (hinb : ∀ a, (k0_off20 v2894) a + S1x20x1x8x128.size a ≤ S8x20x3x8x128.size a), (Rect.unit (s := S8x20x3x8x128) (k0_off20 v2894) S1x20x1x8x128.size hinb).PackedRows (EltTy.packing .bf16))
theorem k0_off20_inb : ∀ (v2894 : BitVec 32) (k0_hw7 : k0_chk7 v2894), ∀ a, (k0_off20 v2894) a + S1x20x1x8x128.size a ≤ S8x20x3x8x128.size a := fun v2894 k0_hw7 => k0_hw7.1
theorem k0_off21_inb : ∀ (v2894 : BitVec 32) (k0_hw7 : k0_chk7 v2894), ∀ a, (k0_off21 v2894) a + S1x1x24x128.size a ≤ S3x4x24x128.size a := fun v2894 k0_hw7 => k0_hw7.2.1
theorem k0_off20_packedbf16 : ∀ (v2894 : BitVec 32) (k0_hw7 : k0_chk7 v2894), (Rect.unit (s := S8x20x3x8x128) (k0_off20 v2894) S1x20x1x8x128.size (k0_off20_inb v2894 k0_hw7)).PackedRows (EltTy.packing .bf16) := fun v2894 k0_hw7 => k0_hw7.2.2 (k0_off20_inb v2894 k0_hw7)

def k0_off22 (i : grid0.Coords) : Fin 1 → Nat :=
  let arg0 : BitVec 32 := BitVec.ofNat 32 (i 0).val
  let c8_i32_1481 : BitVec 32 := 8#32
  let v3545 : BitVec 32 := Scalar.muli arg0 c8_i32_1481
  let c2_i32_1482 : BitVec 32 := 2#32
  let v3546 : BitVec 32 := Scalar.addi v3545 c2_i32_1482
  let c3_i32_1483 : BitVec 32 := 3#32
  let v3547 : BitVec 32 := Scalar.muli v3546 c3_i32_1483
  let c1_i32_1484 : BitVec 32 := 1#32
  let v3548 : BitVec 32 := Scalar.addi v3547 c1_i32_1484
  let v3549 : Index := Scalar.indexCast v3548
  ![v3549.toNat]
def k0_off23 (v3550 : BitVec 32) : Fin 5 → Nat :=
  let c2_1485 : Index := 2#32
  let c0_1486 : Index := 0#32
  let v3551 : Index := Scalar.indexCast v3550
  let c0_1487 : Index := 0#32
  let c0_1488 : Index := 0#32
  ![2, 0, v3551.toNat, 0, 0]

def k0_off24 (v3550 : BitVec 32) : Fin 4 → Nat :=
  let v3638 : Index := Scalar.indexCast v3550
  let c1_1523 : Index := 1#32
  let c0_1524 : Index := 0#32
  let c0_1525 : Index := 0#32
  ![v3638.toNat, 1, 0, 0]

def k0_chk8 (v3550 : BitVec 32) : Prop :=
  (∀ a, (k0_off23 v3550) a + S1x20x1x8x128.size a ≤ S8x20x3x8x128.size a) ∧
  (∀ a, (k0_off24 v3550) a + S1x1x24x128.size a ≤ S3x4x24x128.size a) ∧
  (∀ (hinb : ∀ a, (k0_off23 v3550) a + S1x20x1x8x128.size a ≤ S8x20x3x8x128.size a), (Rect.unit (s := S8x20x3x8x128) (k0_off23 v3550) S1x20x1x8x128.size hinb).PackedRows (EltTy.packing .bf16))
theorem k0_off23_inb : ∀ (v3550 : BitVec 32) (k0_hw8 : k0_chk8 v3550), ∀ a, (k0_off23 v3550) a + S1x20x1x8x128.size a ≤ S8x20x3x8x128.size a := fun v3550 k0_hw8 => k0_hw8.1
theorem k0_off24_inb : ∀ (v3550 : BitVec 32) (k0_hw8 : k0_chk8 v3550), ∀ a, (k0_off24 v3550) a + S1x1x24x128.size a ≤ S3x4x24x128.size a := fun v3550 k0_hw8 => k0_hw8.2.1
theorem k0_off23_packedbf16 : ∀ (v3550 : BitVec 32) (k0_hw8 : k0_chk8 v3550), (Rect.unit (s := S8x20x3x8x128) (k0_off23 v3550) S1x20x1x8x128.size (k0_off23_inb v3550 k0_hw8)).PackedRows (EltTy.packing .bf16) := fun v3550 k0_hw8 => k0_hw8.2.2 (k0_off23_inb v3550 k0_hw8)

def k0_off25 (i : grid0.Coords) : Fin 1 → Nat :=
  let arg0 : BitVec 32 := BitVec.ofNat 32 (i 0).val
  let c8_i32_1665 : BitVec 32 := 8#32
  let v3998 : BitVec 32 := Scalar.muli arg0 c8_i32_1665
  let c2_i32_1666 : BitVec 32 := 2#32
  let v3999 : BitVec 32 := Scalar.addi v3998 c2_i32_1666
  let c3_i32_1667 : BitVec 32 := 3#32
  let v4000 : BitVec 32 := Scalar.muli v3999 c3_i32_1667
  let c2_i32_1668 : BitVec 32 := 2#32
  let v4001 : BitVec 32 := Scalar.addi v4000 c2_i32_1668
  let v4002 : Index := Scalar.indexCast v4001
  ![v4002.toNat]
def k0_off26 (v4003 : BitVec 32) : Fin 5 → Nat :=
  let c2_1669 : Index := 2#32
  let c0_1670 : Index := 0#32
  let v4004 : Index := Scalar.indexCast v4003
  let c0_1671 : Index := 0#32
  let c0_1672 : Index := 0#32
  ![2, 0, v4004.toNat, 0, 0]

def k0_off27 (v4003 : BitVec 32) : Fin 4 → Nat :=
  let v4091 : Index := Scalar.indexCast v4003
  let c1_1707 : Index := 1#32
  let c0_1708 : Index := 0#32
  let c0_1709 : Index := 0#32
  ![v4091.toNat, 1, 0, 0]

def k0_chk9 (v4003 : BitVec 32) : Prop :=
  (∀ a, (k0_off26 v4003) a + S1x20x1x8x128.size a ≤ S8x20x3x8x128.size a) ∧
  (∀ a, (k0_off27 v4003) a + S1x1x24x128.size a ≤ S3x4x24x128.size a) ∧
  (∀ (hinb : ∀ a, (k0_off26 v4003) a + S1x20x1x8x128.size a ≤ S8x20x3x8x128.size a), (Rect.unit (s := S8x20x3x8x128) (k0_off26 v4003) S1x20x1x8x128.size hinb).PackedRows (EltTy.packing .bf16))
theorem k0_off26_inb : ∀ (v4003 : BitVec 32) (k0_hw9 : k0_chk9 v4003), ∀ a, (k0_off26 v4003) a + S1x20x1x8x128.size a ≤ S8x20x3x8x128.size a := fun v4003 k0_hw9 => k0_hw9.1
theorem k0_off27_inb : ∀ (v4003 : BitVec 32) (k0_hw9 : k0_chk9 v4003), ∀ a, (k0_off27 v4003) a + S1x1x24x128.size a ≤ S3x4x24x128.size a := fun v4003 k0_hw9 => k0_hw9.2.1
theorem k0_off26_packedbf16 : ∀ (v4003 : BitVec 32) (k0_hw9 : k0_chk9 v4003), (Rect.unit (s := S8x20x3x8x128) (k0_off26 v4003) S1x20x1x8x128.size (k0_off26_inb v4003 k0_hw9)).PackedRows (EltTy.packing .bf16) := fun v4003 k0_hw9 => k0_hw9.2.2 (k0_off26_inb v4003 k0_hw9)

def k0_off28 (i : grid0.Coords) : Fin 1 → Nat :=
  let arg0 : BitVec 32 := BitVec.ofNat 32 (i 0).val
  let c8_i32_1770 : BitVec 32 := 8#32
  let v4248 : BitVec 32 := Scalar.muli arg0 c8_i32_1770
  let c3_i32_1771 : BitVec 32 := 3#32
  let v4249 : BitVec 32 := Scalar.addi v4248 c3_i32_1771
  let c3_i32_1772 : BitVec 32 := 3#32
  let v4250 : BitVec 32 := Scalar.muli v4249 c3_i32_1772
  let c0_i32_1773 : BitVec 32 := 0#32
  let v4251 : BitVec 32 := Scalar.addi v4250 c0_i32_1773
  let v4252 : Index := Scalar.indexCast v4251
  ![v4252.toNat]
def k0_off29 (v4253 : BitVec 32) : Fin 5 → Nat :=
  let c3_1774 : Index := 3#32
  let c0_1775 : Index := 0#32
  let v4254 : Index := Scalar.indexCast v4253
  let c0_1776 : Index := 0#32
  let c0_1777 : Index := 0#32
  ![3, 0, v4254.toNat, 0, 0]

def k0_off30 (v4253 : BitVec 32) : Fin 4 → Nat :=
  let v4341 : Index := Scalar.indexCast v4253
  let c1_1812 : Index := 1#32
  let c0_1813 : Index := 0#32
  let c0_1814 : Index := 0#32
  ![v4341.toNat, 1, 0, 0]

def k0_chk10 (v4253 : BitVec 32) : Prop :=
  (∀ a, (k0_off29 v4253) a + S1x20x1x8x128.size a ≤ S8x20x3x8x128.size a) ∧
  (∀ a, (k0_off30 v4253) a + S1x1x24x128.size a ≤ S3x4x24x128.size a) ∧
  (∀ (hinb : ∀ a, (k0_off29 v4253) a + S1x20x1x8x128.size a ≤ S8x20x3x8x128.size a), (Rect.unit (s := S8x20x3x8x128) (k0_off29 v4253) S1x20x1x8x128.size hinb).PackedRows (EltTy.packing .bf16))
theorem k0_off29_inb : ∀ (v4253 : BitVec 32) (k0_hw10 : k0_chk10 v4253), ∀ a, (k0_off29 v4253) a + S1x20x1x8x128.size a ≤ S8x20x3x8x128.size a := fun v4253 k0_hw10 => k0_hw10.1
theorem k0_off30_inb : ∀ (v4253 : BitVec 32) (k0_hw10 : k0_chk10 v4253), ∀ a, (k0_off30 v4253) a + S1x1x24x128.size a ≤ S3x4x24x128.size a := fun v4253 k0_hw10 => k0_hw10.2.1
theorem k0_off29_packedbf16 : ∀ (v4253 : BitVec 32) (k0_hw10 : k0_chk10 v4253), (Rect.unit (s := S8x20x3x8x128) (k0_off29 v4253) S1x20x1x8x128.size (k0_off29_inb v4253 k0_hw10)).PackedRows (EltTy.packing .bf16) := fun v4253 k0_hw10 => k0_hw10.2.2 (k0_off29_inb v4253 k0_hw10)

def k0_off31 (i : grid0.Coords) : Fin 1 → Nat :=
  let arg0 : BitVec 32 := BitVec.ofNat 32 (i 0).val
  let c8_i32_2032 : BitVec 32 := 8#32
  let v4904 : BitVec 32 := Scalar.muli arg0 c8_i32_2032
  let c3_i32_2033 : BitVec 32 := 3#32
  let v4905 : BitVec 32 := Scalar.addi v4904 c3_i32_2033
  let c3_i32_2034 : BitVec 32 := 3#32
  let v4906 : BitVec 32 := Scalar.muli v4905 c3_i32_2034
  let c1_i32_2035 : BitVec 32 := 1#32
  let v4907 : BitVec 32 := Scalar.addi v4906 c1_i32_2035
  let v4908 : Index := Scalar.indexCast v4907
  ![v4908.toNat]
def k0_off32 (v4909 : BitVec 32) : Fin 5 → Nat :=
  let c3_2036 : Index := 3#32
  let c0_2037 : Index := 0#32
  let v4910 : Index := Scalar.indexCast v4909
  let c0_2038 : Index := 0#32
  let c0_2039 : Index := 0#32
  ![3, 0, v4910.toNat, 0, 0]

def k0_off33 (v4909 : BitVec 32) : Fin 4 → Nat :=
  let v4997 : Index := Scalar.indexCast v4909
  let c1_2074 : Index := 1#32
  let c0_2075 : Index := 0#32
  let c0_2076 : Index := 0#32
  ![v4997.toNat, 1, 0, 0]

def k0_chk11 (v4909 : BitVec 32) : Prop :=
  (∀ a, (k0_off32 v4909) a + S1x20x1x8x128.size a ≤ S8x20x3x8x128.size a) ∧
  (∀ a, (k0_off33 v4909) a + S1x1x24x128.size a ≤ S3x4x24x128.size a) ∧
  (∀ (hinb : ∀ a, (k0_off32 v4909) a + S1x20x1x8x128.size a ≤ S8x20x3x8x128.size a), (Rect.unit (s := S8x20x3x8x128) (k0_off32 v4909) S1x20x1x8x128.size hinb).PackedRows (EltTy.packing .bf16))
theorem k0_off32_inb : ∀ (v4909 : BitVec 32) (k0_hw11 : k0_chk11 v4909), ∀ a, (k0_off32 v4909) a + S1x20x1x8x128.size a ≤ S8x20x3x8x128.size a := fun v4909 k0_hw11 => k0_hw11.1
theorem k0_off33_inb : ∀ (v4909 : BitVec 32) (k0_hw11 : k0_chk11 v4909), ∀ a, (k0_off33 v4909) a + S1x1x24x128.size a ≤ S3x4x24x128.size a := fun v4909 k0_hw11 => k0_hw11.2.1
theorem k0_off32_packedbf16 : ∀ (v4909 : BitVec 32) (k0_hw11 : k0_chk11 v4909), (Rect.unit (s := S8x20x3x8x128) (k0_off32 v4909) S1x20x1x8x128.size (k0_off32_inb v4909 k0_hw11)).PackedRows (EltTy.packing .bf16) := fun v4909 k0_hw11 => k0_hw11.2.2 (k0_off32_inb v4909 k0_hw11)

def k0_off34 (i : grid0.Coords) : Fin 1 → Nat :=
  let arg0 : BitVec 32 := BitVec.ofNat 32 (i 0).val
  let c8_i32_2215 : BitVec 32 := 8#32
  let v5357 : BitVec 32 := Scalar.muli arg0 c8_i32_2215
  let c3_i32_2216 : BitVec 32 := 3#32
  let v5358 : BitVec 32 := Scalar.addi v5357 c3_i32_2216
  let c3_i32_2217 : BitVec 32 := 3#32
  let v5359 : BitVec 32 := Scalar.muli v5358 c3_i32_2217
  let c2_i32_2218 : BitVec 32 := 2#32
  let v5360 : BitVec 32 := Scalar.addi v5359 c2_i32_2218
  let v5361 : Index := Scalar.indexCast v5360
  ![v5361.toNat]
def k0_off35 (v5362 : BitVec 32) : Fin 5 → Nat :=
  let c3_2219 : Index := 3#32
  let c0_2220 : Index := 0#32
  let v5363 : Index := Scalar.indexCast v5362
  let c0_2221 : Index := 0#32
  let c0_2222 : Index := 0#32
  ![3, 0, v5363.toNat, 0, 0]

def k0_off36 (v5362 : BitVec 32) : Fin 4 → Nat :=
  let v5450 : Index := Scalar.indexCast v5362
  let c1_2257 : Index := 1#32
  let c0_2258 : Index := 0#32
  let c0_2259 : Index := 0#32
  ![v5450.toNat, 1, 0, 0]

def k0_chk12 (v5362 : BitVec 32) : Prop :=
  (∀ a, (k0_off35 v5362) a + S1x20x1x8x128.size a ≤ S8x20x3x8x128.size a) ∧
  (∀ a, (k0_off36 v5362) a + S1x1x24x128.size a ≤ S3x4x24x128.size a) ∧
  (∀ (hinb : ∀ a, (k0_off35 v5362) a + S1x20x1x8x128.size a ≤ S8x20x3x8x128.size a), (Rect.unit (s := S8x20x3x8x128) (k0_off35 v5362) S1x20x1x8x128.size hinb).PackedRows (EltTy.packing .bf16))
theorem k0_off35_inb : ∀ (v5362 : BitVec 32) (k0_hw12 : k0_chk12 v5362), ∀ a, (k0_off35 v5362) a + S1x20x1x8x128.size a ≤ S8x20x3x8x128.size a := fun v5362 k0_hw12 => k0_hw12.1
theorem k0_off36_inb : ∀ (v5362 : BitVec 32) (k0_hw12 : k0_chk12 v5362), ∀ a, (k0_off36 v5362) a + S1x1x24x128.size a ≤ S3x4x24x128.size a := fun v5362 k0_hw12 => k0_hw12.2.1
theorem k0_off35_packedbf16 : ∀ (v5362 : BitVec 32) (k0_hw12 : k0_chk12 v5362), (Rect.unit (s := S8x20x3x8x128) (k0_off35 v5362) S1x20x1x8x128.size (k0_off35_inb v5362 k0_hw12)).PackedRows (EltTy.packing .bf16) := fun v5362 k0_hw12 => k0_hw12.2.2 (k0_off35_inb v5362 k0_hw12)

def k0_off37 (i : grid0.Coords) : Fin 1 → Nat :=
  let arg0 : BitVec 32 := BitVec.ofNat 32 (i 0).val
  let c8_i32_2320 : BitVec 32 := 8#32
  let v5607 : BitVec 32 := Scalar.muli arg0 c8_i32_2320
  let c4_i32_2321 : BitVec 32 := 4#32
  let v5608 : BitVec 32 := Scalar.addi v5607 c4_i32_2321
  let c3_i32_2322 : BitVec 32 := 3#32
  let v5609 : BitVec 32 := Scalar.muli v5608 c3_i32_2322
  let c0_i32_2323 : BitVec 32 := 0#32
  let v5610 : BitVec 32 := Scalar.addi v5609 c0_i32_2323
  let v5611 : Index := Scalar.indexCast v5610
  ![v5611.toNat]
def k0_off38 (v5612 : BitVec 32) : Fin 5 → Nat :=
  let c4_2324 : Index := 4#32
  let c0_2325 : Index := 0#32
  let v5613 : Index := Scalar.indexCast v5612
  let c0_2326 : Index := 0#32
  let c0_2327 : Index := 0#32
  ![4, 0, v5613.toNat, 0, 0]

def k0_off39 (v5612 : BitVec 32) : Fin 4 → Nat :=
  let v5700 : Index := Scalar.indexCast v5612
  let c2_2363 : Index := 2#32
  let c0_2364 : Index := 0#32
  let c0_2365 : Index := 0#32
  ![v5700.toNat, 2, 0, 0]

def k0_chk13 (v5612 : BitVec 32) : Prop :=
  (∀ a, (k0_off38 v5612) a + S1x20x1x8x128.size a ≤ S8x20x3x8x128.size a) ∧
  (∀ a, (k0_off39 v5612) a + S1x1x24x128.size a ≤ S3x4x24x128.size a) ∧
  (∀ (hinb : ∀ a, (k0_off38 v5612) a + S1x20x1x8x128.size a ≤ S8x20x3x8x128.size a), (Rect.unit (s := S8x20x3x8x128) (k0_off38 v5612) S1x20x1x8x128.size hinb).PackedRows (EltTy.packing .bf16))
theorem k0_off38_inb : ∀ (v5612 : BitVec 32) (k0_hw13 : k0_chk13 v5612), ∀ a, (k0_off38 v5612) a + S1x20x1x8x128.size a ≤ S8x20x3x8x128.size a := fun v5612 k0_hw13 => k0_hw13.1
theorem k0_off39_inb : ∀ (v5612 : BitVec 32) (k0_hw13 : k0_chk13 v5612), ∀ a, (k0_off39 v5612) a + S1x1x24x128.size a ≤ S3x4x24x128.size a := fun v5612 k0_hw13 => k0_hw13.2.1
theorem k0_off38_packedbf16 : ∀ (v5612 : BitVec 32) (k0_hw13 : k0_chk13 v5612), (Rect.unit (s := S8x20x3x8x128) (k0_off38 v5612) S1x20x1x8x128.size (k0_off38_inb v5612 k0_hw13)).PackedRows (EltTy.packing .bf16) := fun v5612 k0_hw13 => k0_hw13.2.2 (k0_off38_inb v5612 k0_hw13)

def k0_off40 (i : grid0.Coords) : Fin 1 → Nat :=
  let arg0 : BitVec 32 := BitVec.ofNat 32 (i 0).val
  let c8_i32_2582 : BitVec 32 := 8#32
  let v6263 : BitVec 32 := Scalar.muli arg0 c8_i32_2582
  let c4_i32_2583 : BitVec 32 := 4#32
  let v6264 : BitVec 32 := Scalar.addi v6263 c4_i32_2583
  let c3_i32_2584 : BitVec 32 := 3#32
  let v6265 : BitVec 32 := Scalar.muli v6264 c3_i32_2584
  let c1_i32_2585 : BitVec 32 := 1#32
  let v6266 : BitVec 32 := Scalar.addi v6265 c1_i32_2585
  let v6267 : Index := Scalar.indexCast v6266
  ![v6267.toNat]
def k0_off41 (v6268 : BitVec 32) : Fin 5 → Nat :=
  let c4_2586 : Index := 4#32
  let c0_2587 : Index := 0#32
  let v6269 : Index := Scalar.indexCast v6268
  let c0_2588 : Index := 0#32
  let c0_2589 : Index := 0#32
  ![4, 0, v6269.toNat, 0, 0]

def k0_off42 (v6268 : BitVec 32) : Fin 4 → Nat :=
  let v6356 : Index := Scalar.indexCast v6268
  let c2_2624 : Index := 2#32
  let c0_2625 : Index := 0#32
  let c0_2626 : Index := 0#32
  ![v6356.toNat, 2, 0, 0]

def k0_chk14 (v6268 : BitVec 32) : Prop :=
  (∀ a, (k0_off41 v6268) a + S1x20x1x8x128.size a ≤ S8x20x3x8x128.size a) ∧
  (∀ a, (k0_off42 v6268) a + S1x1x24x128.size a ≤ S3x4x24x128.size a) ∧
  (∀ (hinb : ∀ a, (k0_off41 v6268) a + S1x20x1x8x128.size a ≤ S8x20x3x8x128.size a), (Rect.unit (s := S8x20x3x8x128) (k0_off41 v6268) S1x20x1x8x128.size hinb).PackedRows (EltTy.packing .bf16))
theorem k0_off41_inb : ∀ (v6268 : BitVec 32) (k0_hw14 : k0_chk14 v6268), ∀ a, (k0_off41 v6268) a + S1x20x1x8x128.size a ≤ S8x20x3x8x128.size a := fun v6268 k0_hw14 => k0_hw14.1
theorem k0_off42_inb : ∀ (v6268 : BitVec 32) (k0_hw14 : k0_chk14 v6268), ∀ a, (k0_off42 v6268) a + S1x1x24x128.size a ≤ S3x4x24x128.size a := fun v6268 k0_hw14 => k0_hw14.2.1
theorem k0_off41_packedbf16 : ∀ (v6268 : BitVec 32) (k0_hw14 : k0_chk14 v6268), (Rect.unit (s := S8x20x3x8x128) (k0_off41 v6268) S1x20x1x8x128.size (k0_off41_inb v6268 k0_hw14)).PackedRows (EltTy.packing .bf16) := fun v6268 k0_hw14 => k0_hw14.2.2 (k0_off41_inb v6268 k0_hw14)

def k0_off43 (i : grid0.Coords) : Fin 1 → Nat :=
  let arg0 : BitVec 32 := BitVec.ofNat 32 (i 0).val
  let c8_i32_2766 : BitVec 32 := 8#32
  let v6716 : BitVec 32 := Scalar.muli arg0 c8_i32_2766
  let c4_i32_2767 : BitVec 32 := 4#32
  let v6717 : BitVec 32 := Scalar.addi v6716 c4_i32_2767
  let c3_i32_2768 : BitVec 32 := 3#32
  let v6718 : BitVec 32 := Scalar.muli v6717 c3_i32_2768
  let c2_i32_2769 : BitVec 32 := 2#32
  let v6719 : BitVec 32 := Scalar.addi v6718 c2_i32_2769
  let v6720 : Index := Scalar.indexCast v6719
  ![v6720.toNat]
def k0_off44 (v6721 : BitVec 32) : Fin 5 → Nat :=
  let c4_2770 : Index := 4#32
  let c0_2771 : Index := 0#32
  let v6722 : Index := Scalar.indexCast v6721
  let c0_2772 : Index := 0#32
  let c0_2773 : Index := 0#32
  ![4, 0, v6722.toNat, 0, 0]

def k0_off45 (v6721 : BitVec 32) : Fin 4 → Nat :=
  let v6809 : Index := Scalar.indexCast v6721
  let c2_2808 : Index := 2#32
  let c0_2809 : Index := 0#32
  let c0_2810 : Index := 0#32
  ![v6809.toNat, 2, 0, 0]

def k0_chk15 (v6721 : BitVec 32) : Prop :=
  (∀ a, (k0_off44 v6721) a + S1x20x1x8x128.size a ≤ S8x20x3x8x128.size a) ∧
  (∀ a, (k0_off45 v6721) a + S1x1x24x128.size a ≤ S3x4x24x128.size a) ∧
  (∀ (hinb : ∀ a, (k0_off44 v6721) a + S1x20x1x8x128.size a ≤ S8x20x3x8x128.size a), (Rect.unit (s := S8x20x3x8x128) (k0_off44 v6721) S1x20x1x8x128.size hinb).PackedRows (EltTy.packing .bf16))
theorem k0_off44_inb : ∀ (v6721 : BitVec 32) (k0_hw15 : k0_chk15 v6721), ∀ a, (k0_off44 v6721) a + S1x20x1x8x128.size a ≤ S8x20x3x8x128.size a := fun v6721 k0_hw15 => k0_hw15.1
theorem k0_off45_inb : ∀ (v6721 : BitVec 32) (k0_hw15 : k0_chk15 v6721), ∀ a, (k0_off45 v6721) a + S1x1x24x128.size a ≤ S3x4x24x128.size a := fun v6721 k0_hw15 => k0_hw15.2.1
theorem k0_off44_packedbf16 : ∀ (v6721 : BitVec 32) (k0_hw15 : k0_chk15 v6721), (Rect.unit (s := S8x20x3x8x128) (k0_off44 v6721) S1x20x1x8x128.size (k0_off44_inb v6721 k0_hw15)).PackedRows (EltTy.packing .bf16) := fun v6721 k0_hw15 => k0_hw15.2.2 (k0_off44_inb v6721 k0_hw15)

def k0_off46 (i : grid0.Coords) : Fin 1 → Nat :=
  let arg0 : BitVec 32 := BitVec.ofNat 32 (i 0).val
  let c8_i32_2871 : BitVec 32 := 8#32
  let v6966 : BitVec 32 := Scalar.muli arg0 c8_i32_2871
  let c5_i32 : BitVec 32 := 5#32
  let v6967 : BitVec 32 := Scalar.addi v6966 c5_i32
  let c3_i32_2872 : BitVec 32 := 3#32
  let v6968 : BitVec 32 := Scalar.muli v6967 c3_i32_2872
  let c0_i32_2873 : BitVec 32 := 0#32
  let v6969 : BitVec 32 := Scalar.addi v6968 c0_i32_2873
  let v6970 : Index := Scalar.indexCast v6969
  ![v6970.toNat]
def k0_off47 (v6971 : BitVec 32) : Fin 5 → Nat :=
  let c5_2874 : Index := 5#32
  let c0_2875 : Index := 0#32
  let v6972 : Index := Scalar.indexCast v6971
  let c0_2876 : Index := 0#32
  let c0_2877 : Index := 0#32
  ![5, 0, v6972.toNat, 0, 0]

def k0_off48 (v6971 : BitVec 32) : Fin 4 → Nat :=
  let v7059 : Index := Scalar.indexCast v6971
  let c2_2912 : Index := 2#32
  let c0_2913 : Index := 0#32
  let c0_2914 : Index := 0#32
  ![v7059.toNat, 2, 0, 0]

def k0_chk16 (v6971 : BitVec 32) : Prop :=
  (∀ a, (k0_off47 v6971) a + S1x20x1x8x128.size a ≤ S8x20x3x8x128.size a) ∧
  (∀ a, (k0_off48 v6971) a + S1x1x24x128.size a ≤ S3x4x24x128.size a) ∧
  (∀ (hinb : ∀ a, (k0_off47 v6971) a + S1x20x1x8x128.size a ≤ S8x20x3x8x128.size a), (Rect.unit (s := S8x20x3x8x128) (k0_off47 v6971) S1x20x1x8x128.size hinb).PackedRows (EltTy.packing .bf16))
theorem k0_off47_inb : ∀ (v6971 : BitVec 32) (k0_hw16 : k0_chk16 v6971), ∀ a, (k0_off47 v6971) a + S1x20x1x8x128.size a ≤ S8x20x3x8x128.size a := fun v6971 k0_hw16 => k0_hw16.1
theorem k0_off48_inb : ∀ (v6971 : BitVec 32) (k0_hw16 : k0_chk16 v6971), ∀ a, (k0_off48 v6971) a + S1x1x24x128.size a ≤ S3x4x24x128.size a := fun v6971 k0_hw16 => k0_hw16.2.1
theorem k0_off47_packedbf16 : ∀ (v6971 : BitVec 32) (k0_hw16 : k0_chk16 v6971), (Rect.unit (s := S8x20x3x8x128) (k0_off47 v6971) S1x20x1x8x128.size (k0_off47_inb v6971 k0_hw16)).PackedRows (EltTy.packing .bf16) := fun v6971 k0_hw16 => k0_hw16.2.2 (k0_off47_inb v6971 k0_hw16)

def k0_off49 (i : grid0.Coords) : Fin 1 → Nat :=
  let arg0 : BitVec 32 := BitVec.ofNat 32 (i 0).val
  let c8_i32_3132 : BitVec 32 := 8#32
  let v7622 : BitVec 32 := Scalar.muli arg0 c8_i32_3132
  let c5_i32_3133 : BitVec 32 := 5#32
  let v7623 : BitVec 32 := Scalar.addi v7622 c5_i32_3133
  let c3_i32_3134 : BitVec 32 := 3#32
  let v7624 : BitVec 32 := Scalar.muli v7623 c3_i32_3134
  let c1_i32_3135 : BitVec 32 := 1#32
  let v7625 : BitVec 32 := Scalar.addi v7624 c1_i32_3135
  let v7626 : Index := Scalar.indexCast v7625
  ![v7626.toNat]
def k0_off50 (v7627 : BitVec 32) : Fin 5 → Nat :=
  let c5_3136 : Index := 5#32
  let c0_3137 : Index := 0#32
  let v7628 : Index := Scalar.indexCast v7627
  let c0_3138 : Index := 0#32
  let c0_3139 : Index := 0#32
  ![5, 0, v7628.toNat, 0, 0]

def k0_off51 (v7627 : BitVec 32) : Fin 4 → Nat :=
  let v7715 : Index := Scalar.indexCast v7627
  let c2_3174 : Index := 2#32
  let c0_3175 : Index := 0#32
  let c0_3176 : Index := 0#32
  ![v7715.toNat, 2, 0, 0]

def k0_chk17 (v7627 : BitVec 32) : Prop :=
  (∀ a, (k0_off50 v7627) a + S1x20x1x8x128.size a ≤ S8x20x3x8x128.size a) ∧
  (∀ a, (k0_off51 v7627) a + S1x1x24x128.size a ≤ S3x4x24x128.size a) ∧
  (∀ (hinb : ∀ a, (k0_off50 v7627) a + S1x20x1x8x128.size a ≤ S8x20x3x8x128.size a), (Rect.unit (s := S8x20x3x8x128) (k0_off50 v7627) S1x20x1x8x128.size hinb).PackedRows (EltTy.packing .bf16))
theorem k0_off50_inb : ∀ (v7627 : BitVec 32) (k0_hw17 : k0_chk17 v7627), ∀ a, (k0_off50 v7627) a + S1x20x1x8x128.size a ≤ S8x20x3x8x128.size a := fun v7627 k0_hw17 => k0_hw17.1
theorem k0_off51_inb : ∀ (v7627 : BitVec 32) (k0_hw17 : k0_chk17 v7627), ∀ a, (k0_off51 v7627) a + S1x1x24x128.size a ≤ S3x4x24x128.size a := fun v7627 k0_hw17 => k0_hw17.2.1
theorem k0_off50_packedbf16 : ∀ (v7627 : BitVec 32) (k0_hw17 : k0_chk17 v7627), (Rect.unit (s := S8x20x3x8x128) (k0_off50 v7627) S1x20x1x8x128.size (k0_off50_inb v7627 k0_hw17)).PackedRows (EltTy.packing .bf16) := fun v7627 k0_hw17 => k0_hw17.2.2 (k0_off50_inb v7627 k0_hw17)

def k0_off52 (i : grid0.Coords) : Fin 1 → Nat :=
  let arg0 : BitVec 32 := BitVec.ofNat 32 (i 0).val
  let c8_i32_3315 : BitVec 32 := 8#32
  let v8075 : BitVec 32 := Scalar.muli arg0 c8_i32_3315
  let c5_i32_3316 : BitVec 32 := 5#32
  let v8076 : BitVec 32 := Scalar.addi v8075 c5_i32_3316
  let c3_i32_3317 : BitVec 32 := 3#32
  let v8077 : BitVec 32 := Scalar.muli v8076 c3_i32_3317
  let c2_i32_3318 : BitVec 32 := 2#32
  let v8078 : BitVec 32 := Scalar.addi v8077 c2_i32_3318
  let v8079 : Index := Scalar.indexCast v8078
  ![v8079.toNat]
def k0_off53 (v8080 : BitVec 32) : Fin 5 → Nat :=
  let c5_3319 : Index := 5#32
  let c0_3320 : Index := 0#32
  let v8081 : Index := Scalar.indexCast v8080
  let c0_3321 : Index := 0#32
  let c0_3322 : Index := 0#32
  ![5, 0, v8081.toNat, 0, 0]

def k0_off54 (v8080 : BitVec 32) : Fin 4 → Nat :=
  let v8168 : Index := Scalar.indexCast v8080
  let c2_3357 : Index := 2#32
  let c0_3358 : Index := 0#32
  let c0_3359 : Index := 0#32
  ![v8168.toNat, 2, 0, 0]

def k0_chk18 (v8080 : BitVec 32) : Prop :=
  (∀ a, (k0_off53 v8080) a + S1x20x1x8x128.size a ≤ S8x20x3x8x128.size a) ∧
  (∀ a, (k0_off54 v8080) a + S1x1x24x128.size a ≤ S3x4x24x128.size a) ∧
  (∀ (hinb : ∀ a, (k0_off53 v8080) a + S1x20x1x8x128.size a ≤ S8x20x3x8x128.size a), (Rect.unit (s := S8x20x3x8x128) (k0_off53 v8080) S1x20x1x8x128.size hinb).PackedRows (EltTy.packing .bf16))
theorem k0_off53_inb : ∀ (v8080 : BitVec 32) (k0_hw18 : k0_chk18 v8080), ∀ a, (k0_off53 v8080) a + S1x20x1x8x128.size a ≤ S8x20x3x8x128.size a := fun v8080 k0_hw18 => k0_hw18.1
theorem k0_off54_inb : ∀ (v8080 : BitVec 32) (k0_hw18 : k0_chk18 v8080), ∀ a, (k0_off54 v8080) a + S1x1x24x128.size a ≤ S3x4x24x128.size a := fun v8080 k0_hw18 => k0_hw18.2.1
theorem k0_off53_packedbf16 : ∀ (v8080 : BitVec 32) (k0_hw18 : k0_chk18 v8080), (Rect.unit (s := S8x20x3x8x128) (k0_off53 v8080) S1x20x1x8x128.size (k0_off53_inb v8080 k0_hw18)).PackedRows (EltTy.packing .bf16) := fun v8080 k0_hw18 => k0_hw18.2.2 (k0_off53_inb v8080 k0_hw18)

def k0_off55 (i : grid0.Coords) : Fin 1 → Nat :=
  let arg0 : BitVec 32 := BitVec.ofNat 32 (i 0).val
  let c8_i32_3420 : BitVec 32 := 8#32
  let v8325 : BitVec 32 := Scalar.muli arg0 c8_i32_3420
  let c6_i32 : BitVec 32 := 6#32
  let v8326 : BitVec 32 := Scalar.addi v8325 c6_i32
  let c3_i32_3421 : BitVec 32 := 3#32
  let v8327 : BitVec 32 := Scalar.muli v8326 c3_i32_3421
  let c0_i32_3422 : BitVec 32 := 0#32
  let v8328 : BitVec 32 := Scalar.addi v8327 c0_i32_3422
  let v8329 : Index := Scalar.indexCast v8328
  ![v8329.toNat]
def k0_off56 (v8330 : BitVec 32) : Fin 5 → Nat :=
  let c6_3423 : Index := 6#32
  let c0_3424 : Index := 0#32
  let v8331 : Index := Scalar.indexCast v8330
  let c0_3425 : Index := 0#32
  let c0_3426 : Index := 0#32
  ![6, 0, v8331.toNat, 0, 0]

def k0_off57 (v8330 : BitVec 32) : Fin 4 → Nat :=
  let v8418 : Index := Scalar.indexCast v8330
  let c3_3462 : Index := 3#32
  let c0_3463 : Index := 0#32
  let c0_3464 : Index := 0#32
  ![v8418.toNat, 3, 0, 0]

def k0_chk19 (v8330 : BitVec 32) : Prop :=
  (∀ a, (k0_off56 v8330) a + S1x20x1x8x128.size a ≤ S8x20x3x8x128.size a) ∧
  (∀ a, (k0_off57 v8330) a + S1x1x24x128.size a ≤ S3x4x24x128.size a) ∧
  (∀ (hinb : ∀ a, (k0_off56 v8330) a + S1x20x1x8x128.size a ≤ S8x20x3x8x128.size a), (Rect.unit (s := S8x20x3x8x128) (k0_off56 v8330) S1x20x1x8x128.size hinb).PackedRows (EltTy.packing .bf16))
theorem k0_off56_inb : ∀ (v8330 : BitVec 32) (k0_hw19 : k0_chk19 v8330), ∀ a, (k0_off56 v8330) a + S1x20x1x8x128.size a ≤ S8x20x3x8x128.size a := fun v8330 k0_hw19 => k0_hw19.1
theorem k0_off57_inb : ∀ (v8330 : BitVec 32) (k0_hw19 : k0_chk19 v8330), ∀ a, (k0_off57 v8330) a + S1x1x24x128.size a ≤ S3x4x24x128.size a := fun v8330 k0_hw19 => k0_hw19.2.1
theorem k0_off56_packedbf16 : ∀ (v8330 : BitVec 32) (k0_hw19 : k0_chk19 v8330), (Rect.unit (s := S8x20x3x8x128) (k0_off56 v8330) S1x20x1x8x128.size (k0_off56_inb v8330 k0_hw19)).PackedRows (EltTy.packing .bf16) := fun v8330 k0_hw19 => k0_hw19.2.2 (k0_off56_inb v8330 k0_hw19)

def k0_off58 (i : grid0.Coords) : Fin 1 → Nat :=
  let arg0 : BitVec 32 := BitVec.ofNat 32 (i 0).val
  let c8_i32_3681 : BitVec 32 := 8#32
  let v8981 : BitVec 32 := Scalar.muli arg0 c8_i32_3681
  let c6_i32_3682 : BitVec 32 := 6#32
  let v8982 : BitVec 32 := Scalar.addi v8981 c6_i32_3682
  let c3_i32_3683 : BitVec 32 := 3#32
  let v8983 : BitVec 32 := Scalar.muli v8982 c3_i32_3683
  let c1_i32_3684 : BitVec 32 := 1#32
  let v8984 : BitVec 32 := Scalar.addi v8983 c1_i32_3684
  let v8985 : Index := Scalar.indexCast v8984
  ![v8985.toNat]
def k0_off59 (v8986 : BitVec 32) : Fin 5 → Nat :=
  let c6_3685 : Index := 6#32
  let c0_3686 : Index := 0#32
  let v8987 : Index := Scalar.indexCast v8986
  let c0_3687 : Index := 0#32
  let c0_3688 : Index := 0#32
  ![6, 0, v8987.toNat, 0, 0]

def k0_off60 (v8986 : BitVec 32) : Fin 4 → Nat :=
  let v9074 : Index := Scalar.indexCast v8986
  let c3_3723 : Index := 3#32
  let c0_3724 : Index := 0#32
  let c0_3725 : Index := 0#32
  ![v9074.toNat, 3, 0, 0]

def k0_chk20 (v8986 : BitVec 32) : Prop :=
  (∀ a, (k0_off59 v8986) a + S1x20x1x8x128.size a ≤ S8x20x3x8x128.size a) ∧
  (∀ a, (k0_off60 v8986) a + S1x1x24x128.size a ≤ S3x4x24x128.size a) ∧
  (∀ (hinb : ∀ a, (k0_off59 v8986) a + S1x20x1x8x128.size a ≤ S8x20x3x8x128.size a), (Rect.unit (s := S8x20x3x8x128) (k0_off59 v8986) S1x20x1x8x128.size hinb).PackedRows (EltTy.packing .bf16))
theorem k0_off59_inb : ∀ (v8986 : BitVec 32) (k0_hw20 : k0_chk20 v8986), ∀ a, (k0_off59 v8986) a + S1x20x1x8x128.size a ≤ S8x20x3x8x128.size a := fun v8986 k0_hw20 => k0_hw20.1
theorem k0_off60_inb : ∀ (v8986 : BitVec 32) (k0_hw20 : k0_chk20 v8986), ∀ a, (k0_off60 v8986) a + S1x1x24x128.size a ≤ S3x4x24x128.size a := fun v8986 k0_hw20 => k0_hw20.2.1
theorem k0_off59_packedbf16 : ∀ (v8986 : BitVec 32) (k0_hw20 : k0_chk20 v8986), (Rect.unit (s := S8x20x3x8x128) (k0_off59 v8986) S1x20x1x8x128.size (k0_off59_inb v8986 k0_hw20)).PackedRows (EltTy.packing .bf16) := fun v8986 k0_hw20 => k0_hw20.2.2 (k0_off59_inb v8986 k0_hw20)

def k0_off61 (i : grid0.Coords) : Fin 1 → Nat :=
  let arg0 : BitVec 32 := BitVec.ofNat 32 (i 0).val
  let c8_i32_3865 : BitVec 32 := 8#32
  let v9434 : BitVec 32 := Scalar.muli arg0 c8_i32_3865
  let c6_i32_3866 : BitVec 32 := 6#32
  let v9435 : BitVec 32 := Scalar.addi v9434 c6_i32_3866
  let c3_i32_3867 : BitVec 32 := 3#32
  let v9436 : BitVec 32 := Scalar.muli v9435 c3_i32_3867
  let c2_i32_3868 : BitVec 32 := 2#32
  let v9437 : BitVec 32 := Scalar.addi v9436 c2_i32_3868
  let v9438 : Index := Scalar.indexCast v9437
  ![v9438.toNat]
def k0_off62 (v9439 : BitVec 32) : Fin 5 → Nat :=
  let c6_3869 : Index := 6#32
  let c0_3870 : Index := 0#32
  let v9440 : Index := Scalar.indexCast v9439
  let c0_3871 : Index := 0#32
  let c0_3872 : Index := 0#32
  ![6, 0, v9440.toNat, 0, 0]

def k0_off63 (v9439 : BitVec 32) : Fin 4 → Nat :=
  let v9527 : Index := Scalar.indexCast v9439
  let c3_3907 : Index := 3#32
  let c0_3908 : Index := 0#32
  let c0_3909 : Index := 0#32
  ![v9527.toNat, 3, 0, 0]

def k0_chk21 (v9439 : BitVec 32) : Prop :=
  (∀ a, (k0_off62 v9439) a + S1x20x1x8x128.size a ≤ S8x20x3x8x128.size a) ∧
  (∀ a, (k0_off63 v9439) a + S1x1x24x128.size a ≤ S3x4x24x128.size a) ∧
  (∀ (hinb : ∀ a, (k0_off62 v9439) a + S1x20x1x8x128.size a ≤ S8x20x3x8x128.size a), (Rect.unit (s := S8x20x3x8x128) (k0_off62 v9439) S1x20x1x8x128.size hinb).PackedRows (EltTy.packing .bf16))
theorem k0_off62_inb : ∀ (v9439 : BitVec 32) (k0_hw21 : k0_chk21 v9439), ∀ a, (k0_off62 v9439) a + S1x20x1x8x128.size a ≤ S8x20x3x8x128.size a := fun v9439 k0_hw21 => k0_hw21.1
theorem k0_off63_inb : ∀ (v9439 : BitVec 32) (k0_hw21 : k0_chk21 v9439), ∀ a, (k0_off63 v9439) a + S1x1x24x128.size a ≤ S3x4x24x128.size a := fun v9439 k0_hw21 => k0_hw21.2.1
theorem k0_off62_packedbf16 : ∀ (v9439 : BitVec 32) (k0_hw21 : k0_chk21 v9439), (Rect.unit (s := S8x20x3x8x128) (k0_off62 v9439) S1x20x1x8x128.size (k0_off62_inb v9439 k0_hw21)).PackedRows (EltTy.packing .bf16) := fun v9439 k0_hw21 => k0_hw21.2.2 (k0_off62_inb v9439 k0_hw21)

def k0_off64 (i : grid0.Coords) : Fin 1 → Nat :=
  let arg0 : BitVec 32 := BitVec.ofNat 32 (i 0).val
  let c8_i32_3970 : BitVec 32 := 8#32
  let v9684 : BitVec 32 := Scalar.muli arg0 c8_i32_3970
  let c7_i32 : BitVec 32 := 7#32
  let v9685 : BitVec 32 := Scalar.addi v9684 c7_i32
  let c3_i32_3971 : BitVec 32 := 3#32
  let v9686 : BitVec 32 := Scalar.muli v9685 c3_i32_3971
  let c0_i32_3972 : BitVec 32 := 0#32
  let v9687 : BitVec 32 := Scalar.addi v9686 c0_i32_3972
  let v9688 : Index := Scalar.indexCast v9687
  ![v9688.toNat]
def k0_off65 (v9689 : BitVec 32) : Fin 5 → Nat :=
  let c7_3973 : Index := 7#32
  let c0_3974 : Index := 0#32
  let v9690 : Index := Scalar.indexCast v9689
  let c0_3975 : Index := 0#32
  let c0_3976 : Index := 0#32
  ![7, 0, v9690.toNat, 0, 0]

def k0_off66 (v9689 : BitVec 32) : Fin 4 → Nat :=
  let v9777 : Index := Scalar.indexCast v9689
  let c3_4011 : Index := 3#32
  let c0_4012 : Index := 0#32
  let c0_4013 : Index := 0#32
  ![v9777.toNat, 3, 0, 0]

def k0_chk22 (v9689 : BitVec 32) : Prop :=
  (∀ a, (k0_off65 v9689) a + S1x20x1x8x128.size a ≤ S8x20x3x8x128.size a) ∧
  (∀ a, (k0_off66 v9689) a + S1x1x24x128.size a ≤ S3x4x24x128.size a) ∧
  (∀ (hinb : ∀ a, (k0_off65 v9689) a + S1x20x1x8x128.size a ≤ S8x20x3x8x128.size a), (Rect.unit (s := S8x20x3x8x128) (k0_off65 v9689) S1x20x1x8x128.size hinb).PackedRows (EltTy.packing .bf16))
theorem k0_off65_inb : ∀ (v9689 : BitVec 32) (k0_hw22 : k0_chk22 v9689), ∀ a, (k0_off65 v9689) a + S1x20x1x8x128.size a ≤ S8x20x3x8x128.size a := fun v9689 k0_hw22 => k0_hw22.1
theorem k0_off66_inb : ∀ (v9689 : BitVec 32) (k0_hw22 : k0_chk22 v9689), ∀ a, (k0_off66 v9689) a + S1x1x24x128.size a ≤ S3x4x24x128.size a := fun v9689 k0_hw22 => k0_hw22.2.1
theorem k0_off65_packedbf16 : ∀ (v9689 : BitVec 32) (k0_hw22 : k0_chk22 v9689), (Rect.unit (s := S8x20x3x8x128) (k0_off65 v9689) S1x20x1x8x128.size (k0_off65_inb v9689 k0_hw22)).PackedRows (EltTy.packing .bf16) := fun v9689 k0_hw22 => k0_hw22.2.2 (k0_off65_inb v9689 k0_hw22)

def k0_off67 (i : grid0.Coords) : Fin 1 → Nat :=
  let arg0 : BitVec 32 := BitVec.ofNat 32 (i 0).val
  let c8_i32_4231 : BitVec 32 := 8#32
  let v10340 : BitVec 32 := Scalar.muli arg0 c8_i32_4231
  let c7_i32_4232 : BitVec 32 := 7#32
  let v10341 : BitVec 32 := Scalar.addi v10340 c7_i32_4232
  let c3_i32_4233 : BitVec 32 := 3#32
  let v10342 : BitVec 32 := Scalar.muli v10341 c3_i32_4233
  let c1_i32_4234 : BitVec 32 := 1#32
  let v10343 : BitVec 32 := Scalar.addi v10342 c1_i32_4234
  let v10344 : Index := Scalar.indexCast v10343
  ![v10344.toNat]
def k0_off68 (v10345 : BitVec 32) : Fin 5 → Nat :=
  let c7_4235 : Index := 7#32
  let c0_4236 : Index := 0#32
  let v10346 : Index := Scalar.indexCast v10345
  let c0_4237 : Index := 0#32
  let c0_4238 : Index := 0#32
  ![7, 0, v10346.toNat, 0, 0]

def k0_off69 (v10345 : BitVec 32) : Fin 4 → Nat :=
  let v10433 : Index := Scalar.indexCast v10345
  let c3_4273 : Index := 3#32
  let c0_4274 : Index := 0#32
  let c0_4275 : Index := 0#32
  ![v10433.toNat, 3, 0, 0]

def k0_chk23 (v10345 : BitVec 32) : Prop :=
  (∀ a, (k0_off68 v10345) a + S1x20x1x8x128.size a ≤ S8x20x3x8x128.size a) ∧
  (∀ a, (k0_off69 v10345) a + S1x1x24x128.size a ≤ S3x4x24x128.size a) ∧
  (∀ (hinb : ∀ a, (k0_off68 v10345) a + S1x20x1x8x128.size a ≤ S8x20x3x8x128.size a), (Rect.unit (s := S8x20x3x8x128) (k0_off68 v10345) S1x20x1x8x128.size hinb).PackedRows (EltTy.packing .bf16))
theorem k0_off68_inb : ∀ (v10345 : BitVec 32) (k0_hw23 : k0_chk23 v10345), ∀ a, (k0_off68 v10345) a + S1x20x1x8x128.size a ≤ S8x20x3x8x128.size a := fun v10345 k0_hw23 => k0_hw23.1
theorem k0_off69_inb : ∀ (v10345 : BitVec 32) (k0_hw23 : k0_chk23 v10345), ∀ a, (k0_off69 v10345) a + S1x1x24x128.size a ≤ S3x4x24x128.size a := fun v10345 k0_hw23 => k0_hw23.2.1
theorem k0_off68_packedbf16 : ∀ (v10345 : BitVec 32) (k0_hw23 : k0_chk23 v10345), (Rect.unit (s := S8x20x3x8x128) (k0_off68 v10345) S1x20x1x8x128.size (k0_off68_inb v10345 k0_hw23)).PackedRows (EltTy.packing .bf16) := fun v10345 k0_hw23 => k0_hw23.2.2 (k0_off68_inb v10345 k0_hw23)

def k0_off70 (i : grid0.Coords) : Fin 1 → Nat :=
  let arg0 : BitVec 32 := BitVec.ofNat 32 (i 0).val
  let c8_i32_4414 : BitVec 32 := 8#32
  let v10793 : BitVec 32 := Scalar.muli arg0 c8_i32_4414
  let c7_i32_4415 : BitVec 32 := 7#32
  let v10794 : BitVec 32 := Scalar.addi v10793 c7_i32_4415
  let c3_i32_4416 : BitVec 32 := 3#32
  let v10795 : BitVec 32 := Scalar.muli v10794 c3_i32_4416
  let c2_i32_4417 : BitVec 32 := 2#32
  let v10796 : BitVec 32 := Scalar.addi v10795 c2_i32_4417
  let v10797 : Index := Scalar.indexCast v10796
  ![v10797.toNat]
def k0_off71 (v10798 : BitVec 32) : Fin 5 → Nat :=
  let c7_4418 : Index := 7#32
  let c0_4419 : Index := 0#32
  let v10799 : Index := Scalar.indexCast v10798
  let c0_4420 : Index := 0#32
  let c0_4421 : Index := 0#32
  ![7, 0, v10799.toNat, 0, 0]

def k0_off72 (v10798 : BitVec 32) : Fin 4 → Nat :=
  let v10886 : Index := Scalar.indexCast v10798
  let c3_4456 : Index := 3#32
  let c0_4457 : Index := 0#32
  let c0_4458 : Index := 0#32
  ![v10886.toNat, 3, 0, 0]

def k0_chk24 (v10798 : BitVec 32) : Prop :=
  (∀ a, (k0_off71 v10798) a + S1x20x1x8x128.size a ≤ S8x20x3x8x128.size a) ∧
  (∀ a, (k0_off72 v10798) a + S1x1x24x128.size a ≤ S3x4x24x128.size a) ∧
  (∀ (hinb : ∀ a, (k0_off71 v10798) a + S1x20x1x8x128.size a ≤ S8x20x3x8x128.size a), (Rect.unit (s := S8x20x3x8x128) (k0_off71 v10798) S1x20x1x8x128.size hinb).PackedRows (EltTy.packing .bf16))
theorem k0_off71_inb : ∀ (v10798 : BitVec 32) (k0_hw24 : k0_chk24 v10798), ∀ a, (k0_off71 v10798) a + S1x20x1x8x128.size a ≤ S8x20x3x8x128.size a := fun v10798 k0_hw24 => k0_hw24.1
theorem k0_off72_inb : ∀ (v10798 : BitVec 32) (k0_hw24 : k0_chk24 v10798), ∀ a, (k0_off72 v10798) a + S1x1x24x128.size a ≤ S3x4x24x128.size a := fun v10798 k0_hw24 => k0_hw24.2.1
theorem k0_off71_packedbf16 : ∀ (v10798 : BitVec 32) (k0_hw24 : k0_chk24 v10798), (Rect.unit (s := S8x20x3x8x128) (k0_off71 v10798) S1x20x1x8x128.size (k0_off71_inb v10798 k0_hw24)).PackedRows (EltTy.packing .bf16) := fun v10798 k0_hw24 => k0_hw24.2.2 (k0_off71_inb v10798 k0_hw24)

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S8x20x3x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x3x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x3x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x2x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x24x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x20x3x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S256x3 : Shape := ⟨2, ![256, 3]⟩
abbrev S256x20x24x128 : Shape := ⟨4, ![256, 20, 24, 128]⟩
abbrev S256x20x3x128 : Shape := ⟨4, ![256, 20, 3, 128]⟩
abbrev S24576x2x128 : Shape := ⟨3, ![24576, 2, 128]⟩
abbrev S3072x24x128 : Shape := ⟨3, ![3072, 24, 128]⟩
abbrev S256x16x128 : Shape := ⟨3, ![256, 16, 128]⟩
abbrev S768 : Shape := ⟨1, ![768]⟩
abbrev S256x20x3x8x128 : Shape := ⟨5, ![256, 20, 3, 8, 128]⟩
abbrev S20x3x256x128 : Shape := ⟨4, ![20, 3, 256, 128]⟩
abbrev S8x20x3x8x128 : Shape := ⟨5, ![8, 20, 3, 8, 128]⟩
abbrev S20x3x8x128 : Shape := ⟨4, ![20, 3, 8, 128]⟩
abbrev S768x2x128 : Shape := ⟨3, ![768, 2, 128]⟩
abbrev S96x24x128 : Shape := ⟨3, ![96, 24, 128]⟩
abbrev S8x16x128 : Shape := ⟨3, ![8, 16, 128]⟩
abbrev S3x4x24x128 : Shape := ⟨4, ![3, 4, 24, 128]⟩
abbrev S3x4x24x2x128 : Shape := ⟨5, ![3, 4, 24, 2, 128]⟩
abbrev S3x4x24x1x128 : Shape := ⟨5, ![3, 4, 24, 1, 128]⟩
abbrev S128x128 : Shape := ⟨2, ![128, 128]⟩
abbrev S160x128 : Shape := ⟨2, ![160, 128]⟩
abbrev S20x3x4x128 : Shape := ⟨4, ![20, 3, 4, 128]⟩
abbrev S20x1x4x128 : Shape := ⟨4, ![20, 1, 4, 128]⟩
abbrev S20x1x8x128 : Shape := ⟨4, ![20, 1, 8, 128]⟩
abbrev S20x4x128 : Shape := ⟨3, ![20, 4, 128]⟩
abbrev S20x1x128 : Shape := ⟨3, ![20, 1, 128]⟩
abbrev S20x128 : Shape := ⟨2, ![20, 128]⟩
abbrev S1x1x20x128 : Shape := ⟨4, ![1, 1, 20, 128]⟩
abbrev S1x1x20x2x128 : Shape := ⟨5, ![1, 1, 20, 2, 128]⟩
abbrev S1x1x20x1x128 : Shape := ⟨5, ![1, 1, 20, 1, 128]⟩
abbrev S1 : Shape := ⟨1, ![1]⟩
abbrev S1x20x1x8x128 : Shape := ⟨5, ![1, 20, 1, 8, 128]⟩
abbrev S20x8x128 : Shape := ⟨3, ![20, 8, 128]⟩
abbrev S8x2x128 : Shape := ⟨3, ![8, 2, 128]⟩
abbrev S16x128 : Shape := ⟨2, ![16, 128]⟩
abbrev S16x8x128 : Shape := ⟨3, ![16, 8, 128]⟩
abbrev S16x1x128 : Shape := ⟨3, ![16, 1, 128]⟩
abbrev S1x1x128 : Shape := ⟨3, ![1, 1, 128]⟩
abbrev S128 : Shape := ⟨1, ![128]⟩
abbrev S1x128 : Shape := ⟨2, ![1, 128]⟩
abbrev S32x128 : Shape := ⟨2, ![32, 128]⟩
abbrev S1x16x128 : Shape := ⟨3, ![1, 16, 128]⟩
abbrev S1x1x24x128 : Shape := ⟨4, ![1, 1, 24, 128]⟩
abbrev S1x1x24x2x128 : Shape := ⟨5, ![1, 1, 24, 2, 128]⟩
abbrev S1x1x24x1x128 : Shape := ⟨5, ![1, 1, 24, 1, 128]⟩
abbrev S24x128 : Shape := ⟨2, ![24, 128]⟩
abbrev S48x128 : Shape := ⟨2, ![48, 128]⟩
abbrev S108x128 : Shape := ⟨2, ![108, 128]⟩
abbrev S128x256 : Shape := ⟨2, ![128, 256]⟩
abbrev S160x256 : Shape := ⟨2, ![160, 256]⟩
abbrev S160 : Shape := ⟨1, ![160]⟩
abbrev S160x1 : Shape := ⟨2, ![160, 1]⟩

abbrev nBuf : Space → Nat
  | .hbm => 11
  | .vmem => 16
  | .smem => 1
  | _ => 0

abbrev bufTy : (tb : Table) → Fin (tcTables nBuf tb) → BufTy
  | .hbm, ⟨0, _⟩ => ⟨S256x3, .i32⟩
  | .hbm, ⟨1, _⟩ => ⟨S256x20x24x128, .bf16⟩
  | .hbm, ⟨2, _⟩ => ⟨S256x20x3x128, .bf16⟩
  | .hbm, ⟨3, _⟩ => ⟨S256x20x3x128, .bf16⟩
  | .hbm, ⟨4, _⟩ => ⟨S24576x2x128, .i32⟩
  | .hbm, ⟨5, _⟩ => ⟨S3072x24x128, .i32⟩
  | .hbm, ⟨6, _⟩ => ⟨S256x16x128, .f32⟩
  | .hbm, ⟨7, _⟩ => ⟨S256x20x3x8x128, .bf16⟩
  | .hbm, ⟨8, _⟩ => ⟨S20x3x256x128, .bf16⟩
  | .hbm, ⟨9, _⟩ => ⟨S20x3x256x128, .bf16⟩
  | .hbm, ⟨10, _⟩ => ⟨S256x20x3x8x128, .bf16⟩
  | .local _ .vmem, ⟨0, _⟩ => ⟨S8x20x3x8x128, .bf16⟩
  | .local _ .vmem, ⟨1, _⟩ => ⟨S8x20x3x8x128, .bf16⟩
  | .local _ .vmem, ⟨2, _⟩ => ⟨S20x3x8x128, .bf16⟩
  | .local _ .vmem, ⟨3, _⟩ => ⟨S20x3x8x128, .bf16⟩
  | .local _ .vmem, ⟨4, _⟩ => ⟨S20x3x8x128, .bf16⟩
  | .local _ .vmem, ⟨5, _⟩ => ⟨S20x3x8x128, .bf16⟩
  | .local _ .vmem, ⟨6, _⟩ => ⟨S768x2x128, .i32⟩
  | .local _ .vmem, ⟨7, _⟩ => ⟨S768x2x128, .i32⟩
  | .local _ .vmem, ⟨8, _⟩ => ⟨S96x24x128, .i32⟩
  | .local _ .vmem, ⟨9, _⟩ => ⟨S96x24x128, .i32⟩
  | .local _ .vmem, ⟨10, _⟩ => ⟨S8x16x128, .f32⟩
  | .local _ .vmem, ⟨11, _⟩ => ⟨S8x16x128, .f32⟩
  | .local _ .vmem, ⟨12, _⟩ => ⟨S8x20x3x8x128, .bf16⟩
  | .local _ .vmem, ⟨13, _⟩ => ⟨S8x20x3x8x128, .bf16⟩
  | .local _ .vmem, ⟨14, _⟩ => ⟨S3x4x24x2x128, .bf16⟩
  | .local _ .vmem, ⟨15, _⟩ => ⟨S3x4x24x2x128, .bf16⟩
  | .local _ .smem, ⟨0, _⟩ => ⟨S768, .i32⟩
  | _, _ => ⟨S256x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32_121 : BitVec 32 := 8#32
  let v171 : BitVec 32 := Scalar.muli arg0 c8_i32_121
  let c0_i32_122 : BitVec 32 := 0#32
  let v172 : BitVec 32 := Scalar.addi v171 c0_i32_122
  let c3_i32 : BitVec 32 := 3#32
  let v173 : BitVec 32 := Scalar.muli v172 c3_i32
  let c0_i32_123 : BitVec 32 := 0#32
  let v174 : BitVec 32 := Scalar.addi v173 c0_i32_123
  let v175 : Index := Scalar.indexCast v174
  ![v175.toNat]
def k0_off2 (v176 : BitVec 32) : Fin 5 → Nat :=
  let c0_124 : Index := 0#32
  let c0_125 : Index := 0#32
  let v177 : Index := Scalar.indexCast v176
  let c0_126 : Index := 0#32
  let c0_127 : Index := 0#32
  ![0, 0, v177.toNat, 0, 0]

def k0_off3 (v176 : BitVec 32) : Fin 5 → Nat :=
  let v264 : Index := Scalar.indexCast v176
  let c0_154 : Index := 0#32
  let c0_155 : Index := 0#32
  let c0_156 : Index := 0#32
  ![v264.toNat, 0, 0, 0, 0]

def k0_chk1 (v176 : BitVec 32) : Prop :=
  (∀ a, (k0_off2 v176) a + S1x20x1x8x128.size a ≤ S8x20x3x8x128.size a) ∧
  (∀ a, (k0_off3 v176) a + S1x1x24x2x128.size a ≤ S3x4x24x2x128.size a) ∧
  (∀ (hinb : ∀ a, (k0_off2 v176) a + S1x20x1x8x128.size a ≤ S8x20x3x8x128.size a), (Rect.unit (s := S8x20x3x8x128) (k0_off2 v176) S1x20x1x8x128.size hinb).PackedRows (EltTy.packing .bf16))
theorem k0_off2_inb : ∀ (v176 : BitVec 32) (k0_hw1 : k0_chk1 v176), ∀ a, (k0_off2 v176) a + S1x20x1x8x128.size a ≤ S8x20x3x8x128.size a := fun v176 k0_hw1 => k0_hw1.1
theorem k0_off3_inb : ∀ (v176 : BitVec 32) (k0_hw1 : k0_chk1 v176), ∀ a, (k0_off3 v176) a + S1x1x24x2x128.size a ≤ S3x4x24x2x128.size a := fun v176 k0_hw1 => k0_hw1.2.1
theorem k0_off2_packedbf16 : ∀ (v176 : BitVec 32) (k0_hw1 : k0_chk1 v176), (Rect.unit (s := S8x20x3x8x128) (k0_off2 v176) S1x20x1x8x128.size (k0_off2_inb v176 k0_hw1)).PackedRows (EltTy.packing .bf16) := fun v176 k0_hw1 => k0_hw1.2.2 (k0_off2_inb v176 k0_hw1)

def k0_off4 (i : grid0.Coords) : Fin 1 → Nat :=
  let arg0 : BitVec 32 := BitVec.ofNat 32 (i 0).val
  let c8_i32_375 : BitVec 32 := 8#32
  let v827 : BitVec 32 := Scalar.muli arg0 c8_i32_375
  let c0_i32_376 : BitVec 32 := 0#32
  let v828 : BitVec 32 := Scalar.addi v827 c0_i32_376
  let c3_i32_377 : BitVec 32 := 3#32
  let v829 : BitVec 32 := Scalar.muli v828 c3_i32_377
  let c1_i32_378 : BitVec 32 := 1#32
  let v830 : BitVec 32 := Scalar.addi v829 c1_i32_378
  let v831 : Index := Scalar.indexCast v830
  ![v831.toNat]
def k0_off5 (v832 : BitVec 32) : Fin 5 → Nat :=
  let c0_379 : Index := 0#32
  let c0_380 : Index := 0#32
  let v833 : Index := Scalar.indexCast v832
  let c0_381 : Index := 0#32
  let c0_382 : Index := 0#32
  ![0, 0, v833.toNat, 0, 0]

def k0_off6 (v832 : BitVec 32) : Fin 5 → Nat :=
  let v920 : Index := Scalar.indexCast v832
  let c0_417 : Index := 0#32
  let c0_418 : Index := 0#32
  let c0_419 : Index := 0#32
  ![v920.toNat, 0, 0, 0, 0]

def k0_chk2 (v832 : BitVec 32) : Prop :=
  (∀ a, (k0_off5 v832) a + S1x20x1x8x128.size a ≤ S8x20x3x8x128.size a) ∧
  (∀ a, (k0_off6 v832) a + S1x1x24x2x128.size a ≤ S3x4x24x2x128.size a) ∧
  (∀ (hinb : ∀ a, (k0_off5 v832) a + S1x20x1x8x128.size a ≤ S8x20x3x8x128.size a), (Rect.unit (s := S8x20x3x8x128) (k0_off5 v832) S1x20x1x8x128.size hinb).PackedRows (EltTy.packing .bf16))
theorem k0_off5_inb : ∀ (v832 : BitVec 32) (k0_hw2 : k0_chk2 v832), ∀ a, (k0_off5 v832) a + S1x20x1x8x128.size a ≤ S8x20x3x8x128.size a := fun v832 k0_hw2 => k0_hw2.1
theorem k0_off6_inb : ∀ (v832 : BitVec 32) (k0_hw2 : k0_chk2 v832), ∀ a, (k0_off6 v832) a + S1x1x24x2x128.size a ≤ S3x4x24x2x128.size a := fun v832 k0_hw2 => k0_hw2.2.1
theorem k0_off5_packedbf16 : ∀ (v832 : BitVec 32) (k0_hw2 : k0_chk2 v832), (Rect.unit (s := S8x20x3x8x128) (k0_off5 v832) S1x20x1x8x128.size (k0_off5_inb v832 k0_hw2)).PackedRows (EltTy.packing .bf16) := fun v832 k0_hw2 => k0_hw2.2.2 (k0_off5_inb v832 k0_hw2)

def k0_off7 (i : grid0.Coords) : Fin 1 → Nat :=
  let arg0 : BitVec 32 := BitVec.ofNat 32 (i 0).val
  let c8_i32_559 : BitVec 32 := 8#32
  let v1280 : BitVec 32 := Scalar.muli arg0 c8_i32_559
  let c0_i32_560 : BitVec 32 := 0#32
  let v1281 : BitVec 32 := Scalar.addi v1280 c0_i32_560
  let c3_i32_561 : BitVec 32 := 3#32
  let v1282 : BitVec 32 := Scalar.muli v1281 c3_i32_561
  let c2_i32 : BitVec 32 := 2#32
  let v1283 : BitVec 32 := Scalar.addi v1282 c2_i32
  let v1284 : Index := Scalar.indexCast v1283
  ![v1284.toNat]
def k0_off8 (v1285 : BitVec 32) : Fin 5 → Nat :=
  let c0_562 : Index := 0#32
  let c0_563 : Index := 0#32
  let v1286 : Index := Scalar.indexCast v1285
  let c0_564 : Index := 0#32
  let c0_565 : Index := 0#32
  ![0, 0, v1286.toNat, 0, 0]

def k0_off9 (v1285 : BitVec 32) : Fin 5 → Nat :=
  let v1373 : Index := Scalar.indexCast v1285
  let c0_600 : Index := 0#32
  let c0_601 : Index := 0#32
  let c0_602 : Index := 0#32
  ![v1373.toNat, 0, 0, 0, 0]

def k0_chk3 (v1285 : BitVec 32) : Prop :=
  (∀ a, (k0_off8 v1285) a + S1x20x1x8x128.size a ≤ S8x20x3x8x128.size a) ∧
  (∀ a, (k0_off9 v1285) a + S1x1x24x2x128.size a ≤ S3x4x24x2x128.size a) ∧
  (∀ (hinb : ∀ a, (k0_off8 v1285) a + S1x20x1x8x128.size a ≤ S8x20x3x8x128.size a), (Rect.unit (s := S8x20x3x8x128) (k0_off8 v1285) S1x20x1x8x128.size hinb).PackedRows (EltTy.packing .bf16))
theorem k0_off8_inb : ∀ (v1285 : BitVec 32) (k0_hw3 : k0_chk3 v1285), ∀ a, (k0_off8 v1285) a + S1x20x1x8x128.size a ≤ S8x20x3x8x128.size a := fun v1285 k0_hw3 => k0_hw3.1
theorem k0_off9_inb : ∀ (v1285 : BitVec 32) (k0_hw3 : k0_chk3 v1285), ∀ a, (k0_off9 v1285) a + S1x1x24x2x128.size a ≤ S3x4x24x2x128.size a := fun v1285 k0_hw3 => k0_hw3.2.1
theorem k0_off8_packedbf16 : ∀ (v1285 : BitVec 32) (k0_hw3 : k0_chk3 v1285), (Rect.unit (s := S8x20x3x8x128) (k0_off8 v1285) S1x20x1x8x128.size (k0_off8_inb v1285 k0_hw3)).PackedRows (EltTy.packing .bf16) := fun v1285 k0_hw3 => k0_hw3.2.2 (k0_off8_inb v1285 k0_hw3)

def k0_off10 (i : grid0.Coords) : Fin 1 → Nat :=
  let arg0 : BitVec 32 := BitVec.ofNat 32 (i 0).val
  let c8_i32_663 : BitVec 32 := 8#32
  let v1530 : BitVec 32 := Scalar.muli arg0 c8_i32_663
  let c1_i32_664 : BitVec 32 := 1#32
  let v1531 : BitVec 32 := Scalar.addi v1530 c1_i32_664
  let c3_i32_665 : BitVec 32 := 3#32
  let v1532 : BitVec 32 := Scalar.muli v1531 c3_i32_665
  let c0_i32_666 : BitVec 32 := 0#32
  let v1533 : BitVec 32 := Scalar.addi v1532 c0_i32_666
  let v1534 : Index := Scalar.indexCast v1533
  ![v1534.toNat]
def k0_off11 (v1535 : BitVec 32) : Fin 5 → Nat :=
  let c1_667 : Index := 1#32
  let c0_668 : Index := 0#32
  let v1536 : Index := Scalar.indexCast v1535
  let c0_669 : Index := 0#32
  let c0_670 : Index := 0#32
  ![1, 0, v1536.toNat, 0, 0]

def k0_off12 (v1535 : BitVec 32) : Fin 5 → Nat :=
  let v1623 : Index := Scalar.indexCast v1535
  let c0_705 : Index := 0#32
  let c0_706 : Index := 0#32
  let c0_707 : Index := 0#32
  ![v1623.toNat, 0, 0, 0, 0]

def k0_chk4 (v1535 : BitVec 32) : Prop :=
  (∀ a, (k0_off11 v1535) a + S1x20x1x8x128.size a ≤ S8x20x3x8x128.size a) ∧
  (∀ a, (k0_off12 v1535) a + S1x1x24x2x128.size a ≤ S3x4x24x2x128.size a) ∧
  (∀ (hinb : ∀ a, (k0_off11 v1535) a + S1x20x1x8x128.size a ≤ S8x20x3x8x128.size a), (Rect.unit (s := S8x20x3x8x128) (k0_off11 v1535) S1x20x1x8x128.size hinb).PackedRows (EltTy.packing .bf16))
theorem k0_off11_inb : ∀ (v1535 : BitVec 32) (k0_hw4 : k0_chk4 v1535), ∀ a, (k0_off11 v1535) a + S1x20x1x8x128.size a ≤ S8x20x3x8x128.size a := fun v1535 k0_hw4 => k0_hw4.1
theorem k0_off12_inb : ∀ (v1535 : BitVec 32) (k0_hw4 : k0_chk4 v1535), ∀ a, (k0_off12 v1535) a + S1x1x24x2x128.size a ≤ S3x4x24x2x128.size a := fun v1535 k0_hw4 => k0_hw4.2.1
theorem k0_off11_packedbf16 : ∀ (v1535 : BitVec 32) (k0_hw4 : k0_chk4 v1535), (Rect.unit (s := S8x20x3x8x128) (k0_off11 v1535) S1x20x1x8x128.size (k0_off11_inb v1535 k0_hw4)).PackedRows (EltTy.packing .bf16) := fun v1535 k0_hw4 => k0_hw4.2.2 (k0_off11_inb v1535 k0_hw4)

def k0_off13 (i : grid0.Coords) : Fin 1 → Nat :=
  let arg0 : BitVec 32 := BitVec.ofNat 32 (i 0).val
  let c8_i32_925 : BitVec 32 := 8#32
  let v2186 : BitVec 32 := Scalar.muli arg0 c8_i32_925
  let c1_i32_926 : BitVec 32 := 1#32
  let v2187 : BitVec 32 := Scalar.addi v2186 c1_i32_926
  let c3_i32_927 : BitVec 32 := 3#32
  let v2188 : BitVec 32 := Scalar.muli v2187 c3_i32_927
  let c1_i32_928 : BitVec 32 := 1#32
  let v2189 : BitVec 32 := Scalar.addi v2188 c1_i32_928
  let v2190 : Index := Scalar.indexCast v2189
  ![v2190.toNat]
def k0_off14 (v2191 : BitVec 32) : Fin 5 → Nat :=
  let c1_929 : Index := 1#32
  let c0_930 : Index := 0#32
  let v2192 : Index := Scalar.indexCast v2191
  let c0_931 : Index := 0#32
  let c0_932 : Index := 0#32
  ![1, 0, v2192.toNat, 0, 0]

def k0_off15 (v2191 : BitVec 32) : Fin 5 → Nat :=
  let v2279 : Index := Scalar.indexCast v2191
  let c0_968 : Index := 0#32
  let c0_969 : Index := 0#32
  let c0_970 : Index := 0#32
  ![v2279.toNat, 0, 0, 0, 0]

def k0_chk5 (v2191 : BitVec 32) : Prop :=
  (∀ a, (k0_off14 v2191) a + S1x20x1x8x128.size a ≤ S8x20x3x8x128.size a) ∧
  (∀ a, (k0_off15 v2191) a + S1x1x24x2x128.size a ≤ S3x4x24x2x128.size a) ∧
  (∀ (hinb : ∀ a, (k0_off14 v2191) a + S1x20x1x8x128.size a ≤ S8x20x3x8x128.size a), (Rect.unit (s := S8x20x3x8x128) (k0_off14 v2191) S1x20x1x8x128.size hinb).PackedRows (EltTy.packing .bf16))
theorem k0_off14_inb : ∀ (v2191 : BitVec 32) (k0_hw5 : k0_chk5 v2191), ∀ a, (k0_off14 v2191) a + S1x20x1x8x128.size a ≤ S8x20x3x8x128.size a := fun v2191 k0_hw5 => k0_hw5.1
theorem k0_off15_inb : ∀ (v2191 : BitVec 32) (k0_hw5 : k0_chk5 v2191), ∀ a, (k0_off15 v2191) a + S1x1x24x2x128.size a ≤ S3x4x24x2x128.size a := fun v2191 k0_hw5 => k0_hw5.2.1
theorem k0_off14_packedbf16 : ∀ (v2191 : BitVec 32) (k0_hw5 : k0_chk5 v2191), (Rect.unit (s := S8x20x3x8x128) (k0_off14 v2191) S1x20x1x8x128.size (k0_off14_inb v2191 k0_hw5)).PackedRows (EltTy.packing .bf16) := fun v2191 k0_hw5 => k0_hw5.2.2 (k0_off14_inb v2191 k0_hw5)

def k0_off16 (i : grid0.Coords) : Fin 1 → Nat :=
  let arg0 : BitVec 32 := BitVec.ofNat 32 (i 0).val
  let c8_i32_1112 : BitVec 32 := 8#32
  let v2639 : BitVec 32 := Scalar.muli arg0 c8_i32_1112
  let c1_i32_1113 : BitVec 32 := 1#32
  let v2640 : BitVec 32 := Scalar.addi v2639 c1_i32_1113
  let c3_i32_1114 : BitVec 32 := 3#32
  let v2641 : BitVec 32 := Scalar.muli v2640 c3_i32_1114
  let c2_i32_1115 : BitVec 32 := 2#32
  let v2642 : BitVec 32 := Scalar.addi v2641 c2_i32_1115
  let v2643 : Index := Scalar.indexCast v2642
  ![v2643.toNat]
def k0_off17 (v2644 : BitVec 32) : Fin 5 → Nat :=
  let c1_1116 : Index := 1#32
  let c0_1117 : Index := 0#32
  let v2645 : Index := Scalar.indexCast v2644
  let c0_1118 : Index := 0#32
  let c0_1119 : Index := 0#32
  ![1, 0, v2645.toNat, 0, 0]

def k0_off18 (v2644 : BitVec 32) : Fin 5 → Nat :=
  let v2732 : Index := Scalar.indexCast v2644
  let c0_1155 : Index := 0#32
  let c0_1156 : Index := 0#32
  let c0_1157 : Index := 0#32
  ![v2732.toNat, 0, 0, 0, 0]

def k0_chk6 (v2644 : BitVec 32) : Prop :=
  (∀ a, (k0_off17 v2644) a + S1x20x1x8x128.size a ≤ S8x20x3x8x128.size a) ∧
  (∀ a, (k0_off18 v2644) a + S1x1x24x2x128.size a ≤ S3x4x24x2x128.size a) ∧
  (∀ (hinb : ∀ a, (k0_off17 v2644) a + S1x20x1x8x128.size a ≤ S8x20x3x8x128.size a), (Rect.unit (s := S8x20x3x8x128) (k0_off17 v2644) S1x20x1x8x128.size hinb).PackedRows (EltTy.packing .bf16))
theorem k0_off17_inb : ∀ (v2644 : BitVec 32) (k0_hw6 : k0_chk6 v2644), ∀ a, (k0_off17 v2644) a + S1x20x1x8x128.size a ≤ S8x20x3x8x128.size a := fun v2644 k0_hw6 => k0_hw6.1
theorem k0_off18_inb : ∀ (v2644 : BitVec 32) (k0_hw6 : k0_chk6 v2644), ∀ a, (k0_off18 v2644) a + S1x1x24x2x128.size a ≤ S3x4x24x2x128.size a := fun v2644 k0_hw6 => k0_hw6.2.1
theorem k0_off17_packedbf16 : ∀ (v2644 : BitVec 32) (k0_hw6 : k0_chk6 v2644), (Rect.unit (s := S8x20x3x8x128) (k0_off17 v2644) S1x20x1x8x128.size (k0_off17_inb v2644 k0_hw6)).PackedRows (EltTy.packing .bf16) := fun v2644 k0_hw6 => k0_hw6.2.2 (k0_off17_inb v2644 k0_hw6)

def k0_off19 (i : grid0.Coords) : Fin 1 → Nat :=
  let arg0 : BitVec 32 := BitVec.ofNat 32 (i 0).val
  let c8_i32_1219 : BitVec 32 := 8#32
  let v2889 : BitVec 32 := Scalar.muli arg0 c8_i32_1219
  let c2_i32_1220 : BitVec 32 := 2#32
  let v2890 : BitVec 32 := Scalar.addi v2889 c2_i32_1220
  let c3_i32_1221 : BitVec 32 := 3#32
  let v2891 : BitVec 32 := Scalar.muli v2890 c3_i32_1221
  let c0_i32_1222 : BitVec 32 := 0#32
  let v2892 : BitVec 32 := Scalar.addi v2891 c0_i32_1222
  let v2893 : Index := Scalar.indexCast v2892
  ![v2893.toNat]
def k0_off20 (v2894 : BitVec 32) : Fin 5 → Nat :=
  let c2_1223 : Index := 2#32
  let c0_1224 : Index := 0#32
  let v2895 : Index := Scalar.indexCast v2894
  let c0_1225 : Index := 0#32
  let c0_1226 : Index := 0#32
  ![2, 0, v2895.toNat, 0, 0]

def k0_off21 (v2894 : BitVec 32) : Fin 5 → Nat :=
  let v2982 : Index := Scalar.indexCast v2894
  let c1_1262 : Index := 1#32
  let c0_1263 : Index := 0#32
  let c0_1264 : Index := 0#32
  ![v2982.toNat, 1, 0, 0, 0]

def k0_chk7 (v2894 : BitVec 32) : Prop :=
  (∀ a, (k0_off20 v2894) a + S1x20x1x8x128.size a ≤ S8x20x3x8x128.size a) ∧
  (∀ a, (k0_off21 v2894) a + S1x1x24x2x128.size a ≤ S3x4x24x2x128.size a) ∧
  (∀ (hinb : ∀ a, (k0_off20 v2894) a + S1x20x1x8x128.size a ≤ S8x20x3x8x128.size a), (Rect.unit (s := S8x20x3x8x128) (k0_off20 v2894) S1x20x1x8x128.size hinb).PackedRows (EltTy.packing .bf16))
theorem k0_off20_inb : ∀ (v2894 : BitVec 32) (k0_hw7 : k0_chk7 v2894), ∀ a, (k0_off20 v2894) a + S1x20x1x8x128.size a ≤ S8x20x3x8x128.size a := fun v2894 k0_hw7 => k0_hw7.1
theorem k0_off21_inb : ∀ (v2894 : BitVec 32) (k0_hw7 : k0_chk7 v2894), ∀ a, (k0_off21 v2894) a + S1x1x24x2x128.size a ≤ S3x4x24x2x128.size a := fun v2894 k0_hw7 => k0_hw7.2.1
theorem k0_off20_packedbf16 : ∀ (v2894 : BitVec 32) (k0_hw7 : k0_chk7 v2894), (Rect.unit (s := S8x20x3x8x128) (k0_off20 v2894) S1x20x1x8x128.size (k0_off20_inb v2894 k0_hw7)).PackedRows (EltTy.packing .bf16) := fun v2894 k0_hw7 => k0_hw7.2.2 (k0_off20_inb v2894 k0_hw7)

def k0_off22 (i : grid0.Coords) : Fin 1 → Nat :=
  let arg0 : BitVec 32 := BitVec.ofNat 32 (i 0).val
  let c8_i32_1481 : BitVec 32 := 8#32
  let v3545 : BitVec 32 := Scalar.muli arg0 c8_i32_1481
  let c2_i32_1482 : BitVec 32 := 2#32
  let v3546 : BitVec 32 := Scalar.addi v3545 c2_i32_1482
  let c3_i32_1483 : BitVec 32 := 3#32
  let v3547 : BitVec 32 := Scalar.muli v3546 c3_i32_1483
  let c1_i32_1484 : BitVec 32 := 1#32
  let v3548 : BitVec 32 := Scalar.addi v3547 c1_i32_1484
  let v3549 : Index := Scalar.indexCast v3548
  ![v3549.toNat]
def k0_off23 (v3550 : BitVec 32) : Fin 5 → Nat :=
  let c2_1485 : Index := 2#32
  let c0_1486 : Index := 0#32
  let v3551 : Index := Scalar.indexCast v3550
  let c0_1487 : Index := 0#32
  let c0_1488 : Index := 0#32
  ![2, 0, v3551.toNat, 0, 0]

def k0_off24 (v3550 : BitVec 32) : Fin 5 → Nat :=
  let v3638 : Index := Scalar.indexCast v3550
  let c1_1523 : Index := 1#32
  let c0_1524 : Index := 0#32
  let c0_1525 : Index := 0#32
  ![v3638.toNat, 1, 0, 0, 0]

def k0_chk8 (v3550 : BitVec 32) : Prop :=
  (∀ a, (k0_off23 v3550) a + S1x20x1x8x128.size a ≤ S8x20x3x8x128.size a) ∧
  (∀ a, (k0_off24 v3550) a + S1x1x24x2x128.size a ≤ S3x4x24x2x128.size a) ∧
  (∀ (hinb : ∀ a, (k0_off23 v3550) a + S1x20x1x8x128.size a ≤ S8x20x3x8x128.size a), (Rect.unit (s := S8x20x3x8x128) (k0_off23 v3550) S1x20x1x8x128.size hinb).PackedRows (EltTy.packing .bf16))
theorem k0_off23_inb : ∀ (v3550 : BitVec 32) (k0_hw8 : k0_chk8 v3550), ∀ a, (k0_off23 v3550) a + S1x20x1x8x128.size a ≤ S8x20x3x8x128.size a := fun v3550 k0_hw8 => k0_hw8.1
theorem k0_off24_inb : ∀ (v3550 : BitVec 32) (k0_hw8 : k0_chk8 v3550), ∀ a, (k0_off24 v3550) a + S1x1x24x2x128.size a ≤ S3x4x24x2x128.size a := fun v3550 k0_hw8 => k0_hw8.2.1
theorem k0_off23_packedbf16 : ∀ (v3550 : BitVec 32) (k0_hw8 : k0_chk8 v3550), (Rect.unit (s := S8x20x3x8x128) (k0_off23 v3550) S1x20x1x8x128.size (k0_off23_inb v3550 k0_hw8)).PackedRows (EltTy.packing .bf16) := fun v3550 k0_hw8 => k0_hw8.2.2 (k0_off23_inb v3550 k0_hw8)

def k0_off25 (i : grid0.Coords) : Fin 1 → Nat :=
  let arg0 : BitVec 32 := BitVec.ofNat 32 (i 0).val
  let c8_i32_1665 : BitVec 32 := 8#32
  let v3998 : BitVec 32 := Scalar.muli arg0 c8_i32_1665
  let c2_i32_1666 : BitVec 32 := 2#32
  let v3999 : BitVec 32 := Scalar.addi v3998 c2_i32_1666
  let c3_i32_1667 : BitVec 32 := 3#32
  let v4000 : BitVec 32 := Scalar.muli v3999 c3_i32_1667
  let c2_i32_1668 : BitVec 32 := 2#32
  let v4001 : BitVec 32 := Scalar.addi v4000 c2_i32_1668
  let v4002 : Index := Scalar.indexCast v4001
  ![v4002.toNat]
def k0_off26 (v4003 : BitVec 32) : Fin 5 → Nat :=
  let c2_1669 : Index := 2#32
  let c0_1670 : Index := 0#32
  let v4004 : Index := Scalar.indexCast v4003
  let c0_1671 : Index := 0#32
  let c0_1672 : Index := 0#32
  ![2, 0, v4004.toNat, 0, 0]

def k0_off27 (v4003 : BitVec 32) : Fin 5 → Nat :=
  let v4091 : Index := Scalar.indexCast v4003
  let c1_1707 : Index := 1#32
  let c0_1708 : Index := 0#32
  let c0_1709 : Index := 0#32
  ![v4091.toNat, 1, 0, 0, 0]

def k0_chk9 (v4003 : BitVec 32) : Prop :=
  (∀ a, (k0_off26 v4003) a + S1x20x1x8x128.size a ≤ S8x20x3x8x128.size a) ∧
  (∀ a, (k0_off27 v4003) a + S1x1x24x2x128.size a ≤ S3x4x24x2x128.size a) ∧
  (∀ (hinb : ∀ a, (k0_off26 v4003) a + S1x20x1x8x128.size a ≤ S8x20x3x8x128.size a), (Rect.unit (s := S8x20x3x8x128) (k0_off26 v4003) S1x20x1x8x128.size hinb).PackedRows (EltTy.packing .bf16))
theorem k0_off26_inb : ∀ (v4003 : BitVec 32) (k0_hw9 : k0_chk9 v4003), ∀ a, (k0_off26 v4003) a + S1x20x1x8x128.size a ≤ S8x20x3x8x128.size a := fun v4003 k0_hw9 => k0_hw9.1
theorem k0_off27_inb : ∀ (v4003 : BitVec 32) (k0_hw9 : k0_chk9 v4003), ∀ a, (k0_off27 v4003) a + S1x1x24x2x128.size a ≤ S3x4x24x2x128.size a := fun v4003 k0_hw9 => k0_hw9.2.1
theorem k0_off26_packedbf16 : ∀ (v4003 : BitVec 32) (k0_hw9 : k0_chk9 v4003), (Rect.unit (s := S8x20x3x8x128) (k0_off26 v4003) S1x20x1x8x128.size (k0_off26_inb v4003 k0_hw9)).PackedRows (EltTy.packing .bf16) := fun v4003 k0_hw9 => k0_hw9.2.2 (k0_off26_inb v4003 k0_hw9)

def k0_off28 (i : grid0.Coords) : Fin 1 → Nat :=
  let arg0 : BitVec 32 := BitVec.ofNat 32 (i 0).val
  let c8_i32_1770 : BitVec 32 := 8#32
  let v4248 : BitVec 32 := Scalar.muli arg0 c8_i32_1770
  let c3_i32_1771 : BitVec 32 := 3#32
  let v4249 : BitVec 32 := Scalar.addi v4248 c3_i32_1771
  let c3_i32_1772 : BitVec 32 := 3#32
  let v4250 : BitVec 32 := Scalar.muli v4249 c3_i32_1772
  let c0_i32_1773 : BitVec 32 := 0#32
  let v4251 : BitVec 32 := Scalar.addi v4250 c0_i32_1773
  let v4252 : Index := Scalar.indexCast v4251
  ![v4252.toNat]
def k0_off29 (v4253 : BitVec 32) : Fin 5 → Nat :=
  let c3_1774 : Index := 3#32
  let c0_1775 : Index := 0#32
  let v4254 : Index := Scalar.indexCast v4253
  let c0_1776 : Index := 0#32
  let c0_1777 : Index := 0#32
  ![3, 0, v4254.toNat, 0, 0]

def k0_off30 (v4253 : BitVec 32) : Fin 5 → Nat :=
  let v4341 : Index := Scalar.indexCast v4253
  let c1_1812 : Index := 1#32
  let c0_1813 : Index := 0#32
  let c0_1814 : Index := 0#32
  ![v4341.toNat, 1, 0, 0, 0]

def k0_chk10 (v4253 : BitVec 32) : Prop :=
  (∀ a, (k0_off29 v4253) a + S1x20x1x8x128.size a ≤ S8x20x3x8x128.size a) ∧
  (∀ a, (k0_off30 v4253) a + S1x1x24x2x128.size a ≤ S3x4x24x2x128.size a) ∧
  (∀ (hinb : ∀ a, (k0_off29 v4253) a + S1x20x1x8x128.size a ≤ S8x20x3x8x128.size a), (Rect.unit (s := S8x20x3x8x128) (k0_off29 v4253) S1x20x1x8x128.size hinb).PackedRows (EltTy.packing .bf16))
theorem k0_off29_inb : ∀ (v4253 : BitVec 32) (k0_hw10 : k0_chk10 v4253), ∀ a, (k0_off29 v4253) a + S1x20x1x8x128.size a ≤ S8x20x3x8x128.size a := fun v4253 k0_hw10 => k0_hw10.1
theorem k0_off30_inb : ∀ (v4253 : BitVec 32) (k0_hw10 : k0_chk10 v4253), ∀ a, (k0_off30 v4253) a + S1x1x24x2x128.size a ≤ S3x4x24x2x128.size a := fun v4253 k0_hw10 => k0_hw10.2.1
theorem k0_off29_packedbf16 : ∀ (v4253 : BitVec 32) (k0_hw10 : k0_chk10 v4253), (Rect.unit (s := S8x20x3x8x128) (k0_off29 v4253) S1x20x1x8x128.size (k0_off29_inb v4253 k0_hw10)).PackedRows (EltTy.packing .bf16) := fun v4253 k0_hw10 => k0_hw10.2.2 (k0_off29_inb v4253 k0_hw10)

def k0_off31 (i : grid0.Coords) : Fin 1 → Nat :=
  let arg0 : BitVec 32 := BitVec.ofNat 32 (i 0).val
  let c8_i32_2032 : BitVec 32 := 8#32
  let v4904 : BitVec 32 := Scalar.muli arg0 c8_i32_2032
  let c3_i32_2033 : BitVec 32 := 3#32
  let v4905 : BitVec 32 := Scalar.addi v4904 c3_i32_2033
  let c3_i32_2034 : BitVec 32 := 3#32
  let v4906 : BitVec 32 := Scalar.muli v4905 c3_i32_2034
  let c1_i32_2035 : BitVec 32 := 1#32
  let v4907 : BitVec 32 := Scalar.addi v4906 c1_i32_2035
  let v4908 : Index := Scalar.indexCast v4907
  ![v4908.toNat]
def k0_off32 (v4909 : BitVec 32) : Fin 5 → Nat :=
  let c3_2036 : Index := 3#32
  let c0_2037 : Index := 0#32
  let v4910 : Index := Scalar.indexCast v4909
  let c0_2038 : Index := 0#32
  let c0_2039 : Index := 0#32
  ![3, 0, v4910.toNat, 0, 0]

def k0_off33 (v4909 : BitVec 32) : Fin 5 → Nat :=
  let v4997 : Index := Scalar.indexCast v4909
  let c1_2074 : Index := 1#32
  let c0_2075 : Index := 0#32
  let c0_2076 : Index := 0#32
  ![v4997.toNat, 1, 0, 0, 0]

def k0_chk11 (v4909 : BitVec 32) : Prop :=
  (∀ a, (k0_off32 v4909) a + S1x20x1x8x128.size a ≤ S8x20x3x8x128.size a) ∧
  (∀ a, (k0_off33 v4909) a + S1x1x24x2x128.size a ≤ S3x4x24x2x128.size a) ∧
  (∀ (hinb : ∀ a, (k0_off32 v4909) a + S1x20x1x8x128.size a ≤ S8x20x3x8x128.size a), (Rect.unit (s := S8x20x3x8x128) (k0_off32 v4909) S1x20x1x8x128.size hinb).PackedRows (EltTy.packing .bf16))
theorem k0_off32_inb : ∀ (v4909 : BitVec 32) (k0_hw11 : k0_chk11 v4909), ∀ a, (k0_off32 v4909) a + S1x20x1x8x128.size a ≤ S8x20x3x8x128.size a := fun v4909 k0_hw11 => k0_hw11.1
theorem k0_off33_inb : ∀ (v4909 : BitVec 32) (k0_hw11 : k0_chk11 v4909), ∀ a, (k0_off33 v4909) a + S1x1x24x2x128.size a ≤ S3x4x24x2x128.size a := fun v4909 k0_hw11 => k0_hw11.2.1
theorem k0_off32_packedbf16 : ∀ (v4909 : BitVec 32) (k0_hw11 : k0_chk11 v4909), (Rect.unit (s := S8x20x3x8x128) (k0_off32 v4909) S1x20x1x8x128.size (k0_off32_inb v4909 k0_hw11)).PackedRows (EltTy.packing .bf16) := fun v4909 k0_hw11 => k0_hw11.2.2 (k0_off32_inb v4909 k0_hw11)

def k0_off34 (i : grid0.Coords) : Fin 1 → Nat :=
  let arg0 : BitVec 32 := BitVec.ofNat 32 (i 0).val
  let c8_i32_2215 : BitVec 32 := 8#32
  let v5357 : BitVec 32 := Scalar.muli arg0 c8_i32_2215
  let c3_i32_2216 : BitVec 32 := 3#32
  let v5358 : BitVec 32 := Scalar.addi v5357 c3_i32_2216
  let c3_i32_2217 : BitVec 32 := 3#32
  let v5359 : BitVec 32 := Scalar.muli v5358 c3_i32_2217
  let c2_i32_2218 : BitVec 32 := 2#32
  let v5360 : BitVec 32 := Scalar.addi v5359 c2_i32_2218
  let v5361 : Index := Scalar.indexCast v5360
  ![v5361.toNat]
def k0_off35 (v5362 : BitVec 32) : Fin 5 → Nat :=
  let c3_2219 : Index := 3#32
  let c0_2220 : Index := 0#32
  let v5363 : Index := Scalar.indexCast v5362
  let c0_2221 : Index := 0#32
  let c0_2222 : Index := 0#32
  ![3, 0, v5363.toNat, 0, 0]

def k0_off36 (v5362 : BitVec 32) : Fin 5 → Nat :=
  let v5450 : Index := Scalar.indexCast v5362
  let c1_2257 : Index := 1#32
  let c0_2258 : Index := 0#32
  let c0_2259 : Index := 0#32
  ![v5450.toNat, 1, 0, 0, 0]

def k0_chk12 (v5362 : BitVec 32) : Prop :=
  (∀ a, (k0_off35 v5362) a + S1x20x1x8x128.size a ≤ S8x20x3x8x128.size a) ∧
  (∀ a, (k0_off36 v5362) a + S1x1x24x2x128.size a ≤ S3x4x24x2x128.size a) ∧
  (∀ (hinb : ∀ a, (k0_off35 v5362) a + S1x20x1x8x128.size a ≤ S8x20x3x8x128.size a), (Rect.unit (s := S8x20x3x8x128) (k0_off35 v5362) S1x20x1x8x128.size hinb).PackedRows (EltTy.packing .bf16))
theorem k0_off35_inb : ∀ (v5362 : BitVec 32) (k0_hw12 : k0_chk12 v5362), ∀ a, (k0_off35 v5362) a + S1x20x1x8x128.size a ≤ S8x20x3x8x128.size a := fun v5362 k0_hw12 => k0_hw12.1
theorem k0_off36_inb : ∀ (v5362 : BitVec 32) (k0_hw12 : k0_chk12 v5362), ∀ a, (k0_off36 v5362) a + S1x1x24x2x128.size a ≤ S3x4x24x2x128.size a := fun v5362 k0_hw12 => k0_hw12.2.1
theorem k0_off35_packedbf16 : ∀ (v5362 : BitVec 32) (k0_hw12 : k0_chk12 v5362), (Rect.unit (s := S8x20x3x8x128) (k0_off35 v5362) S1x20x1x8x128.size (k0_off35_inb v5362 k0_hw12)).PackedRows (EltTy.packing .bf16) := fun v5362 k0_hw12 => k0_hw12.2.2 (k0_off35_inb v5362 k0_hw12)

def k0_off37 (i : grid0.Coords) : Fin 1 → Nat :=
  let arg0 : BitVec 32 := BitVec.ofNat 32 (i 0).val
  let c8_i32_2320 : BitVec 32 := 8#32
  let v5607 : BitVec 32 := Scalar.muli arg0 c8_i32_2320
  let c4_i32_2321 : BitVec 32 := 4#32
  let v5608 : BitVec 32 := Scalar.addi v5607 c4_i32_2321
  let c3_i32_2322 : BitVec 32 := 3#32
  let v5609 : BitVec 32 := Scalar.muli v5608 c3_i32_2322
  let c0_i32_2323 : BitVec 32 := 0#32
  let v5610 : BitVec 32 := Scalar.addi v5609 c0_i32_2323
  let v5611 : Index := Scalar.indexCast v5610
  ![v5611.toNat]
def k0_off38 (v5612 : BitVec 32) : Fin 5 → Nat :=
  let c4_2324 : Index := 4#32
  let c0_2325 : Index := 0#32
  let v5613 : Index := Scalar.indexCast v5612
  let c0_2326 : Index := 0#32
  let c0_2327 : Index := 0#32
  ![4, 0, v5613.toNat, 0, 0]

def k0_off39 (v5612 : BitVec 32) : Fin 5 → Nat :=
  let v5700 : Index := Scalar.indexCast v5612
  let c2_2363 : Index := 2#32
  let c0_2364 : Index := 0#32
  let c0_2365 : Index := 0#32
  ![v5700.toNat, 2, 0, 0, 0]

def k0_chk13 (v5612 : BitVec 32) : Prop :=
  (∀ a, (k0_off38 v5612) a + S1x20x1x8x128.size a ≤ S8x20x3x8x128.size a) ∧
  (∀ a, (k0_off39 v5612) a + S1x1x24x2x128.size a ≤ S3x4x24x2x128.size a) ∧
  (∀ (hinb : ∀ a, (k0_off38 v5612) a + S1x20x1x8x128.size a ≤ S8x20x3x8x128.size a), (Rect.unit (s := S8x20x3x8x128) (k0_off38 v5612) S1x20x1x8x128.size hinb).PackedRows (EltTy.packing .bf16))
theorem k0_off38_inb : ∀ (v5612 : BitVec 32) (k0_hw13 : k0_chk13 v5612), ∀ a, (k0_off38 v5612) a + S1x20x1x8x128.size a ≤ S8x20x3x8x128.size a := fun v5612 k0_hw13 => k0_hw13.1
theorem k0_off39_inb : ∀ (v5612 : BitVec 32) (k0_hw13 : k0_chk13 v5612), ∀ a, (k0_off39 v5612) a + S1x1x24x2x128.size a ≤ S3x4x24x2x128.size a := fun v5612 k0_hw13 => k0_hw13.2.1
theorem k0_off38_packedbf16 : ∀ (v5612 : BitVec 32) (k0_hw13 : k0_chk13 v5612), (Rect.unit (s := S8x20x3x8x128) (k0_off38 v5612) S1x20x1x8x128.size (k0_off38_inb v5612 k0_hw13)).PackedRows (EltTy.packing .bf16) := fun v5612 k0_hw13 => k0_hw13.2.2 (k0_off38_inb v5612 k0_hw13)

def k0_off40 (i : grid0.Coords) : Fin 1 → Nat :=
  let arg0 : BitVec 32 := BitVec.ofNat 32 (i 0).val
  let c8_i32_2582 : BitVec 32 := 8#32
  let v6263 : BitVec 32 := Scalar.muli arg0 c8_i32_2582
  let c4_i32_2583 : BitVec 32 := 4#32
  let v6264 : BitVec 32 := Scalar.addi v6263 c4_i32_2583
  let c3_i32_2584 : BitVec 32 := 3#32
  let v6265 : BitVec 32 := Scalar.muli v6264 c3_i32_2584
  let c1_i32_2585 : BitVec 32 := 1#32
  let v6266 : BitVec 32 := Scalar.addi v6265 c1_i32_2585
  let v6267 : Index := Scalar.indexCast v6266
  ![v6267.toNat]
def k0_off41 (v6268 : BitVec 32) : Fin 5 → Nat :=
  let c4_2586 : Index := 4#32
  let c0_2587 : Index := 0#32
  let v6269 : Index := Scalar.indexCast v6268
  let c0_2588 : Index := 0#32
  let c0_2589 : Index := 0#32
  ![4, 0, v6269.toNat, 0, 0]

def k0_off42 (v6268 : BitVec 32) : Fin 5 → Nat :=
  let v6356 : Index := Scalar.indexCast v6268
  let c2_2624 : Index := 2#32
  let c0_2625 : Index := 0#32
  let c0_2626 : Index := 0#32
  ![v6356.toNat, 2, 0, 0, 0]

def k0_chk14 (v6268 : BitVec 32) : Prop :=
  (∀ a, (k0_off41 v6268) a + S1x20x1x8x128.size a ≤ S8x20x3x8x128.size a) ∧
  (∀ a, (k0_off42 v6268) a + S1x1x24x2x128.size a ≤ S3x4x24x2x128.size a) ∧
  (∀ (hinb : ∀ a, (k0_off41 v6268) a + S1x20x1x8x128.size a ≤ S8x20x3x8x128.size a), (Rect.unit (s := S8x20x3x8x128) (k0_off41 v6268) S1x20x1x8x128.size hinb).PackedRows (EltTy.packing .bf16))
theorem k0_off41_inb : ∀ (v6268 : BitVec 32) (k0_hw14 : k0_chk14 v6268), ∀ a, (k0_off41 v6268) a + S1x20x1x8x128.size a ≤ S8x20x3x8x128.size a := fun v6268 k0_hw14 => k0_hw14.1
theorem k0_off42_inb : ∀ (v6268 : BitVec 32) (k0_hw14 : k0_chk14 v6268), ∀ a, (k0_off42 v6268) a + S1x1x24x2x128.size a ≤ S3x4x24x2x128.size a := fun v6268 k0_hw14 => k0_hw14.2.1
theorem k0_off41_packedbf16 : ∀ (v6268 : BitVec 32) (k0_hw14 : k0_chk14 v6268), (Rect.unit (s := S8x20x3x8x128) (k0_off41 v6268) S1x20x1x8x128.size (k0_off41_inb v6268 k0_hw14)).PackedRows (EltTy.packing .bf16) := fun v6268 k0_hw14 => k0_hw14.2.2 (k0_off41_inb v6268 k0_hw14)

def k0_off43 (i : grid0.Coords) : Fin 1 → Nat :=
  let arg0 : BitVec 32 := BitVec.ofNat 32 (i 0).val
  let c8_i32_2766 : BitVec 32 := 8#32
  let v6716 : BitVec 32 := Scalar.muli arg0 c8_i32_2766
  let c4_i32_2767 : BitVec 32 := 4#32
  let v6717 : BitVec 32 := Scalar.addi v6716 c4_i32_2767
  let c3_i32_2768 : BitVec 32 := 3#32
  let v6718 : BitVec 32 := Scalar.muli v6717 c3_i32_2768
  let c2_i32_2769 : BitVec 32 := 2#32
  let v6719 : BitVec 32 := Scalar.addi v6718 c2_i32_2769
  let v6720 : Index := Scalar.indexCast v6719
  ![v6720.toNat]
def k0_off44 (v6721 : BitVec 32) : Fin 5 → Nat :=
  let c4_2770 : Index := 4#32
  let c0_2771 : Index := 0#32
  let v6722 : Index := Scalar.indexCast v6721
  let c0_2772 : Index := 0#32
  let c0_2773 : Index := 0#32
  ![4, 0, v6722.toNat, 0, 0]

def k0_off45 (v6721 : BitVec 32) : Fin 5 → Nat :=
  let v6809 : Index := Scalar.indexCast v6721
  let c2_2808 : Index := 2#32
  let c0_2809 : Index := 0#32
  let c0_2810 : Index := 0#32
  ![v6809.toNat, 2, 0, 0, 0]

def k0_chk15 (v6721 : BitVec 32) : Prop :=
  (∀ a, (k0_off44 v6721) a + S1x20x1x8x128.size a ≤ S8x20x3x8x128.size a) ∧
  (∀ a, (k0_off45 v6721) a + S1x1x24x2x128.size a ≤ S3x4x24x2x128.size a) ∧
  (∀ (hinb : ∀ a, (k0_off44 v6721) a + S1x20x1x8x128.size a ≤ S8x20x3x8x128.size a), (Rect.unit (s := S8x20x3x8x128) (k0_off44 v6721) S1x20x1x8x128.size hinb).PackedRows (EltTy.packing .bf16))
theorem k0_off44_inb : ∀ (v6721 : BitVec 32) (k0_hw15 : k0_chk15 v6721), ∀ a, (k0_off44 v6721) a + S1x20x1x8x128.size a ≤ S8x20x3x8x128.size a := fun v6721 k0_hw15 => k0_hw15.1
theorem k0_off45_inb : ∀ (v6721 : BitVec 32) (k0_hw15 : k0_chk15 v6721), ∀ a, (k0_off45 v6721) a + S1x1x24x2x128.size a ≤ S3x4x24x2x128.size a := fun v6721 k0_hw15 => k0_hw15.2.1
theorem k0_off44_packedbf16 : ∀ (v6721 : BitVec 32) (k0_hw15 : k0_chk15 v6721), (Rect.unit (s := S8x20x3x8x128) (k0_off44 v6721) S1x20x1x8x128.size (k0_off44_inb v6721 k0_hw15)).PackedRows (EltTy.packing .bf16) := fun v6721 k0_hw15 => k0_hw15.2.2 (k0_off44_inb v6721 k0_hw15)

def k0_off46 (i : grid0.Coords) : Fin 1 → Nat :=
  let arg0 : BitVec 32 := BitVec.ofNat 32 (i 0).val
  let c8_i32_2871 : BitVec 32 := 8#32
  let v6966 : BitVec 32 := Scalar.muli arg0 c8_i32_2871
  let c5_i32 : BitVec 32 := 5#32
  let v6967 : BitVec 32 := Scalar.addi v6966 c5_i32
  let c3_i32_2872 : BitVec 32 := 3#32
  let v6968 : BitVec 32 := Scalar.muli v6967 c3_i32_2872
  let c0_i32_2873 : BitVec 32 := 0#32
  let v6969 : BitVec 32 := Scalar.addi v6968 c0_i32_2873
  let v6970 : Index := Scalar.indexCast v6969
  ![v6970.toNat]
def k0_off47 (v6971 : BitVec 32) : Fin 5 → Nat :=
  let c5_2874 : Index := 5#32
  let c0_2875 : Index := 0#32
  let v6972 : Index := Scalar.indexCast v6971
  let c0_2876 : Index := 0#32
  let c0_2877 : Index := 0#32
  ![5, 0, v6972.toNat, 0, 0]

def k0_off48 (v6971 : BitVec 32) : Fin 5 → Nat :=
  let v7059 : Index := Scalar.indexCast v6971
  let c2_2912 : Index := 2#32
  let c0_2913 : Index := 0#32
  let c0_2914 : Index := 0#32
  ![v7059.toNat, 2, 0, 0, 0]

def k0_chk16 (v6971 : BitVec 32) : Prop :=
  (∀ a, (k0_off47 v6971) a + S1x20x1x8x128.size a ≤ S8x20x3x8x128.size a) ∧
  (∀ a, (k0_off48 v6971) a + S1x1x24x2x128.size a ≤ S3x4x24x2x128.size a) ∧
  (∀ (hinb : ∀ a, (k0_off47 v6971) a + S1x20x1x8x128.size a ≤ S8x20x3x8x128.size a), (Rect.unit (s := S8x20x3x8x128) (k0_off47 v6971) S1x20x1x8x128.size hinb).PackedRows (EltTy.packing .bf16))
theorem k0_off47_inb : ∀ (v6971 : BitVec 32) (k0_hw16 : k0_chk16 v6971), ∀ a, (k0_off47 v6971) a + S1x20x1x8x128.size a ≤ S8x20x3x8x128.size a := fun v6971 k0_hw16 => k0_hw16.1
theorem k0_off48_inb : ∀ (v6971 : BitVec 32) (k0_hw16 : k0_chk16 v6971), ∀ a, (k0_off48 v6971) a + S1x1x24x2x128.size a ≤ S3x4x24x2x128.size a := fun v6971 k0_hw16 => k0_hw16.2.1
theorem k0_off47_packedbf16 : ∀ (v6971 : BitVec 32) (k0_hw16 : k0_chk16 v6971), (Rect.unit (s := S8x20x3x8x128) (k0_off47 v6971) S1x20x1x8x128.size (k0_off47_inb v6971 k0_hw16)).PackedRows (EltTy.packing .bf16) := fun v6971 k0_hw16 => k0_hw16.2.2 (k0_off47_inb v6971 k0_hw16)

def k0_off49 (i : grid0.Coords) : Fin 1 → Nat :=
  let arg0 : BitVec 32 := BitVec.ofNat 32 (i 0).val
  let c8_i32_3132 : BitVec 32 := 8#32
  let v7622 : BitVec 32 := Scalar.muli arg0 c8_i32_3132
  let c5_i32_3133 : BitVec 32 := 5#32
  let v7623 : BitVec 32 := Scalar.addi v7622 c5_i32_3133
  let c3_i32_3134 : BitVec 32 := 3#32
  let v7624 : BitVec 32 := Scalar.muli v7623 c3_i32_3134
  let c1_i32_3135 : BitVec 32 := 1#32
  let v7625 : BitVec 32 := Scalar.addi v7624 c1_i32_3135
  let v7626 : Index := Scalar.indexCast v7625
  ![v7626.toNat]
def k0_off50 (v7627 : BitVec 32) : Fin 5 → Nat :=
  let c5_3136 : Index := 5#32
  let c0_3137 : Index := 0#32
  let v7628 : Index := Scalar.indexCast v7627
  let c0_3138 : Index := 0#32
  let c0_3139 : Index := 0#32
  ![5, 0, v7628.toNat, 0, 0]

def k0_off51 (v7627 : BitVec 32) : Fin 5 → Nat :=
  let v7715 : Index := Scalar.indexCast v7627
  let c2_3174 : Index := 2#32
  let c0_3175 : Index := 0#32
  let c0_3176 : Index := 0#32
  ![v7715.toNat, 2, 0, 0, 0]

def k0_chk17 (v7627 : BitVec 32) : Prop :=
  (∀ a, (k0_off50 v7627) a + S1x20x1x8x128.size a ≤ S8x20x3x8x128.size a) ∧
  (∀ a, (k0_off51 v7627) a + S1x1x24x2x128.size a ≤ S3x4x24x2x128.size a) ∧
  (∀ (hinb : ∀ a, (k0_off50 v7627) a + S1x20x1x8x128.size a ≤ S8x20x3x8x128.size a), (Rect.unit (s := S8x20x3x8x128) (k0_off50 v7627) S1x20x1x8x128.size hinb).PackedRows (EltTy.packing .bf16))
theorem k0_off50_inb : ∀ (v7627 : BitVec 32) (k0_hw17 : k0_chk17 v7627), ∀ a, (k0_off50 v7627) a + S1x20x1x8x128.size a ≤ S8x20x3x8x128.size a := fun v7627 k0_hw17 => k0_hw17.1
theorem k0_off51_inb : ∀ (v7627 : BitVec 32) (k0_hw17 : k0_chk17 v7627), ∀ a, (k0_off51 v7627) a + S1x1x24x2x128.size a ≤ S3x4x24x2x128.size a := fun v7627 k0_hw17 => k0_hw17.2.1
theorem k0_off50_packedbf16 : ∀ (v7627 : BitVec 32) (k0_hw17 : k0_chk17 v7627), (Rect.unit (s := S8x20x3x8x128) (k0_off50 v7627) S1x20x1x8x128.size (k0_off50_inb v7627 k0_hw17)).PackedRows (EltTy.packing .bf16) := fun v7627 k0_hw17 => k0_hw17.2.2 (k0_off50_inb v7627 k0_hw17)

def k0_off52 (i : grid0.Coords) : Fin 1 → Nat :=
  let arg0 : BitVec 32 := BitVec.ofNat 32 (i 0).val
  let c8_i32_3315 : BitVec 32 := 8#32
  let v8075 : BitVec 32 := Scalar.muli arg0 c8_i32_3315
  let c5_i32_3316 : BitVec 32 := 5#32
  let v8076 : BitVec 32 := Scalar.addi v8075 c5_i32_3316
  let c3_i32_3317 : BitVec 32 := 3#32
  let v8077 : BitVec 32 := Scalar.muli v8076 c3_i32_3317
  let c2_i32_3318 : BitVec 32 := 2#32
  let v8078 : BitVec 32 := Scalar.addi v8077 c2_i32_3318
  let v8079 : Index := Scalar.indexCast v8078
  ![v8079.toNat]
def k0_off53 (v8080 : BitVec 32) : Fin 5 → Nat :=
  let c5_3319 : Index := 5#32
  let c0_3320 : Index := 0#32
  let v8081 : Index := Scalar.indexCast v8080
  let c0_3321 : Index := 0#32
  let c0_3322 : Index := 0#32
  ![5, 0, v8081.toNat, 0, 0]

def k0_off54 (v8080 : BitVec 32) : Fin 5 → Nat :=
  let v8168 : Index := Scalar.indexCast v8080
  let c2_3357 : Index := 2#32
  let c0_3358 : Index := 0#32
  let c0_3359 : Index := 0#32
  ![v8168.toNat, 2, 0, 0, 0]

def k0_chk18 (v8080 : BitVec 32) : Prop :=
  (∀ a, (k0_off53 v8080) a + S1x20x1x8x128.size a ≤ S8x20x3x8x128.size a) ∧
  (∀ a, (k0_off54 v8080) a + S1x1x24x2x128.size a ≤ S3x4x24x2x128.size a) ∧
  (∀ (hinb : ∀ a, (k0_off53 v8080) a + S1x20x1x8x128.size a ≤ S8x20x3x8x128.size a), (Rect.unit (s := S8x20x3x8x128) (k0_off53 v8080) S1x20x1x8x128.size hinb).PackedRows (EltTy.packing .bf16))
theorem k0_off53_inb : ∀ (v8080 : BitVec 32) (k0_hw18 : k0_chk18 v8080), ∀ a, (k0_off53 v8080) a + S1x20x1x8x128.size a ≤ S8x20x3x8x128.size a := fun v8080 k0_hw18 => k0_hw18.1
theorem k0_off54_inb : ∀ (v8080 : BitVec 32) (k0_hw18 : k0_chk18 v8080), ∀ a, (k0_off54 v8080) a + S1x1x24x2x128.size a ≤ S3x4x24x2x128.size a := fun v8080 k0_hw18 => k0_hw18.2.1
theorem k0_off53_packedbf16 : ∀ (v8080 : BitVec 32) (k0_hw18 : k0_chk18 v8080), (Rect.unit (s := S8x20x3x8x128) (k0_off53 v8080) S1x20x1x8x128.size (k0_off53_inb v8080 k0_hw18)).PackedRows (EltTy.packing .bf16) := fun v8080 k0_hw18 => k0_hw18.2.2 (k0_off53_inb v8080 k0_hw18)

def k0_off55 (i : grid0.Coords) : Fin 1 → Nat :=
  let arg0 : BitVec 32 := BitVec.ofNat 32 (i 0).val
  let c8_i32_3420 : BitVec 32 := 8#32
  let v8325 : BitVec 32 := Scalar.muli arg0 c8_i32_3420
  let c6_i32 : BitVec 32 := 6#32
  let v8326 : BitVec 32 := Scalar.addi v8325 c6_i32
  let c3_i32_3421 : BitVec 32 := 3#32
  let v8327 : BitVec 32 := Scalar.muli v8326 c3_i32_3421
  let c0_i32_3422 : BitVec 32 := 0#32
  let v8328 : BitVec 32 := Scalar.addi v8327 c0_i32_3422
  let v8329 : Index := Scalar.indexCast v8328
  ![v8329.toNat]
def k0_off56 (v8330 : BitVec 32) : Fin 5 → Nat :=
  let c6_3423 : Index := 6#32
  let c0_3424 : Index := 0#32
  let v8331 : Index := Scalar.indexCast v8330
  let c0_3425 : Index := 0#32
  let c0_3426 : Index := 0#32
  ![6, 0, v8331.toNat, 0, 0]

def k0_off57 (v8330 : BitVec 32) : Fin 5 → Nat :=
  let v8418 : Index := Scalar.indexCast v8330
  let c3_3462 : Index := 3#32
  let c0_3463 : Index := 0#32
  let c0_3464 : Index := 0#32
  ![v8418.toNat, 3, 0, 0, 0]

def k0_chk19 (v8330 : BitVec 32) : Prop :=
  (∀ a, (k0_off56 v8330) a + S1x20x1x8x128.size a ≤ S8x20x3x8x128.size a) ∧
  (∀ a, (k0_off57 v8330) a + S1x1x24x2x128.size a ≤ S3x4x24x2x128.size a) ∧
  (∀ (hinb : ∀ a, (k0_off56 v8330) a + S1x20x1x8x128.size a ≤ S8x20x3x8x128.size a), (Rect.unit (s := S8x20x3x8x128) (k0_off56 v8330) S1x20x1x8x128.size hinb).PackedRows (EltTy.packing .bf16))
theorem k0_off56_inb : ∀ (v8330 : BitVec 32) (k0_hw19 : k0_chk19 v8330), ∀ a, (k0_off56 v8330) a + S1x20x1x8x128.size a ≤ S8x20x3x8x128.size a := fun v8330 k0_hw19 => k0_hw19.1
theorem k0_off57_inb : ∀ (v8330 : BitVec 32) (k0_hw19 : k0_chk19 v8330), ∀ a, (k0_off57 v8330) a + S1x1x24x2x128.size a ≤ S3x4x24x2x128.size a := fun v8330 k0_hw19 => k0_hw19.2.1
theorem k0_off56_packedbf16 : ∀ (v8330 : BitVec 32) (k0_hw19 : k0_chk19 v8330), (Rect.unit (s := S8x20x3x8x128) (k0_off56 v8330) S1x20x1x8x128.size (k0_off56_inb v8330 k0_hw19)).PackedRows (EltTy.packing .bf16) := fun v8330 k0_hw19 => k0_hw19.2.2 (k0_off56_inb v8330 k0_hw19)

def k0_off58 (i : grid0.Coords) : Fin 1 → Nat :=
  let arg0 : BitVec 32 := BitVec.ofNat 32 (i 0).val
  let c8_i32_3681 : BitVec 32 := 8#32
  let v8981 : BitVec 32 := Scalar.muli arg0 c8_i32_3681
  let c6_i32_3682 : BitVec 32 := 6#32
  let v8982 : BitVec 32 := Scalar.addi v8981 c6_i32_3682
  let c3_i32_3683 : BitVec 32 := 3#32
  let v8983 : BitVec 32 := Scalar.muli v8982 c3_i32_3683
  let c1_i32_3684 : BitVec 32 := 1#32
  let v8984 : BitVec 32 := Scalar.addi v8983 c1_i32_3684
  let v8985 : Index := Scalar.indexCast v8984
  ![v8985.toNat]
def k0_off59 (v8986 : BitVec 32) : Fin 5 → Nat :=
  let c6_3685 : Index := 6#32
  let c0_3686 : Index := 0#32
  let v8987 : Index := Scalar.indexCast v8986
  let c0_3687 : Index := 0#32
  let c0_3688 : Index := 0#32
  ![6, 0, v8987.toNat, 0, 0]

def k0_off60 (v8986 : BitVec 32) : Fin 5 → Nat :=
  let v9074 : Index := Scalar.indexCast v8986
  let c3_3723 : Index := 3#32
  let c0_3724 : Index := 0#32
  let c0_3725 : Index := 0#32
  ![v9074.toNat, 3, 0, 0, 0]

def k0_chk20 (v8986 : BitVec 32) : Prop :=
  (∀ a, (k0_off59 v8986) a + S1x20x1x8x128.size a ≤ S8x20x3x8x128.size a) ∧
  (∀ a, (k0_off60 v8986) a + S1x1x24x2x128.size a ≤ S3x4x24x2x128.size a) ∧
  (∀ (hinb : ∀ a, (k0_off59 v8986) a + S1x20x1x8x128.size a ≤ S8x20x3x8x128.size a), (Rect.unit (s := S8x20x3x8x128) (k0_off59 v8986) S1x20x1x8x128.size hinb).PackedRows (EltTy.packing .bf16))
theorem k0_off59_inb : ∀ (v8986 : BitVec 32) (k0_hw20 : k0_chk20 v8986), ∀ a, (k0_off59 v8986) a + S1x20x1x8x128.size a ≤ S8x20x3x8x128.size a := fun v8986 k0_hw20 => k0_hw20.1
theorem k0_off60_inb : ∀ (v8986 : BitVec 32) (k0_hw20 : k0_chk20 v8986), ∀ a, (k0_off60 v8986) a + S1x1x24x2x128.size a ≤ S3x4x24x2x128.size a := fun v8986 k0_hw20 => k0_hw20.2.1
theorem k0_off59_packedbf16 : ∀ (v8986 : BitVec 32) (k0_hw20 : k0_chk20 v8986), (Rect.unit (s := S8x20x3x8x128) (k0_off59 v8986) S1x20x1x8x128.size (k0_off59_inb v8986 k0_hw20)).PackedRows (EltTy.packing .bf16) := fun v8986 k0_hw20 => k0_hw20.2.2 (k0_off59_inb v8986 k0_hw20)

def k0_off61 (i : grid0.Coords) : Fin 1 → Nat :=
  let arg0 : BitVec 32 := BitVec.ofNat 32 (i 0).val
  let c8_i32_3865 : BitVec 32 := 8#32
  let v9434 : BitVec 32 := Scalar.muli arg0 c8_i32_3865
  let c6_i32_3866 : BitVec 32 := 6#32
  let v9435 : BitVec 32 := Scalar.addi v9434 c6_i32_3866
  let c3_i32_3867 : BitVec 32 := 3#32
  let v9436 : BitVec 32 := Scalar.muli v9435 c3_i32_3867
  let c2_i32_3868 : BitVec 32 := 2#32
  let v9437 : BitVec 32 := Scalar.addi v9436 c2_i32_3868
  let v9438 : Index := Scalar.indexCast v9437
  ![v9438.toNat]
def k0_off62 (v9439 : BitVec 32) : Fin 5 → Nat :=
  let c6_3869 : Index := 6#32
  let c0_3870 : Index := 0#32
  let v9440 : Index := Scalar.indexCast v9439
  let c0_3871 : Index := 0#32
  let c0_3872 : Index := 0#32
  ![6, 0, v9440.toNat, 0, 0]

def k0_off63 (v9439 : BitVec 32) : Fin 5 → Nat :=
  let v9527 : Index := Scalar.indexCast v9439
  let c3_3907 : Index := 3#32
  let c0_3908 : Index := 0#32
  let c0_3909 : Index := 0#32
  ![v9527.toNat, 3, 0, 0, 0]

def k0_chk21 (v9439 : BitVec 32) : Prop :=
  (∀ a, (k0_off62 v9439) a + S1x20x1x8x128.size a ≤ S8x20x3x8x128.size a) ∧
  (∀ a, (k0_off63 v9439) a + S1x1x24x2x128.size a ≤ S3x4x24x2x128.size a) ∧
  (∀ (hinb : ∀ a, (k0_off62 v9439) a + S1x20x1x8x128.size a ≤ S8x20x3x8x128.size a), (Rect.unit (s := S8x20x3x8x128) (k0_off62 v9439) S1x20x1x8x128.size hinb).PackedRows (EltTy.packing .bf16))
theorem k0_off62_inb : ∀ (v9439 : BitVec 32) (k0_hw21 : k0_chk21 v9439), ∀ a, (k0_off62 v9439) a + S1x20x1x8x128.size a ≤ S8x20x3x8x128.size a := fun v9439 k0_hw21 => k0_hw21.1
theorem k0_off63_inb : ∀ (v9439 : BitVec 32) (k0_hw21 : k0_chk21 v9439), ∀ a, (k0_off63 v9439) a + S1x1x24x2x128.size a ≤ S3x4x24x2x128.size a := fun v9439 k0_hw21 => k0_hw21.2.1
theorem k0_off62_packedbf16 : ∀ (v9439 : BitVec 32) (k0_hw21 : k0_chk21 v9439), (Rect.unit (s := S8x20x3x8x128) (k0_off62 v9439) S1x20x1x8x128.size (k0_off62_inb v9439 k0_hw21)).PackedRows (EltTy.packing .bf16) := fun v9439 k0_hw21 => k0_hw21.2.2 (k0_off62_inb v9439 k0_hw21)

def k0_off64 (i : grid0.Coords) : Fin 1 → Nat :=
  let arg0 : BitVec 32 := BitVec.ofNat 32 (i 0).val
  let c8_i32_3970 : BitVec 32 := 8#32
  let v9684 : BitVec 32 := Scalar.muli arg0 c8_i32_3970
  let c7_i32 : BitVec 32 := 7#32
  let v9685 : BitVec 32 := Scalar.addi v9684 c7_i32
  let c3_i32_3971 : BitVec 32 := 3#32
  let v9686 : BitVec 32 := Scalar.muli v9685 c3_i32_3971
  let c0_i32_3972 : BitVec 32 := 0#32
  let v9687 : BitVec 32 := Scalar.addi v9686 c0_i32_3972
  let v9688 : Index := Scalar.indexCast v9687
  ![v9688.toNat]
def k0_off65 (v9689 : BitVec 32) : Fin 5 → Nat :=
  let c7_3973 : Index := 7#32
  let c0_3974 : Index := 0#32
  let v9690 : Index := Scalar.indexCast v9689
  let c0_3975 : Index := 0#32
  let c0_3976 : Index := 0#32
  ![7, 0, v9690.toNat, 0, 0]

def k0_off66 (v9689 : BitVec 32) : Fin 5 → Nat :=
  let v9777 : Index := Scalar.indexCast v9689
  let c3_4011 : Index := 3#32
  let c0_4012 : Index := 0#32
  let c0_4013 : Index := 0#32
  ![v9777.toNat, 3, 0, 0, 0]

def k0_chk22 (v9689 : BitVec 32) : Prop :=
  (∀ a, (k0_off65 v9689) a + S1x20x1x8x128.size a ≤ S8x20x3x8x128.size a) ∧
  (∀ a, (k0_off66 v9689) a + S1x1x24x2x128.size a ≤ S3x4x24x2x128.size a) ∧
  (∀ (hinb : ∀ a, (k0_off65 v9689) a + S1x20x1x8x128.size a ≤ S8x20x3x8x128.size a), (Rect.unit (s := S8x20x3x8x128) (k0_off65 v9689) S1x20x1x8x128.size hinb).PackedRows (EltTy.packing .bf16))
theorem k0_off65_inb : ∀ (v9689 : BitVec 32) (k0_hw22 : k0_chk22 v9689), ∀ a, (k0_off65 v9689) a + S1x20x1x8x128.size a ≤ S8x20x3x8x128.size a := fun v9689 k0_hw22 => k0_hw22.1
theorem k0_off66_inb : ∀ (v9689 : BitVec 32) (k0_hw22 : k0_chk22 v9689), ∀ a, (k0_off66 v9689) a + S1x1x24x2x128.size a ≤ S3x4x24x2x128.size a := fun v9689 k0_hw22 => k0_hw22.2.1
theorem k0_off65_packedbf16 : ∀ (v9689 : BitVec 32) (k0_hw22 : k0_chk22 v9689), (Rect.unit (s := S8x20x3x8x128) (k0_off65 v9689) S1x20x1x8x128.size (k0_off65_inb v9689 k0_hw22)).PackedRows (EltTy.packing .bf16) := fun v9689 k0_hw22 => k0_hw22.2.2 (k0_off65_inb v9689 k0_hw22)

def k0_off67 (i : grid0.Coords) : Fin 1 → Nat :=
  let arg0 : BitVec 32 := BitVec.ofNat 32 (i 0).val
  let c8_i32_4231 : BitVec 32 := 8#32
  let v10340 : BitVec 32 := Scalar.muli arg0 c8_i32_4231
  let c7_i32_4232 : BitVec 32 := 7#32
  let v10341 : BitVec 32 := Scalar.addi v10340 c7_i32_4232
  let c3_i32_4233 : BitVec 32 := 3#32
  let v10342 : BitVec 32 := Scalar.muli v10341 c3_i32_4233
  let c1_i32_4234 : BitVec 32 := 1#32
  let v10343 : BitVec 32 := Scalar.addi v10342 c1_i32_4234
  let v10344 : Index := Scalar.indexCast v10343
  ![v10344.toNat]
def k0_off68 (v10345 : BitVec 32) : Fin 5 → Nat :=
  let c7_4235 : Index := 7#32
  let c0_4236 : Index := 0#32
  let v10346 : Index := Scalar.indexCast v10345
  let c0_4237 : Index := 0#32
  let c0_4238 : Index := 0#32
  ![7, 0, v10346.toNat, 0, 0]

def k0_off69 (v10345 : BitVec 32) : Fin 5 → Nat :=
  let v10433 : Index := Scalar.indexCast v10345
  let c3_4273 : Index := 3#32
  let c0_4274 : Index := 0#32
  let c0_4275 : Index := 0#32
  ![v10433.toNat, 3, 0, 0, 0]

def k0_chk23 (v10345 : BitVec 32) : Prop :=
  (∀ a, (k0_off68 v10345) a + S1x20x1x8x128.size a ≤ S8x20x3x8x128.size a) ∧
  (∀ a, (k0_off69 v10345) a + S1x1x24x2x128.size a ≤ S3x4x24x2x128.size a) ∧
  (∀ (hinb : ∀ a, (k0_off68 v10345) a + S1x20x1x8x128.size a ≤ S8x20x3x8x128.size a), (Rect.unit (s := S8x20x3x8x128) (k0_off68 v10345) S1x20x1x8x128.size hinb).PackedRows (EltTy.packing .bf16))
theorem k0_off68_inb : ∀ (v10345 : BitVec 32) (k0_hw23 : k0_chk23 v10345), ∀ a, (k0_off68 v10345) a + S1x20x1x8x128.size a ≤ S8x20x3x8x128.size a := fun v10345 k0_hw23 => k0_hw23.1
theorem k0_off69_inb : ∀ (v10345 : BitVec 32) (k0_hw23 : k0_chk23 v10345), ∀ a, (k0_off69 v10345) a + S1x1x24x2x128.size a ≤ S3x4x24x2x128.size a := fun v10345 k0_hw23 => k0_hw23.2.1
theorem k0_off68_packedbf16 : ∀ (v10345 : BitVec 32) (k0_hw23 : k0_chk23 v10345), (Rect.unit (s := S8x20x3x8x128) (k0_off68 v10345) S1x20x1x8x128.size (k0_off68_inb v10345 k0_hw23)).PackedRows (EltTy.packing .bf16) := fun v10345 k0_hw23 => k0_hw23.2.2 (k0_off68_inb v10345 k0_hw23)

def k0_off70 (i : grid0.Coords) : Fin 1 → Nat :=
  let arg0 : BitVec 32 := BitVec.ofNat 32 (i 0).val
  let c8_i32_4414 : BitVec 32 := 8#32
  let v10793 : BitVec 32 := Scalar.muli arg0 c8_i32_4414
  let c7_i32_4415 : BitVec 32 := 7#32
  let v10794 : BitVec 32 := Scalar.addi v10793 c7_i32_4415
  let c3_i32_4416 : BitVec 32 := 3#32
  let v10795 : BitVec 32 := Scalar.muli v10794 c3_i32_4416
  let c2_i32_4417 : BitVec 32 := 2#32
  let v10796 : BitVec 32 := Scalar.addi v10795 c2_i32_4417
  let v10797 : Index := Scalar.indexCast v10796
  ![v10797.toNat]
def k0_off71 (v10798 : BitVec 32) : Fin 5 → Nat :=
  let c7_4418 : Index := 7#32
  let c0_4419 : Index := 0#32
  let v10799 : Index := Scalar.indexCast v10798
  let c0_4420 : Index := 0#32
  let c0_4421 : Index := 0#32
  ![7, 0, v10799.toNat, 0, 0]

def k0_off72 (v10798 : BitVec 32) : Fin 5 → Nat :=
  let v10886 : Index := Scalar.indexCast v10798
  let c3_4456 : Index := 3#32
  let c0_4457 : Index := 0#32
  let c0_4458 : Index := 0#32
  ![v10886.toNat, 3, 0, 0, 0]

def k0_chk24 (v10798 : BitVec 32) : Prop :=
  (∀ a, (k0_off71 v10798) a + S1x20x1x8x128.size a ≤ S8x20x3x8x128.size a) ∧
  (∀ a, (k0_off72 v10798) a + S1x1x24x2x128.size a ≤ S3x4x24x2x128.size a) ∧
  (∀ (hinb : ∀ a, (k0_off71 v10798) a + S1x20x1x8x128.size a ≤ S8x20x3x8x128.size a), (Rect.unit (s := S8x20x3x8x128) (k0_off71 v10798) S1x20x1x8x128.size hinb).PackedRows (EltTy.packing .bf16))
theorem k0_off71_inb : ∀ (v10798 : BitVec 32) (k0_hw24 : k0_chk24 v10798), ∀ a, (k0_off71 v10798) a + S1x20x1x8x128.size a ≤ S8x20x3x8x128.size a := fun v10798 k0_hw24 => k0_hw24.1
theorem k0_off72_inb : ∀ (v10798 : BitVec 32) (k0_hw24 : k0_chk24 v10798), ∀ a, (k0_off72 v10798) a + S1x1x24x2x128.size a ≤ S3x4x24x2x128.size a := fun v10798 k0_hw24 => k0_hw24.2.1
theorem k0_off71_packedbf16 : ∀ (v10798 : BitVec 32) (k0_hw24 : k0_chk24 v10798), (Rect.unit (s := S8x20x3x8x128) (k0_off71 v10798) S1x20x1x8x128.size (k0_off71_inb v10798 k0_hw24)).PackedRows (EltTy.packing .bf16) := fun v10798 k0_hw24 => k0_hw24.2.2 (k0_off71_inb v10798 k0_hw24)

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S8x20x3x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x3x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x3x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x2x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x24x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x20x3x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S256x3 : Shape := ⟨2, ![256, 3]⟩
abbrev S256x20x24x128 : Shape := ⟨4, ![256, 20, 24, 128]⟩
abbrev S256x20x3x128 : Shape := ⟨4, ![256, 20, 3, 128]⟩
abbrev S24576x2x128 : Shape := ⟨3, ![24576, 2, 128]⟩
abbrev S3072x24x128 : Shape := ⟨3, ![3072, 24, 128]⟩
abbrev S256x16x128 : Shape := ⟨3, ![256, 16, 128]⟩
abbrev S256x20x3x8x128 : Shape := ⟨5, ![256, 20, 3, 8, 128]⟩
abbrev S256x3x8x20x128 : Shape := ⟨5, ![256, 3, 8, 20, 128]⟩
abbrev S256x3x160x128 : Shape := ⟨4, ![256, 3, 160, 128]⟩
abbrev S256x3x20x128 : Shape := ⟨4, ![256, 3, 20, 128]⟩
abbrev S256x12x24x128 : Shape := ⟨4, ![256, 12, 24, 128]⟩
abbrev S256x12x8x128 : Shape := ⟨4, ![256, 12, 8, 128]⟩
abbrev S256x12x8x128x2 : Shape := ⟨5, ![256, 12, 8, 128, 2]⟩
abbrev S256x12x128x8x2 : Shape := ⟨5, ![256, 12, 128, 8, 2]⟩
abbrev S256x12x128x4x2 : Shape := ⟨5, ![256, 12, 128, 4, 2]⟩
abbrev S256x12x128x4x1x2 : Shape := ⟨6, ![256, 12, 128, 4, 1, 2]⟩
abbrev S256x192x128 : Shape := ⟨3, ![256, 192, 128]⟩
abbrev S256x192x8x128 : Shape := ⟨4, ![256, 192, 8, 128]⟩
abbrev S256x192x1x128 : Shape := ⟨4, ![256, 192, 1, 128]⟩
abbrev S_ : Shape := ⟨0, ![]⟩
abbrev S256x12x128x4x16x2 : Shape := ⟨6, ![256, 12, 128, 4, 16, 2]⟩
abbrev S256x12x16x128 : Shape := ⟨4, ![256, 12, 16, 128]⟩
abbrev S256x12x16x8x128 : Shape := ⟨5, ![256, 12, 16, 8, 128]⟩
abbrev S256x12x16x1x128 : Shape := ⟨5, ![256, 12, 16, 1, 128]⟩
abbrev S256x12x128x128 : Shape := ⟨4, ![256, 12, 128, 128]⟩
abbrev S256x1536x128 : Shape := ⟨3, ![256, 1536, 128]⟩
abbrev S256x1536 : Shape := ⟨2, ![256, 1536]⟩
abbrev S256x1 : Shape := ⟨2, ![256, 1]⟩
abbrev S256x3x1536 : Shape := ⟨3, ![256, 3, 1536]⟩
abbrev S256x1x1536 : Shape := ⟨3, ![256, 1, 1536]⟩
abbrev S256x12x128 : Shape := ⟨3, ![256, 12, 128]⟩
abbrev S256x3x20 : Shape := ⟨3, ![256, 3, 20]⟩
abbrev S256x1x1 : Shape := ⟨3, ![256, 1, 1]⟩
abbrev S256x1x20 : Shape := ⟨3, ![256, 1, 20]⟩
abbrev S256x3x160x1536 : Shape := ⟨4, ![256, 3, 160, 1536]⟩
abbrev S256x1x1x1536 : Shape := ⟨4, ![256, 1, 1, 1536]⟩
abbrev S256x3x1x1536 : Shape := ⟨4, ![256, 3, 1, 1536]⟩
abbrev S256x3x160x20 : Shape := ⟨4, ![256, 3, 160, 20]⟩
abbrev S256x3x1x20 : Shape := ⟨4, ![256, 3, 1, 20]⟩
abbrev S8x20x20 : Shape := ⟨3, ![8, 20, 20]⟩
abbrev S160x20 : Shape := ⟨2, ![160, 20]⟩
abbrev S256x3x160 : Shape := ⟨3, ![256, 3, 160]⟩
abbrev S256x3x160x1 : Shape := ⟨4, ![256, 3, 160, 1]⟩

abbrev nBuf : Space → Nat
  | .hbm => 192
  | .vmem => 0
  | .smem => 0
  | _ => 0

abbrev hbmTy0_0 (i : Nat) : BufTy := match i % 128 with
  | 0 => ⟨S256x3, .i32⟩
  | 1 => ⟨S256x20x24x128, .bf16⟩
  | 2 => ⟨S256x20x3x128, .bf16⟩
  | 3 => ⟨S256x20x3x128, .bf16⟩
  | 4 => ⟨S24576x2x128, .i32⟩
  | 5 => ⟨S3072x24x128, .i32⟩
  | 6 => ⟨S256x16x128, .f32⟩
  | 7 => ⟨S256x20x3x8x128, .bf16⟩
  | 8 => ⟨S256x3x8x20x128, .bf16⟩
  | 9 => ⟨S256x3x160x128, .bf16⟩
  | 10 => ⟨S256x3x20x128, .bf16⟩
  | 11 => ⟨S256x3x20x128, .bf16⟩
  | 12 => ⟨S256x12x24x128, .i32⟩
  | 13 => ⟨S256x12x8x128, .i32⟩
  | 14 => ⟨S256x12x8x128x2, .bf16⟩
  | 15 => ⟨S256x12x128x8x2, .bf16⟩
  | 16 => ⟨S256x12x128x4x2, .bf16⟩
  | 17 => ⟨S256x12x128x4x1x2, .bf16⟩
  | 18 => ⟨S256x12x128x4x2, .bf16⟩
  | 19 => ⟨S256x12x128x4x1x2, .bf16⟩
  | 20 => ⟨S256x192x128, .i32⟩
  | 21 => ⟨S256x192x8x128, .i32⟩
  | 22 => ⟨S256x192x1x128, .i32⟩
  | 23 => ⟨S256x192x8x128, .i32⟩
  | 24 => ⟨S_, .i32⟩
  | 25 => ⟨S256x192x8x128, .i32⟩
  | 26 => ⟨S256x192x8x128, .i32⟩
  | 27 => ⟨S256x192x8x128, .i32⟩
  | 28 => ⟨S_, .i32⟩
  | 29 => ⟨S256x192x8x128, .i32⟩
  | 30 => ⟨S256x192x8x128, .i32⟩
  | 31 => ⟨S_, .i32⟩
  | 32 => ⟨S256x192x8x128, .i32⟩
  | 33 => ⟨S256x192x8x128, .i1⟩
  | 34 => ⟨S_, .i32⟩
  | 35 => ⟨S256x192x8x128, .i32⟩
  | 36 => ⟨S256x192x8x128, .i32⟩
  | 37 => ⟨S256x192x8x128, .i32⟩
  | 38 => ⟨S256x192x8x128, .bf16⟩
  | 39 => ⟨S256x12x128x4x16x2, .bf16⟩
  | 40 => ⟨S256x12x16x128, .i32⟩
  | 41 => ⟨S256x12x16x8x128, .i32⟩
  | 42 => ⟨S256x12x16x1x128, .i32⟩
  | 43 => ⟨S256x12x16x8x128, .i32⟩
  | 44 => ⟨S_, .i32⟩
  | 45 => ⟨S256x12x16x8x128, .i32⟩
  | 46 => ⟨S256x12x16x8x128, .i32⟩
  | 47 => ⟨S256x12x16x8x128, .i32⟩
  | 48 => ⟨S_, .i32⟩
  | 49 => ⟨S256x12x16x8x128, .i32⟩
  | 50 => ⟨S256x12x16x8x128, .i32⟩
  | 51 => ⟨S_, .i32⟩
  | 52 => ⟨S256x12x16x8x128, .i32⟩
  | 53 => ⟨S256x12x16x8x128, .i1⟩
  | 54 => ⟨S_, .i32⟩
  | 55 => ⟨S256x12x16x8x128, .i32⟩
  | 56 => ⟨S256x12x16x8x128, .i32⟩
  | 57 => ⟨S256x12x16x8x128, .i32⟩
  | 58 => ⟨S256x12x16x8x128, .bf16⟩
  | 59 => ⟨S256x12x128x128, .bf16⟩
  | 60 => ⟨S256x12x128x128, .bf16⟩
  | 61 => ⟨S256x12x128x4x16x2, .bf16⟩
  | 62 => ⟨S256x12x128x4x16x2, .bf16⟩
  | 63 => ⟨S256x1536x128, .bf16⟩
  | 64 => ⟨S256x12x128x4x16x2, .bf16⟩
  | 65 => ⟨S256x12x128x4x16x2, .bf16⟩
  | 66 => ⟨S256x12x128x4x16x2, .bf16⟩
  | 67 => ⟨S256x1536x128, .bf16⟩
  | 68 => ⟨S256x1536, .i32⟩
  | 69 => ⟨S_, .i32⟩
  | 70 => ⟨S256x1536, .i32⟩
  | 71 => ⟨S256x1536, .i1⟩
  | 72 => ⟨S256x1, .i32⟩
  | 73 => ⟨S_, .i32⟩
  | 74 => ⟨S256x1536, .i32⟩
  | 75 => ⟨S256x1536, .i1⟩
  | 76 => ⟨S256x1, .i32⟩
  | 77 => ⟨S256x1, .i32⟩
  | 78 => ⟨S256x1536, .i32⟩
  | 79 => ⟨S256x1536, .i32⟩
  | 80 => ⟨S256x1536, .i32⟩
  | 81 => ⟨S256x1536, .i32⟩
  | 82 => ⟨S256x1536, .i32⟩
  | 83 => ⟨S_, .i32⟩
  | 84 => ⟨S256x1536, .i32⟩
  | 85 => ⟨S256x1536, .i1⟩
  | 86 => ⟨S_, .i32⟩
  | 87 => ⟨S256x1536, .i32⟩
  | 88 => ⟨S256x1536, .i1⟩
  | 89 => ⟨S256x1536, .i1⟩
  | 90 => ⟨S_, .i32⟩
  | 91 => ⟨S256x1536, .i32⟩
  | 92 => ⟨S256x1536, .i1⟩
  | 93 => ⟨S_, .i32⟩
  | 94 => ⟨S256x1536, .i32⟩
  | 95 => ⟨S256x1536, .i1⟩
  | 96 => ⟨S256x1536, .i1⟩
  | 97 => ⟨S256x1536, .i1⟩
  | 98 => ⟨S_, .i32⟩
  | 99 => ⟨S256x1536, .i32⟩
  | 100 => ⟨S256x1536, .i1⟩
  | 101 => ⟨S256x1536, .i1⟩
  | 102 => ⟨S256x3x1536, .i32⟩
  | 103 => ⟨S256x1x1536, .i32⟩
  | 104 => ⟨S256x3x1536, .i32⟩
  | 105 => ⟨S256x3x1536, .i1⟩
  | 106 => ⟨S256x1x1536, .i1⟩
  | 107 => ⟨S256x3x1536, .i1⟩
  | 108 => ⟨S256x3x1536, .i1⟩
  | 109 => ⟨S256x12x128, .f32⟩
  | 110 => ⟨S256x1536, .f32⟩
  | 111 => ⟨S256x3x20, .i32⟩
  | 112 => ⟨S256x1, .i32⟩
  | 113 => ⟨S256x1x1, .i32⟩
  | 114 => ⟨S256x3x20, .i32⟩
  | 115 => ⟨S256x3x20, .i1⟩
  | 116 => ⟨S256x1x20, .f32⟩
  | 117 => ⟨S256x1, .i32⟩
  | 118 => ⟨S256x1x1, .i32⟩
  | 119 => ⟨S256x3x20, .i32⟩
  | 120 => ⟨S256x3x20, .i1⟩
  | 121 => ⟨S256x1x20, .f32⟩
  | 122 => ⟨S256x1x20, .f32⟩
  | 123 => ⟨S256x3x20, .f32⟩
  | 124 => ⟨S256x3x20, .f32⟩
  | 125 => ⟨S256x3x20, .f32⟩
  | 126 => ⟨S256x3x20, .f32⟩
  | 127 => ⟨S256x3x20, .f32⟩
  | _ => ⟨S256x3, .i32⟩

abbrev hbmTy0_1 (i : Nat) : BufTy := match i % 128 with
  | 0 => ⟨S256x3x160x1536, .f32⟩
  | 1 => ⟨S_, .f32⟩
  | 2 => ⟨S256x3x160x1536, .f32⟩
  | 3 => ⟨S256x3x160x1536, .f32⟩
  | 4 => ⟨S256x1x1x1536, .f32⟩
  | 5 => ⟨S256x3x160x1536, .f32⟩
  | 6 => ⟨S256x3x160x1536, .f32⟩
  | 7 => ⟨S256x3x1x1536, .i1⟩
  | 8 => ⟨S_, .f32⟩
  | 9 => ⟨S_, .f32⟩
  | 10 => ⟨S256x3x160x1536, .i1⟩
  | 11 => ⟨S256x3x160x1536, .f32⟩
  | 12 => ⟨S256x3x160x1536, .f32⟩
  | 13 => ⟨S256x3x160x20, .f32⟩
  | 14 => ⟨S_, .f32⟩
  | 15 => ⟨S256x3x160x20, .f32⟩
  | 16 => ⟨S256x3x160x20, .f32⟩
  | 17 => ⟨S256x3x1x20, .f32⟩
  | 18 => ⟨S256x3x160x20, .f32⟩
  | 19 => ⟨S256x3x160x20, .f32⟩
  | 20 => ⟨S8x20x20, .i32⟩
  | 21 => ⟨S160x20, .i32⟩
  | 22 => ⟨S160x20, .i32⟩
  | 23 => ⟨S160x20, .i1⟩
  | 24 => ⟨S_, .f32⟩
  | 25 => ⟨S_, .f32⟩
  | 26 => ⟨S256x3x160x20, .i1⟩
  | 27 => ⟨S256x3x160x20, .f32⟩
  | 28 => ⟨S256x3x160x20, .f32⟩
  | 29 => ⟨S_, .f32⟩
  | 30 => ⟨S256x3x160, .f32⟩
  | 31 => ⟨S_, .f32⟩
  | 32 => ⟨S256x3x160, .f32⟩
  | 33 => ⟨S256x3x160, .f32⟩
  | 34 => ⟨S256x3x160x1, .f32⟩
  | 35 => ⟨S256x3x160x1536, .f32⟩
  | 36 => ⟨S256x3x160x1536, .f32⟩
  | 37 => ⟨S256x3x160x1536, .f32⟩
  | 38 => ⟨S256x3x160x1, .f32⟩
  | 39 => ⟨S256x3x160x20, .f32⟩
  | 40 => ⟨S256x3x160x20, .f32⟩
  | 41 => ⟨S256x3x160x20, .f32⟩
  | 42 => ⟨S_, .f32⟩
  | 43 => ⟨S256x3x160, .f32⟩
  | 44 => ⟨S_, .f32⟩
  | 45 => ⟨S256x3x160, .f32⟩
  | 46 => ⟨S256x3x160, .f32⟩
  | 47 => ⟨S_, .f32⟩
  | 48 => ⟨S256x3x160, .f32⟩
  | 49 => ⟨S256x3x160, .f32⟩
  | 50 => ⟨S256x3x160x1, .f32⟩
  | 51 => ⟨S256x3x160x1536, .f32⟩
  | 52 => ⟨S256x3x160x1536, .f32⟩
  | 53 => ⟨S256x3x160x1536, .bf16⟩
  | 54 => ⟨S256x3x160x1, .f32⟩
  | 55 => ⟨S256x3x160x20, .f32⟩
  | 56 => ⟨S256x3x160x20, .f32⟩
  | 57 => ⟨S256x3x160x20, .bf16⟩
  | 58 => ⟨S256x3x160x128, .f32⟩
  | 59 => ⟨S256x3x160x128, .f32⟩
  | 60 => ⟨S256x3x160x128, .f32⟩
  | 61 => ⟨S256x3x8x20x128, .f32⟩
  | 62 => ⟨S256x20x3x8x128, .f32⟩
  | 63 => ⟨S256x20x3x8x128, .bf16⟩
  | _ => ⟨S256x3, .i32⟩

abbrev hbmTy (i : Nat) : BufTy := match i / 128 with
  | 0 => hbmTy0_0 i
  | 1 => hbmTy0_1 i
  | _ => ⟨S256x3, .i32⟩

abbrev bufTy : (tb : Table) → Fin (tcTables nBuf tb) → BufTy
  | .hbm, ⟨i, _⟩ => hbmTy i
  | _, _ => ⟨S256x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call2_v0 : Ref sig .tc := ⟨.hbm, 78, rfl⟩
abbrev main_call2_v1 : Ref sig .tc := ⟨.hbm, 79, rfl⟩
abbrev main_v61 : Ref sig .tc := ⟨.hbm, 80, rfl⟩
abbrev main_call3_v0 : Ref sig .tc := ⟨.hbm, 81, rfl⟩
abbrev main_v62 : Ref sig .tc := ⟨.hbm, 82, rfl⟩
abbrev main_c_9 : Ref sig .tc := ⟨.hbm, 83, rfl⟩
abbrev main_v63 : Ref sig .tc := ⟨.hbm, 84, rfl⟩
abbrev main_v64 : Ref sig .tc := ⟨.hbm, 85, rfl⟩
abbrev main_c_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_11 : Ref sig .tc := ⟨.hbm, 90, rfl⟩
abbrev main_v68 : Ref sig .tc := ⟨.hbm, 91, rfl⟩
abbrev main_v69 : Ref sig .tc := ⟨.hbm, 92, rfl⟩
abbrev main_c_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_call4_v0 : Ref sig .tc := ⟨.hbm, 123, rfl⟩
abbrev main_call4_v1 : Ref sig .tc := ⟨.hbm, 124, rfl⟩
abbrev main_v98 : Ref sig .tc := ⟨.hbm, 125, rfl⟩
abbrev main_call5_v0 : Ref sig .tc := ⟨.hbm, 126, rfl⟩
abbrev main_v99 : Ref sig .tc := ⟨.hbm, 127, rfl⟩
abbrev main_v100 : Ref sig .tc := ⟨.hbm, 128, rfl⟩
abbrev main_cst : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_14 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_v107 : Ref sig .tc := ⟨.hbm, 140, rfl⟩
abbrev main_v108 : Ref sig .tc := ⟨.hbm, 141, rfl⟩
abbrev main_cst_15 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_16 : Ref sig .tc := ⟨.hbm, 152, rfl⟩
abbrev main_call7_v0 : Ref sig .tc := ⟨.hbm, 153, rfl⟩
abbrev main_call7_v1 : Ref sig .tc := ⟨.hbm, 154, rfl⟩
abbrev main_call7_v2 : Ref sig .tc := ⟨.hbm, 155, rfl⟩
abbrev main_v118 : Ref sig .tc := ⟨.hbm, 156, rfl⟩
abbrev main_cst_17 : Ref sig .tc := ⟨.hbm, 157, rfl⟩
abbrev main_v119 : Ref sig .tc := ⟨.hbm, 158, rfl⟩
abbrev main_cst_18 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_19 : Ref sig .tc := ⟨.hbm, 170, rfl⟩
abbrev main_v130 : Ref sig .tc := ⟨.hbm, 171, rfl⟩
abbrev main_cst_20 : Ref sig .tc := ⟨.hbm, 172, rfl⟩
abbrev main_v131 : Ref sig .tc := ⟨.hbm, 173, rfl⟩
abbrev main_v132 : Ref sig .tc := ⟨.hbm, 174, rfl⟩
abbrev main_cst_21 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩

abbrev nD : Nat := 1
abbrev τ : Topo := Topo.v7x

variable {F : FTy → Type} [FloatOps F]
-- ==== Proof.BitsFrame.Points.lean ====
/- The schedule of the launch: at which grid points each window is fetched or written back, and the body as the pipeline calls it there.
   (`Cert.Kernel`.)
-/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [BitOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 2 (fun _ => rfl) (by decide)) (P := 1) (by decide) t).mpr (Nat.mod_one _) : ∀ t : Fin grid0.N, Pipeline.Window.fetchOf grid0 false cc0_transform_1 t = true)
/-- Window 2 (operand 3 (%3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 2 (fun _ => rfl) (by decide)) (P := 1) (by decide) t).mpr (Nat.mod_one _) : ∀ t : Fin grid0.N, Pipeline.Window.fetchOf grid0 false cc0_transform_2 t = true)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%arg6)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (result 0 (%4)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _)

end Cert.Kernel.Gen

end
-- ==== Proof.BitsFrame.Runs.lean ====
/- What the run of the body and the launch share: the program up to the launch, the contents of the table, each input window's block at a point, and the conditions `Hyps` that the body assumes of the words of the table.
   (`Cert.Kernel`.)
-/
module

public import proofs.«01_k».proof.Proof.Gen.Kernel.Launch
public import proofs.«01_k».proof.Proof.Gen.Kernel.Skeleton
public import proofs.«01_k».proof.Proof.BitsFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S768 .i32 := Memref.whole main_v0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S8x20x3x8x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S20x3x8x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S20x3x8x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S768x2x128 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S96x24x128 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S8x16x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S8x20x3x8x128 .bf16 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S768) (k0_off1 (grid0.coords t)) S1.size (k0_off1_inb (grid0.coords t))).toLoadRect (tbl m 0) (Shape.Idx.first (numel1_S1.symm ▸ Nat.one_pos)))
    ∧ k0_chk2 (tbM0_0.view.readAt (Elt F) (Rect.unit (s := S768) (k0_off4 (grid0.coords t)) S1.size (k0_off4_inb (grid0.coords t))).toLoadRect (tbl m 0) (Shape.Idx.first (numel1_S1.symm ▸ Nat.one_pos)))
    ∧ k0_chk3 (tbM0_0.view.readAt (Elt F) (Rect.unit (s := S768) (k0_off7 (grid0.coords t)) S1.size (k0_off7_inb (grid0.coords t))).toLoadRect (tbl m 0) (Shape.Idx.first (numel1_S1.symm ▸ Nat.one_pos)))
    ∧ k0_chk4 (tbM0_0.view.readAt (Elt F) (Rect.unit (s := S768) (k0_off10 (grid0.coords t)) S1.size (k0_off10_inb (grid0.coords t))).toLoadRect (tbl m 0) (Shape.Idx.first (numel1_S1.symm ▸ Nat.one_pos)))
    ∧ k0_chk5 (tbM0_0.view.readAt (Elt F) (Rect.unit (s := S768) (k0_off13 (grid0.coords t)) S1.size (k0_off13_inb (grid0.coords t))).toLoadRect (tbl m 0) (Shape.Idx.first (numel1_S1.symm ▸ Nat.one_pos)))
    ∧ k0_chk6 (tbM0_0.view.readAt (Elt F) (Rect.unit (s := S768) (k0_off16 (grid0.coords t)) S1.size (k0_off16_inb (grid0.coords t))).toLoadRect (tbl m 0) (Shape.Idx.first (numel1_S1.symm ▸ Nat.one_pos)))
    ∧ k0_chk7 (tbM0_0.view.readAt (Elt F) (Rect.unit (s := S768) (k0_off19 (grid0.coords t)) S1.size (k0_off19_inb (grid0.coords t))).toLoadRect (tbl m 0) (Shape.Idx.first (numel1_S1.symm ▸ Nat.one_pos)))
    ∧ k0_chk8 (tbM0_0.view.readAt (Elt F) (Rect.unit (s := S768) (k0_off22 (grid0.coords t)) S1.size (k0_off22_inb (grid0.coords t))).toLoadRect (tbl m 0) (Shape.Idx.first (numel1_S1.symm ▸ Nat.one_pos)))
    ∧ k0_chk9 (tbM0_0.view.readAt (Elt F) (Rect.unit (s := S768) (k0_off25 (grid0.coords t)) S1.size (k0_off25_inb (grid0.coords t))).toLoadRect (tbl m 0) (Shape.Idx.first (numel1_S1.symm ▸ Nat.one_pos)))
    ∧ k0_chk10 (tbM0_0.view.readAt (Elt F) (Rect.unit (s := S768) (k0_off28 (grid0.coords t)) S1.size (k0_off28_inb (grid0.coords t))).toLoadRect (tbl m 0) (Shape.Idx.first (numel1_S1.symm ▸ Nat.one_pos)))
    ∧ k0_chk11 (tbM0_0.view.readAt (Elt F) (Rect.unit (s := S768) (k0_off31 (grid0.coords t)) S1.size (k0_off31_inb (grid0.coords t))).toLoadRect (tbl m 0) (Shape.Idx.first (numel1_S1.symm ▸ Nat.one_pos)))
    ∧ k0_chk12 (tbM0_0.view.readAt (Elt F) (Rect.unit (s := S768) (k0_off34 (grid0.coords t)) S1.size (k0_off34_inb (grid0.coords t))).toLoadRect (tbl m 0) (Shape.Idx.first (numel1_S1.symm ▸ Nat.one_pos)))
    ∧ k0_chk13 (tbM0_0.view.readAt (Elt F) (Rect.unit (s := S768) (k0_off37 (grid0.coords t)) S1.size (k0_off37_inb (grid0.coords t))).toLoadRect (tbl m 0) (Shape.Idx.first (numel1_S1.symm ▸ Nat.one_pos)))
    ∧ k0_chk14 (tbM0_0.view.readAt (Elt F) (Rect.unit (s := S768) (k0_off40 (grid0.coords t)) S1.size (k0_off40_inb (grid0.coords t))).toLoadRect (tbl m 0) (Shape.Idx.first (numel1_S1.symm ▸ Nat.one_pos)))
    ∧ k0_chk15 (tbM0_0.view.readAt (Elt F) (Rect.unit (s := S768) (k0_off43 (grid0.coords t)) S1.size (k0_off43_inb (grid0.coords t))).toLoadRect (tbl m 0) (Shape.Idx.first (numel1_S1.symm ▸ Nat.one_pos)))
    ∧ k0_chk16 (tbM0_0.view.readAt (Elt F) (Rect.unit (s := S768) (k0_off46 (grid0.coords t)) S1.size (k0_off46_inb (grid0.coords t))).toLoadRect (tbl m 0) (Shape.Idx.first (numel1_S1.symm ▸ Nat.one_pos)))
    ∧ k0_chk17 (tbM0_0.view.readAt (Elt F) (Rect.unit (s := S768) (k0_off49 (grid0.coords t)) S1.size (k0_off49_inb (grid0.coords t))).toLoadRect (tbl m 0) (Shape.Idx.first (numel1_S1.symm ▸ Nat.one_pos)))
    ∧ k0_chk18 (tbM0_0.view.readAt (Elt F) (Rect.unit (s := S768) (k0_off52 (grid0.coords t)) S1.size (k0_off52_inb (grid0.coords t))).toLoadRect (tbl m 0) (Shape.Idx.first (numel1_S1.symm ▸ Nat.one_pos)))
    ∧ k0_chk19 (tbM0_0.view.readAt (Elt F) (Rect.unit (s := S768) (k0_off55 (grid0.coords t)) S1.size (k0_off55_inb (grid0.coords t))).toLoadRect (tbl m 0) (Shape.Idx.first (numel1_S1.symm ▸ Nat.one_pos)))
    ∧ k0_chk20 (tbM0_0.view.readAt (Elt F) (Rect.unit (s := S768) (k0_off58 (grid0.coords t)) S1.size (k0_off58_inb (grid0.coords t))).toLoadRect (tbl m 0) (Shape.Idx.first (numel1_S1.symm ▸ Nat.one_pos)))
    ∧ k0_chk21 (tbM0_0.view.readAt (Elt F) (Rect.unit (s := S768) (k0_off61 (grid0.coords t)) S1.size (k0_off61_inb (grid0.coords t))).toLoadRect (tbl m 0) (Shape.Idx.first (numel1_S1.symm ▸ Nat.one_pos)))
    ∧ k0_chk22 (tbM0_0.view.readAt (Elt F) (Rect.unit (s := S768) (k0_off64 (grid0.coords t)) S1.size (k0_off64_inb (grid0.coords t))).toLoadRect (tbl m 0) (Shape.Idx.first (numel1_S1.symm ▸ Nat.one_pos)))
    ∧ k0_chk23 (tbM0_0.view.readAt (Elt F) (Rect.unit (s := S768) (k0_off67 (grid0.coords t)) S1.size (k0_off67_inb (grid0.coords t))).toLoadRect (tbl m 0) (Shape.Idx.first (numel1_S1.symm ▸ Nat.one_pos)))
    ∧ k0_chk24 (tbM0_0.view.readAt (Elt F) (Rect.unit (s := S768) (k0_off70 (grid0.coords t)) S1.size (k0_off70_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S768) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S768) (k0_off1 (grid0.coords t)) S1.size (k0_off1_inb (grid0.coords t))).toLoadRect (tbl m 0) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S768) (k0_off4 (grid0.coords t)) S1.size (k0_off4_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S768) (k0_off4 (grid0.coords t)) S1.size (k0_off4_inb (grid0.coords t))).toLoadRect (tbl m 0) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (hO : Ok m) (c : Dev nD) (t : Fin (cfgM m hO).N) : Prop :=
  k0_chk3 (tbM0_0.view.readAt (Elt F) (Rect.unit (s := S768) (k0_off7 (grid0.coords t)) S1.size (k0_off7_inb (grid0.coords t))).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (tbM0_0.view.readAt (Elt F) (Rect.unit (s := S768) (k0_off7 (grid0.coords t)) S1.size (k0_off7_inb (grid0.coords t))).toLoadRect (tbl m 0) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (hO : Ok m) (c : Dev nD) (t : Fin (cfgM m hO).N) : Prop :=
  k0_chk4 (tbM0_0.view.readAt (Elt F) (Rect.unit (s := S768) (k0_off10 (grid0.coords t)) S1.size (k0_off10_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (tbM0_0.view.readAt (Elt F) (Rect.unit (s := S768) (k0_off10 (grid0.coords t)) S1.size (k0_off10_inb (grid0.coords t))).toLoadRect (tbl m 0) (Shape.Idx.first (numel1_S1.symm ▸ Nat.one_pos))) := (hH c t).2.2.2.1
/-- Conjunct 4 of `Gen.Hyps` at point `t`: the side condition `k0_chk5` the body assumes as `k0_hw5`. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S768) (k0_off13 (grid0.coords t)) S1.size (k0_off13_inb (grid0.coords t))).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S768) (k0_off13 (grid0.coords t)) S1.size (k0_off13_inb (grid0.coords t))).toLoadRect (tbl m 0) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S768) (k0_off16 (grid0.coords t)) S1.size (k0_off16_inb (grid0.coords t))).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S768) (k0_off16 (grid0.coords t)) S1.size (k0_off16_inb (grid0.coords t))).toLoadRect (tbl m 0) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S768) (k0_off19 (grid0.coords t)) S1.size (k0_off19_inb (grid0.coords t))).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S768) (k0_off19 (grid0.coords t)) S1.size (k0_off19_inb (grid0.coords t))).toLoadRect (tbl m 0) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S768) (k0_off22 (grid0.coords t)) S1.size (k0_off22_inb (grid0.coords t))).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S768) (k0_off22 (grid0.coords t)) S1.size (k0_off22_inb (grid0.coords t))).toLoadRect (tbl m 0) (Shape.Idx.first (numel1_S1.symm ▸ Nat.one_pos))) := (hH c t).2.2.2.2.2.2.2.1
/-- Conjunct 8 of `Gen.Hyps` at point `t`: the side condition `k0_chk9` the body assumes as `k0_hw9`. -/
abbrev Hyps.p8 (m : (ℓ : Loc nD τ sig) → Buf (Elt F) ℓ) (hO : Ok m) (c : Dev nD) (t : Fin (cfgM m hO).N) : Prop :=
  k0_chk9 (tbM0_0.view.readAt (Elt F) (Rect.unit (s := S768) (k0_off25 (grid0.coords t)) S1.size (k0_off25_inb (grid0.coords t))).toLoadRect (tbl m 0) (Shape.Idx.first (numel1_S1.symm ▸ Nat.one_pos)))
variable {m} in
theorem Hyps.c8 {hO : Ok m} (hH : Hyps m hO) (c : Dev nD) (t : Fin (cfgM m hO).N) :
    k0_chk9 (tbM0_0.view.readAt (Elt F) (Rect.unit (s := S768) (k0_off25 (grid0.coords t)) S1.size (k0_off25_inb (grid0.coords t))).toLoadRect (tbl m 0) (Shape.Idx.first (numel1_S1.symm ▸ Nat.one_pos))) := (hH c t).2.2.2.2.2.2.2.2.1
/-- Conjunct 9 of `Gen.Hyps` at point `t`: the side condition `k0_chk10` the body assumes as `k0_hw10`. -/
abbrev Hyps.p9 (m : (ℓ : Loc nD τ sig) → Buf (Elt F) ℓ) (hO : Ok m) (c : Dev nD) (t : Fin (cfgM m hO).N) : Prop :=
  k0_chk10 (tbM0_0.view.readAt (Elt F) (Rect.unit (s := S768) (k0_off28 (grid0.coords t)) S1.size (k0_off28_inb (grid0.coords t))).toLoadRect (tbl m 0) (Shape.Idx.first (numel1_S1.symm ▸ Nat.one_pos)))
variable {m} in
theorem Hyps.c9 {hO : Ok m} (hH : Hyps m hO) (c : Dev nD) (t : Fin (cfgM m hO).N) :
    k0_chk10 (tbM0_0.view.readAt (Elt F) (Rect.unit (s := S768) (k0_off28 (grid0.coords t)) S1.size (k0_off28_inb (grid0.coords t))).toLoadRect (tbl m 0) (Shape.Idx.first (numel1_S1.symm ▸ Nat.one_pos))) := (hH c t).2.2.2.2.2.2.2.2.2.1
/-- Conjunct 10 of `Gen.Hyps` at point `t`: the side condition `k0_chk11` the body assumes as `k0_hw11`. -/
abbrev Hyps.p10 (m : (ℓ : Loc nD τ sig) → Buf (Elt F) ℓ) (hO : Ok m) (c : Dev nD) (t : Fin (cfgM m hO).N) : Prop :=
  k0_chk11 (tbM0_0.view.readAt (Elt F) (Rect.unit (s := S768) (k0_off31 (grid0.coords t)) S1.size (k0_off31_inb (grid0.coords t))).toLoadRect (tbl m 0) (Shape.Idx.first (numel1_S1.symm ▸ Nat.one_pos)))
variable {m} in
theorem Hyps.c10 {hO : Ok m} (hH : Hyps m hO) (c : Dev nD) (t : Fin (cfgM m hO).N) :
    k0_chk11 (tbM0_0.view.readAt (Elt F) (Rect.unit (s := S768) (k0_off31 (grid0.coords t)) S1.size (k0_off31_inb (grid0.coords t))).toLoadRect (tbl m 0) (Shape.Idx.first (numel1_S1.symm ▸ Nat.one_pos))) := (hH c t).2.2.2.2.2.2.2.2.2.2.1
/-- Conjunct 11 of `Gen.Hyps` at point `t`: the side condition `k0_chk12` the body assumes as `k0_hw12`. -/
abbrev Hyps.p11 (m : (ℓ : Loc nD τ sig) → Buf (Elt F) ℓ) (hO : Ok m) (c : Dev nD) (t : Fin (cfgM m hO).N) : Prop :=
  k0_chk12 (tbM0_0.view.readAt (Elt F) (Rect.unit (s := S768) (k0_off34 (grid0.coords t)) S1.size (k0_off34_inb (grid0.coords t))).toLoadRect (tbl m 0) (Shape.Idx.first (numel1_S1.symm ▸ Nat.one_pos)))
variable {m} in
theorem Hyps.c11 {hO : Ok m} (hH : Hyps m hO) (c : Dev nD) (t : Fin (cfgM m hO).N) :
    k0_chk12 (tbM0_0.view.readAt (Elt F) (Rect.unit (s := S768) (k0_off34 (grid0.coords t)) S1.size (k0_off34_inb (grid0.coords t))).toLoadRect (tbl m 0) (Shape.Idx.first (numel1_S1.symm ▸ Nat.one_pos))) := (hH c t).2.2.2.2.2.2.2.2.2.2.2.1
/-- Conjunct 12 of `Gen.Hyps` at point `t`: the side condition `k0_chk13` the body assumes as `k0_hw13`. -/
abbrev Hyps.p12 (m : (ℓ : Loc nD τ sig) → Buf (Elt F) ℓ) (hO : Ok m) (c : Dev nD) (t : Fin (cfgM m hO).N) : Prop :=
  k0_chk13 (tbM0_0.view.readAt (Elt F) (Rect.unit (s := S768) (k0_off37 (grid0.coords t)) S1.size (k0_off37_inb (grid0.coords t))).toLoadRect (tbl m 0) (Shape.Idx.first (numel1_S1.symm ▸ Nat.one_pos)))
variable {m} in
theorem Hyps.c12 {hO : Ok m} (hH : Hyps m hO) (c : Dev nD) (t : Fin (cfgM m hO).N) :
    k0_chk13 (tbM0_0.view.readAt (Elt F) (Rect.unit (s := S768) (k0_off37 (grid0.coords t)) S1.size (k0_off37_inb (grid0.coords t))).toLoadRect (tbl m 0) (Shape.Idx.first (numel1_S1.symm ▸ Nat.one_pos))) := (hH c t).2.2.2.2.2.2.2.2.2.2.2.2.1
/-- Conjunct 13 of `Gen.Hyps` at point `t`: the side condition `k0_chk14` the body assumes as `k0_hw14`. -/
abbrev Hyps.p13 (m : (ℓ : Loc nD τ sig) → Buf (Elt F) ℓ) (hO : Ok m) (c : Dev nD) (t : Fin (cfgM m hO).N) : Prop :=
  k0_chk14 (tbM0_0.view.readAt (Elt F) (Rect.unit (s := S768) (k0_off40 (grid0.coords t)) S1.size (k0_off40_inb (grid0.coords t))).toLoadRect (tbl m 0) (Shape.Idx.first (numel1_S1.symm ▸ Nat.one_pos)))
variable {m} in
theorem Hyps.c13 {hO : Ok m} (hH : Hyps m hO) (c : Dev nD) (t : Fin (cfgM m hO).N) :
    k0_chk14 (tbM0_0.view.readAt (Elt F) (Rect.unit (s := S768) (k0_off40 (grid0.coords t)) S1.size (k0_off40_inb (grid0.coords t))).toLoadRect (tbl m 0) (Shape.Idx.first (numel1_S1.symm ▸ Nat.one_pos))) := (hH c t).2.2.2.2.2.2.2.2.2.2.2.2.2.1
/-- Conjunct 14 of `Gen.Hyps` at point `t`: the side condition `k0_chk15` the body assumes as `k0_hw15`. -/
abbrev Hyps.p14 (m : (ℓ : Loc nD τ sig) → Buf (Elt F) ℓ) (hO : Ok m) (c : Dev nD) (t : Fin (cfgM m hO).N) : Prop :=
  k0_chk15 (tbM0_0.view.readAt (Elt F) (Rect.unit (s := S768) (k0_off43 (grid0.coords t)) S1.size (k0_off43_inb (grid0.coords t))).toLoadRect (tbl m 0) (Shape.Idx.first (numel1_S1.symm ▸ Nat.one_pos)))
variable {m} in
theorem Hyps.c14 {hO : Ok m} (hH : Hyps m hO) (c : Dev nD) (t : Fin (cfgM m hO).N) :
    k0_chk15 (tbM0_0.view.readAt (Elt F) (Rect.unit (s := S768) (k0_off43 (grid0.coords t)) S1.size (k0_off43_inb (grid0.coords t))).toLoadRect (tbl m 0) (Shape.Idx.first (numel1_S1.symm ▸ Nat.one_pos))) := (hH c t).2.2.2.2.2.2.2.2.2.2.2.2.2.2.1
/-- Conjunct 15 of `Gen.Hyps` at point `t`: the side condition `k0_chk16` the body assumes as `k0_hw16`. -/
abbrev Hyps.p15 (m : (ℓ : Loc nD τ sig) → Buf (Elt F) ℓ) (hO : Ok m) (c : Dev nD) (t : Fin (cfgM m hO).N) : Prop :=
  k0_chk16 (tbM0_0.view.readAt (Elt F) (Rect.unit (s := S768) (k0_off46 (grid0.coords t)) S1.size (k0_off46_inb (grid0.coords t))).toLoadRect (tbl m 0) (Shape.Idx.first (numel1_S1.symm ▸ Nat.one_pos)))
variable {m} in
theorem Hyps.c15 {hO : Ok m} (hH : Hyps m hO) (c : Dev nD) (t : Fin (cfgM m hO).N) :
    k0_chk16 (tbM0_0.view.readAt (Elt F) (Rect.unit (s := S768) (k0_off46 (grid0.coords t)) S1.size (k0_off46_inb (grid0.coords t))).toLoadRect (tbl m 0) (Shape.Idx.first (numel1_S1.symm ▸ Nat.one_pos))) := (hH c t).2.2.2.2.2.2.2.2.2.2.2.2.2.2.2.1
/-- Conjunct 16 of `Gen.Hyps` at point `t`: the side condition `k0_chk17` the body assumes as `k0_hw17`. -/
abbrev Hyps.p16 (m : (ℓ : Loc nD τ sig) → Buf (Elt F) ℓ) (hO : Ok m) (c : Dev nD) (t : Fin (cfgM m hO).N) : Prop :=
  k0_chk17 (tbM0_0.view.readAt (Elt F) (Rect.unit (s := S768) (k0_off49 (grid0.coords t)) S1.size (k0_off49_inb (grid0.coords t))).toLoadRect (tbl m 0) (Shape.Idx.first (numel1_S1.symm ▸ Nat.one_pos)))
variable {m} in
theorem Hyps.c16 {hO : Ok m} (hH : Hyps m hO) (c : Dev nD) (t : Fin (cfgM m hO).N) :
    k0_chk17 (tbM0_0.view.readAt (Elt F) (Rect.unit (s := S768) (k0_off49 (grid0.coords t)) S1.size (k0_off49_inb (grid0.coords t))).toLoadRect (tbl m 0) (Shape.Idx.first (numel1_S1.symm ▸ Nat.one_pos))) := (hH c t).2.2.2.2.2.2.2.2.2.2.2.2.2.2.2.2.1
/-- Conjunct 17 of `Gen.Hyps` at point `t`: the side condition `k0_chk18` the body assumes as `k0_hw18`. -/
abbrev Hyps.p17 (m : (ℓ : Loc nD τ sig) → Buf (Elt F) ℓ) (hO : Ok m) (c : Dev nD) (t : Fin (cfgM m hO).N) : Prop :=
  k0_chk18 (tbM0_0.view.readAt (Elt F) (Rect.unit (s := S768) (k0_off52 (grid0.coords t)) S1.size (k0_off52_inb (grid0.coords t))).toLoadRect (tbl m 0) (Shape.Idx.first (numel1_S1.symm ▸ Nat.one_pos)))
variable {m} in
theorem Hyps.c17 {hO : Ok m} (hH : Hyps m hO) (c : Dev nD) (t : Fin (cfgM m hO).N) :
    k0_chk18 (tbM0_0.view.readAt (Elt F) (Rect.unit (s := S768) (k0_off52 (grid0.coords t)) S1.size (k0_off52_inb (grid0.coords t))).toLoadRect (tbl m 0) (Shape.Idx.first (numel1_S1.symm ▸ Nat.one_pos))) := (hH c t).2.2.2.2.2.2.2.2.2.2.2.2.2.2.2.2.2.1
/-- Conjunct 18 of `Gen.Hyps` at point `t`: the side condition `k0_chk19` the body assumes as `k0_hw19`. -/
abbrev Hyps.p18 (m : (ℓ : Loc nD τ sig) → Buf (Elt F) ℓ) (hO : Ok m) (c : Dev nD) (t : Fin (cfgM m hO).N) : Prop :=
  k0_chk19 (tbM0_0.view.readAt (Elt F) (Rect.unit (s := S768) (k0_off55 (grid0.coords t)) S1.size (k0_off55_inb (grid0.coords t))).toLoadRect (tbl m 0) (Shape.Idx.first (numel1_S1.symm ▸ Nat.one_pos)))
variable {m} in
theorem Hyps.c18 {hO : Ok m} (hH : Hyps m hO) (c : Dev nD) (t : Fin (cfgM m hO).N) :
    k0_chk19 (tbM0_0.view.readAt (Elt F) (Rect.unit (s := S768) (k0_off55 (grid0.coords t)) S1.size (k0_off55_inb (grid0.coords t))).toLoadRect (tbl m 0) (Shape.Idx.first (numel1_S1.symm ▸ Nat.one_pos))) := (hH c t).2.2.2.2.2.2.2.2.2.2.2.2.2.2.2.2.2.2.1
/-- Conjunct 19 of `Gen.Hyps` at point `t`: the side condition `k0_chk20` the body assumes as `k0_hw20`. -/
abbrev Hyps.p19 (m : (ℓ : Loc nD τ sig) → Buf (Elt F) ℓ) (hO : Ok m) (c : Dev nD) (t : Fin (cfgM m hO).N) : Prop :=
  k0_chk20 (tbM0_0.view.readAt (Elt F) (Rect.unit (s := S768) (k0_off58 (grid0.coords t)) S1.size (k0_off58_inb (grid0.coords t))).toLoadRect (tbl m 0) (Shape.Idx.first (numel1_S1.symm ▸ Nat.one_pos)))
variable {m} in
theorem Hyps.c19 {hO : Ok m} (hH : Hyps m hO) (c : Dev nD) (t : Fin (cfgM m hO).N) :
    k0_chk20 (tbM0_0.view.readAt (Elt F) (Rect.unit (s := S768) (k0_off58 (grid0.coords t)) S1.size (k0_off58_inb (grid0.coords t))).toLoadRect (tbl m 0) (Shape.Idx.first (numel1_S1.symm ▸ Nat.one_pos))) := (hH c t).2.2.2.2.2.2.2.2.2.2.2.2.2.2.2.2.2.2.2.1
/-- Conjunct 20 of `Gen.Hyps` at point `t`: the side condition `k0_chk21` the body assumes as `k0_hw21`. -/
abbrev Hyps.p20 (m : (ℓ : Loc nD τ sig) → Buf (Elt F) ℓ) (hO : Ok m) (c : Dev nD) (t : Fin (cfgM m hO).N) : Prop :=
  k0_chk21 (tbM0_0.view.readAt (Elt F) (Rect.unit (s := S768) (k0_off61 (grid0.coords t)) S1.size (k0_off61_inb (grid0.coords t))).toLoadRect (tbl m 0) (Shape.Idx.first (numel1_S1.symm ▸ Nat.one_pos)))
variable {m} in
theorem Hyps.c20 {hO : Ok m} (hH : Hyps m hO) (c : Dev nD) (t : Fin (cfgM m hO).N) :
    k0_chk21 (tbM0_0.view.readAt (Elt F) (Rect.unit (s := S768) (k0_off61 (grid0.coords t)) S1.size (k0_off61_inb (grid0.coords t))).toLoadRect (tbl m 0) (Shape.Idx.first (numel1_S1.symm ▸ Nat.one_pos))) := (hH c t).2.2.2.2.2.2.2.2.2.2.2.2.2.2.2.2.2.2.2.2.1
/-- Conjunct 21 of `Gen.Hyps` at point `t`: the side condition `k0_chk22` the body assumes as `k0_hw22`. -/
abbrev Hyps.p21 (m : (ℓ : Loc nD τ sig) → Buf (Elt F) ℓ) (hO : Ok m) (c : Dev nD) (t : Fin (cfgM m hO).N) : Prop :=
  k0_chk22 (tbM0_0.view.readAt (Elt F) (Rect.unit (s := S768) (k0_off64 (grid0.coords t)) S1.size (k0_off64_inb (grid0.coords t))).toLoadRect (tbl m 0) (Shape.Idx.first (numel1_S1.symm ▸ Nat.one_pos)))
variable {m} in
theorem Hyps.c21 {hO : Ok m} (hH : Hyps m hO) (c : Dev nD) (t : Fin (cfgM m hO).N) :
    k0_chk22 (tbM0_0.view.readAt (Elt F) (Rect.unit (s := S768) (k0_off64 (grid0.coords t)) S1.size (k0_off64_inb (grid0.coords t))).toLoadRect (tbl m 0) (Shape.Idx.first (numel1_S1.symm ▸ Nat.one_pos))) := (hH c t).2.2.2.2.2.2.2.2.2.2.2.2.2.2.2.2.2.2.2.2.2.1
/-- Conjunct 22 of `Gen.Hyps` at point `t`: the side condition `k0_chk23` the body assumes as `k0_hw23`. -/
abbrev Hyps.p22 (m : (ℓ : Loc nD τ sig) → Buf (Elt F) ℓ) (hO : Ok m) (c : Dev nD) (t : Fin (cfgM m hO).N) : Prop :=
  k0_chk23 (tbM0_0.view.readAt (Elt F) (Rect.unit (s := S768) (k0_off67 (grid0.coords t)) S1.size (k0_off67_inb (grid0.coords t))).toLoadRect (tbl m 0) (Shape.Idx.first (numel1_S1.symm ▸ Nat.one_pos)))
variable {m} in
theorem Hyps.c22 {hO : Ok m} (hH : Hyps m hO) (c : Dev nD) (t : Fin (cfgM m hO).N) :
    k0_chk23 (tbM0_0.view.readAt (Elt F) (Rect.unit (s := S768) (k0_off67 (grid0.coords t)) S1.size (k0_off67_inb (grid0.coords t))).toLoadRect (tbl m 0) (Shape.Idx.first (numel1_S1.symm ▸ Nat.one_pos))) := (hH c t).2.2.2.2.2.2.2.2.2.2.2.2.2.2.2.2.2.2.2.2.2.2.1
/-- Conjunct 23 of `Gen.Hyps` at point `t`: the side condition `k0_chk24` the body assumes as `k0_hw24`. -/
abbrev Hyps.p23 (m : (ℓ : Loc nD τ sig) → Buf (Elt F) ℓ) (hO : Ok m) (c : Dev nD) (t : Fin (cfgM m hO).N) : Prop :=
  k0_chk24 (tbM0_0.view.readAt (Elt F) (Rect.unit (s := S768) (k0_off70 (grid0.coords t)) S1.size (k0_off70_inb (grid0.coords t))).toLoadRect (tbl m 0) (Shape.Idx.first (numel1_S1.symm ▸ Nat.one_pos)))
variable {m} in
theorem Hyps.c23 {hO : Ok m} (hH : Hyps m hO) (c : Dev nD) (t : Fin (cfgM m hO).N) :
    k0_chk24 (tbM0_0.view.readAt (Elt F) (Rect.unit (s := S768) (k0_off70 (grid0.coords t)) S1.size (k0_off70_inb (grid0.coords t))).toLoadRect (tbl m 0) (Shape.Idx.first (numel1_S1.symm ▸ Nat.one_pos))) := (hH c t).2.2.2.2.2.2.2.2.2.2.2.2.2.2.2.2.2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t)
    (p8 : ∀ (c : Dev nD) (t : Fin (cfgM m hO).N), Hyps.p8 m hO c t)
    (p9 : ∀ (c : Dev nD) (t : Fin (cfgM m hO).N), Hyps.p9 m hO c t)
    (p10 : ∀ (c : Dev nD) (t : Fin (cfgM m hO).N), Hyps.p10 m hO c t)
    (p11 : ∀ (c : Dev nD) (t : Fin (cfgM m hO).N), Hyps.p11 m hO c t)
    (p12 : ∀ (c : Dev nD) (t : Fin (cfgM m hO).N), Hyps.p12 m hO c t)
    (p13 : ∀ (c : Dev nD) (t : Fin (cfgM m hO).N), Hyps.p13 m hO c t)
    (p14 : ∀ (c : Dev nD) (t : Fin (cfgM m hO).N), Hyps.p14 m hO c t)
    (p15 : ∀ (c : Dev nD) (t : Fin (cfgM m hO).N), Hyps.p15 m hO c t)
    (p16 : ∀ (c : Dev nD) (t : Fin (cfgM m hO).N), Hyps.p16 m hO c t)
    (p17 : ∀ (c : Dev nD) (t : Fin (cfgM m hO).N), Hyps.p17 m hO c t)
    (p18 : ∀ (c : Dev nD) (t : Fin (cfgM m hO).N), Hyps.p18 m hO c t)
    (p19 : ∀ (c : Dev nD) (t : Fin (cfgM m hO).N), Hyps.p19 m hO c t)
    (p20 : ∀ (c : Dev nD) (t : Fin (cfgM m hO).N), Hyps.p20 m hO c t)
    (p21 : ∀ (c : Dev nD) (t : Fin (cfgM m hO).N), Hyps.p21 m hO c t)
    (p22 : ∀ (c : Dev nD) (t : Fin (cfgM m hO).N), Hyps.p22 m hO c t)
    (p23 : ∀ (c : Dev nD) (t : Fin (cfgM m hO).N), Hyps.p23 m hO c t) :
    Hyps m hO := fun c t =>
  And.intro (p0 c t) (And.intro (p1 c t) (And.intro (p2 c t) (And.intro (p3 c t) (And.intro (p4 c t) (And.intro (p5 c t) (And.intro (p6 c t) (And.intro (p7 c t) (And.intro (p8 c t) (And.intro (p9 c t) (And.intro (p10 c t) (And.intro (p11 c t) (And.intro (p12 c t) (And.intro (p13 c t) (And.intro (p14 c t) (And.intro (p15 c t) (And.intro (p16 c t) (And.intro (p17 c t) (And.intro (p18 c t) (And.intro (p19 c t) (And.intro (p20 c t) (And.intro (p21 c t) (And.intro (p22 c t) (p23 c t)))))))))))))))))))))))

/-- The scratch operands: whole scoped buffers of the kernel's own, passed beside the windows. -/
abbrev scM0_0 : Memref sig .tc .vmem S3x4x24x128 .i32 := Memref.whole cc0_scratch0
abbrev scM0_1 : Memref sig .tc .vmem S3x4x24x128 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.BitsFrame.RunA.lean ====
/- The run of the whole body at one grid point.
   (`Cert.Kernel`.)
-/
module

public import proofs.«01_k».proof.Proof.BitsFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8564000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S8x20x3x8x128 .bf16) (harg2 : arg2.IsWhole) (arg3 : Memref sig .tc .vmem S20x3x8x128 .bf16) (harg3 : arg3.IsWhole) (arg4 : Memref sig .tc .vmem S20x3x8x128 .bf16) (harg4 : arg4.IsWhole) (arg5 : Memref sig .tc .vmem S768x2x128 .i32) (harg5 : arg5.IsWhole) (arg6 : Memref sig .tc .vmem S96x24x128 .i32) (harg6 : arg6.IsWhole) (arg7 : Memref sig .tc .vmem S8x16x128 .f32) (harg7 : arg7.IsWhole) (arg8 : Memref sig .tc .vmem S8x20x3x8x128 .bf16) (harg8 : arg8.IsWhole) (arg9 : Memref sig .tc .vmem S3x4x24x128 .i32) (harg9 : arg9.IsWhole) (arg10 : Memref sig .tc .vmem S3x4x24x128 .i32) (harg10 : arg10.IsWhole)
    (x0 : Vec F S8x20x3x8x128 .bf16) (x1 : Vec F S20x3x8x128 .bf16) (x2 : Vec F S20x3x8x128 .bf16) (x3 : Vec F S768x2x128 .i32) (x4 : Vec F S96x24x128 .i32) (x5 : Vec F S8x16x128 .f32) (xt0 : TbBuf0 (F := F) c tbM0_0) (k0_hw1 : k0_chk1 (tbM0_0.view.readAt (Elt F) (Rect.unit (s := S768) (k0_off1 i) S1.size (k0_off1_inb i)).toLoadRect xt0 (Shape.Idx.first (numel1_S1.symm ▸ Nat.one_pos)))) (k0_hw2 : k0_chk2 (tbM0_0.view.readAt (Elt F) (Rect.unit (s := S768) (k0_off4 i) S1.size (k0_off4_inb i)).toLoadRect xt0 (Shape.Idx.first (numel1_S1.symm ▸ Nat.one_pos)))) (k0_hw3 : k0_chk3 (tbM0_0.view.readAt (Elt F) (Rect.unit (s := S768) (k0_off7 i) S1.size (k0_off7_inb i)).toLoadRect xt0 (Shape.Idx.first (numel1_S1.symm ▸ Nat.one_pos)))) (k0_hw4 : k0_chk4 (tbM0_0.view.readAt (Elt F) (Rect.unit (s := S768) (k0_off10 i) S1.size (k0_off10_inb i)).toLoadRect xt0 (Shape.Idx.first (numel1_S1.symm ▸ Nat.one_pos)))) (k0_hw5 : k0_chk5 (tbM0_0.view.readAt (Elt F) (Rect.unit (s := S768) (k0_off13 i) S1.size (k0_off13_inb i)).toLoadRect xt0 (Shape.Idx.first (numel1_S1.symm ▸ Nat.one_pos)))) (k0_hw6 : k0_chk6 (tbM0_0.view.readAt (Elt F) (Rect.unit (s := S768) (k0_off16 i) S1.size (k0_off16_inb i)).toLoadRect xt0 (Shape.Idx.first (numel1_S1.symm ▸ Nat.one_pos)))) (k0_hw7 : k0_chk7 (tbM0_0.view.readAt (Elt F) (Rect.unit (s := S768) (k0_off19 i) S1.size (k0_off19_inb i)).toLoadRect xt0 (Shape.Idx.first (numel1_S1.symm ▸ Nat.one_pos)))) (k0_hw8 : k0_chk8 (tbM0_0.view.readAt (Elt F) (Rect.unit (s := S768) (k0_off22 i) S1.size (k0_off22_inb i)).toLoadRect xt0 (Shape.Idx.first (numel1_S1.symm ▸ Nat.one_pos)))) (k0_hw9 : k0_chk9 (tbM0_0.view.readAt (Elt F) (Rect.unit (s := S768) (k0_off25 i) S1.size (k0_off25_inb i)).toLoadRect xt0 (Shape.Idx.first (numel1_S1.symm ▸ Nat.one_pos)))) (k0_hw10 : k0_chk10 (tbM0_0.view.readAt (Elt F) (Rect.unit (s := S768) (k0_off28 i) S1.size (k0_off28_inb i)).toLoadRect xt0 (Shape.Idx.first (numel1_S1.symm ▸ Nat.one_pos)))) (k0_hw11 : k0_chk11 (tbM0_0.view.readAt (Elt F) (Rect.unit (s := S768) (k0_off31 i) S1.size (k0_off31_inb i)).toLoadRect xt0 (Shape.Idx.first (numel1_S1.symm ▸ Nat.one_pos)))) (k0_hw12 : k0_chk12 (tbM0_0.view.readAt (Elt F) (Rect.unit (s := S768) (k0_off34 i) S1.size (k0_off34_inb i)).toLoadRect xt0 (Shape.Idx.first (numel1_S1.symm ▸ Nat.one_pos)))) (k0_hw13 : k0_chk13 (tbM0_0.view.readAt (Elt F) (Rect.unit (s := S768) (k0_off37 i) S1.size (k0_off37_inb i)).toLoadRect xt0 (Shape.Idx.first (numel1_S1.symm ▸ Nat.one_pos)))) (k0_hw14 : k0_chk14 (tbM0_0.view.readAt (Elt F) (Rect.unit (s := S768) (k0_off40 i) S1.size (k0_off40_inb i)).toLoadRect xt0 (Shape.Idx.first (numel1_S1.symm ▸ Nat.one_pos)))) (k0_hw15 : k0_chk15 (tbM0_0.view.readAt (Elt F) (Rect.unit (s := S768) (k0_off43 i) S1.size (k0_off43_inb i)).toLoadRect xt0 (Shape.Idx.first (numel1_S1.symm ▸ Nat.one_pos)))) (k0_hw16 : k0_chk16 (tbM0_0.view.readAt (Elt F) (Rect.unit (s := S768) (k0_off46 i) S1.size (k0_off46_inb i)).toLoadRect xt0 (Shape.Idx.first (numel1_S1.symm ▸ Nat.one_pos)))) (k0_hw17 : k0_chk17 (tbM0_0.view.readAt (Elt F) (Rect.unit (s := S768) (k0_off49 i) S1.size (k0_off49_inb i)).toLoadRect xt0 (Shape.Idx.first (numel1_S1.symm ▸ Nat.one_pos)))) (k0_hw18 : k0_chk18 (tbM0_0.view.readAt (Elt F) (Rect.unit (s := S768) (k0_off52 i) S1.size (k0_off52_inb i)).toLoadRect xt0 (Shape.Idx.first (numel1_S1.symm ▸ Nat.one_pos)))) (k0_hw19 : k0_chk19 (tbM0_0.view.readAt (Elt F) (Rect.unit (s := S768) (k0_off55 i) S1.size (k0_off55_inb i)).toLoadRect xt0 (Shape.Idx.first (numel1_S1.symm ▸ Nat.one_pos)))) (k0_hw20 : k0_chk20 (tbM0_0.view.readAt (Elt F) (Rect.unit (s := S768) (k0_off58 i) S1.size (k0_off58_inb i)).toLoadRect xt0 (Shape.Idx.first (numel1_S1.symm ▸ Nat.one_pos)))) (k0_hw21 : k0_chk21 (tbM0_0.view.readAt (Elt F) (Rect.unit (s := S768) (k0_off61 i) S1.size (k0_off61_inb i)).toLoadRect xt0 (Shape.Idx.first (numel1_S1.symm ▸ Nat.one_pos)))) (k0_hw22 : k0_chk22 (tbM0_0.view.readAt (Elt F) (Rect.unit (s := S768) (k0_off64 i) S1.size (k0_off64_inb i)).toLoadRect xt0 (Shape.Idx.first (numel1_S1.symm ▸ Nat.one_pos)))) (k0_hw23 : k0_chk23 (tbM0_0.view.readAt (Elt F) (Rect.unit (s := S768) (k0_off67 i) S1.size (k0_off67_inb i)).toLoadRect xt0 (Shape.Idx.first (numel1_S1.symm ▸ Nat.one_pos)))) (k0_hw24 : k0_chk24 (tbM0_0.view.readAt (Elt F) (Rect.unit (s := S768) (k0_off70 i) S1.size (k0_off70_inb i)).toLoadRect xt0 (Shape.Idx.first (numel1_S1.symm ▸ Nat.one_pos)))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ tbPt0 c tbM0_0 xt0) -∗ K ⟨⟩))
          ⊢ wp frame (wpE (defs₀ (F := F)) Variants.none c none) E (cc0_attend i tbM0_0 htbM0_0 arg2 harg2 arg3 harg3 arg4 harg4 arg5 harg5 arg6 harg6 arg7 harg7 arg8 harg8 arg9 harg9 arg10 harg10) K := by
    intro E K
    simp only [cc0_attend_eq_skeleton]; unfold cc0_attend_skel
    simp only [k0_part264_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part265_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part266_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part267_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part268_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexact HT0

end Cert.Kernel.Gen

end
-- ==== Proof.BitsFrame.Frame.lean ====
/- The body obligation of the pipeline, the launch, and the frame: the program ends, its arguments unchanged and every counter at zero.
   (`Cert.Kernel`.)
-/
module

public import proofs.«01_k».proof.Proof.BitsFrame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d))

set_option maxHeartbeats 2400000 in
set_option maxRecDepth 131072 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HT0]; · iexact HT0
  iintro ⟨H0, H1, H2, H3, H4, H5, H6, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.Kernel.Gen

end
-- ==== Proof.Order.lean ====
/-
  What the precondition says, word by word: every word of `order` is 0, 1 or 2, and the three words of a row are distinct.
-/
module

public import proofs.«01_k».proof.Pre_permutes_heads
public import Idealize.ShloMosaic.Lib.ReduceAll
public import Idealize.ShloMosaic.Lib.Affine
public import Idealize.ShloMosaic.Lib.PointwiseCore

@[expose] public section

set_option maxRecDepth 16384

namespace Cert.Order

open Idealize.ShloMosaic Cert.Pre_permutes_heads

variable {F : FTy → Type} [FloatOps F] [Cert.Pre_permutes_heads.Facts]

/-- `order` names each of the three heads once a row. -/
structure Perm (a : S256x3.Idx → BitVec 32) : Prop where
  word : ∀ i, a i = 0#32 ∨ a i = 1#32 ∨ a i = 2#32
  ne01 : ∀ b : Fin 256, a (ix2 b 0) ≠ a (ix2 b 1)
  ne02 : ∀ b : Fin 256, a (ix2 b 0) ≠ a (ix2 b 2)
  ne12 : ∀ b : Fin 256, a (ix2 b 1) ≠ a (ix2 b 2)

theorem word_of_bounds (v : BitVec 32) (p : BitVec.ofBool (BitVec.sle 0#32 v) = 1#1) (q : BitVec.ofBool (BitVec.slt v 3#32) = 1#1) :
    v = 0#32 ∨ v = 1#32 ∨ v = 2#32 := by
  have one : ∀ c : Bool, BitVec.ofBool c = 1#1 → c = true := by decide
  have p := one _ p
  have q := one _ q
  simp only [BitVec.sle, BitVec.slt, decide_eq_true_eq] at p q
  have z : (0#32 : BitVec 32).toInt = 0 := by decide
  have t : (3#32 : BitVec 32).toInt = 3 := by decide
  rw [z] at p
  rw [t] at q
  have : v.toInt = 0 ∨ v.toInt = 1 ∨ v.toInt = 2 := by omega
  rcases this with h | h | h
  · exact .inl (BitVec.eq_of_toInt_eq (by rw [h]; decide))
  · exact .inr (.inl (BitVec.eq_of_toInt_eq (by rw [h]; decide)))
  · exact .inr (.inr (BitVec.eq_of_toInt_eq (by rw [h]; decide)))

theorem perm_of_fn (a0 : IVec S256x3 32) (a1 : FVec F S256x20x24x128 .bf16) (a2 : FVec F S256x20x3x128 .bf16) (a3 : FVec F S256x20x3x128 .bf16)
    (a4 : IVec S24576x2x128 32) (a5 : IVec S3072x24x128 32) (a6 : FVec F S256x16x128 .f32)
    (h : fn a0 a1 a2 a3 a4 a5 a6 = (fun _ => 1#1)) : Perm a0 := by
  have e := congrFun h ix0
  dsimp only [fn, andi] at e
  have and_one : ∀ p q : BitVec 1, IntOp.andi p q = 1#1 → p = 1#1 ∧ q = 1#1 := by decide
  obtain ⟨e1, e2⟩ := and_one _ _ e
  have w1 := fun i => Host.reduce_andi_all _ _ _ _ _ e1 i
  have w2 := fun i => Host.reduce_andi_all _ _ _ _ _ e2 i
  have sub : ∀ x y : BitVec 32, IntOp.cmpi .ne x y = 1#1 → x ≠ y := by
    intro x y hxy he; subst he; simp [IntOp.cmpi] at hxy
  have ne : ∀ b : Fin 256, a0 (ix2 b 0) ≠ a0 (ix2 b 1) ∧ a0 (ix2 b 0) ≠ a0 (ix2 b 2) ∧ a0 (ix2 b 1) ≠ a0 (ix2 b 2) := by
    intro b
    have w := w2 (ix1 b)
    pointwise at w
    obtain ⟨p, q⟩ := and_one _ _ w
    obtain ⟨p1, p2⟩ := and_one _ _ p
    exact ⟨sub _ _ p1, sub _ _ p2, sub _ _ q⟩
  refine ⟨fun i => ?_, fun b => (ne b).1, fun b => (ne b).2.1, fun b => (ne b).2.2⟩
  obtain ⟨p, q⟩ := and_one _ _ (w1 i)
  simp only [cmpi, broadcastInDim, constantI, IntOp.cmpi] at p q
  exact word_of_bounds _ p q

end Cert.Order
-- ==== Proof.BitsFrame.Table.lean ====
/-
  The launch's prefetched table is `order` flattened, and every word of it names a head: the conditions the body assumes of the
  words it loads.
-/
module

public import proofs.«01_k».proof.Proof.BitsFrame.Runs
public import proofs.«01_k».proof.Proof.Order
public import Idealize.ShloMosaic.Lib.ValueLayout

@[expose] public section

set_option maxRecDepth 16384

noncomputable section

namespace Cert.Kernel.Gen

open Idealize.ShloMosaic Idealize.ShloMosaic.TcCoe Cert.Order

/-- A word that names one of the three heads. -/
def Head (v : BitVec 32) : Prop := v = 0#32 ∨ v = 1#32 ∨ v = 2#32

/-- What the body assumes of a word at sequence `i` of its block, the scratch rows of the sequence being those of pair `p`. -/
def Chk (i p : ℕ) (v : BitVec 32) : Prop :=
  (∀ a, (![i, 0, (Scalar.indexCast v : Index).toNat, 0, 0] : Fin 5 → ℕ) a + S1x20x1x8x128.size a ≤ S8x20x3x8x128.size a) ∧
  (∀ a, (![(Scalar.indexCast v : Index).toNat, p, 0, 0] : Fin 4 → ℕ) a + S1x1x24x128.size a ≤ S3x4x24x128.size a) ∧
  (∀ (hinb : ∀ a, (![i, 0, (Scalar.indexCast v : Index).toNat, 0, 0] : Fin 5 → ℕ) a + S1x20x1x8x128.size a ≤ S8x20x3x8x128.size a),
    (Rect.unit (s := S8x20x3x8x128) ![i, 0, (Scalar.indexCast v : Index).toNat, 0, 0] S1x20x1x8x128.size hinb).PackedRows (EltTy.packing .bf16))

instance (i p : ℕ) (v : BitVec 32) : Decidable (Chk i p v) := by unfold Chk; infer_instance

/-- It holds of a word that names a head. -/
theorem chk_of (i : Fin 8) (p : Fin 4) (v : BitVec 32) (h : Head v) : Chk i p v := by
  rcases h with rfl | rfl | rfl <;> revert i p <;> decide +kernel

variable {F : FTy → Type} [BitOps F]
variable (m : (ℓ : Loc nD τ sig) → Buf (Elt F) ℓ)

/-- The table when the launch is entered: `order`, flattened. -/
theorem V_main_v0 (c : Dev nD) :
    V m c main_v0 = (shapeCast S768 (m ((c : Thread nD τ).loc main_arg0) : IVec S256x3 32) shapeCasts_S256x3_S768 : IVec S768 32) := by
  show StableHlo.after hostOps0 _ (Proc.devRef .tc main_v0) = _
  after_results
  rfl

/-- Word `3 * b + r` of the table is `order[b, r]`. -/
theorem tbl_word (b : Fin 256) (r : Fin 3) (k : Fin 768) (hk : k.val = 3 * b.val + r.val) :
    (tbl m 0 : S768.Idx → BitVec 32) (ix1 k) = (m ((0 : Dev nD).tc.loc main_arg0) : S256x3.Idx → BitVec 32) (ix2 b r) := by
  refine (congrFun (V_main_v0 m 0) (ix1 k)).trans ?_
  refine shapeCast_apply _ _ (ix1 k) (ix2 b r) ?_
  erw [Shape.rowMajor_val_two, Shape.rowMajor_val_one]
  show b.val * 3 + r.val = k.val
  omega

/-- So every word of the table names a head. -/
theorem tbl_head (hp : Perm (m ((0 : Dev nD).tc.loc main_arg0) : S256x3.Idx → BitVec 32)) (x : S768.Idx) :
    Head ((tbl m 0 : S768.Idx → BitVec 32) x) := by
  obtain ⟨k, rfl⟩ : ∃ k : Fin 768, x = ix1 k := ⟨x 0, (ix1_eta x).symm⟩
  rw [tbl_word m ⟨k.val / 3, by omega⟩ ⟨k.val % 3, by omega⟩ k (by dsimp only; omega)]
  exact hp.word _

theorem hyps_of_perm (hp : Perm (m ((0 : Dev nD).tc.loc main_arg0) : S256x3.Idx → BitVec 32)) (hO : Ok m) : Hyps m hO := by
  refine Hyps.of ?_ ?_ ?_ ?_ ?_ ?_ ?_ ?_ ?_ ?_ ?_ ?_ ?_ ?_ ?_ ?_ ?_ ?_ ?_ ?_ ?_ ?_ ?_ ?_ <;> intro c t
  exacts [chk_of 0 0 _ (tbl_head m hp _), chk_of 0 0 _ (tbl_head m hp _), chk_of 0 0 _ (tbl_head m hp _), chk_of 1 0 _ (tbl_head m hp _), chk_of 1 0 _ (tbl_head m hp _), chk_of 1 0 _ (tbl_head m hp _), chk_of 2 1 _ (tbl_head m hp _), chk_of 2 1 _ (tbl_head m hp _), chk_of 2 1 _ (tbl_head m hp _), chk_of 3 1 _ (tbl_head m hp _), chk_of 3 1 _ (tbl_head m hp _), chk_of 3 1 _ (tbl_head m hp _), chk_of 4 2 _ (tbl_head m hp _), chk_of 4 2 _ (tbl_head m hp _), chk_of 4 2 _ (tbl_head m hp _), chk_of 5 2 _ (tbl_head m hp _), chk_of 5 2 _ (tbl_head m hp _), chk_of 5 2 _ (tbl_head m hp _), chk_of 6 3 _ (tbl_head m hp _), chk_of 6 3 _ (tbl_head m hp _), chk_of 6 3 _ (tbl_head m hp _), chk_of 7 3 _ (tbl_head m hp _), chk_of 7 3 _ (tbl_head m hp _), chk_of 7 3 _ (tbl_head m hp _)]

end Cert.Kernel.Gen
-- ==== Proof.RealFrame.Points.lean ====
/- The schedule of the launch: at which grid points each window is fetched or written back, and the body as the pipeline calls it there.
   (`Cert.KernelIdeal`.)
-/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 2 (fun _ => rfl) (by decide)) (P := 1) (by decide) t).mpr (Nat.mod_one _) : ∀ t : Fin grid0.N, Pipeline.Window.fetchOf grid0 false cc0_transform_1 t = true)
/-- Window 2 (operand 3 (%3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 2 (fun _ => rfl) (by decide)) (P := 1) (by decide) t).mpr (Nat.mod_one _) : ∀ t : Fin grid0.N, Pipeline.Window.fetchOf grid0 false cc0_transform_2 t = true)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%arg6)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (result 0 (%4)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _)

end Cert.KernelIdeal.Gen

end
-- ==== Proof.RealFrame.Runs.lean ====
/- What the run of the body and the launch share: the program up to the launch, the contents of the table, each input window's block at a point, and the conditions `Hyps` that the body assumes of the words of the table.
   (`Cert.KernelIdeal`.)
-/
module

public import proofs.«01_k».proof.Proof.Gen.KernelIdeal.Launch
public import proofs.«01_k».proof.Proof.Gen.KernelIdeal.Skeleton
public import proofs.«01_k».proof.Proof.RealFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S768 .i32 := Memref.whole main_v0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S8x20x3x8x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S20x3x8x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S20x3x8x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S768x2x128 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S96x24x128 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S8x16x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S8x20x3x8x128 .bf16 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S768) (k0_off1 (grid0.coords t)) S1.size (k0_off1_inb (grid0.coords t))).toLoadRect (tbl m 0) (Shape.Idx.first (numel1_S1.symm ▸ Nat.one_pos)))
    ∧ k0_chk2 (tbM0_0.view.readAt (Elt F) (Rect.unit (s := S768) (k0_off4 (grid0.coords t)) S1.size (k0_off4_inb (grid0.coords t))).toLoadRect (tbl m 0) (Shape.Idx.first (numel1_S1.symm ▸ Nat.one_pos)))
    ∧ k0_chk3 (tbM0_0.view.readAt (Elt F) (Rect.unit (s := S768) (k0_off7 (grid0.coords t)) S1.size (k0_off7_inb (grid0.coords t))).toLoadRect (tbl m 0) (Shape.Idx.first (numel1_S1.symm ▸ Nat.one_pos)))
    ∧ k0_chk4 (tbM0_0.view.readAt (Elt F) (Rect.unit (s := S768) (k0_off10 (grid0.coords t)) S1.size (k0_off10_inb (grid0.coords t))).toLoadRect (tbl m 0) (Shape.Idx.first (numel1_S1.symm ▸ Nat.one_pos)))
    ∧ k0_chk5 (tbM0_0.view.readAt (Elt F) (Rect.unit (s := S768) (k0_off13 (grid0.coords t)) S1.size (k0_off13_inb (grid0.coords t))).toLoadRect (tbl m 0) (Shape.Idx.first (numel1_S1.symm ▸ Nat.one_pos)))
    ∧ k0_chk6 (tbM0_0.view.readAt (Elt F) (Rect.unit (s := S768) (k0_off16 (grid0.coords t)) S1.size (k0_off16_inb (grid0.coords t))).toLoadRect (tbl m 0) (Shape.Idx.first (numel1_S1.symm ▸ Nat.one_pos)))
    ∧ k0_chk7 (tbM0_0.view.readAt (Elt F) (Rect.unit (s := S768) (k0_off19 (grid0.coords t)) S1.size (k0_off19_inb (grid0.coords t))).toLoadRect (tbl m 0) (Shape.Idx.first (numel1_S1.symm ▸ Nat.one_pos)))
    ∧ k0_chk8 (tbM0_0.view.readAt (Elt F) (Rect.unit (s := S768) (k0_off22 (grid0.coords t)) S1.size (k0_off22_inb (grid0.coords t))).toLoadRect (tbl m 0) (Shape.Idx.first (numel1_S1.symm ▸ Nat.one_pos)))
    ∧ k0_chk9 (tbM0_0.view.readAt (Elt F) (Rect.unit (s := S768) (k0_off25 (grid0.coords t)) S1.size (k0_off25_inb (grid0.coords t))).toLoadRect (tbl m 0) (Shape.Idx.first (numel1_S1.symm ▸ Nat.one_pos)))
    ∧ k0_chk10 (tbM0_0.view.readAt (Elt F) (Rect.unit (s := S768) (k0_off28 (grid0.coords t)) S1.size (k0_off28_inb (grid0.coords t))).toLoadRect (tbl m 0) (Shape.Idx.first (numel1_S1.symm ▸ Nat.one_pos)))
    ∧ k0_chk11 (tbM0_0.view.readAt (Elt F) (Rect.unit (s := S768) (k0_off31 (grid0.coords t)) S1.size (k0_off31_inb (grid0.coords t))).toLoadRect (tbl m 0) (Shape.Idx.first (numel1_S1.symm ▸ Nat.one_pos)))
    ∧ k0_chk12 (tbM0_0.view.readAt (Elt F) (Rect.unit (s := S768) (k0_off34 (grid0.coords t)) S1.size (k0_off34_inb (grid0.coords t))).toLoadRect (tbl m 0) (Shape.Idx.first (numel1_S1.symm ▸ Nat.one_pos)))
    ∧ k0_chk13 (tbM0_0.view.readAt (Elt F) (Rect.unit (s := S768) (k0_off37 (grid0.coords t)) S1.size (k0_off37_inb (grid0.coords t))).toLoadRect (tbl m 0) (Shape.Idx.first (numel1_S1.symm ▸ Nat.one_pos)))
    ∧ k0_chk14 (tbM0_0.view.readAt (Elt F) (Rect.unit (s := S768) (k0_off40 (grid0.coords t)) S1.size (k0_off40_inb (grid0.coords t))).toLoadRect (tbl m 0) (Shape.Idx.first (numel1_S1.symm ▸ Nat.one_pos)))
    ∧ k0_chk15 (tbM0_0.view.readAt (Elt F) (Rect.unit (s := S768) (k0_off43 (grid0.coords t)) S1.size (k0_off43_inb (grid0.coords t))).toLoadRect (tbl m 0) (Shape.Idx.first (numel1_S1.symm ▸ Nat.one_pos)))
    ∧ k0_chk16 (tbM0_0.view.readAt (Elt F) (Rect.unit (s := S768) (k0_off46 (grid0.coords t)) S1.size (k0_off46_inb (grid0.coords t))).toLoadRect (tbl m 0) (Shape.Idx.first (numel1_S1.symm ▸ Nat.one_pos)))
    ∧ k0_chk17 (tbM0_0.view.readAt (Elt F) (Rect.unit (s := S768) (k0_off49 (grid0.coords t)) S1.size (k0_off49_inb (grid0.coords t))).toLoadRect (tbl m 0) (Shape.Idx.first (numel1_S1.symm ▸ Nat.one_pos)))
    ∧ k0_chk18 (tbM0_0.view.readAt (Elt F) (Rect.unit (s := S768) (k0_off52 (grid0.coords t)) S1.size (k0_off52_inb (grid0.coords t))).toLoadRect (tbl m 0) (Shape.Idx.first (numel1_S1.symm ▸ Nat.one_pos)))
    ∧ k0_chk19 (tbM0_0.view.readAt (Elt F) (Rect.unit (s := S768) (k0_off55 (grid0.coords t)) S1.size (k0_off55_inb (grid0.coords t))).toLoadRect (tbl m 0) (Shape.Idx.first (numel1_S1.symm ▸ Nat.one_pos)))
    ∧ k0_chk20 (tbM0_0.view.readAt (Elt F) (Rect.unit (s := S768) (k0_off58 (grid0.coords t)) S1.size (k0_off58_inb (grid0.coords t))).toLoadRect (tbl m 0) (Shape.Idx.first (numel1_S1.symm ▸ Nat.one_pos)))
    ∧ k0_chk21 (tbM0_0.view.readAt (Elt F) (Rect.unit (s := S768) (k0_off61 (grid0.coords t)) S1.size (k0_off61_inb (grid0.coords t))).toLoadRect (tbl m 0) (Shape.Idx.first (numel1_S1.symm ▸ Nat.one_pos)))
    ∧ k0_chk22 (tbM0_0.view.readAt (Elt F) (Rect.unit (s := S768) (k0_off64 (grid0.coords t)) S1.size (k0_off64_inb (grid0.coords t))).toLoadRect (tbl m 0) (Shape.Idx.first (numel1_S1.symm ▸ Nat.one_pos)))
    ∧ k0_chk23 (tbM0_0.view.readAt (Elt F) (Rect.unit (s := S768) (k0_off67 (grid0.coords t)) S1.size (k0_off67_inb (grid0.coords t))).toLoadRect (tbl m 0) (Shape.Idx.first (numel1_S1.symm ▸ Nat.one_pos)))
    ∧ k0_chk24 (tbM0_0.view.readAt (Elt F) (Rect.unit (s := S768) (k0_off70 (grid0.coords t)) S1.size (k0_off70_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S768) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S768) (k0_off1 (grid0.coords t)) S1.size (k0_off1_inb (grid0.coords t))).toLoadRect (tbl m 0) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S768) (k0_off4 (grid0.coords t)) S1.size (k0_off4_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S768) (k0_off4 (grid0.coords t)) S1.size (k0_off4_inb (grid0.coords t))).toLoadRect (tbl m 0) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (hO : Ok m) (c : Dev nD) (t : Fin (cfgM m hO).N) : Prop :=
  k0_chk3 (tbM0_0.view.readAt (Elt F) (Rect.unit (s := S768) (k0_off7 (grid0.coords t)) S1.size (k0_off7_inb (grid0.coords t))).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (tbM0_0.view.readAt (Elt F) (Rect.unit (s := S768) (k0_off7 (grid0.coords t)) S1.size (k0_off7_inb (grid0.coords t))).toLoadRect (tbl m 0) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (hO : Ok m) (c : Dev nD) (t : Fin (cfgM m hO).N) : Prop :=
  k0_chk4 (tbM0_0.view.readAt (Elt F) (Rect.unit (s := S768) (k0_off10 (grid0.coords t)) S1.size (k0_off10_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (tbM0_0.view.readAt (Elt F) (Rect.unit (s := S768) (k0_off10 (grid0.coords t)) S1.size (k0_off10_inb (grid0.coords t))).toLoadRect (tbl m 0) (Shape.Idx.first (numel1_S1.symm ▸ Nat.one_pos))) := (hH c t).2.2.2.1
/-- Conjunct 4 of `Gen.Hyps` at point `t`: the side condition `k0_chk5` the body assumes as `k0_hw5`. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S768) (k0_off13 (grid0.coords t)) S1.size (k0_off13_inb (grid0.coords t))).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S768) (k0_off13 (grid0.coords t)) S1.size (k0_off13_inb (grid0.coords t))).toLoadRect (tbl m 0) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S768) (k0_off16 (grid0.coords t)) S1.size (k0_off16_inb (grid0.coords t))).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S768) (k0_off16 (grid0.coords t)) S1.size (k0_off16_inb (grid0.coords t))).toLoadRect (tbl m 0) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S768) (k0_off19 (grid0.coords t)) S1.size (k0_off19_inb (grid0.coords t))).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S768) (k0_off19 (grid0.coords t)) S1.size (k0_off19_inb (grid0.coords t))).toLoadRect (tbl m 0) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S768) (k0_off22 (grid0.coords t)) S1.size (k0_off22_inb (grid0.coords t))).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S768) (k0_off22 (grid0.coords t)) S1.size (k0_off22_inb (grid0.coords t))).toLoadRect (tbl m 0) (Shape.Idx.first (numel1_S1.symm ▸ Nat.one_pos))) := (hH c t).2.2.2.2.2.2.2.1
/-- Conjunct 8 of `Gen.Hyps` at point `t`: the side condition `k0_chk9` the body assumes as `k0_hw9`. -/
abbrev Hyps.p8 (m : (ℓ : Loc nD τ sig) → Buf (Elt F) ℓ) (hO : Ok m) (c : Dev nD) (t : Fin (cfgM m hO).N) : Prop :=
  k0_chk9 (tbM0_0.view.readAt (Elt F) (Rect.unit (s := S768) (k0_off25 (grid0.coords t)) S1.size (k0_off25_inb (grid0.coords t))).toLoadRect (tbl m 0) (Shape.Idx.first (numel1_S1.symm ▸ Nat.one_pos)))
variable {m} in
theorem Hyps.c8 {hO : Ok m} (hH : Hyps m hO) (c : Dev nD) (t : Fin (cfgM m hO).N) :
    k0_chk9 (tbM0_0.view.readAt (Elt F) (Rect.unit (s := S768) (k0_off25 (grid0.coords t)) S1.size (k0_off25_inb (grid0.coords t))).toLoadRect (tbl m 0) (Shape.Idx.first (numel1_S1.symm ▸ Nat.one_pos))) := (hH c t).2.2.2.2.2.2.2.2.1
/-- Conjunct 9 of `Gen.Hyps` at point `t`: the side condition `k0_chk10` the body assumes as `k0_hw10`. -/
abbrev Hyps.p9 (m : (ℓ : Loc nD τ sig) → Buf (Elt F) ℓ) (hO : Ok m) (c : Dev nD) (t : Fin (cfgM m hO).N) : Prop :=
  k0_chk10 (tbM0_0.view.readAt (Elt F) (Rect.unit (s := S768) (k0_off28 (grid0.coords t)) S1.size (k0_off28_inb (grid0.coords t))).toLoadRect (tbl m 0) (Shape.Idx.first (numel1_S1.symm ▸ Nat.one_pos)))
variable {m} in
theorem Hyps.c9 {hO : Ok m} (hH : Hyps m hO) (c : Dev nD) (t : Fin (cfgM m hO).N) :
    k0_chk10 (tbM0_0.view.readAt (Elt F) (Rect.unit (s := S768) (k0_off28 (grid0.coords t)) S1.size (k0_off28_inb (grid0.coords t))).toLoadRect (tbl m 0) (Shape.Idx.first (numel1_S1.symm ▸ Nat.one_pos))) := (hH c t).2.2.2.2.2.2.2.2.2.1
/-- Conjunct 10 of `Gen.Hyps` at point `t`: the side condition `k0_chk11` the body assumes as `k0_hw11`. -/
abbrev Hyps.p10 (m : (ℓ : Loc nD τ sig) → Buf (Elt F) ℓ) (hO : Ok m) (c : Dev nD) (t : Fin (cfgM m hO).N) : Prop :=
  k0_chk11 (tbM0_0.view.readAt (Elt F) (Rect.unit (s := S768) (k0_off31 (grid0.coords t)) S1.size (k0_off31_inb (grid0.coords t))).toLoadRect (tbl m 0) (Shape.Idx.first (numel1_S1.symm ▸ Nat.one_pos)))
variable {m} in
theorem Hyps.c10 {hO : Ok m} (hH : Hyps m hO) (c : Dev nD) (t : Fin (cfgM m hO).N) :
    k0_chk11 (tbM0_0.view.readAt (Elt F) (Rect.unit (s := S768) (k0_off31 (grid0.coords t)) S1.size (k0_off31_inb (grid0.coords t))).toLoadRect (tbl m 0) (Shape.Idx.first (numel1_S1.symm ▸ Nat.one_pos))) := (hH c t).2.2.2.2.2.2.2.2.2.2.1
/-- Conjunct 11 of `Gen.Hyps` at point `t`: the side condition `k0_chk12` the body assumes as `k0_hw12`. -/
abbrev Hyps.p11 (m : (ℓ : Loc nD τ sig) → Buf (Elt F) ℓ) (hO : Ok m) (c : Dev nD) (t : Fin (cfgM m hO).N) : Prop :=
  k0_chk12 (tbM0_0.view.readAt (Elt F) (Rect.unit (s := S768) (k0_off34 (grid0.coords t)) S1.size (k0_off34_inb (grid0.coords t))).toLoadRect (tbl m 0) (Shape.Idx.first (numel1_S1.symm ▸ Nat.one_pos)))
variable {m} in
theorem Hyps.c11 {hO : Ok m} (hH : Hyps m hO) (c : Dev nD) (t : Fin (cfgM m hO).N) :
    k0_chk12 (tbM0_0.view.readAt (Elt F) (Rect.unit (s := S768) (k0_off34 (grid0.coords t)) S1.size (k0_off34_inb (grid0.coords t))).toLoadRect (tbl m 0) (Shape.Idx.first (numel1_S1.symm ▸ Nat.one_pos))) := (hH c t).2.2.2.2.2.2.2.2.2.2.2.1
/-- Conjunct 12 of `Gen.Hyps` at point `t`: the side condition `k0_chk13` the body assumes as `k0_hw13`. -/
abbrev Hyps.p12 (m : (ℓ : Loc nD τ sig) → Buf (Elt F) ℓ) (hO : Ok m) (c : Dev nD) (t : Fin (cfgM m hO).N) : Prop :=
  k0_chk13 (tbM0_0.view.readAt (Elt F) (Rect.unit (s := S768) (k0_off37 (grid0.coords t)) S1.size (k0_off37_inb (grid0.coords t))).toLoadRect (tbl m 0) (Shape.Idx.first (numel1_S1.symm ▸ Nat.one_pos)))
variable {m} in
theorem Hyps.c12 {hO : Ok m} (hH : Hyps m hO) (c : Dev nD) (t : Fin (cfgM m hO).N) :
    k0_chk13 (tbM0_0.view.readAt (Elt F) (Rect.unit (s := S768) (k0_off37 (grid0.coords t)) S1.size (k0_off37_inb (grid0.coords t))).toLoadRect (tbl m 0) (Shape.Idx.first (numel1_S1.symm ▸ Nat.one_pos))) := (hH c t).2.2.2.2.2.2.2.2.2.2.2.2.1
/-- Conjunct 13 of `Gen.Hyps` at point `t`: the side condition `k0_chk14` the body assumes as `k0_hw14`. -/
abbrev Hyps.p13 (m : (ℓ : Loc nD τ sig) → Buf (Elt F) ℓ) (hO : Ok m) (c : Dev nD) (t : Fin (cfgM m hO).N) : Prop :=
  k0_chk14 (tbM0_0.view.readAt (Elt F) (Rect.unit (s := S768) (k0_off40 (grid0.coords t)) S1.size (k0_off40_inb (grid0.coords t))).toLoadRect (tbl m 0) (Shape.Idx.first (numel1_S1.symm ▸ Nat.one_pos)))
variable {m} in
theorem Hyps.c13 {hO : Ok m} (hH : Hyps m hO) (c : Dev nD) (t : Fin (cfgM m hO).N) :
    k0_chk14 (tbM0_0.view.readAt (Elt F) (Rect.unit (s := S768) (k0_off40 (grid0.coords t)) S1.size (k0_off40_inb (grid0.coords t))).toLoadRect (tbl m 0) (Shape.Idx.first (numel1_S1.symm ▸ Nat.one_pos))) := (hH c t).2.2.2.2.2.2.2.2.2.2.2.2.2.1
/-- Conjunct 14 of `Gen.Hyps` at point `t`: the side condition `k0_chk15` the body assumes as `k0_hw15`. -/
abbrev Hyps.p14 (m : (ℓ : Loc nD τ sig) → Buf (Elt F) ℓ) (hO : Ok m) (c : Dev nD) (t : Fin (cfgM m hO).N) : Prop :=
  k0_chk15 (tbM0_0.view.readAt (Elt F) (Rect.unit (s := S768) (k0_off43 (grid0.coords t)) S1.size (k0_off43_inb (grid0.coords t))).toLoadRect (tbl m 0) (Shape.Idx.first (numel1_S1.symm ▸ Nat.one_pos)))
variable {m} in
theorem Hyps.c14 {hO : Ok m} (hH : Hyps m hO) (c : Dev nD) (t : Fin (cfgM m hO).N) :
    k0_chk15 (tbM0_0.view.readAt (Elt F) (Rect.unit (s := S768) (k0_off43 (grid0.coords t)) S1.size (k0_off43_inb (grid0.coords t))).toLoadRect (tbl m 0) (Shape.Idx.first (numel1_S1.symm ▸ Nat.one_pos))) := (hH c t).2.2.2.2.2.2.2.2.2.2.2.2.2.2.1
/-- Conjunct 15 of `Gen.Hyps` at point `t`: the side condition `k0_chk16` the body assumes as `k0_hw16`. -/
abbrev Hyps.p15 (m : (ℓ : Loc nD τ sig) → Buf (Elt F) ℓ) (hO : Ok m) (c : Dev nD) (t : Fin (cfgM m hO).N) : Prop :=
  k0_chk16 (tbM0_0.view.readAt (Elt F) (Rect.unit (s := S768) (k0_off46 (grid0.coords t)) S1.size (k0_off46_inb (grid0.coords t))).toLoadRect (tbl m 0) (Shape.Idx.first (numel1_S1.symm ▸ Nat.one_pos)))
variable {m} in
theorem Hyps.c15 {hO : Ok m} (hH : Hyps m hO) (c : Dev nD) (t : Fin (cfgM m hO).N) :
    k0_chk16 (tbM0_0.view.readAt (Elt F) (Rect.unit (s := S768) (k0_off46 (grid0.coords t)) S1.size (k0_off46_inb (grid0.coords t))).toLoadRect (tbl m 0) (Shape.Idx.first (numel1_S1.symm ▸ Nat.one_pos))) := (hH c t).2.2.2.2.2.2.2.2.2.2.2.2.2.2.2.1
/-- Conjunct 16 of `Gen.Hyps` at point `t`: the side condition `k0_chk17` the body assumes as `k0_hw17`. -/
abbrev Hyps.p16 (m : (ℓ : Loc nD τ sig) → Buf (Elt F) ℓ) (hO : Ok m) (c : Dev nD) (t : Fin (cfgM m hO).N) : Prop :=
  k0_chk17 (tbM0_0.view.readAt (Elt F) (Rect.unit (s := S768) (k0_off49 (grid0.coords t)) S1.size (k0_off49_inb (grid0.coords t))).toLoadRect (tbl m 0) (Shape.Idx.first (numel1_S1.symm ▸ Nat.one_pos)))
variable {m} in
theorem Hyps.c16 {hO : Ok m} (hH : Hyps m hO) (c : Dev nD) (t : Fin (cfgM m hO).N) :
    k0_chk17 (tbM0_0.view.readAt (Elt F) (Rect.unit (s := S768) (k0_off49 (grid0.coords t)) S1.size (k0_off49_inb (grid0.coords t))).toLoadRect (tbl m 0) (Shape.Idx.first (numel1_S1.symm ▸ Nat.one_pos))) := (hH c t).2.2.2.2.2.2.2.2.2.2.2.2.2.2.2.2.1
/-- Conjunct 17 of `Gen.Hyps` at point `t`: the side condition `k0_chk18` the body assumes as `k0_hw18`. -/
abbrev Hyps.p17 (m : (ℓ : Loc nD τ sig) → Buf (Elt F) ℓ) (hO : Ok m) (c : Dev nD) (t : Fin (cfgM m hO).N) : Prop :=
  k0_chk18 (tbM0_0.view.readAt (Elt F) (Rect.unit (s := S768) (k0_off52 (grid0.coords t)) S1.size (k0_off52_inb (grid0.coords t))).toLoadRect (tbl m 0) (Shape.Idx.first (numel1_S1.symm ▸ Nat.one_pos)))
variable {m} in
theorem Hyps.c17 {hO : Ok m} (hH : Hyps m hO) (c : Dev nD) (t : Fin (cfgM m hO).N) :
    k0_chk18 (tbM0_0.view.readAt (Elt F) (Rect.unit (s := S768) (k0_off52 (grid0.coords t)) S1.size (k0_off52_inb (grid0.coords t))).toLoadRect (tbl m 0) (Shape.Idx.first (numel1_S1.symm ▸ Nat.one_pos))) := (hH c t).2.2.2.2.2.2.2.2.2.2.2.2.2.2.2.2.2.1
/-- Conjunct 18 of `Gen.Hyps` at point `t`: the side condition `k0_chk19` the body assumes as `k0_hw19`. -/
abbrev Hyps.p18 (m : (ℓ : Loc nD τ sig) → Buf (Elt F) ℓ) (hO : Ok m) (c : Dev nD) (t : Fin (cfgM m hO).N) : Prop :=
  k0_chk19 (tbM0_0.view.readAt (Elt F) (Rect.unit (s := S768) (k0_off55 (grid0.coords t)) S1.size (k0_off55_inb (grid0.coords t))).toLoadRect (tbl m 0) (Shape.Idx.first (numel1_S1.symm ▸ Nat.one_pos)))
variable {m} in
theorem Hyps.c18 {hO : Ok m} (hH : Hyps m hO) (c : Dev nD) (t : Fin (cfgM m hO).N) :
    k0_chk19 (tbM0_0.view.readAt (Elt F) (Rect.unit (s := S768) (k0_off55 (grid0.coords t)) S1.size (k0_off55_inb (grid0.coords t))).toLoadRect (tbl m 0) (Shape.Idx.first (numel1_S1.symm ▸ Nat.one_pos))) := (hH c t).2.2.2.2.2.2.2.2.2.2.2.2.2.2.2.2.2.2.1
/-- Conjunct 19 of `Gen.Hyps` at point `t`: the side condition `k0_chk20` the body assumes as `k0_hw20`. -/
abbrev Hyps.p19 (m : (ℓ : Loc nD τ sig) → Buf (Elt F) ℓ) (hO : Ok m) (c : Dev nD) (t : Fin (cfgM m hO).N) : Prop :=
  k0_chk20 (tbM0_0.view.readAt (Elt F) (Rect.unit (s := S768) (k0_off58 (grid0.coords t)) S1.size (k0_off58_inb (grid0.coords t))).toLoadRect (tbl m 0) (Shape.Idx.first (numel1_S1.symm ▸ Nat.one_pos)))
variable {m} in
theorem Hyps.c19 {hO : Ok m} (hH : Hyps m hO) (c : Dev nD) (t : Fin (cfgM m hO).N) :
    k0_chk20 (tbM0_0.view.readAt (Elt F) (Rect.unit (s := S768) (k0_off58 (grid0.coords t)) S1.size (k0_off58_inb (grid0.coords t))).toLoadRect (tbl m 0) (Shape.Idx.first (numel1_S1.symm ▸ Nat.one_pos))) := (hH c t).2.2.2.2.2.2.2.2.2.2.2.2.2.2.2.2.2.2.2.1
/-- Conjunct 20 of `Gen.Hyps` at point `t`: the side condition `k0_chk21` the body assumes as `k0_hw21`. -/
abbrev Hyps.p20 (m : (ℓ : Loc nD τ sig) → Buf (Elt F) ℓ) (hO : Ok m) (c : Dev nD) (t : Fin (cfgM m hO).N) : Prop :=
  k0_chk21 (tbM0_0.view.readAt (Elt F) (Rect.unit (s := S768) (k0_off61 (grid0.coords t)) S1.size (k0_off61_inb (grid0.coords t))).toLoadRect (tbl m 0) (Shape.Idx.first (numel1_S1.symm ▸ Nat.one_pos)))
variable {m} in
theorem Hyps.c20 {hO : Ok m} (hH : Hyps m hO) (c : Dev nD) (t : Fin (cfgM m hO).N) :
    k0_chk21 (tbM0_0.view.readAt (Elt F) (Rect.unit (s := S768) (k0_off61 (grid0.coords t)) S1.size (k0_off61_inb (grid0.coords t))).toLoadRect (tbl m 0) (Shape.Idx.first (numel1_S1.symm ▸ Nat.one_pos))) := (hH c t).2.2.2.2.2.2.2.2.2.2.2.2.2.2.2.2.2.2.2.2.1
/-- Conjunct 21 of `Gen.Hyps` at point `t`: the side condition `k0_chk22` the body assumes as `k0_hw22`. -/
abbrev Hyps.p21 (m : (ℓ : Loc nD τ sig) → Buf (Elt F) ℓ) (hO : Ok m) (c : Dev nD) (t : Fin (cfgM m hO).N) : Prop :=
  k0_chk22 (tbM0_0.view.readAt (Elt F) (Rect.unit (s := S768) (k0_off64 (grid0.coords t)) S1.size (k0_off64_inb (grid0.coords t))).toLoadRect (tbl m 0) (Shape.Idx.first (numel1_S1.symm ▸ Nat.one_pos)))
variable {m} in
theorem Hyps.c21 {hO : Ok m} (hH : Hyps m hO) (c : Dev nD) (t : Fin (cfgM m hO).N) :
    k0_chk22 (tbM0_0.view.readAt (Elt F) (Rect.unit (s := S768) (k0_off64 (grid0.coords t)) S1.size (k0_off64_inb (grid0.coords t))).toLoadRect (tbl m 0) (Shape.Idx.first (numel1_S1.symm ▸ Nat.one_pos))) := (hH c t).2.2.2.2.2.2.2.2.2.2.2.2.2.2.2.2.2.2.2.2.2.1
/-- Conjunct 22 of `Gen.Hyps` at point `t`: the side condition `k0_chk23` the body assumes as `k0_hw23`. -/
abbrev Hyps.p22 (m : (ℓ : Loc nD τ sig) → Buf (Elt F) ℓ) (hO : Ok m) (c : Dev nD) (t : Fin (cfgM m hO).N) : Prop :=
  k0_chk23 (tbM0_0.view.readAt (Elt F) (Rect.unit (s := S768) (k0_off67 (grid0.coords t)) S1.size (k0_off67_inb (grid0.coords t))).toLoadRect (tbl m 0) (Shape.Idx.first (numel1_S1.symm ▸ Nat.one_pos)))
variable {m} in
theorem Hyps.c22 {hO : Ok m} (hH : Hyps m hO) (c : Dev nD) (t : Fin (cfgM m hO).N) :
    k0_chk23 (tbM0_0.view.readAt (Elt F) (Rect.unit (s := S768) (k0_off67 (grid0.coords t)) S1.size (k0_off67_inb (grid0.coords t))).toLoadRect (tbl m 0) (Shape.Idx.first (numel1_S1.symm ▸ Nat.one_pos))) := (hH c t).2.2.2.2.2.2.2.2.2.2.2.2.2.2.2.2.2.2.2.2.2.2.1
/-- Conjunct 23 of `Gen.Hyps` at point `t`: the side condition `k0_chk24` the body assumes as `k0_hw24`. -/
abbrev Hyps.p23 (m : (ℓ : Loc nD τ sig) → Buf (Elt F) ℓ) (hO : Ok m) (c : Dev nD) (t : Fin (cfgM m hO).N) : Prop :=
  k0_chk24 (tbM0_0.view.readAt (Elt F) (Rect.unit (s := S768) (k0_off70 (grid0.coords t)) S1.size (k0_off70_inb (grid0.coords t))).toLoadRect (tbl m 0) (Shape.Idx.first (numel1_S1.symm ▸ Nat.one_pos)))
variable {m} in
theorem Hyps.c23 {hO : Ok m} (hH : Hyps m hO) (c : Dev nD) (t : Fin (cfgM m hO).N) :
    k0_chk24 (tbM0_0.view.readAt (Elt F) (Rect.unit (s := S768) (k0_off70 (grid0.coords t)) S1.size (k0_off70_inb (grid0.coords t))).toLoadRect (tbl m 0) (Shape.Idx.first (numel1_S1.symm ▸ Nat.one_pos))) := (hH c t).2.2.2.2.2.2.2.2.2.2.2.2.2.2.2.2.2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t)
    (p8 : ∀ (c : Dev nD) (t : Fin (cfgM m hO).N), Hyps.p8 m hO c t)
    (p9 : ∀ (c : Dev nD) (t : Fin (cfgM m hO).N), Hyps.p9 m hO c t)
    (p10 : ∀ (c : Dev nD) (t : Fin (cfgM m hO).N), Hyps.p10 m hO c t)
    (p11 : ∀ (c : Dev nD) (t : Fin (cfgM m hO).N), Hyps.p11 m hO c t)
    (p12 : ∀ (c : Dev nD) (t : Fin (cfgM m hO).N), Hyps.p12 m hO c t)
    (p13 : ∀ (c : Dev nD) (t : Fin (cfgM m hO).N), Hyps.p13 m hO c t)
    (p14 : ∀ (c : Dev nD) (t : Fin (cfgM m hO).N), Hyps.p14 m hO c t)
    (p15 : ∀ (c : Dev nD) (t : Fin (cfgM m hO).N), Hyps.p15 m hO c t)
    (p16 : ∀ (c : Dev nD) (t : Fin (cfgM m hO).N), Hyps.p16 m hO c t)
    (p17 : ∀ (c : Dev nD) (t : Fin (cfgM m hO).N), Hyps.p17 m hO c t)
    (p18 : ∀ (c : Dev nD) (t : Fin (cfgM m hO).N), Hyps.p18 m hO c t)
    (p19 : ∀ (c : Dev nD) (t : Fin (cfgM m hO).N), Hyps.p19 m hO c t)
    (p20 : ∀ (c : Dev nD) (t : Fin (cfgM m hO).N), Hyps.p20 m hO c t)
    (p21 : ∀ (c : Dev nD) (t : Fin (cfgM m hO).N), Hyps.p21 m hO c t)
    (p22 : ∀ (c : Dev nD) (t : Fin (cfgM m hO).N), Hyps.p22 m hO c t)
    (p23 : ∀ (c : Dev nD) (t : Fin (cfgM m hO).N), Hyps.p23 m hO c t) :
    Hyps m hO := fun c t =>
  And.intro (p0 c t) (And.intro (p1 c t) (And.intro (p2 c t) (And.intro (p3 c t) (And.intro (p4 c t) (And.intro (p5 c t) (And.intro (p6 c t) (And.intro (p7 c t) (And.intro (p8 c t) (And.intro (p9 c t) (And.intro (p10 c t) (And.intro (p11 c t) (And.intro (p12 c t) (And.intro (p13 c t) (And.intro (p14 c t) (And.intro (p15 c t) (And.intro (p16 c t) (And.intro (p17 c t) (And.intro (p18 c t) (And.intro (p19 c t) (And.intro (p20 c t) (And.intro (p21 c t) (And.intro (p22 c t) (p23 c t)))))))))))))))))))))))

/-- The scratch operands: whole scoped buffers of the kernel's own, passed beside the windows. -/
abbrev scM0_0 : Memref sig .tc .vmem S3x4x24x2x128 .bf16 := Memref.whole cc0_scratch0
abbrev scM0_1 : Memref sig .tc .vmem S3x4x24x2x128 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.RealFrame.RunA.lean ====
/- The run of the whole body at one grid point.
   (`Cert.KernelIdeal`.)
-/
module

public import proofs.«01_k».proof.Proof.RealFrame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9472000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S8x20x3x8x128 .bf16) (harg2 : arg2.IsWhole) (arg3 : Memref sig .tc .vmem S20x3x8x128 .bf16) (harg3 : arg3.IsWhole) (arg4 : Memref sig .tc .vmem S20x3x8x128 .bf16) (harg4 : arg4.IsWhole) (arg5 : Memref sig .tc .vmem S768x2x128 .i32) (harg5 : arg5.IsWhole) (arg6 : Memref sig .tc .vmem S96x24x128 .i32) (harg6 : arg6.IsWhole) (arg7 : Memref sig .tc .vmem S8x16x128 .f32) (harg7 : arg7.IsWhole) (arg8 : Memref sig .tc .vmem S8x20x3x8x128 .bf16) (harg8 : arg8.IsWhole) (arg9 : Memref sig .tc .vmem S3x4x24x2x128 .bf16) (harg9 : arg9.IsWhole) (arg10 : Memref sig .tc .vmem S3x4x24x2x128 .bf16) (harg10 : arg10.IsWhole)
    (x0 : Vec F S8x20x3x8x128 .bf16) (x1 : Vec F S20x3x8x128 .bf16) (x2 : Vec F S20x3x8x128 .bf16) (x3 : Vec F S768x2x128 .i32) (x4 : Vec F S96x24x128 .i32) (x5 : Vec F S8x16x128 .f32) (xt0 : TbBuf0 (F := F) c tbM0_0) (k0_hw1 : k0_chk1 (tbM0_0.view.readAt (Elt F) (Rect.unit (s := S768) (k0_off1 i) S1.size (k0_off1_inb i)).toLoadRect xt0 (Shape.Idx.first (numel1_S1.symm ▸ Nat.one_pos)))) (k0_hw2 : k0_chk2 (tbM0_0.view.readAt (Elt F) (Rect.unit (s := S768) (k0_off4 i) S1.size (k0_off4_inb i)).toLoadRect xt0 (Shape.Idx.first (numel1_S1.symm ▸ Nat.one_pos)))) (k0_hw3 : k0_chk3 (tbM0_0.view.readAt (Elt F) (Rect.unit (s := S768) (k0_off7 i) S1.size (k0_off7_inb i)).toLoadRect xt0 (Shape.Idx.first (numel1_S1.symm ▸ Nat.one_pos)))) (k0_hw4 : k0_chk4 (tbM0_0.view.readAt (Elt F) (Rect.unit (s := S768) (k0_off10 i) S1.size (k0_off10_inb i)).toLoadRect xt0 (Shape.Idx.first (numel1_S1.symm ▸ Nat.one_pos)))) (k0_hw5 : k0_chk5 (tbM0_0.view.readAt (Elt F) (Rect.unit (s := S768) (k0_off13 i) S1.size (k0_off13_inb i)).toLoadRect xt0 (Shape.Idx.first (numel1_S1.symm ▸ Nat.one_pos)))) (k0_hw6 : k0_chk6 (tbM0_0.view.readAt (Elt F) (Rect.unit (s := S768) (k0_off16 i) S1.size (k0_off16_inb i)).toLoadRect xt0 (Shape.Idx.first (numel1_S1.symm ▸ Nat.one_pos)))) (k0_hw7 : k0_chk7 (tbM0_0.view.readAt (Elt F) (Rect.unit (s := S768) (k0_off19 i) S1.size (k0_off19_inb i)).toLoadRect xt0 (Shape.Idx.first (numel1_S1.symm ▸ Nat.one_pos)))) (k0_hw8 : k0_chk8 (tbM0_0.view.readAt (Elt F) (Rect.unit (s := S768) (k0_off22 i) S1.size (k0_off22_inb i)).toLoadRect xt0 (Shape.Idx.first (numel1_S1.symm ▸ Nat.one_pos)))) (k0_hw9 : k0_chk9 (tbM0_0.view.readAt (Elt F) (Rect.unit (s := S768) (k0_off25 i) S1.size (k0_off25_inb i)).toLoadRect xt0 (Shape.Idx.first (numel1_S1.symm ▸ Nat.one_pos)))) (k0_hw10 : k0_chk10 (tbM0_0.view.readAt (Elt F) (Rect.unit (s := S768) (k0_off28 i) S1.size (k0_off28_inb i)).toLoadRect xt0 (Shape.Idx.first (numel1_S1.symm ▸ Nat.one_pos)))) (k0_hw11 : k0_chk11 (tbM0_0.view.readAt (Elt F) (Rect.unit (s := S768) (k0_off31 i) S1.size (k0_off31_inb i)).toLoadRect xt0 (Shape.Idx.first (numel1_S1.symm ▸ Nat.one_pos)))) (k0_hw12 : k0_chk12 (tbM0_0.view.readAt (Elt F) (Rect.unit (s := S768) (k0_off34 i) S1.size (k0_off34_inb i)).toLoadRect xt0 (Shape.Idx.first (numel1_S1.symm ▸ Nat.one_pos)))) (k0_hw13 : k0_chk13 (tbM0_0.view.readAt (Elt F) (Rect.unit (s := S768) (k0_off37 i) S1.size (k0_off37_inb i)).toLoadRect xt0 (Shape.Idx.first (numel1_S1.symm ▸ Nat.one_pos)))) (k0_hw14 : k0_chk14 (tbM0_0.view.readAt (Elt F) (Rect.unit (s := S768) (k0_off40 i) S1.size (k0_off40_inb i)).toLoadRect xt0 (Shape.Idx.first (numel1_S1.symm ▸ Nat.one_pos)))) (k0_hw15 : k0_chk15 (tbM0_0.view.readAt (Elt F) (Rect.unit (s := S768) (k0_off43 i) S1.size (k0_off43_inb i)).toLoadRect xt0 (Shape.Idx.first (numel1_S1.symm ▸ Nat.one_pos)))) (k0_hw16 : k0_chk16 (tbM0_0.view.readAt (Elt F) (Rect.unit (s := S768) (k0_off46 i) S1.size (k0_off46_inb i)).toLoadRect xt0 (Shape.Idx.first (numel1_S1.symm ▸ Nat.one_pos)))) (k0_hw17 : k0_chk17 (tbM0_0.view.readAt (Elt F) (Rect.unit (s := S768) (k0_off49 i) S1.size (k0_off49_inb i)).toLoadRect xt0 (Shape.Idx.first (numel1_S1.symm ▸ Nat.one_pos)))) (k0_hw18 : k0_chk18 (tbM0_0.view.readAt (Elt F) (Rect.unit (s := S768) (k0_off52 i) S1.size (k0_off52_inb i)).toLoadRect xt0 (Shape.Idx.first (numel1_S1.symm ▸ Nat.one_pos)))) (k0_hw19 : k0_chk19 (tbM0_0.view.readAt (Elt F) (Rect.unit (s := S768) (k0_off55 i) S1.size (k0_off55_inb i)).toLoadRect xt0 (Shape.Idx.first (numel1_S1.symm ▸ Nat.one_pos)))) (k0_hw20 : k0_chk20 (tbM0_0.view.readAt (Elt F) (Rect.unit (s := S768) (k0_off58 i) S1.size (k0_off58_inb i)).toLoadRect xt0 (Shape.Idx.first (numel1_S1.symm ▸ Nat.one_pos)))) (k0_hw21 : k0_chk21 (tbM0_0.view.readAt (Elt F) (Rect.unit (s := S768) (k0_off61 i) S1.size (k0_off61_inb i)).toLoadRect xt0 (Shape.Idx.first (numel1_S1.symm ▸ Nat.one_pos)))) (k0_hw22 : k0_chk22 (tbM0_0.view.readAt (Elt F) (Rect.unit (s := S768) (k0_off64 i) S1.size (k0_off64_inb i)).toLoadRect xt0 (Shape.Idx.first (numel1_S1.symm ▸ Nat.one_pos)))) (k0_hw23 : k0_chk23 (tbM0_0.view.readAt (Elt F) (Rect.unit (s := S768) (k0_off67 i) S1.size (k0_off67_inb i)).toLoadRect xt0 (Shape.Idx.first (numel1_S1.symm ▸ Nat.one_pos)))) (k0_hw24 : k0_chk24 (tbM0_0.view.readAt (Elt F) (Rect.unit (s := S768) (k0_off70 i) S1.size (k0_off70_inb i)).toLoadRect xt0 (Shape.Idx.first (numel1_S1.symm ▸ Nat.one_pos)))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ tbPt0 c tbM0_0 xt0) -∗ K ⟨⟩))
          ⊢ wp frame (wpE (defs₀ (F := F)) Variants.none c none) E (cc0_attend i tbM0_0 htbM0_0 arg2 harg2 arg3 harg3 arg4 harg4 arg5 harg5 arg6 harg6 arg7 harg7 arg8 harg8 arg9 harg9 arg10 harg10) K := by
    intro E K
    simp only [cc0_attend_eq_skeleton]; unfold cc0_attend_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexact HT0

end Cert.KernelIdeal.Gen

end
-- ==== Proof.RealFrame.Frame.lean ====
/- The body obligation of the pipeline, the launch, and the frame: the program ends, its arguments unchanged and every counter at zero.
   (`Cert.KernelIdeal`.)
-/
module

public import proofs.«01_k».proof.Proof.RealFrame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d))

set_option maxHeartbeats 2400000 in
set_option maxRecDepth 131072 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HT0]; · iexact HT0
  iintro ⟨H0, H1, H2, H3, H4, H5, H6, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.KernelIdeal.Gen

end
-- ==== Proof.RealFrame.Table.lean ====
/-
  The launch's prefetched table is `order` flattened, and every word of it names a head: the conditions the body assumes of the
  words it loads.
-/
module

public import proofs.«01_k».proof.Proof.RealFrame.Runs
public import proofs.«01_k».proof.Proof.Order
public import Idealize.ShloMosaic.Lib.ValueLayout

@[expose] public section

set_option maxRecDepth 16384

noncomputable section

namespace Cert.KernelIdeal.Gen

open Idealize.ShloMosaic Idealize.ShloMosaic.TcCoe Cert.Order

/-- A word that names one of the three heads. -/
def Head (v : BitVec 32) : Prop := v = 0#32 ∨ v = 1#32 ∨ v = 2#32

/-- What the body assumes of a word at sequence `i` of its block, the scratch rows of the sequence being those of pair `p`. -/
def Chk (i p : ℕ) (v : BitVec 32) : Prop :=
  (∀ a, (![i, 0, (Scalar.indexCast v : Index).toNat, 0, 0] : Fin 5 → ℕ) a + S1x20x1x8x128.size a ≤ S8x20x3x8x128.size a) ∧
  (∀ a, (![(Scalar.indexCast v : Index).toNat, p, 0, 0, 0] : Fin 5 → ℕ) a + S1x1x24x2x128.size a ≤ S3x4x24x2x128.size a) ∧
  (∀ (hinb : ∀ a, (![i, 0, (Scalar.indexCast v : Index).toNat, 0, 0] : Fin 5 → ℕ) a + S1x20x1x8x128.size a ≤ S8x20x3x8x128.size a),
    (Rect.unit (s := S8x20x3x8x128) ![i, 0, (Scalar.indexCast v : Index).toNat, 0, 0] S1x20x1x8x128.size hinb).PackedRows (EltTy.packing .bf16))

instance (i p : ℕ) (v : BitVec 32) : Decidable (Chk i p v) := by unfold Chk; infer_instance

/-- It holds of a word that names a head. -/
theorem chk_of (i : Fin 8) (p : Fin 4) (v : BitVec 32) (h : Head v) : Chk i p v := by
  rcases h with rfl | rfl | rfl <;> revert i p <;> decide +kernel

variable {F : FTy → Type} [FloatOps F] [Named F]
variable (m : (ℓ : Loc nD τ sig) → Buf (Elt F) ℓ)

/-- The table when the launch is entered: `order`, flattened. -/
theorem V_main_v0 (c : Dev nD) :
    V m c main_v0 = (shapeCast S768 (m ((c : Thread nD τ).loc main_arg0) : IVec S256x3 32) shapeCasts_S256x3_S768 : IVec S768 32) := by
  show StableHlo.after hostOps0 _ (Proc.devRef .tc main_v0) = _
  after_results
  rfl

/-- Word `3 * b + r` of the table is `order[b, r]`. -/
theorem tbl_word (b : Fin 256) (r : Fin 3) (k : Fin 768) (hk : k.val = 3 * b.val + r.val) :
    (tbl m 0 : S768.Idx → BitVec 32) (ix1 k) = (m ((0 : Dev nD).tc.loc main_arg0) : S256x3.Idx → BitVec 32) (ix2 b r) := by
  refine (congrFun (V_main_v0 m 0) (ix1 k)).trans ?_
  refine shapeCast_apply _ _ (ix1 k) (ix2 b r) ?_
  erw [Shape.rowMajor_val_two, Shape.rowMajor_val_one]
  show b.val * 3 + r.val = k.val
  omega

/-- So every word of the table names a head. -/
theorem tbl_head (hp : Perm (m ((0 : Dev nD).tc.loc main_arg0) : S256x3.Idx → BitVec 32)) (x : S768.Idx) :
    Head ((tbl m 0 : S768.Idx → BitVec 32) x) := by
  obtain ⟨k, rfl⟩ : ∃ k : Fin 768, x = ix1 k := ⟨x 0, (ix1_eta x).symm⟩
  rw [tbl_word m ⟨k.val / 3, by omega⟩ ⟨k.val % 3, by omega⟩ k (by dsimp only; omega)]
  exact hp.word _

theorem hyps_of_perm (hp : Perm (m ((0 : Dev nD).tc.loc main_arg0) : S256x3.Idx → BitVec 32)) (hO : Ok m) : Hyps m hO := by
  refine Hyps.of ?_ ?_ ?_ ?_ ?_ ?_ ?_ ?_ ?_ ?_ ?_ ?_ ?_ ?_ ?_ ?_ ?_ ?_ ?_ ?_ ?_ ?_ ?_ ?_ <;> intro c t
  exacts [chk_of 0 0 _ (tbl_head m hp _), chk_of 0 0 _ (tbl_head m hp _), chk_of 0 0 _ (tbl_head m hp _), chk_of 1 0 _ (tbl_head m hp _), chk_of 1 0 _ (tbl_head m hp _), chk_of 1 0 _ (tbl_head m hp _), chk_of 2 1 _ (tbl_head m hp _), chk_of 2 1 _ (tbl_head m hp _), chk_of 2 1 _ (tbl_head m hp _), chk_of 3 1 _ (tbl_head m hp _), chk_of 3 1 _ (tbl_head m hp _), chk_of 3 1 _ (tbl_head m hp _), chk_of 4 2 _ (tbl_head m hp _), chk_of 4 2 _ (tbl_head m hp _), chk_of 4 2 _ (tbl_head m hp _), chk_of 5 2 _ (tbl_head m hp _), chk_of 5 2 _ (tbl_head m hp _), chk_of 5 2 _ (tbl_head m hp _), chk_of 6 3 _ (tbl_head m hp _), chk_of 6 3 _ (tbl_head m hp _), chk_of 6 3 _ (tbl_head m hp _), chk_of 7 3 _ (tbl_head m hp _), chk_of 7 3 _ (tbl_head m hp _), chk_of 7 3 _ (tbl_head m hp _)]

end Cert.KernelIdeal.Gen
-- ==== Proof.RefRun.lean ====
/- The reference's @main as a list of its 185 host operations, and its run read back: every weakly fair execution terminates
   with the result at the operations' composed term of the arguments' launch contents, the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 185 (window `main_part0`). -/
abbrev ops_part0 : List (HloOp τ sig (Elt F)) :=
  [ reshape main_arg1 main_v0 (rfl : (.bf16 : EltTy) = .bf16) shapeCasts_S256x20x24x128_S256x20x3x8x128,
    unary main_v0 main_v1 ((transpose S256x3x8x20x128 [0, 2, 3, 1, 4] · transposes_S256x20x3x8x128_S256x3x8x20x128_0_2_3_1_4) : (⟨S256x20x3x8x128, .bf16⟩ : BufTy).Contents (Elt F) → (⟨S256x3x8x20x128, .bf16⟩ : BufTy).Contents (Elt F)),
    reshape main_v1 main_v2 (rfl : (.bf16 : EltTy) = .bf16) shapeCasts_S256x3x8x20x128_S256x3x160x128,
    unary main_arg2 main_v3 ((transpose S256x3x20x128 [0, 2, 1, 3] · transposes_S256x20x3x128_S256x3x20x128_0_2_1_3) : (⟨S256x20x3x128, .bf16⟩ : BufTy).Contents (Elt F) → (⟨S256x3x20x128, .bf16⟩ : BufTy).Contents (Elt F)),
    unary main_arg3 main_v4 ((transpose S256x3x20x128 [0, 2, 1, 3] · transposes_S256x20x3x128_S256x3x20x128_0_2_1_3) : (⟨S256x20x3x128, .bf16⟩ : BufTy).Contents (Elt F) → (⟨S256x3x20x128, .bf16⟩ : BufTy).Contents (Elt F)),
    reshape main_arg5 main_v5 (rfl : (.i32 : EltTy) = .i32) shapeCasts_S3072x24x128_S256x12x24x128,
    unary main_v5 main_v6 ((extractStridedSlice S256x12x8x128 ![0, 0, 16, 0] · slices_S256x12x24x128_S256x12x8x128_0_0_16_0) : (⟨S256x12x24x128, .i32⟩ : BufTy).Contents (Elt F) → (⟨S256x12x8x128, .i32⟩ : BufTy).Contents (Elt F)),
    unary main_v6 main_v7 ((fun x => bitcastToFloat (F := F) .bf16 (Host.bitcastConvertNarrow S256x12x8x128x2 16 x splits_S256x12x8x128_w32_S256x12x8x128x2_w16)) : (⟨S256x12x8x128, .i32⟩ : BufTy).Contents (Elt F) → (⟨S256x12x8x128x2, .bf16⟩ : BufTy).Contents (Elt F)),
    unary main_v7 main_v8 ((transpose S256x12x128x8x2 [0, 1, 3, 2, 4] · transposes_S256x12x8x128x2_S256x12x128x8x2_0_1_3_2_4) : (⟨S256x12x8x128x2, .bf16⟩ : BufTy).Contents (Elt F) → (⟨S256x12x128x8x2, .bf16⟩ : BufTy).Contents (Elt F)),
    unary main_v8 main_v9 ((extractStridedSlice S256x12x128x4x2 ![0, 0, 0, 0, 0] · slices_S256x12x128x8x2_S256x12x128x4x2_0_0_0_0_0) : (⟨S256x12x128x8x2, .bf16⟩ : BufTy).Contents (Elt F) → (⟨S256x12x128x4x2, .bf16⟩ : BufTy).Contents (Elt F)),
    unary main_v9 main_v10 (broadcastInDim S256x12x128x4x1x2 ![0, 1, 2, 3, 5] bcast_S256x12x128x4x2_S256x12x128x4x1x2_0_1_2_3_5 : (⟨S256x12x128x4x2, .bf16⟩ : BufTy).Contents (Elt F) → (⟨S256x12x128x4x1x2, .bf16⟩ : BufTy).Contents (Elt F)),
    unary main_v8 main_v11 ((extractStridedSlice S256x12x128x4x2 ![0, 0, 0, 4, 0] · slices_S256x12x128x8x2_S256x12x128x4x2_0_0_0_4_0) : (⟨S256x12x128x8x2, .bf16⟩ : BufTy).Contents (Elt F) → (⟨S256x12x128x4x2, .bf16⟩ : BufTy).Contents (Elt F)),
    unary main_v11 main_v12 (broadcastInDim S256x12x128x4x1x2 ![0, 1, 2, 3, 5] bcast_S256x12x128x4x2_S256x12x128x4x1x2_0_1_2_3_5 : (⟨S256x12x128x4x2, .bf16⟩ : BufTy).Contents (Elt F) → (⟨S256x12x128x4x1x2, .bf16⟩ : BufTy).Contents (Elt F)),
    reshape main_arg4 main_v13 (rfl : (.i32 : EltTy) = .i32) shapeCasts_S24576x2x128_S256x192x128,
    nullary main_v14 (iotaInDim S256x192x8x128 32 2),
    unary main_v13 main_v15 (broadcastInDim S256x192x1x128 ![0, 1, 3] bcast_S256x192x128_S256x192x1x128_0_1_3 : (⟨S256x192x128, .i32⟩ : BufTy).Contents (Elt F) → (⟨S256x192x1x128, .i32⟩ : BufTy).Contents (Elt F)),
    unary main_v15 main_v16 (broadcastInDim S256x192x8x128 ![0, 1, 2, 3] bcast_S256x192x1x128_S256x192x8x128_0_1_2_3 : (⟨S256x192x1x128, .i32⟩ : BufTy).Contents (Elt F) → (⟨S256x192x8x128, .i32⟩ : BufTy).Contents (Elt F)),
    nullary main_c (constantI S_ 32 4#32),
    unary main_c main_v17 (broadcastInDim S256x192x8x128 ![] bcast_S_S256x192x8x128 : (⟨S_, .i32⟩ : BufTy).Contents (Elt F) → (⟨S256x192x8x128, .i32⟩ : BufTy).Contents (Elt F)),
    binary main_v17 main_v14 main_v18 (muli : (⟨S256x192x8x128, .i32⟩ : BufTy).Contents (Elt F) → (⟨S256x192x8x128, .i32⟩ : BufTy).Contents (Elt F) → (⟨S256x192x8x128, .i32⟩ : BufTy).Contents (Elt F)),
    binary main_v16 main_v18 main_v19 (Host.shrui : (⟨S256x192x8x128, .i32⟩ : BufTy).Contents (Elt F) → (⟨S256x192x8x128, .i32⟩ : BufTy).Contents (Elt F) → (⟨S256x192x8x128, .i32⟩ : BufTy).Contents (Elt F)),
    nullary main_c_0 (constantI S_ 32 15#32),
    unary main_c_0 main_v20 (broadcastInDim S256x192x8x128 ![] bcast_S_S256x192x8x128 : (⟨S_, .i32⟩ : BufTy).Contents (Elt F) → (⟨S256x192x8x128, .i32⟩ : BufTy).Contents (Elt F)),
    binary main_v19 main_v20 main_v21 (andi : (⟨S256x192x8x128, .i32⟩ : BufTy).Contents (Elt F) → (⟨S256x192x8x128, .i32⟩ : BufTy).Contents (Elt F) → (⟨S256x192x8x128, .i32⟩ : BufTy).Contents (Elt F)),
    nullary main_c_1 (constantI S_ 32 8#32),
    unary main_c_1 main_v22 (broadcastInDim S256x192x8x128 ![] bcast_S_S256x192x8x128 : (⟨S_, .i32⟩ : BufTy).Contents (Elt F) → (⟨S256x192x8x128, .i32⟩ : BufTy).Contents (Elt F)),
    binary main_v21 main_v22 main_v23 (cmpi .sge : (⟨S256x192x8x128, .i32⟩ : BufTy).Contents (Elt F) → (⟨S256x192x8x128, .i32⟩ : BufTy).Contents (Elt F) → (⟨S256x192x8x128, .i1⟩ : BufTy).Contents (Elt F)),
    nullary main_c_2 (constantI S_ 32 16#32),
    unary main_c_2 main_v24 (broadcastInDim S256x192x8x128 ![] bcast_S_S256x192x8x128 : (⟨S_, .i32⟩ : BufTy).Contents (Elt F) → (⟨S256x192x8x128, .i32⟩ : BufTy).Contents (Elt F)),
    binary main_v21 main_v24 main_v25 (subi : (⟨S256x192x8x128, .i32⟩ : BufTy).Contents (Elt F) → (⟨S256x192x8x128, .i32⟩ : BufTy).Contents (Elt F) → (⟨S256x192x8x128, .i32⟩ : BufTy).Contents (Elt F)),
    TRef.ternary (TRef.of (T := ⟨S256x192x8x128, .i1⟩) main_v23) (TRef.of (T := ⟨S256x192x8x128, .i32⟩) main_v25) (TRef.of (T := ⟨S256x192x8x128, .i32⟩) main_v21) (TRef.of (T := ⟨S256x192x8x128, .i32⟩) main_v26) select,
    unary main_v26 main_v27 (sitofp .bf16 : (⟨S256x192x8x128, .i32⟩ : BufTy).Contents (Elt F) → (⟨S256x192x8x128, .bf16⟩ : BufTy).Contents (Elt F)),
    reshape main_v27 main_v28 (rfl : (.bf16 : EltTy) = .bf16) shapeCasts_S256x192x8x128_S256x12x128x4x16x2,
    unary main_v5 main_v29 ((extractStridedSlice S256x12x16x128 ![0, 0, 0, 0] · slices_S256x12x24x128_S256x12x16x128_0_0_0_0) : (⟨S256x12x24x128, .i32⟩ : BufTy).Contents (Elt F) → (⟨S256x12x16x128, .i32⟩ : BufTy).Contents (Elt F)),
    nullary main_v30 (iotaInDim S256x12x16x8x128 32 3),
    unary main_v29 main_v31 (broadcastInDim S256x12x16x1x128 ![0, 1, 2, 4] bcast_S256x12x16x128_S256x12x16x1x128_0_1_2_4 : (⟨S256x12x16x128, .i32⟩ : BufTy).Contents (Elt F) → (⟨S256x12x16x1x128, .i32⟩ : BufTy).Contents (Elt F)),
    unary main_v31 main_v32 (broadcastInDim S256x12x16x8x128 ![0, 1, 2, 3, 4] bcast_S256x12x16x1x128_S256x12x16x8x128_0_1_2_3_4 : (⟨S256x12x16x1x128, .i32⟩ : BufTy).Contents (Elt F) → (⟨S256x12x16x8x128, .i32⟩ : BufTy).Contents (Elt F)),
    nullary main_c_3 (constantI S_ 32 4#32),
    unary main_c_3 main_v33 (broadcastInDim S256x12x16x8x128 ![] bcast_S_S256x12x16x8x128 : (⟨S_, .i32⟩ : BufTy).Contents (Elt F) → (⟨S256x12x16x8x128, .i32⟩ : BufTy).Contents (Elt F)),
    binary main_v33 main_v30 main_v34 (muli : (⟨S256x12x16x8x128, .i32⟩ : BufTy).Contents (Elt F) → (⟨S256x12x16x8x128, .i32⟩ : BufTy).Contents (Elt F) → (⟨S256x12x16x8x128, .i32⟩ : BufTy).Contents (Elt F)),
    binary main_v32 main_v34 main_v35 (Host.shrui : (⟨S256x12x16x8x128, .i32⟩ : BufTy).Contents (Elt F) → (⟨S256x12x16x8x128, .i32⟩ : BufTy).Contents (Elt F) → (⟨S256x12x16x8x128, .i32⟩ : BufTy).Contents (Elt F)),
    nullary main_c_4 (constantI S_ 32 15#32),
    unary main_c_4 main_v36 (broadcastInDim S256x12x16x8x128 ![] bcast_S_S256x12x16x8x128 : (⟨S_, .i32⟩ : BufTy).Contents (Elt F) → (⟨S256x12x16x8x128, .i32⟩ : BufTy).Contents (Elt F)),
    binary main_v35 main_v36 main_v37 (andi : (⟨S256x12x16x8x128, .i32⟩ : BufTy).Contents (Elt F) → (⟨S256x12x16x8x128, .i32⟩ : BufTy).Contents (Elt F) → (⟨S256x12x16x8x128, .i32⟩ : BufTy).Contents (Elt F)),
    nullary main_c_5 (constantI S_ 32 8#32),
    unary main_c_5 main_v38 (broadcastInDim S256x12x16x8x128 ![] bcast_S_S256x12x16x8x128 : (⟨S_, .i32⟩ : BufTy).Contents (Elt F) → (⟨S256x12x16x8x128, .i32⟩ : BufTy).Contents (Elt F)),
    binary main_v37 main_v38 main_v39 (cmpi .sge : (⟨S256x12x16x8x128, .i32⟩ : BufTy).Contents (Elt F) → (⟨S256x12x16x8x128, .i32⟩ : BufTy).Contents (Elt F) → (⟨S256x12x16x8x128, .i1⟩ : BufTy).Contents (Elt F)),
    nullary main_c_6 (constantI S_ 32 16#32),
    unary main_c_6 main_v40 (broadcastInDim S256x12x16x8x128 ![] bcast_S_S256x12x16x8x128 : (⟨S_, .i32⟩ : BufTy).Contents (Elt F) → (⟨S256x12x16x8x128, .i32⟩ : BufTy).Contents (Elt F)),
    binary main_v37 main_v40 main_v41 (subi : (⟨S256x12x16x8x128, .i32⟩ : BufTy).Contents (Elt F) → (⟨S256x12x16x8x128, .i32⟩ : BufTy).Contents (Elt F) → (⟨S256x12x16x8x128, .i32⟩ : BufTy).Contents (Elt F)),
    TRef.ternary (TRef.of (T := ⟨S256x12x16x8x128, .i1⟩) main_v39) (TRef.of (T := ⟨S256x12x16x8x128, .i32⟩) main_v41) (TRef.of (T := ⟨S256x12x16x8x128, .i32⟩) main_v37) (TRef.of (T := ⟨S256x12x16x8x128, .i32⟩) main_v42) select,
    unary main_v42 main_v43 (sitofp .bf16 : (⟨S256x12x16x8x128, .i32⟩ : BufTy).Contents (Elt F) → (⟨S256x12x16x8x128, .bf16⟩ : BufTy).Contents (Elt F)),
    reshape main_v43 main_v44 (rfl : (.bf16 : EltTy) = .bf16) shapeCasts_S256x12x16x8x128_S256x12x128x128,
    unary main_v44 main_v45 ((transpose S256x12x128x128 [0, 1, 3, 2] · transposes_S256x12x128x128_S256x12x128x128_0_1_3_2) : (⟨S256x12x128x128, .bf16⟩ : BufTy).Contents (Elt F) → (⟨S256x12x128x128, .bf16⟩ : BufTy).Contents (Elt F)),
    unary main_v10 main_v46 (broadcastInDim S256x12x128x4x16x2 ![0, 1, 2, 3, 4, 5] bcast_S256x12x128x4x1x2_S256x12x128x4x16x2_0_1_2_3_4_5 : (⟨S256x12x128x4x1x2, .bf16⟩ : BufTy).Contents (Elt F) → (⟨S256x12x128x4x16x2, .bf16⟩ : BufTy).Contents (Elt F)),
    binary main_v28 main_v46 main_v47 (mulf : (⟨S256x12x128x4x16x2, .bf16⟩ : BufTy).Contents (Elt F) → (⟨S256x12x128x4x16x2, .bf16⟩ : BufTy).Contents (Elt F) → (⟨S256x12x128x4x16x2, .bf16⟩ : BufTy).Contents (Elt F)),
    reshape main_v47 main_v48 (rfl : (.bf16 : EltTy) = .bf16) shapeCasts_S256x12x128x4x16x2_S256x1536x128,
    reshape main_v45 main_v49 (rfl : (.bf16 : EltTy) = .bf16) shapeCasts_S256x12x128x128_S256x12x128x4x16x2,
    unary main_v12 main_v50 (broadcastInDim S256x12x128x4x16x2 ![0, 1, 2, 3, 4, 5] bcast_S256x12x128x4x1x2_S256x12x128x4x16x2_0_1_2_3_4_5 : (⟨S256x12x128x4x1x2, .bf16⟩ : BufTy).Contents (Elt F) → (⟨S256x12x128x4x16x2, .bf16⟩ : BufTy).Contents (Elt F)),
    binary main_v49 main_v50 main_v51 (mulf : (⟨S256x12x128x4x16x2, .bf16⟩ : BufTy).Contents (Elt F) → (⟨S256x12x128x4x16x2, .bf16⟩ : BufTy).Contents (Elt F) → (⟨S256x12x128x4x16x2, .bf16⟩ : BufTy).Contents (Elt F)) ]

/-- @main's operations 61 … 90 of 185 (window `main_part1`). -/
abbrev ops_part1_0 : List (HloOp τ sig (Elt F)) :=
  [ reshape main_v51 main_v52 (rfl : (.bf16 : EltTy) = .bf16) shapeCasts_S256x12x128x4x16x2_S256x1536x128,
    nullary main_v53 (iotaInDim S256x1536 32 1),
    nullary main_c_7 (constantI S_ 32 768#32),
    unary main_c_7 main_v54 (broadcastInDim S256x1536 ![] bcast_S_S256x1536 : (⟨S_, .i32⟩ : BufTy).Contents (Elt F) → (⟨S256x1536, .i32⟩ : BufTy).Contents (Elt F)),
    binary main_v53 main_v54 main_v55 (cmpi .slt : (⟨S256x1536, .i32⟩ : BufTy).Contents (Elt F) → (⟨S256x1536, .i32⟩ : BufTy).Contents (Elt F) → (⟨S256x1536, .i1⟩ : BufTy).Contents (Elt F)),
    unary main_arg0 main_v56 ((extractStridedSlice S256x1 ![0, 0] · slices_S256x3_S256x1_0_0) : (⟨S256x3, .i32⟩ : BufTy).Contents (Elt F) → (⟨S256x1, .i32⟩ : BufTy).Contents (Elt F)),
    nullary main_c_8 (constantI S_ 32 1280#32),
    unary main_c_8 main_v57 (broadcastInDim S256x1536 ![] bcast_S_S256x1536 : (⟨S_, .i32⟩ : BufTy).Contents (Elt F) → (⟨S256x1536, .i32⟩ : BufTy).Contents (Elt F)),
    binary main_v53 main_v57 main_v58 (cmpi .slt : (⟨S256x1536, .i32⟩ : BufTy).Contents (Elt F) → (⟨S256x1536, .i32⟩ : BufTy).Contents (Elt F) → (⟨S256x1536, .i1⟩ : BufTy).Contents (Elt F)),
    unary main_arg0 main_v59 ((extractStridedSlice S256x1 ![0, 1] · slices_S256x3_S256x1_0_1) : (⟨S256x3, .i32⟩ : BufTy).Contents (Elt F) → (⟨S256x1, .i32⟩ : BufTy).Contents (Elt F)),
    unary main_arg0 main_v60 ((extractStridedSlice S256x1 ![0, 2] · slices_S256x3_S256x1_0_2) : (⟨S256x3, .i32⟩ : BufTy).Contents (Elt F) → (⟨S256x1, .i32⟩ : BufTy).Contents (Elt F)),
    TRef.unary (TRef.of (T := ⟨S256x1, .i32⟩) main_v59) (TRef.of (T := ⟨S256x1536, .i32⟩) main_call2_v0) (broadcastInDim S256x1536 ![0, 1] bcast_S256x1_S256x1536_0_1),
    TRef.unary (TRef.of (T := ⟨S256x1, .i32⟩) main_v60) (TRef.of (T := ⟨S256x1536, .i32⟩) main_call2_v1) (broadcastInDim S256x1536 ![0, 1] bcast_S256x1_S256x1536_0_1),
    TRef.ternary (TRef.of (T := ⟨S256x1536, .i1⟩) main_v58) (TRef.of (T := ⟨S256x1536, .i32⟩) main_call2_v0) (TRef.of (T := ⟨S256x1536, .i32⟩) main_call2_v1) (TRef.of (T := ⟨S256x1536, .i32⟩) main_v61) select,
    TRef.unary (TRef.of (T := ⟨S256x1, .i32⟩) main_v56) (TRef.of (T := ⟨S256x1536, .i32⟩) main_call3_v0) (broadcastInDim S256x1536 ![0, 1] bcast_S256x1_S256x1536_0_1),
    TRef.ternary (TRef.of (T := ⟨S256x1536, .i1⟩) main_v55) (TRef.of (T := ⟨S256x1536, .i32⟩) main_call3_v0) (TRef.of (T := ⟨S256x1536, .i32⟩) main_v61) (TRef.of (T := ⟨S256x1536, .i32⟩) main_v62) select,
    nullary main_c_9 (constantI S_ 32 32#32),
    unary main_c_9 main_v63 (broadcastInDim S256x1536 ![] bcast_S_S256x1536 : (⟨S_, .i32⟩ : BufTy).Contents (Elt F) → (⟨S256x1536, .i32⟩ : BufTy).Contents (Elt F)),
    binary main_v53 main_v63 main_v64 (cmpi .sge : (⟨S256x1536, .i32⟩ : BufTy).Contents (Elt F) → (⟨S256x1536, .i32⟩ : BufTy).Contents (Elt F) → (⟨S256x1536, .i1⟩ : BufTy).Contents (Elt F)),
    nullary main_c_10 (constantI S_ 32 768#32),
    unary main_c_10 main_v65 (broadcastInDim S256x1536 ![] bcast_S_S256x1536 : (⟨S_, .i32⟩ : BufTy).Contents (Elt F) → (⟨S256x1536, .i32⟩ : BufTy).Contents (Elt F)),
    binary main_v53 main_v65 main_v66 (cmpi .slt : (⟨S256x1536, .i32⟩ : BufTy).Contents (Elt F) → (⟨S256x1536, .i32⟩ : BufTy).Contents (Elt F) → (⟨S256x1536, .i1⟩ : BufTy).Contents (Elt F)),
    binary main_v64 main_v66 main_v67 (andi : (⟨S256x1536, .i1⟩ : BufTy).Contents (Elt F) → (⟨S256x1536, .i1⟩ : BufTy).Contents (Elt F) → (⟨S256x1536, .i1⟩ : BufTy).Contents (Elt F)),
    nullary main_c_11 (constantI S_ 32 800#32),
    unary main_c_11 main_v68 (broadcastInDim S256x1536 ![] bcast_S_S256x1536 : (⟨S_, .i32⟩ : BufTy).Contents (Elt F) → (⟨S256x1536, .i32⟩ : BufTy).Contents (Elt F)),
    binary main_v53 main_v68 main_v69 (cmpi .sge : (⟨S256x1536, .i32⟩ : BufTy).Contents (Elt F) → (⟨S256x1536, .i32⟩ : BufTy).Contents (Elt F) → (⟨S256x1536, .i1⟩ : BufTy).Contents (Elt F)),
    nullary main_c_12 (constantI S_ 32 1280#32),
    unary main_c_12 main_v70 (broadcastInDim S256x1536 ![] bcast_S_S256x1536 : (⟨S_, .i32⟩ : BufTy).Contents (Elt F) → (⟨S256x1536, .i32⟩ : BufTy).Contents (Elt F)),
    binary main_v53 main_v70 main_v71 (cmpi .slt : (⟨S256x1536, .i32⟩ : BufTy).Contents (Elt F) → (⟨S256x1536, .i32⟩ : BufTy).Contents (Elt F) → (⟨S256x1536, .i1⟩ : BufTy).Contents (Elt F)),
    binary main_v69 main_v71 main_v72 (andi : (⟨S256x1536, .i1⟩ : BufTy).Contents (Elt F) → (⟨S256x1536, .i1⟩ : BufTy).Contents (Elt F) → (⟨S256x1536, .i1⟩ : BufTy).Contents (Elt F)) ]

/-- @main's operations 91 … 120 of 185 (window `main_part1`). -/
abbrev ops_part1_1 : List (HloOp τ sig (Elt F)) :=
  [ binary main_v67 main_v72 main_v73 (ori : (⟨S256x1536, .i1⟩ : BufTy).Contents (Elt F) → (⟨S256x1536, .i1⟩ : BufTy).Contents (Elt F) → (⟨S256x1536, .i1⟩ : BufTy).Contents (Elt F)),
    nullary main_c_13 (constantI S_ 32 1312#32),
    unary main_c_13 main_v74 (broadcastInDim S256x1536 ![] bcast_S_S256x1536 : (⟨S_, .i32⟩ : BufTy).Contents (Elt F) → (⟨S256x1536, .i32⟩ : BufTy).Contents (Elt F)),
    binary main_v53 main_v74 main_v75 (cmpi .sge : (⟨S256x1536, .i32⟩ : BufTy).Contents (Elt F) → (⟨S256x1536, .i32⟩ : BufTy).Contents (Elt F) → (⟨S256x1536, .i1⟩ : BufTy).Contents (Elt F)),
    binary main_v73 main_v75 main_v76 (ori : (⟨S256x1536, .i1⟩ : BufTy).Contents (Elt F) → (⟨S256x1536, .i1⟩ : BufTy).Contents (Elt F) → (⟨S256x1536, .i1⟩ : BufTy).Contents (Elt F)),
    nullary main_v77 (iotaInDim S256x3x1536 32 1),
    unary main_v62 main_v78 (broadcastInDim S256x1x1536 ![0, 2] bcast_S256x1536_S256x1x1536_0_2 : (⟨S256x1536, .i32⟩ : BufTy).Contents (Elt F) → (⟨S256x1x1536, .i32⟩ : BufTy).Contents (Elt F)),
    unary main_v78 main_v79 (broadcastInDim S256x3x1536 ![0, 1, 2] bcast_S256x1x1536_S256x3x1536_0_1_2 : (⟨S256x1x1536, .i32⟩ : BufTy).Contents (Elt F) → (⟨S256x3x1536, .i32⟩ : BufTy).Contents (Elt F)),
    binary main_v79 main_v77 main_v80 (cmpi .eq : (⟨S256x3x1536, .i32⟩ : BufTy).Contents (Elt F) → (⟨S256x3x1536, .i32⟩ : BufTy).Contents (Elt F) → (⟨S256x3x1536, .i1⟩ : BufTy).Contents (Elt F)),
    unary main_v76 main_v81 (broadcastInDim S256x1x1536 ![0, 2] bcast_S256x1536_S256x1x1536_0_2 : (⟨S256x1536, .i1⟩ : BufTy).Contents (Elt F) → (⟨S256x1x1536, .i1⟩ : BufTy).Contents (Elt F)),
    unary main_v81 main_v82 (broadcastInDim S256x3x1536 ![0, 1, 2] bcast_S256x1x1536_S256x3x1536_0_1_2 : (⟨S256x1x1536, .i1⟩ : BufTy).Contents (Elt F) → (⟨S256x3x1536, .i1⟩ : BufTy).Contents (Elt F)),
    binary main_v80 main_v82 main_v83 (andi : (⟨S256x3x1536, .i1⟩ : BufTy).Contents (Elt F) → (⟨S256x3x1536, .i1⟩ : BufTy).Contents (Elt F) → (⟨S256x3x1536, .i1⟩ : BufTy).Contents (Elt F)),
    unary main_arg6 main_v84 ((extractStridedSlice S256x12x128 ![0, 0, 0] · slices_S256x16x128_S256x12x128_0_0_0) : (⟨S256x16x128, .f32⟩ : BufTy).Contents (Elt F) → (⟨S256x12x128, .f32⟩ : BufTy).Contents (Elt F)),
    reshape main_v84 main_v85 (rfl : (.f32 : EltTy) = .f32) shapeCasts_S256x12x128_S256x1536,
    nullary main_v86 (iotaInDim S256x3x20 32 1),
    unary main_arg0 main_v87 ((extractStridedSlice S256x1 ![0, 0] · slices_S256x3_S256x1_0_0) : (⟨S256x3, .i32⟩ : BufTy).Contents (Elt F) → (⟨S256x1, .i32⟩ : BufTy).Contents (Elt F)),
    unary main_v87 main_v88 (broadcastInDim S256x1x1 ![0, 1] bcast_S256x1_S256x1x1_0_1 : (⟨S256x1, .i32⟩ : BufTy).Contents (Elt F) → (⟨S256x1x1, .i32⟩ : BufTy).Contents (Elt F)),
    unary main_v88 main_v89 (broadcastInDim S256x3x20 ![0, 1, 2] bcast_S256x1x1_S256x3x20_0_1_2 : (⟨S256x1x1, .i32⟩ : BufTy).Contents (Elt F) → (⟨S256x3x20, .i32⟩ : BufTy).Contents (Elt F)),
    binary main_v89 main_v86 main_v90 (cmpi .eq : (⟨S256x3x20, .i32⟩ : BufTy).Contents (Elt F) → (⟨S256x3x20, .i32⟩ : BufTy).Contents (Elt F) → (⟨S256x3x20, .i1⟩ : BufTy).Contents (Elt F)),
    unary main_arg6 main_v91 ((extractStridedSlice S256x1x20 ![0, 0, 0] · slices_S256x16x128_S256x1x20_0_0_0) : (⟨S256x16x128, .f32⟩ : BufTy).Contents (Elt F) → (⟨S256x1x20, .f32⟩ : BufTy).Contents (Elt F)),
    unary main_arg0 main_v92 ((extractStridedSlice S256x1 ![0, 1] · slices_S256x3_S256x1_0_1) : (⟨S256x3, .i32⟩ : BufTy).Contents (Elt F) → (⟨S256x1, .i32⟩ : BufTy).Contents (Elt F)),
    unary main_v92 main_v93 (broadcastInDim S256x1x1 ![0, 1] bcast_S256x1_S256x1x1_0_1 : (⟨S256x1, .i32⟩ : BufTy).Contents (Elt F) → (⟨S256x1x1, .i32⟩ : BufTy).Contents (Elt F)),
    unary main_v93 main_v94 (broadcastInDim S256x3x20 ![0, 1, 2] bcast_S256x1x1_S256x3x20_0_1_2 : (⟨S256x1x1, .i32⟩ : BufTy).Contents (Elt F) → (⟨S256x3x20, .i32⟩ : BufTy).Contents (Elt F)),
    binary main_v94 main_v86 main_v95 (cmpi .eq : (⟨S256x3x20, .i32⟩ : BufTy).Contents (Elt F) → (⟨S256x3x20, .i32⟩ : BufTy).Contents (Elt F) → (⟨S256x3x20, .i1⟩ : BufTy).Contents (Elt F)),
    unary main_arg6 main_v96 ((extractStridedSlice S256x1x20 ![0, 6, 0] · slices_S256x16x128_S256x1x20_0_6_0) : (⟨S256x16x128, .f32⟩ : BufTy).Contents (Elt F) → (⟨S256x1x20, .f32⟩ : BufTy).Contents (Elt F)),
    unary main_arg6 main_v97 ((extractStridedSlice S256x1x20 ![0, 10, 0] · slices_S256x16x128_S256x1x20_0_10_0) : (⟨S256x16x128, .f32⟩ : BufTy).Contents (Elt F) → (⟨S256x1x20, .f32⟩ : BufTy).Contents (Elt F)),
    TRef.unary (TRef.of (T := ⟨S256x1x20, .f32⟩) main_v96) (TRef.of (T := ⟨S256x3x20, .f32⟩) main_call4_v0) (broadcastInDim S256x3x20 ![0, 1, 2] bcast_S256x1x20_S256x3x20_0_1_2),
    TRef.unary (TRef.of (T := ⟨S256x1x20, .f32⟩) main_v97) (TRef.of (T := ⟨S256x3x20, .f32⟩) main_call4_v1) (broadcastInDim S256x3x20 ![0, 1, 2] bcast_S256x1x20_S256x3x20_0_1_2),
    TRef.ternary (TRef.of (T := ⟨S256x3x20, .i1⟩) main_v95) (TRef.of (T := ⟨S256x3x20, .f32⟩) main_call4_v0) (TRef.of (T := ⟨S256x3x20, .f32⟩) main_call4_v1) (TRef.of (T := ⟨S256x3x20, .f32⟩) main_v98) select,
    TRef.unary (TRef.of (T := ⟨S256x1x20, .f32⟩) main_v91) (TRef.of (T := ⟨S256x3x20, .f32⟩) main_call5_v0) (broadcastInDim S256x3x20 ![0, 1, 2] bcast_S256x1x20_S256x3x20_0_1_2) ]

/-- @main's operations 121 … 126 of 185 (window `main_part1`). -/
abbrev ops_part1_2 : List (HloOp τ sig (Elt F)) :=
  [ TRef.ternary (TRef.of (T := ⟨S256x3x20, .i1⟩) main_v90) (TRef.of (T := ⟨S256x3x20, .f32⟩) main_call5_v0) (TRef.of (T := ⟨S256x3x20, .f32⟩) main_v98) (TRef.of (T := ⟨S256x3x20, .f32⟩) main_v99) select,
    binary main_v2 main_v48 main_v100 ((fun l r => Host.dotGeneral dot_S256x3x160x128_S256x1536x128_S256x3x160x1536_3_2_12_1_0_0 none l r) : (⟨S256x3x160x128, .bf16⟩ : BufTy).Contents (Elt F) → (⟨S256x1536x128, .bf16⟩ : BufTy).Contents (Elt F) → (⟨S256x3x160x1536, .f32⟩ : BufTy).Contents (Elt F)),
    nullary main_cst (constant S_ .f32 0x3DB504F3#32),
    unary main_cst main_v101 (broadcastInDim S256x3x160x1536 ![] bcast_S_S256x3x160x1536 : (⟨S_, .f32⟩ : BufTy).Contents (Elt F) → (⟨S256x3x160x1536, .f32⟩ : BufTy).Contents (Elt F)),
    binary main_v100 main_v101 main_v102 (mulf : (⟨S256x3x160x1536, .f32⟩ : BufTy).Contents (Elt F) → (⟨S256x3x160x1536, .f32⟩ : BufTy).Contents (Elt F) → (⟨S256x3x160x1536, .f32⟩ : BufTy).Contents (Elt F)),
    unary main_v85 main_v103 (broadcastInDim S256x1x1x1536 ![0, 3] bcast_S256x1536_S256x1x1x1536_0_3 : (⟨S256x1536, .f32⟩ : BufTy).Contents (Elt F) → (⟨S256x1x1x1536, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 127 … 185 of 185 (window `main_part2`). -/
abbrev ops_part2 : List (HloOp τ sig (Elt F)) :=
  [ unary main_v103 main_v104 (broadcastInDim S256x3x160x1536 ![0, 1, 2, 3] bcast_S256x1x1x1536_S256x3x160x1536_0_1_2_3 : (⟨S256x1x1x1536, .f32⟩ : BufTy).Contents (Elt F) → (⟨S256x3x160x1536, .f32⟩ : BufTy).Contents (Elt F)),
    binary main_v102 main_v104 main_v105 (addf : (⟨S256x3x160x1536, .f32⟩ : BufTy).Contents (Elt F) → (⟨S256x3x160x1536, .f32⟩ : BufTy).Contents (Elt F) → (⟨S256x3x160x1536, .f32⟩ : BufTy).Contents (Elt F)),
    unary main_v83 main_v106 (broadcastInDim S256x3x1x1536 ![0, 1, 3] bcast_S256x3x1536_S256x3x1x1536_0_1_3 : (⟨S256x3x1536, .i1⟩ : BufTy).Contents (Elt F) → (⟨S256x3x1x1536, .i1⟩ : BufTy).Contents (Elt F)),
    nullary main_cst_14 (constant S_ .f32 0xFF800000#32),
    TRef.unary (TRef.of (T := ⟨S_, .f32⟩) main_cst_14) (TRef.of (T := ⟨S_, .f32⟩) main_call6_v0) id,
    TRef.unary (TRef.of (T := ⟨S256x3x1x1536, .i1⟩) main_v106) (TRef.of (T := ⟨S256x3x160x1536, .i1⟩) main_call6_v1) (broadcastInDim S256x3x160x1536 ![0, 1, 2, 3] bcast_S256x3x1x1536_S256x3x160x1536_0_1_2_3),
    TRef.unary (TRef.of (T := ⟨S_, .f32⟩) main_call6_v0) (TRef.of (T := ⟨S256x3x160x1536, .f32⟩) main_call6_v2) (broadcastInDim S256x3x160x1536 ![] bcast_S_S256x3x160x1536),
    TRef.ternary (TRef.of (T := ⟨S256x3x160x1536, .i1⟩) main_call6_v1) (TRef.of (T := ⟨S256x3x160x1536, .f32⟩) main_v105) (TRef.of (T := ⟨S256x3x160x1536, .f32⟩) main_call6_v2) (TRef.of (T := ⟨S256x3x160x1536, .f32⟩) main_v107) select,
    binary main_v2 main_v3 main_v108 ((fun l r => Host.dotGeneral dot_S256x3x160x128_S256x3x20x128_S256x3x160x20_3_3_2_2_01_01 none l r) : (⟨S256x3x160x128, .bf16⟩ : BufTy).Contents (Elt F) → (⟨S256x3x20x128, .bf16⟩ : BufTy).Contents (Elt F) → (⟨S256x3x160x20, .f32⟩ : BufTy).Contents (Elt F)),
    nullary main_cst_15 (constant S_ .f32 0x3DB504F3#32),
    unary main_cst_15 main_v109 (broadcastInDim S256x3x160x20 ![] bcast_S_S256x3x160x20 : (⟨S_, .f32⟩ : BufTy).Contents (Elt F) → (⟨S256x3x160x20, .f32⟩ : BufTy).Contents (Elt F)),
    binary main_v108 main_v109 main_v110 (mulf : (⟨S256x3x160x20, .f32⟩ : BufTy).Contents (Elt F) → (⟨S256x3x160x20, .f32⟩ : BufTy).Contents (Elt F) → (⟨S256x3x160x20, .f32⟩ : BufTy).Contents (Elt F)),
    unary main_v99 main_v111 (broadcastInDim S256x3x1x20 ![0, 1, 3] bcast_S256x3x20_S256x3x1x20_0_1_3 : (⟨S256x3x20, .f32⟩ : BufTy).Contents (Elt F) → (⟨S256x3x1x20, .f32⟩ : BufTy).Contents (Elt F)),
    unary main_v111 main_v112 (broadcastInDim S256x3x160x20 ![0, 1, 2, 3] bcast_S256x3x1x20_S256x3x160x20_0_1_2_3 : (⟨S256x3x1x20, .f32⟩ : BufTy).Contents (Elt F) → (⟨S256x3x160x20, .f32⟩ : BufTy).Contents (Elt F)),
    binary main_v110 main_v112 main_v113 (addf : (⟨S256x3x160x20, .f32⟩ : BufTy).Contents (Elt F) → (⟨S256x3x160x20, .f32⟩ : BufTy).Contents (Elt F) → (⟨S256x3x160x20, .f32⟩ : BufTy).Contents (Elt F)),
    nullary main_v114 (iotaInDim S8x20x20 32 1),
    reshape main_v114 main_v115 (rfl : (.i32 : EltTy) = .i32) shapeCasts_S8x20x20_S160x20,
    nullary main_v116 (iotaInDim S160x20 32 1),
    binary main_v116 main_v115 main_v117 (cmpi .sle : (⟨S160x20, .i32⟩ : BufTy).Contents (Elt F) → (⟨S160x20, .i32⟩ : BufTy).Contents (Elt F) → (⟨S160x20, .i1⟩ : BufTy).Contents (Elt F)),
    nullary main_cst_16 (constant S_ .f32 0xFF800000#32),
    TRef.unary (TRef.of (T := ⟨S_, .f32⟩) main_cst_16) (TRef.of (T := ⟨S_, .f32⟩) main_call7_v0) id,
    TRef.unary (TRef.of (T := ⟨S160x20, .i1⟩) main_v117) (TRef.of (T := ⟨S256x3x160x20, .i1⟩) main_call7_v1) (broadcastInDim S256x3x160x20 ![2, 3] bcast_S160x20_S256x3x160x20_2_3),
    TRef.unary (TRef.of (T := ⟨S_, .f32⟩) main_call7_v0) (TRef.of (T := ⟨S256x3x160x20, .f32⟩) main_call7_v2) (broadcastInDim S256x3x160x20 ![] bcast_S_S256x3x160x20),
    TRef.ternary (TRef.of (T := ⟨S256x3x160x20, .i1⟩) main_call7_v1) (TRef.of (T := ⟨S256x3x160x20, .f32⟩) main_v113) (TRef.of (T := ⟨S256x3x160x20, .f32⟩) main_call7_v2) (TRef.of (T := ⟨S256x3x160x20, .f32⟩) main_v118) select,
    nullary main_cst_17 (constant S_ .f32 0xFF800000#32),
    binary main_v107 main_cst_17 main_v119 ((fun x v => Host.reduce FloatOps.maximumf x v reducesTo_S256x3x160x1536_S256x3x160_d3 h_S_) : (⟨S256x3x160x1536, .f32⟩ : BufTy).Contents (Elt F) → (⟨S_, .f32⟩ : BufTy).Contents (Elt F) → (⟨S256x3x160, .f32⟩ : BufTy).Contents (Elt F)),
    nullary main_cst_18 (constant S_ .f32 0xFF800000#32),
    binary main_v118 main_cst_18 main_v120 ((fun x v => Host.reduce FloatOps.maximumf x v reducesTo_S256x3x160x20_S256x3x160_d3 h_S_) : (⟨S256x3x160x20, .f32⟩ : BufTy).Contents (Elt F) → (⟨S_, .f32⟩ : BufTy).Contents (Elt F) → (⟨S256x3x160, .f32⟩ : BufTy).Contents (Elt F)),
    binary main_v119 main_v120 main_v121 (maximumf : (⟨S256x3x160, .f32⟩ : BufTy).Contents (Elt F) → (⟨S256x3x160, .f32⟩ : BufTy).Contents (Elt F) → (⟨S256x3x160, .f32⟩ : BufTy).Contents (Elt F)),
    unary main_v121 main_v122 (broadcastInDim S256x3x160x1 ![0, 1, 2] bcast_S256x3x160_S256x3x160x1_0_1_2 : (⟨S256x3x160, .f32⟩ : BufTy).Contents (Elt F) → (⟨S256x3x160x1, .f32⟩ : BufTy).Contents (Elt F)),
    unary main_v122 main_v123 (broadcastInDim S256x3x160x1536 ![0, 1, 2, 3] bcast_S256x3x160x1_S256x3x160x1536_0_1_2_3 : (⟨S256x3x160x1, .f32⟩ : BufTy).Contents (Elt F) → (⟨S256x3x160x1536, .f32⟩ : BufTy).Contents (Elt F)),
    binary main_v107 main_v123 main_v124 (subf : (⟨S256x3x160x1536, .f32⟩ : BufTy).Contents (Elt F) → (⟨S256x3x160x1536, .f32⟩ : BufTy).Contents (Elt F) → (⟨S256x3x160x1536, .f32⟩ : BufTy).Contents (Elt F)),
    unary main_v124 main_v125 (Host.exp : (⟨S256x3x160x1536, .f32⟩ : BufTy).Contents (Elt F) → (⟨S256x3x160x1536, .f32⟩ : BufTy).Contents (Elt F)),
    unary main_v121 main_v126 (broadcastInDim S256x3x160x1 ![0, 1, 2] bcast_S256x3x160_S256x3x160x1_0_1_2 : (⟨S256x3x160, .f32⟩ : BufTy).Contents (Elt F) → (⟨S256x3x160x1, .f32⟩ : BufTy).Contents (Elt F)),
    unary main_v126 main_v127 (broadcastInDim S256x3x160x20 ![0, 1, 2, 3] bcast_S256x3x160x1_S256x3x160x20_0_1_2_3 : (⟨S256x3x160x1, .f32⟩ : BufTy).Contents (Elt F) → (⟨S256x3x160x20, .f32⟩ : BufTy).Contents (Elt F)),
    binary main_v118 main_v127 main_v128 (subf : (⟨S256x3x160x20, .f32⟩ : BufTy).Contents (Elt F) → (⟨S256x3x160x20, .f32⟩ : BufTy).Contents (Elt F) → (⟨S256x3x160x20, .f32⟩ : BufTy).Contents (Elt F)),
    unary main_v128 main_v129 (Host.exp : (⟨S256x3x160x20, .f32⟩ : BufTy).Contents (Elt F) → (⟨S256x3x160x20, .f32⟩ : BufTy).Contents (Elt F)),
    nullary main_cst_19 (constant S_ .f32 0x00000000#32),
    binary main_v125 main_cst_19 main_v130 ((fun x v => Host.reduceAdd x v reducesTo_S256x3x160x1536_S256x3x160_d3 h_S_) : (⟨S256x3x160x1536, .f32⟩ : BufTy).Contents (Elt F) → (⟨S_, .f32⟩ : BufTy).Contents (Elt F) → (⟨S256x3x160, .f32⟩ : BufTy).Contents (Elt F)),
    nullary main_cst_20 (constant S_ .f32 0x00000000#32),
    binary main_v129 main_cst_20 main_v131 ((fun x v => Host.reduceAdd x v reducesTo_S256x3x160x20_S256x3x160_d3 h_S_) : (⟨S256x3x160x20, .f32⟩ : BufTy).Contents (Elt F) → (⟨S_, .f32⟩ : BufTy).Contents (Elt F) → (⟨S256x3x160, .f32⟩ : BufTy).Contents (Elt F)),
    binary main_v130 main_v131 main_v132 (addf : (⟨S256x3x160, .f32⟩ : BufTy).Contents (Elt F) → (⟨S256x3x160, .f32⟩ : BufTy).Contents (Elt F) → (⟨S256x3x160, .f32⟩ : BufTy).Contents (Elt F)),
    nullary main_cst_21 (constant S_ .f32 0x3F800000#32),
    unary main_cst_21 main_v133 (broadcastInDim S256x3x160 ![] bcast_S_S256x3x160 : (⟨S_, .f32⟩ : BufTy).Contents (Elt F) → (⟨S256x3x160, .f32⟩ : BufTy).Contents (Elt F)),
    binary main_v133 main_v132 main_v134 (Host.divf : (⟨S256x3x160, .f32⟩ : BufTy).Contents (Elt F) → (⟨S256x3x160, .f32⟩ : BufTy).Contents (Elt F) → (⟨S256x3x160, .f32⟩ : BufTy).Contents (Elt F)),
    unary main_v134 main_v135 (broadcastInDim S256x3x160x1 ![0, 1, 2] bcast_S256x3x160_S256x3x160x1_0_1_2 : (⟨S256x3x160, .f32⟩ : BufTy).Contents (Elt F) → (⟨S256x3x160x1, .f32⟩ : BufTy).Contents (Elt F)),
    unary main_v135 main_v136 (broadcastInDim S256x3x160x1536 ![0, 1, 2, 3] bcast_S256x3x160x1_S256x3x160x1536_0_1_2_3 : (⟨S256x3x160x1, .f32⟩ : BufTy).Contents (Elt F) → (⟨S256x3x160x1536, .f32⟩ : BufTy).Contents (Elt F)),
    binary main_v125 main_v136 main_v137 (mulf : (⟨S256x3x160x1536, .f32⟩ : BufTy).Contents (Elt F) → (⟨S256x3x160x1536, .f32⟩ : BufTy).Contents (Elt F) → (⟨S256x3x160x1536, .f32⟩ : BufTy).Contents (Elt F)),
    unary main_v137 main_v138 ((truncf .bf16 · bitsLt_bf16_f32) : (⟨S256x3x160x1536, .f32⟩ : BufTy).Contents (Elt F) → (⟨S256x3x160x1536, .bf16⟩ : BufTy).Contents (Elt F)),
    unary main_v134 main_v139 (broadcastInDim S256x3x160x1 ![0, 1, 2] bcast_S256x3x160_S256x3x160x1_0_1_2 : (⟨S256x3x160, .f32⟩ : BufTy).Contents (Elt F) → (⟨S256x3x160x1, .f32⟩ : BufTy).Contents (Elt F)),
    unary main_v139 main_v140 (broadcastInDim S256x3x160x20 ![0, 1, 2, 3] bcast_S256x3x160x1_S256x3x160x20_0_1_2_3 : (⟨S256x3x160x1, .f32⟩ : BufTy).Contents (Elt F) → (⟨S256x3x160x20, .f32⟩ : BufTy).Contents (Elt F)),
    binary main_v129 main_v140 main_v141 (mulf : (⟨S256x3x160x20, .f32⟩ : BufTy).Contents (Elt F) → (⟨S256x3x160x20, .f32⟩ : BufTy).Contents (Elt F) → (⟨S256x3x160x20, .f32⟩ : BufTy).Contents (Elt F)),
    unary main_v141 main_v142 ((truncf .bf16 · bitsLt_bf16_f32) : (⟨S256x3x160x20, .f32⟩ : BufTy).Contents (Elt F) → (⟨S256x3x160x20, .bf16⟩ : BufTy).Contents (Elt F)),
    binary main_v138 main_v52 main_v143 ((fun l r => Host.dotGeneral dot_S256x3x160x1536_S256x1536x128_S256x3x160x128_3_1_12_2_0_0 none l r) : (⟨S256x3x160x1536, .bf16⟩ : BufTy).Contents (Elt F) → (⟨S256x1536x128, .bf16⟩ : BufTy).Contents (Elt F) → (⟨S256x3x160x128, .f32⟩ : BufTy).Contents (Elt F)),
    binary main_v142 main_v4 main_v144 ((fun l r => Host.dotGeneral dot_S256x3x160x20_S256x3x20x128_S256x3x160x128_3_2_2_3_01_01 none l r) : (⟨S256x3x160x20, .bf16⟩ : BufTy).Contents (Elt F) → (⟨S256x3x20x128, .bf16⟩ : BufTy).Contents (Elt F) → (⟨S256x3x160x128, .f32⟩ : BufTy).Contents (Elt F)),
    binary main_v143 main_v144 main_v145 (addf : (⟨S256x3x160x128, .f32⟩ : BufTy).Contents (Elt F) → (⟨S256x3x160x128, .f32⟩ : BufTy).Contents (Elt F) → (⟨S256x3x160x128, .f32⟩ : BufTy).Contents (Elt F)),
    reshape main_v145 main_v146 (rfl : (.f32 : EltTy) = .f32) shapeCasts_S256x3x160x128_S256x3x8x20x128,
    unary main_v146 main_v147 ((transpose S256x20x3x8x128 [0, 3, 1, 2, 4] · transposes_S256x3x8x20x128_S256x20x3x8x128_0_3_1_2_4) : (⟨S256x3x8x20x128, .f32⟩ : BufTy).Contents (Elt F) → (⟨S256x20x3x8x128, .f32⟩ : BufTy).Contents (Elt F)),
    unary main_v147 main_v148 ((truncf .bf16 · bitsLt_bf16_f32) : (⟨S256x20x3x8x128, .f32⟩ : BufTy).Contents (Elt F) → (⟨S256x20x3x8x128, .bf16⟩ : BufTy).Contents (Elt F)) ]

/-- @main's 185 operations, in order (a called function's operations stand in its call's place, spelt `TRef.…`). -/
abbrev ops : List (HloOp τ sig (Elt F)) :=
  ops_part0 ++ (ops_part1 ++ (ops_part2))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := by
  simp only [main_part1, ops_part1, ops_part1_0, ops_part1_1, ops_part1_2, List.cons_append, List.nil_append, seq, fn_where_1.body, fn_where_2.body, fn_where_3.body, fn_where_4.body, bind_assoc, pure_bind]
  rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨reshape_bufs_sub .., unary_bufs_sub .., reshape_bufs_sub .., unary_bufs_sub .., unary_bufs_sub .., reshape_bufs_sub .., unary_bufs_sub .., unary_bufs_sub .., unary_bufs_sub .., unary_bufs_sub .., unary_bufs_sub .., unary_bufs_sub .., unary_bufs_sub .., reshape_bufs_sub .., nullary_bufs_sub .., unary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., unary_bufs_sub .., nullary_bufs_sub .., unary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., unary_bufs_sub .., unary_bufs_sub .., binary_bufs_sub .., reshape_bufs_sub .., reshape_bufs_sub .., unary_bufs_sub .., binary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨reshape_bufs_sub .., nullary_bufs_sub .., nullary_bufs_sub .., unary_bufs_sub .., binary_bufs_sub .., unary_bufs_sub .., nullary_bufs_sub .., unary_bufs_sub .., binary_bufs_sub .., unary_bufs_sub .., unary_bufs_sub .., unary_bufs_sub .., unary_bufs_sub .., ternary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., ternary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨ternary_bufs_sub .., binary_bufs_sub .., nullary_bufs_sub .., unary_bufs_sub .., binary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., binary_bufs_sub .., unary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., binary_bufs_sub .., nullary_bufs_sub .., reshape_bufs_sub .., nullary_bufs_sub .., binary_bufs_sub .., nullary_bufs_sub .., unary_bufs_sub .., unary_bufs_sub .., unary_bufs_sub .., ternary_bufs_sub .., nullary_bufs_sub .., binary_bufs_sub .., nullary_bufs_sub .., binary_bufs_sub .., binary_bufs_sub .., unary_bufs_sub .., unary_bufs_sub .., binary_bufs_sub .., unary_bufs_sub .., unary_bufs_sub .., unary_bufs_sub .., binary_bufs_sub .., unary_bufs_sub .., nullary_bufs_sub .., binary_bufs_sub .., nullary_bufs_sub .., binary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., unary_bufs_sub .., binary_bufs_sub .., binary_bufs_sub .., binary_bufs_sub .., reshape_bufs_sub .., unary_bufs_sub .., unary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, List.mem_append, or_assoc] at h
    rcases h with h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part1, List.mem_append, or_assoc] at h
    rcases h with h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- `main_v2`'s composed term of the arguments (named: it is used 2 times). -/
def res_main_v2 (V0 : Valuation τ sig (Elt F)) : (Proc.devRef .tc main_v2 : DevRef τ sig).ty.Contents (Elt F) :=
  shapeCast _ (transpose S256x3x8x20x128 [0, 2, 3, 1, 4] (shapeCast _ (V0 (Proc.devRef .tc main_arg1)) shapeCasts_S256x20x24x128_S256x20x3x8x128) transposes_S256x20x3x8x128_S256x3x8x20x128_0_2_3_1_4) shapeCasts_S256x3x8x20x128_S256x3x160x128

set_option maxRecDepth 8192 in
/-- `main_v5`'s composed term of the arguments (named: it is used 2 times). -/
def res_main_v5 (V0 : Valuation τ sig (Elt F)) : (Proc.devRef .tc main_v5 : DevRef τ sig).ty.Contents (Elt F) :=
  shapeCast _ (V0 (Proc.devRef .tc main_arg5)) shapeCasts_S3072x24x128_S256x12x24x128

set_option maxRecDepth 8192 in
/-- `main_v8`'s composed term of the arguments (named: it is used 2 times). -/
def res_main_v8 (V0 : Valuation τ sig (Elt F)) : (Proc.devRef .tc main_v8 : DevRef τ sig).ty.Contents (Elt F) :=
  transpose S256x12x128x8x2 [0, 1, 3, 2, 4] (bitcastToFloat (F := F) .bf16 (Host.bitcastConvertNarrow S256x12x8x128x2 16 (extractStridedSlice S256x12x8x128 ![0, 0, 16, 0] (res_main_v5 V0) slices_S256x12x24x128_S256x12x8x128_0_0_16_0) splits_S256x12x8x128_w32_S256x12x8x128x2_w16)) transposes_S256x12x8x128x2_S256x12x128x8x2_0_1_3_2_4

set_option maxRecDepth 8192 in
/-- `main_v21`'s composed term of the arguments (named: it is used 3 times). -/
def res_main_v21 (V0 : Valuation τ sig (Elt F)) : (Proc.devRef .tc main_v21 : DevRef τ sig).ty.Contents (Elt F) :=
  andi (Host.shrui (broadcastInDim S256x192x8x128 ![0, 1, 2, 3] bcast_S256x192x1x128_S256x192x8x128_0_1_2_3 (broadcastInDim S256x192x1x128 ![0, 1, 3] bcast_S256x192x128_S256x192x1x128_0_1_3 (shapeCast _ (V0 (Proc.devRef .tc main_arg4)) shapeCasts_S24576x2x128_S256x192x128))) (muli (broadcastInDim S256x192x8x128 ![] bcast_S_S256x192x8x128 (constantI S_ 32 4#32)) (iotaInDim S256x192x8x128 32 2))) (broadcastInDim S256x192x8x128 ![] bcast_S_S256x192x8x128 (constantI S_ 32 15#32))

set_option maxRecDepth 8192 in
/-- `main_v37`'s composed term of the arguments (named: it is used 3 times). -/
def res_main_v37 (V0 : Valuation τ sig (Elt F)) : (Proc.devRef .tc main_v37 : DevRef τ sig).ty.Contents (Elt F) :=
  andi (Host.shrui (broadcastInDim S256x12x16x8x128 ![0, 1, 2, 3, 4] bcast_S256x12x16x1x128_S256x12x16x8x128_0_1_2_3_4 (broadcastInDim S256x12x16x1x128 ![0, 1, 2, 4] bcast_S256x12x16x128_S256x12x16x1x128_0_1_2_4 (extractStridedSlice S256x12x16x128 ![0, 0, 0, 0] (res_main_v5 V0) slices_S256x12x24x128_S256x12x16x128_0_0_0_0))) (muli (broadcastInDim S256x12x16x8x128 ![] bcast_S_S256x12x16x8x128 (constantI S_ 32 4#32)) (iotaInDim S256x12x16x8x128 32 3))) (broadcastInDim S256x12x16x8x128 ![] bcast_S_S256x12x16x8x128 (constantI S_ 32 15#32))

set_option maxRecDepth 8192 in
/-- `main_v53`'s composed term of the arguments (named: it is used 7 times). -/
def res_main_v53 (V0 : Valuation τ sig (Elt F)) : (Proc.devRef .tc main_v53 : DevRef τ sig).ty.Contents (Elt F) :=
  iotaInDim S256x1536 32 1

set_option maxRecDepth 8192 in
/-- `main_v86`'s composed term of the arguments (named: it is used 2 times). -/
def res_main_v86 (V0 : Valuation τ sig (Elt F)) : (Proc.devRef .tc main_v86 : DevRef τ sig).ty.Contents (Elt F) :=
  iotaInDim S256x3x20 32 1

set_option maxRecDepth 8192 in
/-- `main_v107`'s composed term of the arguments (named: it is used 2 times). -/
def res_main_v107 (V0 : Valuation τ sig (Elt F)) : (Proc.devRef .tc main_v107 : DevRef τ sig).ty.Contents (Elt F) :=
  select (broadcastInDim S256x3x160x1536 ![0, 1, 2, 3] bcast_S256x3x1x1536_S256x3x160x1536_0_1_2_3 (broadcastInDim S256x3x1x1536 ![0, 1, 3] bcast_S256x3x1536_S256x3x1x1536_0_1_3 (andi (cmpi .eq (broadcastInDim S256x3x1536 ![0, 1, 2] bcast_S256x1x1536_S256x3x1536_0_1_2 (broadcastInDim S256x1x1536 ![0, 2] bcast_S256x1536_S256x1x1536_0_2 (select (cmpi .slt (res_main_v53 V0) (broadcastInDim S256x1536 ![] bcast_S_S256x1536 (constantI S_ 32 768#32))) (broadcastInDim S256x1536 ![0, 1] bcast_S256x1_S256x1536_0_1 (extractStridedSlice S256x1 ![0, 0] (V0 (Proc.devRef .tc main_arg0)) slices_S256x3_S256x1_0_0)) (select (cmpi .slt (res_main_v53 V0) (broadcastInDim S256x1536 ![] bcast_S_S256x1536 (constantI S_ 32 1280#32))) (broadcastInDim S256x1536 ![0, 1] bcast_S256x1_S256x1536_0_1 (extractStridedSlice S256x1 ![0, 1] (V0 (Proc.devRef .tc main_arg0)) slices_S256x3_S256x1_0_1)) (broadcastInDim S256x1536 ![0, 1] bcast_S256x1_S256x1536_0_1 (extractStridedSlice S256x1 ![0, 2] (V0 (Proc.devRef .tc main_arg0)) slices_S256x3_S256x1_0_2)))))) (iotaInDim S256x3x1536 32 1)) (broadcastInDim S256x3x1536 ![0, 1, 2] bcast_S256x1x1536_S256x3x1536_0_1_2 (broadcastInDim S256x1x1536 ![0, 2] bcast_S256x1536_S256x1x1536_0_2 (ori (ori (andi (cmpi .sge (res_main_v53 V0) (broadcastInDim S256x1536 ![] bcast_S_S256x1536 (constantI S_ 32 32#32))) (cmpi .slt (res_main_v53 V0) (broadcastInDim S256x1536 ![] bcast_S_S256x1536 (constantI S_ 32 768#32)))) (andi (cmpi .sge (res_main_v53 V0) (broadcastInDim S256x1536 ![] bcast_S_S256x1536 (constantI S_ 32 800#32))) (cmpi .slt (res_main_v53 V0) (broadcastInDim S256x1536 ![] bcast_S_S256x1536 (constantI S_ 32 1280#32))))) (cmpi .sge (res_main_v53 V0) (broadcastInDim S256x1536 ![] bcast_S_S256x1536 (constantI S_ 32 1312#32))))))))) (addf (mulf (Host.dotGeneral dot_S256x3x160x128_S256x1536x128_S256x3x160x1536_3_2_12_1_0_0 none (res_main_v2 V0) (shapeCast _ (mulf (shapeCast _ (sitofp .bf16 (select (cmpi .sge (res_main_v21 V0) (broadcastInDim S256x192x8x128 ![] bcast_S_S256x192x8x128 (constantI S_ 32 8#32))) (subi (res_main_v21 V0) (broadcastInDim S256x192x8x128 ![] bcast_S_S256x192x8x128 (constantI S_ 32 16#32))) (res_main_v21 V0))) shapeCasts_S256x192x8x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 0, 0] (res_main_v8 V0) slices_S256x12x128x8x2_S256x12x128x4x2_0_0_0_0_0)))) shapeCasts_S256x12x128x4x16x2_S256x1536x128)) (broadcastInDim S256x3x160x1536 ![] bcast_S_S256x3x160x1536 (constant S_ .f32 0x3DB504F3#32))) (broadcastInDim S256x3x160x1536 ![0, 1, 2, 3] bcast_S256x1x1x1536_S256x3x160x1536_0_1_2_3 (broadcastInDim S256x1x1x1536 ![0, 3] bcast_S256x1536_S256x1x1x1536_0_3 (shapeCast _ (extractStridedSlice S256x12x128 ![0, 0, 0] (V0 (Proc.devRef .tc main_arg6)) slices_S256x16x128_S256x12x128_0_0_0) shapeCasts_S256x12x128_S256x1536)))) (broadcastInDim S256x3x160x1536 ![] bcast_S_S256x3x160x1536 (id (constant S_ .f32 0xFF800000#32)))

set_option maxRecDepth 8192 in
/-- `main_v118`'s composed term of the arguments (named: it is used 2 times). -/
def res_main_v118 (V0 : Valuation τ sig (Elt F)) : (Proc.devRef .tc main_v118 : DevRef τ sig).ty.Contents (Elt F) :=
  select (broadcastInDim S256x3x160x20 ![2, 3] bcast_S160x20_S256x3x160x20_2_3 (cmpi .sle (iotaInDim S160x20 32 1) (shapeCast _ (iotaInDim S8x20x20 32 1) shapeCasts_S8x20x20_S160x20))) (addf (mulf (Host.dotGeneral dot_S256x3x160x128_S256x3x20x128_S256x3x160x20_3_3_2_2_01_01 none (res_main_v2 V0) (transpose S256x3x20x128 [0, 2, 1, 3] (V0 (Proc.devRef .tc main_arg2)) transposes_S256x20x3x128_S256x3x20x128_0_2_1_3)) (broadcastInDim S256x3x160x20 ![] bcast_S_S256x3x160x20 (constant S_ .f32 0x3DB504F3#32))) (broadcastInDim S256x3x160x20 ![0, 1, 2, 3] bcast_S256x3x1x20_S256x3x160x20_0_1_2_3 (broadcastInDim S256x3x1x20 ![0, 1, 3] bcast_S256x3x20_S256x3x1x20_0_1_3 (select (cmpi .eq (broadcastInDim S256x3x20 ![0, 1, 2] bcast_S256x1x1_S256x3x20_0_1_2 (broadcastInDim S256x1x1 ![0, 1] bcast_S256x1_S256x1x1_0_1 (extractStridedSlice S256x1 ![0, 0] (V0 (Proc.devRef .tc main_arg0)) slices_S256x3_S256x1_0_0))) (res_main_v86 V0)) (broadcastInDim S256x3x20 ![0, 1, 2] bcast_S256x1x20_S256x3x20_0_1_2 (extractStridedSlice S256x1x20 ![0, 0, 0] (V0 (Proc.devRef .tc main_arg6)) slices_S256x16x128_S256x1x20_0_0_0)) (select (cmpi .eq (broadcastInDim S256x3x20 ![0, 1, 2] bcast_S256x1x1_S256x3x20_0_1_2 (broadcastInDim S256x1x1 ![0, 1] bcast_S256x1_S256x1x1_0_1 (extractStridedSlice S256x1 ![0, 1] (V0 (Proc.devRef .tc main_arg0)) slices_S256x3_S256x1_0_1))) (res_main_v86 V0)) (broadcastInDim S256x3x20 ![0, 1, 2] bcast_S256x1x20_S256x3x20_0_1_2 (extractStridedSlice S256x1x20 ![0, 6, 0] (V0 (Proc.devRef .tc main_arg6)) slices_S256x16x128_S256x1x20_0_6_0)) (broadcastInDim S256x3x20 ![0, 1, 2] bcast_S256x1x20_S256x3x20_0_1_2 (extractStridedSlice S256x1x20 ![0, 10, 0] (V0 (Proc.devRef .tc main_arg6)) slices_S256x16x128_S256x1x20_0_10_0))))))) (broadcastInDim S256x3x160x20 ![] bcast_S_S256x3x160x20 (id (constant S_ .f32 0xFF800000#32)))

set_option maxRecDepth 8192 in
/-- `main_v121`'s composed term of the arguments (named: it is used 2 times). -/
def res_main_v121 (V0 : Valuation τ sig (Elt F)) : (Proc.devRef .tc main_v121 : DevRef τ sig).ty.Contents (Elt F) :=
  maximumf (Host.reduce FloatOps.maximumf (res_main_v107 V0) (constant S_ .f32 0xFF800000#32) reducesTo_S256x3x160x1536_S256x3x160_d3 h_S_) (Host.reduce FloatOps.maximumf (res_main_v118 V0) (constant S_ .f32 0xFF800000#32) reducesTo_S256x3x160x20_S256x3x160_d3 h_S_)

set_option maxRecDepth 8192 in
/-- `main_v125`'s composed term of the arguments (named: it is used 2 times). -/
def res_main_v125 (V0 : Valuation τ sig (Elt F)) : (Proc.devRef .tc main_v125 : DevRef τ sig).ty.Contents (Elt F) :=
  Host.exp (subf (res_main_v107 V0) (broadcastInDim S256x3x160x1536 ![0, 1, 2, 3] bcast_S256x3x160x1_S256x3x160x1536_0_1_2_3 (broadcastInDim S256x3x160x1 ![0, 1, 2] bcast_S256x3x160_S256x3x160x1_0_1_2 (res_main_v121 V0))))

set_option maxRecDepth 8192 in
/-- `main_v129`'s composed term of the arguments (named: it is used 2 times). -/
def res_main_v129 (V0 : Valuation τ sig (Elt F)) : (Proc.devRef .tc main_v129 : DevRef τ sig).ty.Contents (Elt F) :=
  Host.exp (subf (res_main_v118 V0) (broadcastInDim S256x3x160x20 ![0, 1, 2, 3] bcast_S256x3x160x1_S256x3x160x20_0_1_2_3 (broadcastInDim S256x3x160x1 ![0, 1, 2] bcast_S256x3x160_S256x3x160x1_0_1_2 (res_main_v121 V0))))

set_option maxRecDepth 8192 in
/-- `main_v134`'s composed term of the arguments (named: it is used 2 times). -/
def res_main_v134 (V0 : Valuation τ sig (Elt F)) : (Proc.devRef .tc main_v134 : DevRef τ sig).ty.Contents (Elt F) :=
  Host.divf (broadcastInDim S256x3x160 ![] bcast_S_S256x3x160 (constant S_ .f32 0x3F800000#32)) (addf (Host.reduceAdd (res_main_v125 V0) (constant S_ .f32 0x00000000#32) reducesTo_S256x3x160x1536_S256x3x160_d3 h_S_) (Host.reduceAdd (res_main_v129 V0) (constant S_ .f32 0x00000000#32) reducesTo_S256x3x160x20_S256x3x160_d3 h_S_))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_v5, main_v6, main_v7, main_v8, main_v9, main_v10, main_v11, main_v12, main_v13, main_v14, main_v15, main_v16, main_c, main_v17, main_v18, main_v19, main_c_0, main_v20, main_v21, main_c_1, main_v22, main_v23, main_c_2, main_v24, main_v25, main_v26, main_v27, main_v28, main_v29, main_v30, main_v31, main_v32, main_c_3, main_v33, main_v34, main_v35, main_c_4, main_v36, main_v37, main_c_5, main_v38, main_v39, main_c_6, main_v40, main_v41, main_v42, main_v43, main_v44, main_v45, main_v46, main_v47, main_v48, main_v49, main_v50, main_v51]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
set_option maxRecDepth 8192 in
set_option maxHeartbeats 2000000 in
theorem val1_main_v2 (V0 : Valuation τ sig (Elt F)) : val1 V0 (no_index (Proc.devRef .tc main_v2)) = res_main_v2 V0 := by
  unfold val1
  simp only [ops_part0, TRef.ternary, TRef.toBuf, TRef.ofBuf, cast_eq]
  after_results_simp
  simp only [val0_main_arg1] <;> rfl
set_option maxRecDepth 8192 in
set_option maxHeartbeats 2000000 in
theorem val1_main_v3 (V0 : Valuation τ sig (Elt F)) : val1 V0 (no_index (Proc.devRef .tc main_v3)) = transpose S256x3x20x128 [0, 2, 1, 3] (V0 (Proc.devRef .tc main_arg2)) transposes_S256x20x3x128_S256x3x20x128_0_2_1_3 := by
  unfold val1
  simp only [ops_part0, TRef.ternary, TRef.toBuf, TRef.ofBuf, cast_eq]
  after_results_simp
  simp only [val0_main_arg2] <;> rfl
set_option maxRecDepth 8192 in
set_option maxHeartbeats 2000000 in
theorem val1_main_v4 (V0 : Valuation τ sig (Elt F)) : val1 V0 (no_index (Proc.devRef .tc main_v4)) = transpose S256x3x20x128 [0, 2, 1, 3] (V0 (Proc.devRef .tc main_arg3)) transposes_S256x20x3x128_S256x3x20x128_0_2_1_3 := by
  unfold val1
  simp only [ops_part0, TRef.ternary, TRef.toBuf, TRef.ofBuf, cast_eq]
  after_results_simp
  simp only [val0_main_arg3] <;> rfl
set_option maxRecDepth 8192 in
set_option maxHeartbeats 2000000 in
theorem val1_main_v48 (V0 : Valuation τ sig (Elt F)) : val1 V0 (no_index (Proc.devRef .tc main_v48)) = shapeCast _ (mulf (shapeCast _ (sitofp .bf16 (select (cmpi .sge (res_main_v21 V0) (broadcastInDim S256x192x8x128 ![] bcast_S_S256x192x8x128 (constantI S_ 32 8#32))) (subi (res_main_v21 V0) (broadcastInDim S256x192x8x128 ![] bcast_S_S256x192x8x128 (constantI S_ 32 16#32))) (res_main_v21 V0))) shapeCasts_S256x192x8x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 0, 0] (res_main_v8 V0) slices_S256x12x128x8x2_S256x12x128x4x2_0_0_0_0_0)))) shapeCasts_S256x12x128x4x16x2_S256x1536x128 := by
  unfold val1
  simp only [ops_part0, TRef.ternary, TRef.toBuf, TRef.ofBuf, cast_eq]
  after_results_simp
  simp only [val0_main_arg5, val0_main_arg4] <;> rfl
set_option maxRecDepth 8192 in
set_option maxHeartbeats 2000000 in
theorem val1_main_v51 (V0 : Valuation τ sig (Elt F)) : val1 V0 (no_index (Proc.devRef .tc main_v51)) = mulf (shapeCast _ (transpose S256x12x128x128 [0, 1, 3, 2] (shapeCast _ (sitofp .bf16 (select (cmpi .sge (res_main_v37 V0) (broadcastInDim S256x12x16x8x128 ![] bcast_S_S256x12x16x8x128 (constantI S_ 32 8#32))) (subi (res_main_v37 V0) (broadcastInDim S256x12x16x8x128 ![] bcast_S_S256x12x16x8x128 (constantI S_ 32 16#32))) (res_main_v37 V0))) shapeCasts_S256x12x16x8x128_S256x12x128x128) transposes_S256x12x128x128_S256x12x128x128_0_1_3_2) shapeCasts_S256x12x128x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 4, 0] (res_main_v8 V0) slices_S256x12x128x8x2_S256x12x128x4x2_0_0_0_4_0))) := by
  unfold val1
  simp only [ops_part0, TRef.ternary, TRef.toBuf, TRef.ofBuf, cast_eq]
  after_results_simp
  simp only [val0_main_arg5] <;> rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v52, main_v53, main_c_7, main_v54, main_v55, main_v56, main_c_8, main_v57, main_v58, main_v59, main_v60, main_call2_v0, main_call2_v1, main_v61, main_call3_v0, main_v62, main_c_9, main_v63, main_v64, main_c_10, main_v65, main_v66, main_v67, main_c_11, main_v68, main_v69, main_c_12, main_v70, main_v71, main_v72]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_v2 (V0 : Valuation τ sig (Elt F)) : val1_1 V0 (no_index (Proc.devRef .tc main_v2)) = res_main_v2 V0 :=
  (val1_1_keep V0 main_v2 (by decide)).trans (val1_main_v2 V0)
theorem val1_1_main_v3 (V0 : Valuation τ sig (Elt F)) : val1_1 V0 (no_index (Proc.devRef .tc main_v3)) = transpose S256x3x20x128 [0, 2, 1, 3] (V0 (Proc.devRef .tc main_arg2)) transposes_S256x20x3x128_S256x3x20x128_0_2_1_3 :=
  (val1_1_keep V0 main_v3 (by decide)).trans (val1_main_v3 V0)
theorem val1_1_main_v4 (V0 : Valuation τ sig (Elt F)) : val1_1 V0 (no_index (Proc.devRef .tc main_v4)) = transpose S256x3x20x128 [0, 2, 1, 3] (V0 (Proc.devRef .tc main_arg3)) transposes_S256x20x3x128_S256x3x20x128_0_2_1_3 :=
  (val1_1_keep V0 main_v4 (by decide)).trans (val1_main_v4 V0)
theorem val1_1_main_v48 (V0 : Valuation τ sig (Elt F)) : val1_1 V0 (no_index (Proc.devRef .tc main_v48)) = shapeCast _ (mulf (shapeCast _ (sitofp .bf16 (select (cmpi .sge (res_main_v21 V0) (broadcastInDim S256x192x8x128 ![] bcast_S_S256x192x8x128 (constantI S_ 32 8#32))) (subi (res_main_v21 V0) (broadcastInDim S256x192x8x128 ![] bcast_S_S256x192x8x128 (constantI S_ 32 16#32))) (res_main_v21 V0))) shapeCasts_S256x192x8x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 0, 0] (res_main_v8 V0) slices_S256x12x128x8x2_S256x12x128x4x2_0_0_0_0_0)))) shapeCasts_S256x12x128x4x16x2_S256x1536x128 :=
  (val1_1_keep V0 main_v48 (by decide)).trans (val1_main_v48 V0)
set_option maxRecDepth 8192 in
set_option maxHeartbeats 2000000 in
theorem val1_1_main_v52 (V0 : Valuation τ sig (Elt F)) : val1_1 V0 (no_index (Proc.devRef .tc main_v52)) = shapeCast _ (mulf (shapeCast _ (transpose S256x12x128x128 [0, 1, 3, 2] (shapeCast _ (sitofp .bf16 (select (cmpi .sge (res_main_v37 V0) (broadcastInDim S256x12x16x8x128 ![] bcast_S_S256x12x16x8x128 (constantI S_ 32 8#32))) (subi (res_main_v37 V0) (broadcastInDim S256x12x16x8x128 ![] bcast_S_S256x12x16x8x128 (constantI S_ 32 16#32))) (res_main_v37 V0))) shapeCasts_S256x12x16x8x128_S256x12x128x128) transposes_S256x12x128x128_S256x12x128x128_0_1_3_2) shapeCasts_S256x12x128x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 4, 0] (res_main_v8 V0) slices_S256x12x128x8x2_S256x12x128x4x2_0_0_0_4_0)))) shapeCasts_S256x12x128x4x16x2_S256x1536x128 := by
  unfold val1_1
  simp only [ops_part1_0, TRef.ternary, TRef.unary, TRef.toBuf, TRef.ofBuf, cast_eq]
  after_results_simp
  simp only [val1_main_v51] <;> rfl
set_option maxRecDepth 8192 in
set_option maxHeartbeats 2000000 in
theorem val1_1_main_v53 (V0 : Valuation τ sig (Elt F)) : val1_1 V0 (no_index (Proc.devRef .tc main_v53)) = res_main_v53 V0 := by
  unfold val1_1
  simp only [ops_part1_0, TRef.ternary, TRef.unary, TRef.toBuf, TRef.ofBuf, cast_eq]
  after_results_simp
  all_goals rfl
set_option maxRecDepth 8192 in
set_option maxHeartbeats 2000000 in
theorem val1_1_main_v62 (V0 : Valuation τ sig (Elt F)) : val1_1 V0 (no_index (Proc.devRef .tc main_v62)) = select (cmpi .slt (res_main_v53 V0) (broadcastInDim S256x1536 ![] bcast_S_S256x1536 (constantI S_ 32 768#32))) (broadcastInDim S256x1536 ![0, 1] bcast_S256x1_S256x1536_0_1 (extractStridedSlice S256x1 ![0, 0] (V0 (Proc.devRef .tc main_arg0)) slices_S256x3_S256x1_0_0)) (select (cmpi .slt (res_main_v53 V0) (broadcastInDim S256x1536 ![] bcast_S_S256x1536 (constantI S_ 32 1280#32))) (broadcastInDim S256x1536 ![0, 1] bcast_S256x1_S256x1536_0_1 (extractStridedSlice S256x1 ![0, 1] (V0 (Proc.devRef .tc main_arg0)) slices_S256x3_S256x1_0_1)) (broadcastInDim S256x1536 ![0, 1] bcast_S256x1_S256x1536_0_1 (extractStridedSlice S256x1 ![0, 2] (V0 (Proc.devRef .tc main_arg0)) slices_S256x3_S256x1_0_2))) := by
  unfold val1_1
  simp only [ops_part1_0, TRef.ternary, TRef.unary, TRef.toBuf, TRef.ofBuf, cast_eq]
  after_results_simp
  simp only [val1_main_arg0] <;> rfl
set_option maxRecDepth 8192 in
set_option maxHeartbeats 2000000 in
theorem val1_1_main_v67 (V0 : Valuation τ sig (Elt F)) : val1_1 V0 (no_index (Proc.devRef .tc main_v67)) = andi (cmpi .sge (res_main_v53 V0) (broadcastInDim S256x1536 ![] bcast_S_S256x1536 (constantI S_ 32 32#32))) (cmpi .slt (res_main_v53 V0) (broadcastInDim S256x1536 ![] bcast_S_S256x1536 (constantI S_ 32 768#32))) := by
  unfold val1_1
  simp only [ops_part1_0, TRef.ternary, TRef.unary, TRef.toBuf, TRef.ofBuf, cast_eq]
  after_results_simp
  all_goals rfl
set_option maxRecDepth 8192 in
set_option maxHeartbeats 2000000 in
theorem val1_1_main_v72 (V0 : Valuation τ sig (Elt F)) : val1_1 V0 (no_index (Proc.devRef .tc main_v72)) = andi (cmpi .sge (res_main_v53 V0) (broadcastInDim S256x1536 ![] bcast_S_S256x1536 (constantI S_ 32 800#32))) (cmpi .slt (res_main_v53 V0) (broadcastInDim S256x1536 ![] bcast_S_S256x1536 (constantI S_ 32 1280#32))) := by
  unfold val1_1
  simp only [ops_part1_0, TRef.ternary, TRef.unary, TRef.toBuf, TRef.ofBuf, cast_eq]
  after_results_simp
  all_goals rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v73, main_c_13, main_v74, main_v75, main_v76, main_v77, main_v78, main_v79, main_v80, main_v81, main_v82, main_v83, main_v84, main_v85, main_v86, main_v87, main_v88, main_v89, main_v90, main_v91, main_v92, main_v93, main_v94, main_v95, main_v96, main_v97, main_call4_v0, main_call4_v1, main_v98, main_call5_v0]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_v2 (V0 : Valuation τ sig (Elt F)) : val1_2 V0 (no_index (Proc.devRef .tc main_v2)) = res_main_v2 V0 :=
  (val1_2_keep V0 main_v2 (by decide)).trans (val1_1_main_v2 V0)
theorem val1_2_main_v3 (V0 : Valuation τ sig (Elt F)) : val1_2 V0 (no_index (Proc.devRef .tc main_v3)) = transpose S256x3x20x128 [0, 2, 1, 3] (V0 (Proc.devRef .tc main_arg2)) transposes_S256x20x3x128_S256x3x20x128_0_2_1_3 :=
  (val1_2_keep V0 main_v3 (by decide)).trans (val1_1_main_v3 V0)
theorem val1_2_main_v4 (V0 : Valuation τ sig (Elt F)) : val1_2 V0 (no_index (Proc.devRef .tc main_v4)) = transpose S256x3x20x128 [0, 2, 1, 3] (V0 (Proc.devRef .tc main_arg3)) transposes_S256x20x3x128_S256x3x20x128_0_2_1_3 :=
  (val1_2_keep V0 main_v4 (by decide)).trans (val1_1_main_v4 V0)
theorem val1_2_main_v48 (V0 : Valuation τ sig (Elt F)) : val1_2 V0 (no_index (Proc.devRef .tc main_v48)) = shapeCast _ (mulf (shapeCast _ (sitofp .bf16 (select (cmpi .sge (res_main_v21 V0) (broadcastInDim S256x192x8x128 ![] bcast_S_S256x192x8x128 (constantI S_ 32 8#32))) (subi (res_main_v21 V0) (broadcastInDim S256x192x8x128 ![] bcast_S_S256x192x8x128 (constantI S_ 32 16#32))) (res_main_v21 V0))) shapeCasts_S256x192x8x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 0, 0] (res_main_v8 V0) slices_S256x12x128x8x2_S256x12x128x4x2_0_0_0_0_0)))) shapeCasts_S256x12x128x4x16x2_S256x1536x128 :=
  (val1_2_keep V0 main_v48 (by decide)).trans (val1_1_main_v48 V0)
theorem val1_2_main_v52 (V0 : Valuation τ sig (Elt F)) : val1_2 V0 (no_index (Proc.devRef .tc main_v52)) = shapeCast _ (mulf (shapeCast _ (transpose S256x12x128x128 [0, 1, 3, 2] (shapeCast _ (sitofp .bf16 (select (cmpi .sge (res_main_v37 V0) (broadcastInDim S256x12x16x8x128 ![] bcast_S_S256x12x16x8x128 (constantI S_ 32 8#32))) (subi (res_main_v37 V0) (broadcastInDim S256x12x16x8x128 ![] bcast_S_S256x12x16x8x128 (constantI S_ 32 16#32))) (res_main_v37 V0))) shapeCasts_S256x12x16x8x128_S256x12x128x128) transposes_S256x12x128x128_S256x12x128x128_0_1_3_2) shapeCasts_S256x12x128x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 4, 0] (res_main_v8 V0) slices_S256x12x128x8x2_S256x12x128x4x2_0_0_0_4_0)))) shapeCasts_S256x12x128x4x16x2_S256x1536x128 :=
  (val1_2_keep V0 main_v52 (by decide)).trans (val1_1_main_v52 V0)
set_option maxRecDepth 8192 in
set_option maxHeartbeats 2000000 in
theorem val1_2_main_v83 (V0 : Valuation τ sig (Elt F)) : val1_2 V0 (no_index (Proc.devRef .tc main_v83)) = andi (cmpi .eq (broadcastInDim S256x3x1536 ![0, 1, 2] bcast_S256x1x1536_S256x3x1536_0_1_2 (broadcastInDim S256x1x1536 ![0, 2] bcast_S256x1536_S256x1x1536_0_2 (select (cmpi .slt (res_main_v53 V0) (broadcastInDim S256x1536 ![] bcast_S_S256x1536 (constantI S_ 32 768#32))) (broadcastInDim S256x1536 ![0, 1] bcast_S256x1_S256x1536_0_1 (extractStridedSlice S256x1 ![0, 0] (V0 (Proc.devRef .tc main_arg0)) slices_S256x3_S256x1_0_0)) (select (cmpi .slt (res_main_v53 V0) (broadcastInDim S256x1536 ![] bcast_S_S256x1536 (constantI S_ 32 1280#32))) (broadcastInDim S256x1536 ![0, 1] bcast_S256x1_S256x1536_0_1 (extractStridedSlice S256x1 ![0, 1] (V0 (Proc.devRef .tc main_arg0)) slices_S256x3_S256x1_0_1)) (broadcastInDim S256x1536 ![0, 1] bcast_S256x1_S256x1536_0_1 (extractStridedSlice S256x1 ![0, 2] (V0 (Proc.devRef .tc main_arg0)) slices_S256x3_S256x1_0_2)))))) (iotaInDim S256x3x1536 32 1)) (broadcastInDim S256x3x1536 ![0, 1, 2] bcast_S256x1x1536_S256x3x1536_0_1_2 (broadcastInDim S256x1x1536 ![0, 2] bcast_S256x1536_S256x1x1536_0_2 (ori (ori (andi (cmpi .sge (res_main_v53 V0) (broadcastInDim S256x1536 ![] bcast_S_S256x1536 (constantI S_ 32 32#32))) (cmpi .slt (res_main_v53 V0) (broadcastInDim S256x1536 ![] bcast_S_S256x1536 (constantI S_ 32 768#32)))) (andi (cmpi .sge (res_main_v53 V0) (broadcastInDim S256x1536 ![] bcast_S_S256x1536 (constantI S_ 32 800#32))) (cmpi .slt (res_main_v53 V0) (broadcastInDim S256x1536 ![] bcast_S_S256x1536 (constantI S_ 32 1280#32))))) (cmpi .sge (res_main_v53 V0) (broadcastInDim S256x1536 ![] bcast_S_S256x1536 (constantI S_ 32 1312#32)))))) := by
  unfold val1_2
  simp only [ops_part1_1, TRef.ternary, TRef.unary, TRef.toBuf, TRef.ofBuf, cast_eq]
  after_results_simp
  simp only [val1_1_main_v53, val1_1_main_v72, val1_1_main_v67, val1_1_main_v62] <;> rfl
set_option maxRecDepth 8192 in
set_option maxHeartbeats 2000000 in
theorem val1_2_main_v85 (V0 : Valuation τ sig (Elt F)) : val1_2 V0 (no_index (Proc.devRef .tc main_v85)) = shapeCast _ (extractStridedSlice S256x12x128 ![0, 0, 0] (V0 (Proc.devRef .tc main_arg6)) slices_S256x16x128_S256x12x128_0_0_0) shapeCasts_S256x12x128_S256x1536 := by
  unfold val1_2
  simp only [ops_part1_1, TRef.ternary, TRef.unary, TRef.toBuf, TRef.ofBuf, cast_eq]
  after_results_simp
  simp only [val1_1_main_arg6] <;> rfl
set_option maxRecDepth 8192 in
set_option maxHeartbeats 2000000 in
theorem val1_2_main_v90 (V0 : Valuation τ sig (Elt F)) : val1_2 V0 (no_index (Proc.devRef .tc main_v90)) = cmpi .eq (broadcastInDim S256x3x20 ![0, 1, 2] bcast_S256x1x1_S256x3x20_0_1_2 (broadcastInDim S256x1x1 ![0, 1] bcast_S256x1_S256x1x1_0_1 (extractStridedSlice S256x1 ![0, 0] (V0 (Proc.devRef .tc main_arg0)) slices_S256x3_S256x1_0_0))) (res_main_v86 V0) := by
  unfold val1_2
  simp only [ops_part1_1, TRef.ternary, TRef.unary, TRef.toBuf, TRef.ofBuf, cast_eq]
  after_results_simp
  simp only [val1_1_main_arg0] <;> rfl
set_option maxRecDepth 8192 in
set_option maxHeartbeats 2000000 in
theorem val1_2_main_v98 (V0 : Valuation τ sig (Elt F)) : val1_2 V0 (no_index (Proc.devRef .tc main_v98)) = select (cmpi .eq (broadcastInDim S256x3x20 ![0, 1, 2] bcast_S256x1x1_S256x3x20_0_1_2 (broadcastInDim S256x1x1 ![0, 1] bcast_S256x1_S256x1x1_0_1 (extractStridedSlice S256x1 ![0, 1] (V0 (Proc.devRef .tc main_arg0)) slices_S256x3_S256x1_0_1))) (res_main_v86 V0)) (broadcastInDim S256x3x20 ![0, 1, 2] bcast_S256x1x20_S256x3x20_0_1_2 (extractStridedSlice S256x1x20 ![0, 6, 0] (V0 (Proc.devRef .tc main_arg6)) slices_S256x16x128_S256x1x20_0_6_0)) (broadcastInDim S256x3x20 ![0, 1, 2] bcast_S256x1x20_S256x3x20_0_1_2 (extractStridedSlice S256x1x20 ![0, 10, 0] (V0 (Proc.devRef .tc main_arg6)) slices_S256x16x128_S256x1x20_0_10_0)) := by
  unfold val1_2
  simp only [ops_part1_1, TRef.ternary, TRef.unary, TRef.toBuf, TRef.ofBuf, cast_eq]
  after_results_simp
  simp only [val1_1_main_arg6, val1_1_main_arg0] <;> rfl
set_option maxRecDepth 8192 in
set_option maxHeartbeats 2000000 in
theorem val1_2_main_call5_v0 (V0 : Valuation τ sig (Elt F)) : val1_2 V0 (no_index (Proc.devRef .tc main_call5_v0)) = broadcastInDim S256x3x20 ![0, 1, 2] bcast_S256x1x20_S256x3x20_0_1_2 (extractStridedSlice S256x1x20 ![0, 0, 0] (V0 (Proc.devRef .tc main_arg6)) slices_S256x16x128_S256x1x20_0_0_0) := by
  unfold val1_2
  simp only [ops_part1_1, TRef.ternary, TRef.unary, TRef.toBuf, TRef.ofBuf, cast_eq]
  after_results_simp
  simp only [val1_1_main_arg6] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v99, main_v100, main_cst, main_v101, main_v102, main_v103]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_arg6 (V0 : Valuation τ sig (Elt F)) : val2 V0 (no_index (Proc.devRef .tc main_arg6)) = V0 (Proc.devRef .tc main_arg6) :=
  (val2_keep V0 main_arg6 (by decide)).trans (val1_2_main_arg6 V0)
theorem val2_main_v2 (V0 : Valuation τ sig (Elt F)) : val2 V0 (no_index (Proc.devRef .tc main_v2)) = res_main_v2 V0 :=
  (val2_keep V0 main_v2 (by decide)).trans (val1_2_main_v2 V0)
theorem val2_main_v3 (V0 : Valuation τ sig (Elt F)) : val2 V0 (no_index (Proc.devRef .tc main_v3)) = transpose S256x3x20x128 [0, 2, 1, 3] (V0 (Proc.devRef .tc main_arg2)) transposes_S256x20x3x128_S256x3x20x128_0_2_1_3 :=
  (val2_keep V0 main_v3 (by decide)).trans (val1_2_main_v3 V0)
theorem val2_main_v4 (V0 : Valuation τ sig (Elt F)) : val2 V0 (no_index (Proc.devRef .tc main_v4)) = transpose S256x3x20x128 [0, 2, 1, 3] (V0 (Proc.devRef .tc main_arg3)) transposes_S256x20x3x128_S256x3x20x128_0_2_1_3 :=
  (val2_keep V0 main_v4 (by decide)).trans (val1_2_main_v4 V0)
theorem val2_main_v52 (V0 : Valuation τ sig (Elt F)) : val2 V0 (no_index (Proc.devRef .tc main_v52)) = shapeCast _ (mulf (shapeCast _ (transpose S256x12x128x128 [0, 1, 3, 2] (shapeCast _ (sitofp .bf16 (select (cmpi .sge (res_main_v37 V0) (broadcastInDim S256x12x16x8x128 ![] bcast_S_S256x12x16x8x128 (constantI S_ 32 8#32))) (subi (res_main_v37 V0) (broadcastInDim S256x12x16x8x128 ![] bcast_S_S256x12x16x8x128 (constantI S_ 32 16#32))) (res_main_v37 V0))) shapeCasts_S256x12x16x8x128_S256x12x128x128) transposes_S256x12x128x128_S256x12x128x128_0_1_3_2) shapeCasts_S256x12x128x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 4, 0] (res_main_v8 V0) slices_S256x12x128x8x2_S256x12x128x4x2_0_0_0_4_0)))) shapeCasts_S256x12x128x4x16x2_S256x1536x128 :=
  (val2_keep V0 main_v52 (by decide)).trans (val1_2_main_v52 V0)
theorem val2_main_v83 (V0 : Valuation τ sig (Elt F)) : val2 V0 (no_index (Proc.devRef .tc main_v83)) = andi (cmpi .eq (broadcastInDim S256x3x1536 ![0, 1, 2] bcast_S256x1x1536_S256x3x1536_0_1_2 (broadcastInDim S256x1x1536 ![0, 2] bcast_S256x1536_S256x1x1536_0_2 (select (cmpi .slt (res_main_v53 V0) (broadcastInDim S256x1536 ![] bcast_S_S256x1536 (constantI S_ 32 768#32))) (broadcastInDim S256x1536 ![0, 1] bcast_S256x1_S256x1536_0_1 (extractStridedSlice S256x1 ![0, 0] (V0 (Proc.devRef .tc main_arg0)) slices_S256x3_S256x1_0_0)) (select (cmpi .slt (res_main_v53 V0) (broadcastInDim S256x1536 ![] bcast_S_S256x1536 (constantI S_ 32 1280#32))) (broadcastInDim S256x1536 ![0, 1] bcast_S256x1_S256x1536_0_1 (extractStridedSlice S256x1 ![0, 1] (V0 (Proc.devRef .tc main_arg0)) slices_S256x3_S256x1_0_1)) (broadcastInDim S256x1536 ![0, 1] bcast_S256x1_S256x1536_0_1 (extractStridedSlice S256x1 ![0, 2] (V0 (Proc.devRef .tc main_arg0)) slices_S256x3_S256x1_0_2)))))) (iotaInDim S256x3x1536 32 1)) (broadcastInDim S256x3x1536 ![0, 1, 2] bcast_S256x1x1536_S256x3x1536_0_1_2 (broadcastInDim S256x1x1536 ![0, 2] bcast_S256x1536_S256x1x1536_0_2 (ori (ori (andi (cmpi .sge (res_main_v53 V0) (broadcastInDim S256x1536 ![] bcast_S_S256x1536 (constantI S_ 32 32#32))) (cmpi .slt (res_main_v53 V0) (broadcastInDim S256x1536 ![] bcast_S_S256x1536 (constantI S_ 32 768#32)))) (andi (cmpi .sge (res_main_v53 V0) (broadcastInDim S256x1536 ![] bcast_S_S256x1536 (constantI S_ 32 800#32))) (cmpi .slt (res_main_v53 V0) (broadcastInDim S256x1536 ![] bcast_S_S256x1536 (constantI S_ 32 1280#32))))) (cmpi .sge (res_main_v53 V0) (broadcastInDim S256x1536 ![] bcast_S_S256x1536 (constantI S_ 32 1312#32)))))) :=
  (val2_keep V0 main_v83 (by decide)).trans (val1_2_main_v83 V0)
set_option maxRecDepth 8192 in
theorem val2_main_v99 (V0 : Valuation τ sig (Elt F)) : val2 V0 (no_index (Proc.devRef .tc main_v99)) = select (cmpi .eq (broadcastInDim S256x3x20 ![0, 1, 2] bcast_S256x1x1_S256x3x20_0_1_2 (broadcastInDim S256x1x1 ![0, 1] bcast_S256x1_S256x1x1_0_1 (extractStridedSlice S256x1 ![0, 0] (V0 (Proc.devRef .tc main_arg0)) slices_S256x3_S256x1_0_0))) (res_main_v86 V0)) (broadcastInDim S256x3x20 ![0, 1, 2] bcast_S256x1x20_S256x3x20_0_1_2 (extractStridedSlice S256x1x20 ![0, 0, 0] (V0 (Proc.devRef .tc main_arg6)) slices_S256x16x128_S256x1x20_0_0_0)) (select (cmpi .eq (broadcastInDim S256x3x20 ![0, 1, 2] bcast_S256x1x1_S256x3x20_0_1_2 (broadcastInDim S256x1x1 ![0, 1] bcast_S256x1_S256x1x1_0_1 (extractStridedSlice S256x1 ![0, 1] (V0 (Proc.devRef .tc main_arg0)) slices_S256x3_S256x1_0_1))) (res_main_v86 V0)) (broadcastInDim S256x3x20 ![0, 1, 2] bcast_S256x1x20_S256x3x20_0_1_2 (extractStridedSlice S256x1x20 ![0, 6, 0] (V0 (Proc.devRef .tc main_arg6)) slices_S256x16x128_S256x1x20_0_6_0)) (broadcastInDim S256x3x20 ![0, 1, 2] bcast_S256x1x20_S256x3x20_0_1_2 (extractStridedSlice S256x1x20 ![0, 10, 0] (V0 (Proc.devRef .tc main_arg6)) slices_S256x16x128_S256x1x20_0_10_0))) := by
  unfold val2
  simp only [ops_part1_2, TRef.ternary, TRef.toBuf, TRef.ofBuf, cast_eq]
  after_results_simp
  simp only [val1_2_main_v98, val1_2_main_call5_v0, val1_2_main_v90] <;> rfl
set_option maxRecDepth 8192 in
theorem val2_main_v102 (V0 : Valuation τ sig (Elt F)) : val2 V0 (no_index (Proc.devRef .tc main_v102)) = mulf (Host.dotGeneral dot_S256x3x160x128_S256x1536x128_S256x3x160x1536_3_2_12_1_0_0 none (res_main_v2 V0) (shapeCast _ (mulf (shapeCast _ (sitofp .bf16 (select (cmpi .sge (res_main_v21 V0) (broadcastInDim S256x192x8x128 ![] bcast_S_S256x192x8x128 (constantI S_ 32 8#32))) (subi (res_main_v21 V0) (broadcastInDim S256x192x8x128 ![] bcast_S_S256x192x8x128 (constantI S_ 32 16#32))) (res_main_v21 V0))) shapeCasts_S256x192x8x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 0, 0] (res_main_v8 V0) slices_S256x12x128x8x2_S256x12x128x4x2_0_0_0_0_0)))) shapeCasts_S256x12x128x4x16x2_S256x1536x128)) (broadcastInDim S256x3x160x1536 ![] bcast_S_S256x3x160x1536 (constant S_ .f32 0x3DB504F3#32)) := by
  unfold val2
  simp only [ops_part1_2, TRef.ternary, TRef.toBuf, TRef.ofBuf, cast_eq]
  after_results_simp
  simp only [val1_2_main_v48, val1_2_main_v2] <;> rfl
set_option maxRecDepth 8192 in
theorem val2_main_v103 (V0 : Valuation τ sig (Elt F)) : val2 V0 (no_index (Proc.devRef .tc main_v103)) = broadcastInDim S256x1x1x1536 ![0, 3] bcast_S256x1536_S256x1x1x1536_0_3 (shapeCast _ (extractStridedSlice S256x12x128 ![0, 0, 0] (V0 (Proc.devRef .tc main_arg6)) slices_S256x16x128_S256x12x128_0_0_0) shapeCasts_S256x12x128_S256x1536) := by
  unfold val2
  simp only [ops_part1_2, TRef.ternary, TRef.toBuf, TRef.ofBuf, cast_eq]
  after_results_simp
  simp only [val1_2_main_v85] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v104, main_v105, main_v106, main_cst_14, main_call6_v0, main_call6_v1, main_call6_v2, main_v107, main_v108, main_cst_15, main_v109, main_v110, main_v111, main_v112, main_v113, main_v114, main_v115, main_v116, main_v117, main_cst_16, main_call7_v0, main_call7_v1, main_call7_v2, main_v118, main_cst_17, main_v119, main_cst_18, main_v120, main_v121, main_v122, main_v123, main_v124, main_v125, main_v126, main_v127, main_v128, main_v129, main_cst_19, main_v130, main_cst_20, main_v131, main_v132, main_cst_21, main_v133, main_v134, main_v135, main_v136, main_v137, main_v138, main_v139, main_v140, main_v141, main_v142, main_v143, main_v144, main_v145, main_v146, main_v147, main_v148]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
set_option maxRecDepth 8192 in
set_option maxHeartbeats 2000000 in
theorem val3_main_v148 (V0 : Valuation τ sig (Elt F)) : val3 V0 (no_index (Proc.devRef .tc main_v148)) = truncf .bf16 (transpose S256x20x3x8x128 [0, 3, 1, 2, 4] (shapeCast _ (addf (Host.dotGeneral dot_S256x3x160x1536_S256x1536x128_S256x3x160x128_3_1_12_2_0_0 none (truncf .bf16 (mulf (res_main_v125 V0) (broadcastInDim S256x3x160x1536 ![0, 1, 2, 3] bcast_S256x3x160x1_S256x3x160x1536_0_1_2_3 (broadcastInDim S256x3x160x1 ![0, 1, 2] bcast_S256x3x160_S256x3x160x1_0_1_2 (res_main_v134 V0)))) bitsLt_bf16_f32) (shapeCast _ (mulf (shapeCast _ (transpose S256x12x128x128 [0, 1, 3, 2] (shapeCast _ (sitofp .bf16 (select (cmpi .sge (res_main_v37 V0) (broadcastInDim S256x12x16x8x128 ![] bcast_S_S256x12x16x8x128 (constantI S_ 32 8#32))) (subi (res_main_v37 V0) (broadcastInDim S256x12x16x8x128 ![] bcast_S_S256x12x16x8x128 (constantI S_ 32 16#32))) (res_main_v37 V0))) shapeCasts_S256x12x16x8x128_S256x12x128x128) transposes_S256x12x128x128_S256x12x128x128_0_1_3_2) shapeCasts_S256x12x128x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 4, 0] (res_main_v8 V0) slices_S256x12x128x8x2_S256x12x128x4x2_0_0_0_4_0)))) shapeCasts_S256x12x128x4x16x2_S256x1536x128)) (Host.dotGeneral dot_S256x3x160x20_S256x3x20x128_S256x3x160x128_3_2_2_3_01_01 none (truncf .bf16 (mulf (res_main_v129 V0) (broadcastInDim S256x3x160x20 ![0, 1, 2, 3] bcast_S256x3x160x1_S256x3x160x20_0_1_2_3 (broadcastInDim S256x3x160x1 ![0, 1, 2] bcast_S256x3x160_S256x3x160x1_0_1_2 (res_main_v134 V0)))) bitsLt_bf16_f32) (transpose S256x3x20x128 [0, 2, 1, 3] (V0 (Proc.devRef .tc main_arg3)) transposes_S256x20x3x128_S256x3x20x128_0_2_1_3))) shapeCasts_S256x3x160x128_S256x3x8x20x128) transposes_S256x3x8x20x128_S256x20x3x8x128_0_3_1_2_4) bitsLt_bf16_f32 := by
  unfold val3
  simp only [ops_part2, TRef.ternary, TRef.unary, TRef.toBuf, TRef.ofBuf, cast_eq]
  after_results_simp
  simp only [val2_main_v4, val2_main_v99, val2_main_v3, val2_main_v2, val2_main_v103, val2_main_v102, val2_main_v83, val2_main_v52] <;> rfl

theorem after_ops (V0 : Valuation τ sig (Elt F)) : after ops V0 = val3 V0 := by
  simp only [ops, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v148) = truncf .bf16 (transpose S256x20x3x8x128 [0, 3, 1, 2, 4] (shapeCast _ (addf (Host.dotGeneral dot_S256x3x160x1536_S256x1536x128_S256x3x160x128_3_1_12_2_0_0 none (truncf .bf16 (mulf (res_main_v125 (launchContents m c)) (broadcastInDim S256x3x160x1536 ![0, 1, 2, 3] bcast_S256x3x160x1_S256x3x160x1536_0_1_2_3 (broadcastInDim S256x3x160x1 ![0, 1, 2] bcast_S256x3x160_S256x3x160x1_0_1_2 (res_main_v134 (launchContents m c))))) bitsLt_bf16_f32) (shapeCast _ (mulf (shapeCast _ (transpose S256x12x128x128 [0, 1, 3, 2] (shapeCast _ (sitofp .bf16 (select (cmpi .sge (res_main_v37 (launchContents m c)) (broadcastInDim S256x12x16x8x128 ![] bcast_S_S256x12x16x8x128 (constantI S_ 32 8#32))) (subi (res_main_v37 (launchContents m c)) (broadcastInDim S256x12x16x8x128 ![] bcast_S_S256x12x16x8x128 (constantI S_ 32 16#32))) (res_main_v37 (launchContents m c)))) shapeCasts_S256x12x16x8x128_S256x12x128x128) transposes_S256x12x128x128_S256x12x128x128_0_1_3_2) shapeCasts_S256x12x128x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 4, 0] (res_main_v8 (launchContents m c)) slices_S256x12x128x8x2_S256x12x128x4x2_0_0_0_4_0)))) shapeCasts_S256x12x128x4x16x2_S256x1536x128)) (Host.dotGeneral dot_S256x3x160x20_S256x3x20x128_S256x3x160x128_3_2_2_3_01_01 none (truncf .bf16 (mulf (res_main_v129 (launchContents m c)) (broadcastInDim S256x3x160x20 ![0, 1, 2, 3] bcast_S256x3x160x1_S256x3x160x20_0_1_2_3 (broadcastInDim S256x3x160x1 ![0, 1, 2] bcast_S256x3x160_S256x3x160x1_0_1_2 (res_main_v134 (launchContents m c))))) bitsLt_bf16_f32) (transpose S256x3x20x128 [0, 2, 1, 3] ((launchContents m c) (Proc.devRef .tc main_arg3)) transposes_S256x20x3x128_S256x3x20x128_0_2_1_3))) shapeCasts_S256x3x160x128_S256x3x8x20x128) transposes_S256x3x8x20x128_S256x20x3x8x128_0_3_1_2_4) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v148).trans ((congrFun (after_ops (launchContents m c)) (Proc.devRef .tc main_v148)).trans (val3_main_v148 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c))),
      (h c main_arg6).trans ((congrFun (after_ops (launchContents m c)) (Proc.devRef .tc main_arg6)).trans (val3_main_arg6 (launchContents m c)))⟩)
    (run_seq scopedRefs_eq scopedSems_eq defs main (fun _ => ops) main_eq (fun _ => ops_sub) m ρ fun _ => ops_fresh)

end Cert.ReferenceIdeal.Value

end
-- ==== Proof.Value.Softmax.lean ====
/-
  A softmax-weighted average over the extended reals, and what it does not depend on: entries whose score is `⊥`.
-/
module

public import Idealize.ShloMosaic.Lib.Pointwise

@[expose] public section

noncomputable section

namespace Cert.Attn

open Idealize.ShloMosaic

/-- The average of `v` with the softmax of `σ` as weights: each weight is the exponential of the score less the largest score, times
    the inverse of the sum of these exponentials. -/
def softmaxAvg {ι : Type} [Fintype ι] (σ v : ι → EReal) : EReal :=
  ∑ i, Ideal.exp (σ i - Finset.univ.sup σ) * Ideal.div 1 (∑ j, Ideal.exp (σ j - Finset.univ.sup σ)) * v i

theorem exp_bot_sub (m : EReal) : Ideal.exp (⊥ - m) = 0 := by
  rw [sub_eq_add_neg, EReal.bot_add]; rfl

/-- Entries with the score `⊥` weigh nothing: the average over `ι` is the average over the entries an injection reaches, when all
    others score `⊥`. -/
theorem softmaxAvg_embed {ι κ : Type} [Fintype ι] [Fintype κ] (e : κ → ι) (he : Function.Injective e) (σ v : ι → EReal)
    (hσ : ∀ i, (∀ k, e k ≠ i) → σ i = ⊥) : softmaxAvg σ v = softmaxAvg (σ ∘ e) (v ∘ e) := by
  have hsup : Finset.univ.sup σ = Finset.univ.sup (σ ∘ e) := by
    apply le_antisymm
    · apply Finset.sup_le
      intro i _
      by_cases h : ∃ k, e k = i
      · obtain ⟨k, rfl⟩ := h
        exact Finset.le_sup (f := σ ∘ e) (Finset.mem_univ k)
      · rw [hσ i fun k hk => h ⟨k, hk⟩]; exact bot_le
    · apply Finset.sup_le
      intro k _
      exact Finset.le_sup (f := σ) (Finset.mem_univ (e k))
  have hz : ∀ i, i ∉ Set.range e → Ideal.exp (σ i - Finset.univ.sup (σ ∘ e)) = 0 := fun i hi => by
    rw [hσ i fun k hk => hi ⟨k, hk⟩]; exact exp_bot_sub _
  have hsum : ∑ j, Ideal.exp (σ j - Finset.univ.sup (σ ∘ e)) = ∑ k, Ideal.exp ((σ ∘ e) k - Finset.univ.sup (σ ∘ e)) :=
    (Fintype.sum_of_injective e he _ _ hz fun _ => rfl).symm
  unfold softmaxAvg
  rw [hsup, hsum]
  refine (Fintype.sum_of_injective e he _ _ (fun i hi => ?_) fun _ => rfl).symm
  rw [hz i hi, zero_mul, zero_mul]

/-- Equal scores and values give equal averages. -/
theorem softmaxAvg_congr {ι : Type} [Fintype ι] {σ σ' v v' : ι → EReal} (h : ∀ i, σ i = σ' i) (h' : ∀ i, v i = v' i) :
    softmaxAvg σ v = softmaxAvg σ' v' := by
  rw [funext h, funext h']

theorem fold_max {ι : Type} (s : Finset ι) (f : ι → EReal) : s.fold max ⊥ f = s.sup f := rfl

/-- The largest entry of a table, column by column. -/
theorem sup_prod {α β : Type} [Fintype α] [Fintype β] (f : α × β → EReal) :
    Finset.univ.sup f = Finset.univ.sup fun b => Finset.univ.sup fun a => f (a, b) := by
  apply le_antisymm
  · refine Finset.sup_le fun p _ => ?_
    exact (Finset.le_sup (f := fun a => f (a, p.2)) (Finset.mem_univ p.1)).trans
      (Finset.le_sup (f := fun b => Finset.univ.sup fun a => f (a, b)) (Finset.mem_univ p.2))
  · refine Finset.sup_le fun b _ => Finset.sup_le fun a _ => ?_
    exact Finset.le_sup (f := f) (Finset.mem_univ (a, b))

/-- The average over a table of `C` rows, column by column. -/
theorem softmaxAvg_prod {α β : Type} [Fintype α] [Fintype β] (σ v : α × β → EReal) :
    softmaxAvg σ v = ∑ a, ∑ b, Ideal.exp (σ (a, b) - Finset.univ.sup fun b => Finset.univ.sup fun a => σ (a, b))
      * Ideal.div 1 (∑ b, ∑ a, Ideal.exp (σ (a, b) - Finset.univ.sup fun b => Finset.univ.sup fun a => σ (a, b))) * v (a, b) := by
  unfold softmaxAvg
  rw [sup_prod, Fintype.sum_prod_type, Fintype.sum_prod_type_right]

/-- The average over two families. -/
theorem softmaxAvg_sum {α β : Type} [Fintype α] [Fintype β] (σ v : α ⊕ β → EReal) :
    softmaxAvg σ v =
      (∑ a, Ideal.exp (σ (.inl a) - max (Finset.univ.sup fun a => σ (.inl a)) (Finset.univ.sup fun b => σ (.inr b)))
        * Ideal.div 1 ((∑ a, Ideal.exp (σ (.inl a) - max (Finset.univ.sup fun a => σ (.inl a)) (Finset.univ.sup fun b => σ (.inr b))))
          + ∑ b, Ideal.exp (σ (.inr b) - max (Finset.univ.sup fun a => σ (.inl a)) (Finset.univ.sup fun b => σ (.inr b)))) * v (.inl a))
      + ∑ b, Ideal.exp (σ (.inr b) - max (Finset.univ.sup fun a => σ (.inl a)) (Finset.univ.sup fun b => σ (.inr b)))
        * Ideal.div 1 ((∑ a, Ideal.exp (σ (.inl a) - max (Finset.univ.sup fun a => σ (.inl a)) (Finset.univ.sup fun b => σ (.inr b))))
          + ∑ b, Ideal.exp (σ (.inr b) - max (Finset.univ.sup fun a => σ (.inl a)) (Finset.univ.sup fun b => σ (.inr b)))) * v (.inr b) := by
  have hsup : Finset.univ.sup σ = max (Finset.univ.sup fun a => σ (.inl a)) (Finset.univ.sup fun b => σ (.inr b)) := by
    apply le_antisymm
    · refine Finset.sup_le fun i _ => ?_
      cases i with
      | inl a => exact (Finset.le_sup (f := fun a => σ (.inl a)) (Finset.mem_univ a)).trans (le_max_left _ _)
      | inr b => exact (Finset.le_sup (f := fun b => σ (.inr b)) (Finset.mem_univ b)).trans (le_max_right _ _)
    · refine max_le (Finset.sup_le fun a _ => ?_) (Finset.sup_le fun b _ => ?_)
      · exact Finset.le_sup (f := σ) (Finset.mem_univ _)
      · exact Finset.le_sup (f := σ) (Finset.mem_univ _)
  unfold softmaxAvg
  rw [hsup, Fintype.sum_sum_type, Fintype.sum_sum_type]

theorem sup_fin2 (f : Fin 2 → EReal) : Finset.univ.sup f = max (f 0) (f 1) := by
  simp [Fin.univ_succ]

theorem sup_fin4 (f : Fin 4 → EReal) : Finset.univ.sup f = max (max (max (f 0) (f 1)) (f 2)) (f 3) := by
  simp [Fin.univ_succ, max_assoc, Fin.succ]

theorem sup_fin6 (f : Fin 6 → EReal) : Finset.univ.sup f = max (max (max (max (max (f 0) (f 1)) (f 2)) (f 3)) (f 4)) (f 5) := by
  simp [Fin.univ_succ, max_assoc, Fin.succ]

end Cert.Attn

end
-- ==== Proof.Value.Spec.lean ====
/-
  What both programs compute, over the extended reals: for every sequence, token, head and feature a softmax-weighted average of
  values over the cached tokens the head owns and the new tokens up to the query's own.
-/
module

public import proofs.«01_k».proof.Proof.Value.Softmax

@[expose] public section

noncomputable section

namespace Cert.Attn

open Idealize.ShloMosaic

/-- The argument arrays, entry by entry. -/
structure Data where
  order : Fin 256 → Fin 3 → BitVec 32
  q : Fin 256 → Fin 20 → Fin 24 → Fin 128 → EReal
  kn : Fin 256 → Fin 20 → Fin 3 → Fin 128 → EReal
  vn : Fin 256 → Fin 20 → Fin 3 → Fin 128 → EReal
  kd : Fin 24576 → Fin 2 → Fin 128 → BitVec 32
  vd : Fin 3072 → Fin 24 → Fin 128 → BitVec 32
  bias : Fin 256 → Fin 16 → Fin 128 → EReal

/-- The signed four-bit code number `k` of a word. -/
def nibble (w : BitVec 32) (k : ℕ) : BitVec 32 := (w <<< (28 - 4 * k)).sshiftRight 28

def code (w : BitVec 32) (k : ℕ) : EReal := FloatOps.sitofp (F := Ideal) .bf16 (nibble w k)

/-- The scale in half `e` of a word. -/
def half (w : BitVec 32) (e : ℕ) : EReal := Ideal.ofBits .bf16 (w.extractLsb' (16 * e) 16)

variable (D : Data)

/-- The cached key of token `t` of sequence `b`. -/
def Data.key (b : Fin 256) (t : Fin 1536) (d : Fin 128) : EReal :=
  code (D.kd ⟨b.val * 96 + t.val / 16, by omega⟩ ⟨t.val / 8 % 2, by omega⟩ d) (t.val % 8)
    * half (D.vd ⟨b.val * 12 + t.val / 128, by omega⟩ ⟨16 + d.val / 32, by omega⟩ ⟨t.val % 128, by omega⟩) (d.val % 2)

/-- The cached value of token `t` of sequence `b`. -/
def Data.val (b : Fin 256) (t : Fin 1536) (d : Fin 128) : EReal :=
  code (D.vd ⟨b.val * 12 + t.val / 128, by omega⟩ ⟨d.val / 8, by omega⟩ ⟨t.val % 128, by omega⟩) (d.val % 8)
    * half (D.vd ⟨b.val * 12 + t.val / 128, by omega⟩ ⟨20 + d.val / 32, by omega⟩ ⟨t.val % 128, by omega⟩) (d.val % 2)

/-- Which of the three slots a cached token lies in. -/
def slot (t : ℕ) : Fin 3 := if t < 768 then 0 else if t < 1280 then 1 else 2

/-- The cached tokens that count: the first thirty-two places of a slot are the new tokens'. -/
def live (t : ℕ) : Prop := (32 ≤ t ∧ t < 768 ∨ 800 ≤ t ∧ t < 1280) ∨ 1312 ≤ t

instance (t : ℕ) : Decidable (live t) := by unfold live; infer_instance

/-- The first chunk of the slot that head `h` of sequence `b` owns. -/
def Data.first (b : Fin 256) (h : Fin 3) : Fin 16 :=
  if D.order b 0 = BitVec.ofNat 32 h.val then 0 else if D.order b 1 = BitVec.ofNat 32 h.val then 6 else 10

/-- The scores: query head `g` of head `h`, token `s`, against the cached tokens and the new ones. -/
def Data.score (b : Fin 256) (s : Fin 20) (h : Fin 3) (g : Fin 8) : Fin 1536 ⊕ Fin 20 → EReal
  | .inl t => if D.order b (slot t.val) = BitVec.ofNat 32 h.val ∧ live t.val then
      (∑ d, D.q b s ⟨h.val * 8 + g.val, by omega⟩ d * D.key b t d) * Ideal.ofBits .f32 0x3DB504F3#32
        + D.bias b ⟨t.val / 128, by omega⟩ ⟨t.val % 128, by omega⟩
    else ⊥
  | .inr j => if j.val ≤ s.val then
      (∑ d, D.q b s ⟨h.val * 8 + g.val, by omega⟩ d * D.kn b j h d) * Ideal.ofBits .f32 0x3DB504F3#32
        + D.bias b (D.first b h) ⟨j.val, by omega⟩
    else ⊥

/-- The values behind these scores. -/
def Data.value (b : Fin 256) (h : Fin 3) (d : Fin 128) : Fin 1536 ⊕ Fin 20 → EReal
  | .inl t => D.val b t d
  | .inr j => D.vn b j h d

/-- The attention. -/
def Data.out (b : Fin 256) (s : Fin 20) (h : Fin 3) (g : Fin 8) (d : Fin 128) : EReal :=
  softmaxAvg (D.score b s h g) (D.value b h d)

end Cert.Attn

end
-- ==== Proof.Value.Nibble.lean ====
/-
  A signed four-bit code picked out of a word: by shifting up and then down with the sign, as one program does, or by shifting down,
  masking and subtracting sixteen from eight on, as the other does.
-/
module

public import proofs.«01_k».proof.Proof.Value.Spec

@[expose] public section

namespace Cert.Attn

open Idealize.ShloMosaic

/-- The unsigned code is the four bits, extended by zeros. -/
theorem ucode_eq (w : BitVec 32) (k : Fin 8) :
    IntOp.andi (IntOp.shrui .host w (IntOp.muli 4#32 (BitVec.ofNat 32 k.val))) 15#32 = (w.extractLsb' (4 * k.val) 4).setWidth 32 := by
  apply BitVec.eq_of_toNat_eq
  fin_cases k <;> simp [IntOp.andi, IntOp.shrui, IntOp.muli, Nat.and_two_pow_sub_one_eq_mod _ 4] <;> omega

/-- The signed code is the same four bits, extended by their sign. -/
theorem nibble_ext (w : BitVec 32) (k : Fin 8) : nibble w k.val = (w.extractLsb' (4 * k.val) 4).signExtend 32 := by
  apply BitVec.eq_of_getLsbD_eq
  intro i hi
  have hk := k.isLt
  have hi' : ¬ 32 ≤ i := by omega
  unfold nibble
  rw [BitVec.getLsbD_signExtend, BitVec.getLsbD_sshiftRight]
  by_cases h : i < 4
  · have e : 28 + i < 32 := by omega
    have e2 : ¬ 28 + i < 28 - 4 * k.val := by omega
    have e3 : 28 + i - (28 - 4 * k.val) = 4 * k.val + i := by omega
    simp [h, hi, hi', e, e2, e3, BitVec.getLsbD_extractLsb']; rfl
  · have e : ¬ 28 + i < 32 := by omega
    have e2 : ¬ 31 < 28 - 4 * k.val := by omega
    have e3 : 31 - (28 - 4 * k.val) = 4 * k.val + 3 := by omega
    simp [h, hi, hi', e, e2, e3, BitVec.msb_eq_getLsbD_last, BitVec.getLsbD_extractLsb']; rfl

theorem sign_eq : ∀ x : BitVec 4,
    Scalar.select (IntOp.cmpi .sge (x.setWidth 32) 8#32) (IntOp.subi (x.setWidth 32) 16#32) (x.setWidth 32) = x.signExtend 32 := by
  decide

/-- Picking the unsigned code out of a word and then its sign is picking the signed code. -/
theorem nibble_unsigned (w : BitVec 32) (k : ℕ) (hk : k < 8) :
    Scalar.select (IntOp.cmpi .sge (IntOp.andi (IntOp.shrui .host w (IntOp.muli 4#32 (BitVec.ofNat 32 k))) 15#32) 8#32)
      (IntOp.subi (IntOp.andi (IntOp.shrui .host w (IntOp.muli 4#32 (BitVec.ofNat 32 k))) 15#32) 16#32)
      (IntOp.andi (IntOp.shrui .host w (IntOp.muli 4#32 (BitVec.ofNat 32 k))) 15#32) = nibble w k := by
  rw [ucode_eq w ⟨k, hk⟩, nibble_ext w ⟨k, hk⟩]; exact sign_eq _

/-- Shifting the code to the top of the word and back down with its sign. -/
theorem nibble_shifts (w : BitVec 32) (k : ℕ) (hk : k < 8) :
    IntOp.shrsi .vector (IntOp.shli .vector w (IntOp.subi 28#32 (IntOp.muli 4#32 (BitVec.ofNat 32 k)))) 28#32 = nibble w k := by
  interval_cases k <;> rfl

theorem cmpi_eq (a b : BitVec 32) : IntOp.cmpi .eq a b = if a = b then 1#1 else 0#1 := by
  unfold IntOp.cmpi
  by_cases h : a = b
  · simp [h]
  · rw [if_neg h, show (a == b) = false from beq_false_of_ne h]; rfl

theorem select_ite {α : Type} (p : Prop) [Decidable p] (x y : α) : Scalar.select (if p then 1#1 else 0#1) x y = if p then x else y := by
  split <;> rfl

theorem and_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

end Cert.Attn

end
-- ==== Proof.Value.RefAt.lean ====
/-
  The reference's result, index by index: it is the attention of `Spec`.
-/
module

public import proofs.«01_k».proof.Proof.RefRun
public import proofs.«01_k».proof.Proof.Value.Nibble
public import Idealize.ShloMosaic.Lib.Tactic.CleanTypes
public import Idealize.ShloMosaic.Lib.BitcastConvert

@[expose] public section

set_option maxRecDepth 32768

noncomputable section

namespace Cert.ReferenceIdeal.Value

open Idealize.ShloMosaic Cert.ReferenceIdeal Cert.ReferenceIdeal.Gen Cert.ReferenceIdeal.Facts Cert.Attn

variable (V0 : Valuation τ sig (Elt Ideal))

/-- The arguments, entry by entry. -/
def data : Data where
  order b r := (V0 (Proc.devRef .tc main_arg0) : IVec S256x3 32) (ix2 b r)
  q b s h d := (V0 (Proc.devRef .tc main_arg1) : FVec Ideal S256x20x24x128 .bf16) (ix4 b s h d)
  kn b j h d := (V0 (Proc.devRef .tc main_arg2) : FVec Ideal S256x20x3x128 .bf16) (ix4 b j h d)
  vn b j h d := (V0 (Proc.devRef .tc main_arg3) : FVec Ideal S256x20x3x128 .bf16) (ix4 b j h d)
  kd a p d := (V0 (Proc.devRef .tc main_arg4) : IVec S24576x2x128 32) (ix3 a p d)
  vd a p l := (V0 (Proc.devRef .tc main_arg5) : IVec S3072x24x128 32) (ix3 a p l)
  bias b c l := (V0 (Proc.devRef .tc main_arg6) : FVec Ideal S256x16x128 .f32) (ix3 b c l)

theorem slot_words (x y z : BitVec 32) (t : Fin 1536) :
    Scalar.select (IntOp.cmpi .slt (BitVec.ofNat 32 t.val) 768#32) x
      (Scalar.select (IntOp.cmpi .slt (BitVec.ofNat 32 t.val) 1280#32) y z) = if t.val < 768 then x else if t.val < 1280 then y else z := by
  have h1 : ∀ t : Fin 1536, IntOp.cmpi .slt (BitVec.ofNat 32 t.val) 768#32 = if t.val < 768 then 1#1 else 0#1 := by decide +kernel
  have h2 : ∀ t : Fin 1536, IntOp.cmpi .slt (BitVec.ofNat 32 t.val) 1280#32 = if t.val < 1280 then 1#1 else 0#1 := by decide +kernel
  rw [h1, h2, select_ite, select_ite]

theorem slot_order (b : Fin 256) (t : ℕ) :
    (if t < 768 then (data V0).order b 0 else if t < 1280 then (data V0).order b 1 else (data V0).order b 2) = (data V0).order b (slot t) := by
  unfold slot; split_ifs <;> rfl

theorem live_words : ∀ t : Fin 1536,
    IntOp.ori (IntOp.ori (IntOp.andi (IntOp.cmpi .sge (BitVec.ofNat 32 t.val) 32#32) (IntOp.cmpi .slt (BitVec.ofNat 32 t.val) 768#32))
      (IntOp.andi (IntOp.cmpi .sge (BitVec.ofNat 32 t.val) 800#32) (IntOp.cmpi .slt (BitVec.ofNat 32 t.val) 1280#32)))
      (IntOp.cmpi .sge (BitVec.ofNat 32 t.val) 1312#32) = if live t.val then 1#1 else 0#1 := by
  decide +kernel

theorem causal_words : ∀ (j : Fin 20) (s : Fin 20),
    IntOp.cmpi .sle (BitVec.ofNat 32 j.val) (BitVec.ofNat 32 s.val) = if j.val ≤ s.val then 1#1 else 0#1 := by
  decide +kernel

theorem neg_inf : (id (constant (F := Ideal) S_ .f32 0xFF800000#32) ix0 : EReal) = ⊥ := by rfl

theorem queries_at (b : Fin 256) (h : Fin 3) (r : Fin 160) (d : Fin 128) :
    res_main_v2 V0 (ix4 b h r d) = (data V0).q b ⟨r.val % 20, by omega⟩ ⟨h.val * 8 + r.val / 20, by omega⟩ d := by
  unfold res_main_v2; pointwise; rfl

theorem scales_at (b : Fin 256) (c : Fin 12) (l : Fin 128) (g : Fin 8) (e : Fin 2) :
    res_main_v8 V0 (ix5 b c l g e) = half ((data V0).vd ⟨b.val * 12 + c.val, by omega⟩ ⟨16 + g.val, by omega⟩ l) e.val := by
  unfold res_main_v8 res_main_v5; clean_types; pointwise
  unfold half; rw [Nat.mul_comm]; rfl

theorem keyWords_at (b : Fin 256) (a : Fin 192) (k : Fin 8) (d : Fin 128) :
    res_main_v21 V0 (ix4 b a k d) = IntOp.andi (IntOp.shrui .host ((data V0).kd ⟨b.val * 96 + a.val / 2, by omega⟩ ⟨a.val % 2, by omega⟩ d)
      (IntOp.muli 4#32 (BitVec.ofNat 32 k.val))) 15#32 := by
  unfold res_main_v21; pointwise; rfl

theorem valWords_at (b : Fin 256) (c : Fin 12) (a : Fin 16) (k : Fin 8) (l : Fin 128) :
    res_main_v37 V0 (ix5 b c a k l) = IntOp.andi (IntOp.shrui .host ((data V0).vd ⟨b.val * 12 + c.val, by omega⟩ ⟨a.val, by omega⟩ l)
      (IntOp.muli 4#32 (BitVec.ofNat 32 k.val))) 15#32 := by
  unfold res_main_v37 res_main_v5; pointwise; rfl

/-- The scores over the cached tokens, over the new ones, their largest, the weights, and the inverse of the weights' sum. -/
def oldS : FVec Ideal S256x3x160x1536 .f32 := res_main_v107 V0
def newS : FVec Ideal S256x3x160x20 .f32 := res_main_v118 V0
def maxS : FVec Ideal S256x3x160 .f32 := res_main_v121 V0
def oldW : FVec Ideal S256x3x160x1536 .f32 := res_main_v125 V0
def newW : FVec Ideal S256x3x160x20 .f32 := res_main_v129 V0
def invS : FVec Ideal S256x3x160 .f32 := res_main_v134 V0

theorem key_at (b : Fin 256) (t : Fin 1536) (d : Fin 128) (h1 h2 h3 h4 h5 h6) :
    (FloatOps.sitofp (F := Ideal) .bf16
      (Scalar.select (IntOp.cmpi .sge (res_main_v21 V0 (ix4 b ⟨t.val / 128 * 16 + t.val % 128 / 8, h1⟩ ⟨t.val % 128 % 8, h2⟩ d)) 8#32)
        (IntOp.subi (res_main_v21 V0 (ix4 b ⟨t.val / 128 * 16 + t.val % 128 / 8, h1⟩ ⟨t.val % 128 % 8, h2⟩ d)) 16#32)
        (res_main_v21 V0 (ix4 b ⟨t.val / 128 * 16 + t.val % 128 / 8, h1⟩ ⟨t.val % 128 % 8, h2⟩ d)) : BitVec 32) : EReal)
      * res_main_v8 V0 (ix5 b ⟨t.val / 128, h3⟩ ⟨t.val % 128, h4⟩ ⟨d.val / 32, h5⟩ ⟨d.val % 2, h6⟩) = (data V0).key b t d := by
  rw [keyWords_at, scales_at]
  have e : (⟨b.val * 96 + (t.val / 128 * 16 + t.val % 128 / 8) / 2, by omega⟩ : Fin 24576) = ⟨b.val * 96 + t.val / 16, by omega⟩ :=
    Fin.ext (by show _ = _; simp only; omega)
  have e' : (t.val / 128 * 16 + t.val % 128 / 8) % 2 = t.val / 8 % 2 := by omega
  have e'' : t.val % 128 % 8 = t.val % 8 := by omega
  unfold Data.key code
  simp only [e, e', e'']
  rw [nibble_unsigned _ _ (Nat.mod_lt _ (by decide))]

theorem oldScore_at (b : Fin 256) (h : Fin 3) (r : Fin 160) (t : Fin 1536) :
    oldS V0 (ix4 b h r t) = (data V0).score b ⟨r.val % 20, by omega⟩ h ⟨r.val / 20, by omega⟩ (.inl t) := by
  unfold oldS res_main_v107 res_main_v53; pointwise
  simp only [slot_words, live_words]
  simp only [cmpi_eq, and_ite, select_ite]
  simp only [queries_at]
  unfold Data.score
  simp only [← slot_order]
  refine if_congr Iff.rfl ?_ rfl
  exact congrArg₂ (fun x y : EReal => x + y) (congrArg (fun x : EReal => x * Ideal.ofBits .f32 0x3DB504F3#32)
    (Finset.sum_congr rfl fun x _ => congrArg (fun y : EReal => (data V0).q b ⟨r.val % 20, by omega⟩ ⟨h.val * 8 + r.val / 20, by omega⟩ x * y)
      (key_at V0 b t x _ _ _ _ _ _))) rfl

theorem newScore_at (b : Fin 256) (h : Fin 3) (r : Fin 160) (j : Fin 20) :
    newS V0 (ix4 b h r j) = (data V0).score b ⟨r.val % 20, by omega⟩ h ⟨r.val / 20, by omega⟩ (.inr j) := by
  unfold newS res_main_v118 res_main_v86; pointwise
  rw [neg_inf, causal_words j ⟨r.val % 20, by omega⟩, select_ite, cmpi_eq, cmpi_eq, select_ite, select_ite]
  simp only [queries_at]
  show (if _ then _ + _ else _ : EReal) = (if _ then _ + _ else _)
  congr 2
  unfold Data.first
  show (if (data V0).order b 0 = BitVec.ofNat 32 h.val then (data V0).bias b 0 ⟨j.val, _⟩ else if (data V0).order b 1 = BitVec.ofNat 32 h.val then
    (data V0).bias b 6 ⟨j.val, _⟩ else (data V0).bias b 10 ⟨j.val, _⟩) = _
  split_ifs <;> rfl

theorem max_old (t : FVec Ideal S256x3x160x1536 .f32) (b : Fin 256) (h : Fin 3) (r : Fin 160) :
    Host.reduce FloatOps.maximumf t (constant S_ .f32 0xFF800000#32) reducesTo_S256x3x160x1536_S256x3x160_d3 h_S_ (ix3 b h r)
      = Finset.univ.sup fun l : Fin 1536 => (t (ix4 b h r l) : EReal) := by
  pointwise
  rw [show Ideal.ofBits FTy.f32 4286578688#32 = ⊥ from rfl]; rfl

theorem max_new (t : FVec Ideal S256x3x160x20 .f32) (b : Fin 256) (h : Fin 3) (r : Fin 160) :
    Host.reduce FloatOps.maximumf t (constant S_ .f32 0xFF800000#32) reducesTo_S256x3x160x20_S256x3x160_d3 h_S_ (ix3 b h r)
      = Finset.univ.sup fun l : Fin 20 => (t (ix4 b h r l) : EReal) := by
  pointwise
  rw [show Ideal.ofBits FTy.f32 4286578688#32 = ⊥ from rfl]; rfl

theorem maximumf_at (a b : FVec Ideal S256x3x160 .f32) (i : S256x3x160.Idx) : maximumf a b i = (max (a i) (b i) : EReal) := rfl

def maxOld (t : FVec Ideal S256x3x160x1536 .f32) : FVec Ideal S256x3x160 .f32 :=
  Host.reduce FloatOps.maximumf t (constant S_ .f32 0xFF800000#32) reducesTo_S256x3x160x1536_S256x3x160_d3 h_S_
def maxNew (t : FVec Ideal S256x3x160x20 .f32) : FVec Ideal S256x3x160 .f32 :=
  Host.reduce FloatOps.maximumf t (constant S_ .f32 0xFF800000#32) reducesTo_S256x3x160x20_S256x3x160_d3 h_S_

attribute [local irreducible] Host.reduce in
theorem maxS_eq : maxS V0 = maximumf (maxOld (oldS V0)) (maxNew (newS V0)) := by
  unfold maxS res_main_v121 maxOld maxNew oldS newS
  with_reducible rfl

theorem max_at (b : Fin 256) (h : Fin 3) (r : Fin 160) :
    maxS V0 (ix3 b h r) = (max (Finset.univ.sup fun l : Fin 1536 => (oldS V0 (ix4 b h r l) : EReal))
      (Finset.univ.sup fun l : Fin 20 => (newS V0 (ix4 b h r l) : EReal)) : EReal) := by
  rw [maxS_eq, maximumf_at]
  unfold maxOld maxNew
  rw [max_old, max_new]

theorem oldWeight_at (b : Fin 256) (h : Fin 3) (r : Fin 160) (t : Fin 1536) :
    oldW V0 (ix4 b h r t) = Ideal.exp ((oldS V0 (ix4 b h r t) : EReal) - maxS V0 (ix3 b h r)) := by
  unfold oldW res_main_v125; pointwise; rfl

theorem newWeight_at (b : Fin 256) (h : Fin 3) (r : Fin 160) (j : Fin 20) :
    newW V0 (ix4 b h r j) = Ideal.exp ((newS V0 (ix4 b h r j) : EReal) - maxS V0 (ix3 b h r)) := by
  unfold newW res_main_v129; pointwise; rfl

theorem inv_at (b : Fin 256) (h : Fin 3) (r : Fin 160) :
    invS V0 (ix3 b h r) = Ideal.div 1 ((∑ t : Fin 1536, (oldW V0 (ix4 b h r t) : EReal)) + ∑ j : Fin 20, (newW V0 (ix4 b h r j) : EReal)) := by
  unfold invS res_main_v134; pointwise; rfl

/-- The values of the cached tokens. -/
def oldV : FVec Ideal S256x1536x128 .bf16 :=
  shapeCast S256x1536x128 (mulf (shapeCast S256x12x128x4x16x2 (transpose S256x12x128x128 [0, 1, 3, 2] (shapeCast S256x12x128x128 (sitofp .bf16 (select (cmpi .sge (res_main_v37 V0) (broadcastInDim S256x12x16x8x128 ![] bcast_S_S256x12x16x8x128 (constantI S_ 32 8#32))) (subi (res_main_v37 V0) (broadcastInDim S256x12x16x8x128 ![] bcast_S_S256x12x16x8x128 (constantI S_ 32 16#32))) (res_main_v37 V0))) shapeCasts_S256x12x16x8x128_S256x12x128x128) transposes_S256x12x128x128_S256x12x128x128_0_1_3_2) shapeCasts_S256x12x128x128_S256x12x128x4x16x2) (broadcastInDim S256x12x128x4x16x2 ![0, 1, 2, 3, 4, 5] bcast_S256x12x128x4x1x2_S256x12x128x4x16x2_0_1_2_3_4_5 (broadcastInDim S256x12x128x4x1x2 ![0, 1, 2, 3, 5] bcast_S256x12x128x4x2_S256x12x128x4x1x2_0_1_2_3_5 (extractStridedSlice S256x12x128x4x2 ![0, 0, 0, 4, 0] (res_main_v8 V0) slices_S256x12x128x8x2_S256x12x128x4x2_0_0_0_4_0)))) shapeCasts_S256x12x128x4x16x2_S256x1536x128

theorem val_at (b : Fin 256) (t : Fin 1536) (d : Fin 128) (h1 h2 h3 h4 h5 h6) :
    (FloatOps.sitofp (F := Ideal) .bf16
      (Scalar.select (IntOp.cmpi .sge (res_main_v37 V0 (ix5 b ⟨t.val / 128, h1⟩ ⟨d.val / 8, h2⟩ ⟨d.val % 8, h3⟩ ⟨t.val % 128, h4⟩)) 8#32)
        (IntOp.subi (res_main_v37 V0 (ix5 b ⟨t.val / 128, h1⟩ ⟨d.val / 8, h2⟩ ⟨d.val % 8, h3⟩ ⟨t.val % 128, h4⟩)) 16#32)
        (res_main_v37 V0 (ix5 b ⟨t.val / 128, h1⟩ ⟨d.val / 8, h2⟩ ⟨d.val % 8, h3⟩ ⟨t.val % 128, h4⟩)) : BitVec 32) : EReal)
      * res_main_v8 V0 (ix5 b ⟨t.val / 128, h1⟩ ⟨t.val % 128, h4⟩ ⟨4 + d.val / 32, h5⟩ ⟨d.val % 2, h6⟩) = (data V0).val b t d := by
  rw [valWords_at, scales_at]
  unfold Data.val code
  have e : (⟨16 + (4 + d.val / 32), by omega⟩ : Fin 24) = ⟨20 + d.val / 32, by omega⟩ := Fin.ext (by show _ = _; simp only; omega)
  simp only [e]
  rw [nibble_unsigned _ _ (Nat.mod_lt _ (by decide))]

theorem oldV_at (b : Fin 256) (t : Fin 1536) (d : Fin 128) : oldV V0 (ix3 b t d) = (data V0).val b t d := by
  unfold oldV; clean_types; pointwise
  exact val_at V0 b t d _ _ _ _ _ _

/-- The result before the last change of its axes. -/
def result : FVec Ideal S256x20x3x8x128 .bf16 :=
  truncf .bf16 (transpose S256x20x3x8x128 [0, 3, 1, 2, 4] (shapeCast S256x3x8x20x128 (addf (Host.dotGeneral dot_S256x3x160x1536_S256x1536x128_S256x3x160x128_3_1_12_2_0_0 none (truncf .bf16 (mulf (oldW V0) (broadcastInDim S256x3x160x1536 ![0, 1, 2, 3] bcast_S256x3x160x1_S256x3x160x1536_0_1_2_3 (broadcastInDim S256x3x160x1 ![0, 1, 2] bcast_S256x3x160_S256x3x160x1_0_1_2 (invS V0)))) bitsLt_bf16_f32) (oldV V0)) (Host.dotGeneral (φ₁ := .bf16) (φ₂ := .bf16) dot_S256x3x160x20_S256x3x20x128_S256x3x160x128_3_2_2_3_01_01 none (truncf .bf16 (mulf (newW V0) (broadcastInDim S256x3x160x20 ![0, 1, 2, 3] bcast_S256x3x160x1_S256x3x160x20_0_1_2_3 (broadcastInDim S256x3x160x1 ![0, 1, 2] bcast_S256x3x160_S256x3x160x1_0_1_2 (invS V0)))) bitsLt_bf16_f32) (transpose S256x3x20x128 [0, 2, 1, 3] (V0 (Proc.devRef .tc main_arg3) : FVec Ideal S256x20x3x128 .bf16) transposes_S256x20x3x128_S256x3x20x128_0_2_1_3))) shapeCasts_S256x3x160x128_S256x3x8x20x128) transposes_S256x3x8x20x128_S256x20x3x8x128_0_3_1_2_4) bitsLt_bf16_f32

theorem result_at (b : Fin 256) (s : Fin 20) (h : Fin 3) (g : Fin 8) (d : Fin 128) :
    result V0 (ix5 b s h g d) = (data V0).out b s h g d := by
  unfold result; pointwise
  simp only [oldV_at]
  simp only [inv_at, oldWeight_at, newWeight_at]
  simp only [max_at]
  simp only [oldScore_at, newScore_at]
  unfold Data.out
  rw [softmaxAvg_sum]
  have e1 : (g.val * 20 + s.val) % 20 = s.val := by omega
  have e2 : (g.val * 20 + s.val) / 20 = g.val := by omega
  simp only [e1, e2, Fin.eta]
  rfl

end Cert.ReferenceIdeal.Value

end
-- ==== Proof.RealFrame.RunV.lean ====
/- The run of the whole body at one grid point.
   (`Cert.KernelIdeal`.)
-/
module

public import proofs.«01_k».proof.Proof.RealFrame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9472000 in
/-- The body's run: on whole staging memrefs, the inputs at their contents, it runs to the continuation
    holding the inputs as they were and the output block written by a list of pieces, the list being a function
    of what the two scratch buffers held at first. -/
def bodyRun (c : Dev nD) (i : grid0.Coords) (arg2 : Memref sig .tc .vmem S8x20x3x8x128 .bf16) (harg2 : arg2.IsWhole) (arg3 : Memref sig .tc .vmem S20x3x8x128 .bf16) (harg3 : arg3.IsWhole) (arg4 : Memref sig .tc .vmem S20x3x8x128 .bf16) (harg4 : arg4.IsWhole) (arg5 : Memref sig .tc .vmem S768x2x128 .i32) (harg5 : arg5.IsWhole) (arg6 : Memref sig .tc .vmem S96x24x128 .i32) (harg6 : arg6.IsWhole) (arg7 : Memref sig .tc .vmem S8x16x128 .f32) (harg7 : arg7.IsWhole) (arg8 : Memref sig .tc .vmem S8x20x3x8x128 .bf16) (harg8 : arg8.IsWhole) (arg9 : Memref sig .tc .vmem S3x4x24x2x128 .bf16) (harg9 : arg9.IsWhole) (arg10 : Memref sig .tc .vmem S3x4x24x2x128 .bf16) (harg10 : arg10.IsWhole)
    (x0 : Vec F S8x20x3x8x128 .bf16) (x1 : Vec F S20x3x8x128 .bf16) (x2 : Vec F S20x3x8x128 .bf16) (x3 : Vec F S768x2x128 .i32) (x4 : Vec F S96x24x128 .i32) (x5 : Vec F S8x16x128 .f32) (xt0 : TbBuf0 (F := F) c tbM0_0) (k0_hw1 : k0_chk1 (tbM0_0.view.readAt (Elt F) (Rect.unit (s := S768) (k0_off1 i) S1.size (k0_off1_inb i)).toLoadRect xt0 (Shape.Idx.first (numel1_S1.symm ▸ Nat.one_pos)))) (k0_hw2 : k0_chk2 (tbM0_0.view.readAt (Elt F) (Rect.unit (s := S768) (k0_off4 i) S1.size (k0_off4_inb i)).toLoadRect xt0 (Shape.Idx.first (numel1_S1.symm ▸ Nat.one_pos)))) (k0_hw3 : k0_chk3 (tbM0_0.view.readAt (Elt F) (Rect.unit (s := S768) (k0_off7 i) S1.size (k0_off7_inb i)).toLoadRect xt0 (Shape.Idx.first (numel1_S1.symm ▸ Nat.one_pos)))) (k0_hw4 : k0_chk4 (tbM0_0.view.readAt (Elt F) (Rect.unit (s := S768) (k0_off10 i) S1.size (k0_off10_inb i)).toLoadRect xt0 (Shape.Idx.first (numel1_S1.symm ▸ Nat.one_pos)))) (k0_hw5 : k0_chk5 (tbM0_0.view.readAt (Elt F) (Rect.unit (s := S768) (k0_off13 i) S1.size (k0_off13_inb i)).toLoadRect xt0 (Shape.Idx.first (numel1_S1.symm ▸ Nat.one_pos)))) (k0_hw6 : k0_chk6 (tbM0_0.view.readAt (Elt F) (Rect.unit (s := S768) (k0_off16 i) S1.size (k0_off16_inb i)).toLoadRect xt0 (Shape.Idx.first (numel1_S1.symm ▸ Nat.one_pos)))) (k0_hw7 : k0_chk7 (tbM0_0.view.readAt (Elt F) (Rect.unit (s := S768) (k0_off19 i) S1.size (k0_off19_inb i)).toLoadRect xt0 (Shape.Idx.first (numel1_S1.symm ▸ Nat.one_pos)))) (k0_hw8 : k0_chk8 (tbM0_0.view.readAt (Elt F) (Rect.unit (s := S768) (k0_off22 i) S1.size (k0_off22_inb i)).toLoadRect xt0 (Shape.Idx.first (numel1_S1.symm ▸ Nat.one_pos)))) (k0_hw9 : k0_chk9 (tbM0_0.view.readAt (Elt F) (Rect.unit (s := S768) (k0_off25 i) S1.size (k0_off25_inb i)).toLoadRect xt0 (Shape.Idx.first (numel1_S1.symm ▸ Nat.one_pos)))) (k0_hw10 : k0_chk10 (tbM0_0.view.readAt (Elt F) (Rect.unit (s := S768) (k0_off28 i) S1.size (k0_off28_inb i)).toLoadRect xt0 (Shape.Idx.first (numel1_S1.symm ▸ Nat.one_pos)))) (k0_hw11 : k0_chk11 (tbM0_0.view.readAt (Elt F) (Rect.unit (s := S768) (k0_off31 i) S1.size (k0_off31_inb i)).toLoadRect xt0 (Shape.Idx.first (numel1_S1.symm ▸ Nat.one_pos)))) (k0_hw12 : k0_chk12 (tbM0_0.view.readAt (Elt F) (Rect.unit (s := S768) (k0_off34 i) S1.size (k0_off34_inb i)).toLoadRect xt0 (Shape.Idx.first (numel1_S1.symm ▸ Nat.one_pos)))) (k0_hw13 : k0_chk13 (tbM0_0.view.readAt (Elt F) (Rect.unit (s := S768) (k0_off37 i) S1.size (k0_off37_inb i)).toLoadRect xt0 (Shape.Idx.first (numel1_S1.symm ▸ Nat.one_pos)))) (k0_hw14 : k0_chk14 (tbM0_0.view.readAt (Elt F) (Rect.unit (s := S768) (k0_off40 i) S1.size (k0_off40_inb i)).toLoadRect xt0 (Shape.Idx.first (numel1_S1.symm ▸ Nat.one_pos)))) (k0_hw15 : k0_chk15 (tbM0_0.view.readAt (Elt F) (Rect.unit (s := S768) (k0_off43 i) S1.size (k0_off43_inb i)).toLoadRect xt0 (Shape.Idx.first (numel1_S1.symm ▸ Nat.one_pos)))) (k0_hw16 : k0_chk16 (tbM0_0.view.readAt (Elt F) (Rect.unit (s := S768) (k0_off46 i) S1.size (k0_off46_inb i)).toLoadRect xt0 (Shape.Idx.first (numel1_S1.symm ▸ Nat.one_pos)))) (k0_hw17 : k0_chk17 (tbM0_0.view.readAt (Elt F) (Rect.unit (s := S768) (k0_off49 i) S1.size (k0_off49_inb i)).toLoadRect xt0 (Shape.Idx.first (numel1_S1.symm ▸ Nat.one_pos)))) (k0_hw18 : k0_chk18 (tbM0_0.view.readAt (Elt F) (Rect.unit (s := S768) (k0_off52 i) S1.size (k0_off52_inb i)).toLoadRect xt0 (Shape.Idx.first (numel1_S1.symm ▸ Nat.one_pos)))) (k0_hw19 : k0_chk19 (tbM0_0.view.readAt (Elt F) (Rect.unit (s := S768) (k0_off55 i) S1.size (k0_off55_inb i)).toLoadRect xt0 (Shape.Idx.first (numel1_S1.symm ▸ Nat.one_pos)))) (k0_hw20 : k0_chk20 (tbM0_0.view.readAt (Elt F) (Rect.unit (s := S768) (k0_off58 i) S1.size (k0_off58_inb i)).toLoadRect xt0 (Shape.Idx.first (numel1_S1.symm ▸ Nat.one_pos)))) (k0_hw21 : k0_chk21 (tbM0_0.view.readAt (Elt F) (Rect.unit (s := S768) (k0_off61 i) S1.size (k0_off61_inb i)).toLoadRect xt0 (Shape.Idx.first (numel1_S1.symm ▸ Nat.one_pos)))) (k0_hw22 : k0_chk22 (tbM0_0.view.readAt (Elt F) (Rect.unit (s := S768) (k0_off64 i) S1.size (k0_off64_inb i)).toLoadRect xt0 (Shape.Idx.first (numel1_S1.symm ▸ Nat.one_pos)))) (k0_hw23 : k0_chk23 (tbM0_0.view.readAt (Elt F) (Rect.unit (s := S768) (k0_off67 i) S1.size (k0_off67_inb i)).toLoadRect xt0 (Shape.Idx.first (numel1_S1.symm ▸ Nat.one_pos)))) (k0_hw24 : k0_chk24 (tbM0_0.view.readAt (Elt F) (Rect.unit (s := S768) (k0_off70 i) S1.size (k0_off70_inb i)).toLoadRect xt0 (Shape.Idx.first (numel1_S1.symm ▸ Nat.one_pos)))) :
      {L : arg9.view.ty.Contents (Elt F) → arg10.view.ty.Contents (Elt F) → List (View.Piece (Elt F) S8x20x3x8x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ fs0 fs1 f6, (arg8.view.loc (c : Thread nD τ) ↦[arg8.view.set]{fullShare} arg8.view.writes (Elt F) f6 (L fs0 fs1))) ∗ (∃ d, owns (c : Thread nD τ) arg9 fullShare d) ∗ (∃ d, owns (c : Thread nD τ) arg10 fullShare d) ∗ tbPt0 c tbM0_0 xt0) -∗ K ⟨⟩))
          ⊢ wp frame (wpE (defs₀ (F := F)) Variants.none c none) E (cc0_attend i tbM0_0 htbM0_0 arg2 harg2 arg3 harg3 arg4 harg4 arg5 harg5 arg6 harg6 arg7 harg7 arg8 harg8 arg9 harg9 arg10 harg10) K} := by
    refine ⟨?_, fun E K => ?run⟩
    case run =>
      simp only [cc0_attend_eq_skeleton]; unfold cc0_attend_skel
      simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, HT0, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5
      sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists fs0, fs1, f6
        iexact H6
      isplitl [HS0]
      · iexists _, _; isplitr; swap; · iexact HS0
        ipureintro; rfl
      isplitl [HS1]
      · iexists _, _; isplitr; swap; · iexact HS1
        ipureintro; rfl
      iexact HT0

end Cert.KernelIdeal.Gen

end
-- ==== Proof.Value.Launch.lean ====
/-
  The launch, with what the body leaves in the result's window NAMED: whenever the body's pieces leave the block `B c t` at every
  point, whatever its scratch and its result window held before, the program ends with the result array holding these blocks.
-/
module

public import proofs.«01_k».proof.Proof.RealFrame.RunV
public import Idealize.ShloMosaic.Lib.Claim

@[expose] public section

-- membership in a rectangle of production extents (`View.cover_of_tiled`): the elaborator's structural look
-- recurses once per coordinate of the long axes
set_option maxRecDepth 16384

noncomputable section

namespace Cert.KernelIdeal.Named

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer whose contents read as `X` is owned at `X`. -/
theorem owns_of_read (c : Dev nD) {s : Shape} {e : EltTy} (M : Memref sig .tc .vmem s e) (f : M.view.ty.Contents (Elt F)) (X : s.Idx → Elt F e)
    (h : M.view.read (Elt F) f = X) : (M.view.loc (c : Thread nD τ) ↦[M.view.set]{fullShare} f : sProp 𝕄) ⊢ owns (c : Thread nD τ) M fullShare X := by
  unfold owns
  iintro H
  iexists f
  isplitr; · ipureintro; exact h
  iexact H

/-! ## The pipeline's proof data -/

/-- The body's pieces at point `t`, of what the two scratch buffers held before. -/
def pieces (hO : Ok m) (hH : Hyps m hO) (c : Dev nD) (t : Fin (cfgM m hO).N) :=
  (bodyRun (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t)).1

/-- What the body leaves in the result's window is named. -/
def Leaves (hO : Ok m) (hH : Hyps m hO) (B : (c : Dev nD) → (t : Fin (cfgM m hO).N) → Vec F S8x20x3x8x128 .bf16) : Prop :=
  ∀ (c : Dev nD) (t : Fin (cfgM m hO).N) (fs0 : scM0_0.view.ty.Contents (Elt F)) (fs1 : scM0_1.view.ty.Contents (Elt F)) (f6 : (ms0_6 m hO t).view.ty.Contents (Elt F)),
    (ms0_6 m hO t).view.read (Elt F) ((ms0_6 m hO t).view.writes (Elt F) f6 (pieces m hO hH c t fs0 fs1)) = B c t

/-- The proof data of the one pipeline on core `c`: the arrays as the region finds them (`V`); after the body at
    point `t` each input's buffer at its block and the output's at `B`; the invariant the class's
    (Lib/Pipeline/Frame.lean `ΦA`: the scoped rest and the generator register) and the tables' halves (`ΦT`); nothing owed;
    full shares. -/
def dats (hO : Ok m) (B : (c : Dev nD) → (t : Fin (cfgM m hO).N) → Vec F S8x20x3x8x128 .bf16) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => B c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (B : (c : Dev nD) → (t : Fin (cfgM m hO).N) → Vec F S8x20x3x8x128 .bf16) (c : Dev nD) (w : Fin (cfgM m hO).W) : (dats m hO B 0 c).A w = V m c (Pipeline.arrRef spec0 w) := by
  dsimp only [dats]

/-- What the body leaves, window by window (the proof data's `match` reduced by `dsimp`). -/
theorem after0_0 (hO : Ok m) (B : (c : Dev nD) → (t : Fin (cfgM m hO).N) → Vec F S8x20x3x8x128 .bf16) (c : Dev nD) (t : Fin (cfgM m hO).N) : (dats m hO B 0 c).after 0 t = iblk m hO c 0 t := by dsimp only [dats]; try rfl
theorem after0_1 (hO : Ok m) (B : (c : Dev nD) → (t : Fin (cfgM m hO).N) → Vec F S8x20x3x8x128 .bf16) (c : Dev nD) (t : Fin (cfgM m hO).N) : (dats m hO B 0 c).after 1 t = iblk m hO c 1 t := by dsimp only [dats]; try rfl
theorem after0_2 (hO : Ok m) (B : (c : Dev nD) → (t : Fin (cfgM m hO).N) → Vec F S8x20x3x8x128 .bf16) (c : Dev nD) (t : Fin (cfgM m hO).N) : (dats m hO B 0 c).after 2 t = iblk m hO c 2 t := by dsimp only [dats]; try rfl
theorem after0_3 (hO : Ok m) (B : (c : Dev nD) → (t : Fin (cfgM m hO).N) → Vec F S8x20x3x8x128 .bf16) (c : Dev nD) (t : Fin (cfgM m hO).N) : (dats m hO B 0 c).after 3 t = iblk m hO c 3 t := by dsimp only [dats]; try rfl
theorem after0_4 (hO : Ok m) (B : (c : Dev nD) → (t : Fin (cfgM m hO).N) → Vec F S8x20x3x8x128 .bf16) (c : Dev nD) (t : Fin (cfgM m hO).N) : (dats m hO B 0 c).after 4 t = iblk m hO c 4 t := by dsimp only [dats]; try rfl
theorem after0_5 (hO : Ok m) (B : (c : Dev nD) → (t : Fin (cfgM m hO).N) → Vec F S8x20x3x8x128 .bf16) (c : Dev nD) (t : Fin (cfgM m hO).N) : (dats m hO B 0 c).after 5 t = iblk m hO c 5 t := by dsimp only [dats]; try rfl
theorem after0_6 (hO : Ok m) (B : (c : Dev nD) → (t : Fin (cfgM m hO).N) → Vec F S8x20x3x8x128 .bf16) (c : Dev nD) (t : Fin (cfgM m hO).N) : (dats m hO B 0 c).after 6 t = B c t := by dsimp only [dats]; try rfl

/-- Each input's current staging buffer holds its block at every point, fetched there or not (`beforeK_W_of`). -/
theorem before0_0 (hO : Ok m) (B : (c : Dev nD) → (t : Fin (cfgM m hO).N) → Vec F S8x20x3x8x128 .bf16) (c : Dev nD) (t : Fin (cfgM m hO).N) (d) : (dats m hO B 0 c).before 0 t d = iblk m hO c 0 t :=
  before0_0_of m hO (dats m hO B 0 c) (A_eq m hO B c 0) (after0_0 m hO B c) t d
theorem before0_1 (hO : Ok m) (B : (c : Dev nD) → (t : Fin (cfgM m hO).N) → Vec F S8x20x3x8x128 .bf16) (c : Dev nD) (t : Fin (cfgM m hO).N) (d) : (dats m hO B 0 c).before 1 t d = iblk m hO c 1 t :=
  before0_1_of m hO (dats m hO B 0 c) (A_eq m hO B c 1) (after0_1 m hO B c) t d
theorem before0_2 (hO : Ok m) (B : (c : Dev nD) → (t : Fin (cfgM m hO).N) → Vec F S8x20x3x8x128 .bf16) (c : Dev nD) (t : Fin (cfgM m hO).N) (d) : (dats m hO B 0 c).before 2 t d = iblk m hO c 2 t :=
  before0_2_of m hO (dats m hO B 0 c) (A_eq m hO B c 2) (after0_2 m hO B c) t d
theorem before0_3 (hO : Ok m) (B : (c : Dev nD) → (t : Fin (cfgM m hO).N) → Vec F S8x20x3x8x128 .bf16) (c : Dev nD) (t : Fin (cfgM m hO).N) (d) : (dats m hO B 0 c).before 3 t d = iblk m hO c 3 t :=
  before0_3_of m hO (dats m hO B 0 c) (A_eq m hO B c 3) (after0_3 m hO B c) t d
theorem before0_4 (hO : Ok m) (B : (c : Dev nD) → (t : Fin (cfgM m hO).N) → Vec F S8x20x3x8x128 .bf16) (c : Dev nD) (t : Fin (cfgM m hO).N) (d) : (dats m hO B 0 c).before 4 t d = iblk m hO c 4 t :=
  before0_4_of m hO (dats m hO B 0 c) (A_eq m hO B c 4) (after0_4 m hO B c) t d
theorem before0_5 (hO : Ok m) (B : (c : Dev nD) → (t : Fin (cfgM m hO).N) → Vec F S8x20x3x8x128 .bf16) (c : Dev nD) (t : Fin (cfgM m hO).N) (d) : (dats m hO B 0 c).before 5 t d = iblk m hO c 5 t :=
  before0_5_of m hO (dats m hO B 0 c) (A_eq m hO B c 5) (after0_5 m hO B c) t d

/-! ## The body obligation, at a generic point -/

/-- What the body is called with at point `t` (Lib/Pipeline.lean `BodyObligation`'s precondition, the windows one by one), -/
def bodyPre (hO : Ok m) (B : (c : Dev nD) → (t : Fin (cfgM m hO).N) → Vec F S8x20x3x8x128 .bf16) (c : Dev nD) (t : Fin (cfgM m hO).N) : sProp 𝕄 :=
  iprop((dats m hO B 0 c).Φ t.castSucc ∗ (dats m hO B 0 c).owesAt () t.castSucc
    ∗ (∃ d, owns (c : Thread nD τ) (ms0_0 m hO t) fullShare ((dats m hO B 0 c).before 0 t d))
    ∗ (∃ d, owns (c : Thread nD τ) (ms0_1 m hO t) fullShare ((dats m hO B 0 c).before 1 t d))
    ∗ (∃ d, owns (c : Thread nD τ) (ms0_2 m hO t) fullShare ((dats m hO B 0 c).before 2 t d))
    ∗ (∃ d, owns (c : Thread nD τ) (ms0_3 m hO t) fullShare ((dats m hO B 0 c).before 3 t d))
    ∗ (∃ d, owns (c : Thread nD τ) (ms0_4 m hO t) fullShare ((dats m hO B 0 c).before 4 t d))
    ∗ (∃ d, owns (c : Thread nD τ) (ms0_5 m hO t) fullShare ((dats m hO B 0 c).before 5 t d))
    ∗ (∃ d, owns (c : Thread nD τ) (ms0_6 m hO t) fullShare ((dats m hO B 0 c).before 6 t d)))

/-- and what it returns. -/
def bodyPost (hO : Ok m) (B : (c : Dev nD) → (t : Fin (cfgM m hO).N) → Vec F S8x20x3x8x128 .bf16) (c : Dev nD) (t : Fin (cfgM m hO).N) : sProp 𝕄 :=
  iprop((dats m hO B 0 c).Φ t.succ ∗ (dats m hO B 0 c).owesAt () t.succ
    ∗ owns (c : Thread nD τ) (ms0_0 m hO t) fullShare ((dats m hO B 0 c).after 0 t)
    ∗ owns (c : Thread nD τ) (ms0_1 m hO t) fullShare ((dats m hO B 0 c).after 1 t)
    ∗ owns (c : Thread nD τ) (ms0_2 m hO t) fullShare ((dats m hO B 0 c).after 2 t)
    ∗ owns (c : Thread nD τ) (ms0_3 m hO t) fullShare ((dats m hO B 0 c).after 3 t)
    ∗ owns (c : Thread nD τ) (ms0_4 m hO t) fullShare ((dats m hO B 0 c).after 4 t)
    ∗ owns (c : Thread nD τ) (ms0_5 m hO t) fullShare ((dats m hO B 0 c).after 5 t)
    ∗ owns (c : Thread nD τ) (ms0_6 m hO t) fullShare ((dats m hO B 0 c).after 6 t))

set_option maxHeartbeats 2400000 in
set_option maxRecDepth 131072 in
/-- The body at any point: the inputs' memrefs hold their blocks (`before0_W`); so the
    run applies; the invariant hands the body its scratch buffers at some contents (and the generator register) and takes them back at some contents (`PhiA_eq`); the core owes nothing throughout. -/
theorem sound_body (hO : Ok m) (B : (c : Dev nD) → (t : Fin (cfgM m hO).N) → Vec F S8x20x3x8x128 .bf16) (hH : Hyps m hO) (hB : Leaves m hO hH B) (c : Dev nD) (t : Fin (cfgM m hO).N) :
    bodyPre m hO B c t ⊢ wp frame (wpE (defs₀ (F := F)) Variants.none c none) Set.univ (bodyAt0 (adm m hO) t) (fun _ => bodyPost m hO B c t) := by
  unfold bodyPre bodyPost bodyAt0
  simp only [before0_0, before0_1, before0_2, before0_3, before0_4, before0_5]
  rw [show (dats m hO B 0 c).Φ t.succ = (dats m hO B 0 c).Φ t.castSucc from rfl,
    show (dats m hO B 0 c).owesAt () t.succ = (dats m hO B 0 c).owesAt () t.castSucc from rfl,
    after0_0, after0_1, after0_2, after0_3, after0_4, after0_5, after0_6]
  rw [show (dats m hO B 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((bodyRun (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HT0]; · iexact HT0
  iintro ⟨H0, H1, H2, H3, H4, H5, ⟨%fs0, %fs1, %f6, H6⟩, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (owns_of_read c (ms0_6 m hO t) _ _ (hB c t fs0 fs1 f6)); iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (B : (c : Dev nD) → (t : Fin (cfgM m hO).N) → Vec F S8x20x3x8x128 .bf16) (hH : Hyps m hO) (hB : Leaves m hO hH B) (c : Dev nD) : BodyObligation (dats (F := F) m hO B 0 c) (defs₀ (F := F)) Variants.none () Set.univ := fun t => by
  rw [bigSep_W0, bigSep_W0, defs₀_row m hO]
  exact triple_restated (sound_body m hO B hH hB c t) rfl .rfl fun _ => .rfl

/-! ## The run and the frame -/

-- `θ_run_frameP`'s implicit arguments are found by unifying its conclusion with this one, which takes unfolding plain
-- definitions in a metavariable's type
set_option backward.isDefEq.respectTransparency.types false in
/-- The launch: the program ends with every window's array at what the named blocks make of it. -/
theorem run_main (hO : Ok m) (B : (c : Dev nD) → (t : Fin (cfgM m hO).N) → Vec F S8x20x3x8x128 .bf16) (hH : Hyps m hO) (hB : Leaves m hO hH B) : θ_run defs (onTc (τ := τ) (main (F := F))) (s₀ m ρ) (Pipeline.FramePost (Pipeline.pin pcfgs fun _ => adm m hO) (dats m hO B) 0 (V m)) :=
  Pipeline.θ_run_frameP pcfgs (fun _ => adm m hO) (dats m hO B) (0 : Fin 1) launch0 defs₀ Variants.none m ρ main
    (hbody := fun c => (body_obligation m hO B hH hB c).loose) (hshare := fun c => (dats m hO B 0 c).share_full fun _ => rfl)
    (howed := fun _ _ => rfl) (V := V m) (hmain := hmain m Variants.none) (hA := A_eq m hO B) (hpf := V_pre m) (hΦ := fun _ _ => rfl)

end Cert.KernelIdeal.Named

end
-- ==== Proof.Value.Heads.lean ====
/-
  One head of the attention body, written once.

  The body treats eight sequences and, for each, three heads in the order the table names them; the first takes six chunks of 128
  cached tokens, the second four and the third two. Each of the twenty-four blocks is one of the three functions `head6`, `head4`
  and `head2` below, of what the block reads: queries, key words, value words, scales, biases and the new keys and values.
-/
module

public import proofs.«01_k».proof.KernelIdeal
public import proofs.«01_k».proof.Proof.Gen.KernelIdeal

@[expose] public section

noncomputable section

namespace Cert.KernelIdeal.Heads

open Idealize.ShloMosaic Cert.KernelIdeal Cert.KernelIdeal.Facts Cert.KernelIdeal.Gen

variable {F : FTy → Type} [FloatOps F] [Named F]

/-- The eight signed four-bit codes of each word, along the rows. -/
def codes (w : IVec S16x128 32) : FVec F S128x128 .bf16 :=
  sitofp .bf16 (shapeCast S128x128
    (shrsi (shli (broadcastTo S16x8x128 (shapeCast S16x1x128 (shapeCast S16x1x128 w shapeCasts_S16x128_S16x1x128)
        shapeCasts_S16x1x128_S16x1x128) broadcasts_S16x1x128_S16x8x128)
      (subi (broadcast S16x8x128 28#32) (muli (broadcast S16x8x128 4#32) (iota .tc S16x8x128 32 [1] iota_S16x8x128_d1_w32))))
      (broadcast S16x8x128 28#32)) shapeCasts_S16x8x128_S128x128)

/-- One group's scales: each word holds the scales of the even and of the odd rows of the group. -/
def scaleRow (r : Vec F S1x1x128 .i32) : FVec F S32x128 .bf16 :=
  bitcastToFloat .bf16 (bitcast S32x128 16 (broadcastTo S16x128 (shapeCast S1x128 (shapeCast S1x128 (shapeCast S128 (r : IVec S1x1x128 32)
    shapeCasts_S1x1x128_S128) shapeCasts_S128_S1x128) shapeCasts_S1x128_S1x128) broadcasts_S1x128_S16x128)
    bitcasts_S16x128_w32_S32x128_w16)

/-- The scales of the four groups, one below the other. -/
def scales (r : Fin 4 → Vec F S1x1x128 .i32) : FVec F S128x128 .bf16 :=
  concatenate S128x128 0 [⟨S32x128, scaleRow (r 0)⟩, ⟨S32x128, scaleRow (r 1)⟩, ⟨S32x128, scaleRow (r 2)⟩, ⟨S32x128, scaleRow (r 3)⟩]
    concatenates_S32x128_S32x128_S32x128_S32x128_S128x128_d0

/-- A chunk's keys, one token a column. -/
def keyC (w : Vec F S8x2x128 .i32) (r : Fin 4 → Vec F S1x1x128 .i32) : FVec F S128x128 .bf16 :=
  mulf (transpose S128x128 [1, 0] (codes (shapeCast S16x128 (w : IVec S8x2x128 32) shapeCasts_S8x2x128_S16x128))
    transposes_S128x128_p1_0_S128x128) (scales r)

/-- A chunk's values, one token a column. -/
def valC (w : Vec F S1x16x128 .i32) (r : Fin 4 → Vec F S1x1x128 .i32) : FVec F S128x128 .bf16 :=
  mulf (codes (shapeCast S16x128 (w : IVec S1x16x128 32) shapeCasts_S1x16x128_S16x128)) (scales r)

/-- The new tokens of the sequence of parity `p` in a scratch row, one token a column, twenty of them and zeros after. -/
def newT (p : Fin 2) (raw : Vec F S1x1x24x2x128 .bf16) : FVec F S128x128 .bf16 :=
  transpose S128x128 [1, 0] (truncf .bf16 (concatenate S128x128 0
    [⟨S20x128, extractStridedSlice S20x128 ![0, 0] (extf .f32 (shapeCast S24x128 (shapeCast S1x1x24x128
      (rowsOfParity p S1x1x24x1x128 raw bitcasts_S1x1x24x2x128_w16_S1x1x24x1x128_w32) shapeCasts_S1x1x24x1x128_S1x1x24x128)
      shapeCasts_S1x1x24x128_S24x128)) slices_S24x128_o0_0_S20x128⟩,
     ⟨S108x128, broadcast S108x128 (Scalar.ofBits .f32 0x00000000#32)⟩]
    concatenates_S20x128_S108x128_S128x128_d0) bitsLt_bf16_f32) transposes_S128x128_p1_0_S128x128

/-- The first thirty-two columns of a head's first chunk, which the new tokens take. -/
def isNew : IVec S128x128 1 := cmpi .slt (iota .tc S128x128 32 [1] iota_S128x128_d1_w32) (broadcast S128x128 32#32)

/-- A head's first chunk with the new tokens in its first columns. -/
def withNew (p : Fin 2) (raw : Vec F S1x1x24x2x128 .bf16) (k : FVec F S128x128 .bf16) : FVec F S128x128 .bf16 :=
  select isNew (newT p raw) k

/-- A chunk's bias as a row. -/
def biasRow (b : Vec F S1x1x128 .f32) : FVec F S1x128 .f32 :=
  shapeCast S1x128 (shapeCast S128 b shapeCasts_S1x1x128_S128) shapeCasts_S128_S1x128

/-- The queries, eight heads a token. -/
def queries (q : Vec F S1x20x1x8x128 .bf16) : FVec F S160x128 .bf16 :=
  shapeCast S160x128 (shapeCast S20x8x128 q shapeCasts_S1x20x1x8x128_S20x8x128) shapeCasts_S20x8x128_S160x128

/-- Which columns of a head's first chunk a query row may see. -/
def causal : IVec S160x128 1 :=
  let row : IVec S160x128 32 := iota .tc S160x128 32 [0] iota_S160x128_d0_w32
  let lane : IVec S160x128 32 := iota .tc S160x128 32 [1] iota_S160x128_d1_w32
  let c8 : IVec S160x128 32 := broadcast S160x128 8#32
  let zero : IVec S160x128 32 := broadcast S160x128 0#32
  let sign : IVec S160x128 32 := subi (extui 32 (cmpi .sgt row zero) natLt_1_32) (extui 32 (cmpi .slt row zero) natLt_1_32)
  let sign8 : BitVec 32 := Scalar.subi (Scalar.extui (Scalar.cmpi .sgt 8#32 0#32)) (Scalar.extui (Scalar.cmpi .slt 8#32 0#32))
  let seq : IVec S160x128 32 := select (andi (cmpi .ne sign (broadcast S160x128 sign8)) (cmpi .ne (remsi row c8) zero))
    (subi (divsi row c8) (broadcast S160x128 1#32)) (divsi row c8)
  ori (cmpi .sge lane (broadcast S160x128 32#32)) (cmpi .sle lane seq)

/-- Two chunks' products with the queries. -/
def dots (q : FVec F S160x128 .bf16) (k0 k1 : FVec F S128x128 .bf16) : FVec F S160x256 .f32 :=
  matmul dot_S160x128_S128x256_S160x256_1_0_0_1_n_n none q
    (concatenate S128x256 1 [⟨S128x128, k0⟩, ⟨S128x128, k1⟩] concatenates_S128x128_S128x128_S128x256_d1)
    (constant S160x256 .f32 0x00000000#32)

/-- The scores of the first of two chunks. -/
def scoreL (q : FVec F S160x128 .bf16) (k0 k1 : FVec F S128x128 .bf16) (b : FVec F S1x128 .f32) : FVec F S160x128 .f32 :=
  addf (mulf (extractStridedSlice S160x128 ![0, 0] (dots q k0 k1) slices_S160x256_o0_0_S160x128)
    (broadcast S160x128 (Scalar.ofBits .f32 0x3DB504F3#32))) (broadcastTo S160x128 b broadcasts_S1x128_S160x128)

/-- The scores of the second of two chunks. -/
def scoreR (q : FVec F S160x128 .bf16) (k0 k1 : FVec F S128x128 .bf16) (b : FVec F S1x128 .f32) : FVec F S160x128 .f32 :=
  addf (mulf (extractStridedSlice S160x128 ![0, 128] (dots q k0 k1) slices_S160x256_o0_128_S160x128)
    (broadcast S160x128 (Scalar.ofBits .f32 0x3DB504F3#32))) (broadcastTo S160x128 b broadcasts_S1x128_S160x128)

/-- The causal mask over a head's first chunk. -/
def masked (t : FVec F S160x128 .f32) : FVec F S160x128 .f32 :=
  select causal t (broadcast S160x128 (Named.named κ "mask" 0xF149F2CA#32))

def rowMax (t : FVec F S160x128 .f32) : FVec F S160x1 .f32 :=
  shapeCast S160x1 (multiReduction .maximumf [1] S160 t 0xFF800000#32 reduces_S160x128_S160 (.inl rfl) rfl) shapeCasts_S160_S160x1

def rowSum (t : FVec F S160x128 .f32) : FVec F S160x1 .f32 :=
  shapeCast S160x1 (multiReduction .add [1] S160 t 0x00000000#32 reduces_S160x128_S160 (.inl rfl) rfl) shapeCasts_S160_S160x1

def wgt (t : FVec F S160x128 .f32) (m : FVec F S160x1 .f32) : FVec F S160x128 .f32 :=
  exp (subf t (broadcastTo S160x128 m broadcasts_S160x1_S160x128))

def inv (l : FVec F S160x1 .f32) : FVec F S160x1 .f32 :=
  divf (broadcast S160x1 (Scalar.ofBits .f32 0x3F800000#32)) l

/-- Two chunks' share of the output: their normalized weights times their values. -/
def part (e0 e1 : FVec F S160x128 .f32) (n : FVec F S160x1 .f32) (v0 v1 : FVec F S128x128 .bf16) : FVec F S160x128 .f32 :=
  matmul dot_S160x256_S128x256_S160x128_1_1_0_0_n_n none
    (truncf .bf16 (concatenate S160x256 1
      [⟨S160x128, mulf e0 (broadcastTo S160x128 n broadcasts_S160x1_S160x128)⟩,
       ⟨S160x128, mulf e1 (broadcastTo S160x128 n broadcasts_S160x1_S160x128)⟩]
      concatenates_S160x128_S160x128_S160x256_d1) bitsLt_bf16_f32)
    (concatenate S128x256 1 [⟨S128x128, v0⟩, ⟨S128x128, v1⟩] concatenates_S128x128_S128x128_S128x256_d1)
    (constant S160x128 .f32 0x00000000#32)

def zeroOut : FVec F S160x128 .f32 := broadcast S160x128 (Scalar.ofBits .f32 0x00000000#32)

/-- The output rows as a block of the result. -/
def outBlk (o : FVec F S160x128 .f32) : Vec F S1x20x1x8x128 .bf16 :=
  shapeCast S1x20x1x8x128 (shapeCast S20x8x128 (truncf .bf16 o bitsLt_bf16_f32) shapeCasts_S160x128_S20x8x128)
    shapeCasts_S20x8x128_S1x20x1x8x128

/-- What a head reads: its queries, its chunks' keys, values and biases. -/
structure In (F : FTy → Type) (n : ℕ) where
  q : FVec F S160x128 .bf16
  k : Fin n → FVec F S128x128 .bf16
  v : Fin n → FVec F S128x128 .bf16
  b : Fin n → FVec F S1x128 .f32

/-- The third head: two chunks. -/
def head2 (x : In F 2) : Vec F S1x20x1x8x128 .bf16 :=
  let t0 := masked (scoreL x.q (x.k 0) (x.k 1) (x.b 0))
  let t1 := scoreR x.q (x.k 0) (x.k 1) (x.b 1)
  let m := rowMax (maximumf t0 t1)
  let n := inv (rowSum (addf (wgt t0 m) (wgt t1 m)))
  outBlk (addf zeroOut (part (wgt t0 m) (wgt t1 m) n (x.v 0) (x.v 1)))

/-- The second head: four chunks. -/
def head4 (x : In F 4) : Vec F S1x20x1x8x128 .bf16 :=
  let t0 := masked (scoreL x.q (x.k 0) (x.k 1) (x.b 0))
  let t1 := scoreR x.q (x.k 0) (x.k 1) (x.b 1)
  let t2 := scoreL x.q (x.k 2) (x.k 3) (x.b 2)
  let t3 := scoreR x.q (x.k 2) (x.k 3) (x.b 3)
  let m := rowMax (maximumf (maximumf (maximumf t0 t1) t2) t3)
  let n := inv (rowSum (addf (addf (addf (wgt t0 m) (wgt t1 m)) (wgt t2 m)) (wgt t3 m)))
  outBlk (addf (addf zeroOut (part (wgt t0 m) (wgt t1 m) n (x.v 0) (x.v 1))) (part (wgt t2 m) (wgt t3 m) n (x.v 2) (x.v 3)))

/-- The first head: six chunks. -/
def head6 (x : In F 6) : Vec F S1x20x1x8x128 .bf16 :=
  let t0 := masked (scoreL x.q (x.k 0) (x.k 1) (x.b 0))
  let t1 := scoreR x.q (x.k 0) (x.k 1) (x.b 1)
  let t2 := scoreL x.q (x.k 2) (x.k 3) (x.b 2)
  let t3 := scoreR x.q (x.k 2) (x.k 3) (x.b 3)
  let t4 := scoreL x.q (x.k 4) (x.k 5) (x.b 4)
  let t5 := scoreR x.q (x.k 4) (x.k 5) (x.b 5)
  let m := rowMax (maximumf (maximumf (maximumf (maximumf (maximumf t0 t1) t2) t3) t4) t5)
  let n := inv (rowSum (addf (addf (addf (addf (addf (wgt t0 m) (wgt t1 m)) (wgt t2 m)) (wgt t3 m)) (wgt t4 m)) (wgt t5 m)))
  outBlk (addf (addf (addf zeroOut (part (wgt t0 m) (wgt t1 m) n (x.v 0) (x.v 1))) (part (wgt t2 m) (wgt t3 m) n (x.v 2) (x.v 3)))
    (part (wgt t4 m) (wgt t5 m) n (x.v 4) (x.v 5)))

end Cert.KernelIdeal.Heads

end
-- ==== Proof.Value.Blocks.lean ====
/-
  The twenty-four blocks the body writes, as functions of what its windows hold.
-/
module

public import proofs.«01_k».proof.Proof.Value.Heads
public import proofs.«01_k».proof.Proof.RealFrame.Table

@[expose] public section

set_option maxRecDepth 16384

noncomputable section

namespace Cert.KernelIdeal.Heads

open Idealize.ShloMosaic Idealize.ShloMosaic.TcCoe Cert.KernelIdeal Cert.KernelIdeal.Facts Cert.KernelIdeal.Gen

variable {F : FTy → Type} [FloatOps F] [Named F]

/-- The buffers the body reads and what they hold; `f9` and `f10` are the scratch buffers' contents once the new keys and values
    are in them. -/
structure Mem (F : FTy → Type) where
  arg2 : Memref sig .tc .vmem S8x20x3x8x128 .bf16
  harg2 : arg2.IsWhole
  arg5 : Memref sig .tc .vmem S768x2x128 .i32
  harg5 : arg5.IsWhole
  arg6 : Memref sig .tc .vmem S96x24x128 .i32
  harg6 : arg6.IsWhole
  arg7 : Memref sig .tc .vmem S8x16x128 .f32
  harg7 : arg7.IsWhole
  arg9 : Memref sig .tc .vmem S3x4x24x2x128 .bf16
  arg10 : Memref sig .tc .vmem S3x4x24x2x128 .bf16
  x0 : Vec F S8x20x3x8x128 .bf16
  x3 : Vec F S768x2x128 .i32
  x4 : Vec F S96x24x128 .i32
  x5 : Vec F S8x16x128 .f32
  f9 : arg9.view.ty.Contents (Elt F)
  f10 : arg10.view.ty.Contents (Elt F)

theorem inb5 (n : Fin 96) : ∀ a, (![8 * n.val, 0, 0] : Fin 3 → ℕ) a + S8x2x128.size a ≤ S768x2x128.size a := by
  intro a; have := n.isLt; fin_cases a
  · show 8 * n.val + 8 ≤ 768; omega
  · exact Nat.le_refl 2
  · exact Nat.le_refl 128

theorem inb6 (n : Fin 96) : ∀ a, (![n.val, 0, 0] : Fin 3 → ℕ) a + S1x16x128.size a ≤ S96x24x128.size a := by
  intro a; have := n.isLt; fin_cases a
  · show n.val + 1 ≤ 96; omega
  · exact (by decide : 0 + 16 ≤ 24)
  · exact Nat.le_refl 128

theorem inbS (n : Fin 96) (g : Fin 24) : ∀ a, (![n.val, g.val, 0] : Fin 3 → ℕ) a + S1x1x128.size a ≤ S96x24x128.size a := by
  intro a; have := n.isLt; have := g.isLt; fin_cases a
  · show n.val + 1 ≤ 96; omega
  · show g.val + 1 ≤ 24; omega
  · exact Nat.le_refl 128

theorem inb7 (i : Fin 8) (c : Fin 16) : ∀ a, (![i.val, c.val, 0] : Fin 3 → ℕ) a + S1x1x128.size a ≤ S8x16x128.size a := by
  intro a; have := i.isLt; have := c.isLt; fin_cases a
  · show i.val + 1 ≤ 8; omega
  · show c.val + 1 ≤ 16; omega
  · exact Nat.le_refl 128

/-- A scale row of chunk `n`. -/
def scaleAt (M : Mem F) (n : Fin 96) (g : Fin 24) : Vec F S1x1x128 .i32 :=
  View.readAt (Elt F) M.arg6.view (Rect.unit (s := S96x24x128) ![n.val, g.val, 0] S1x1x128.size (inbS n g)).toLoadRect (M.harg6.unread M.x4)

def keyAt (M : Mem F) (n : Fin 96) : FVec F S128x128 .bf16 :=
  keyC (View.readAt (Elt F) M.arg5.view (Rect.unit (s := S768x2x128) ![8 * n.val, 0, 0] S8x2x128.size (inb5 n)).toLoadRect (M.harg5.unread M.x3))
    fun g => scaleAt M n ⟨16 + g.val, by omega⟩

def valAt (M : Mem F) (n : Fin 96) : FVec F S128x128 .bf16 :=
  valC (View.readAt (Elt F) M.arg6.view (Rect.unit (s := S96x24x128) ![n.val, 0, 0] S1x16x128.size (inb6 n)).toLoadRect (M.harg6.unread M.x4))
    fun g => scaleAt M n ⟨20 + g.val, by omega⟩

def biasAt (M : Mem F) (i : Fin 8) (c : Fin 16) : FVec F S1x128 .f32 :=
  biasRow (View.readAt (Elt F) M.arg7.view (Rect.unit (s := S8x16x128) ![i.val, c.val, 0] S1x1x128.size (inb7 i c)).toLoadRect (M.harg7.unread M.x5))

/-- What the head named by the word `w` reads for sequence `i`: its `n` chunks from `first` on. -/
def inAt (M : Mem F) (i : Fin 8) (w : BitVec 32) (hw : Chk i.val (i.val / 2) w) (first n : ℕ) (hn : first + n ≤ 12) : In F n where
  q := queries (View.readAt (Elt F) M.arg2.view
    (Rect.unit (s := S8x20x3x8x128) ![i.val, 0, (Scalar.indexCast w : Index).toNat, 0, 0] S1x20x1x8x128.size hw.1).toLoadRect (M.harg2.unread M.x0))
  k c :=
    let k := keyAt M ⟨12 * i.val + (first + c.val), by omega⟩
    if c.val = 0 then withNew ⟨i.val % 2, by omega⟩ (View.readAt (Elt F) M.arg9.view
      (Rect.unit (s := S3x4x24x2x128) ![(Scalar.indexCast w : Index).toNat, i.val / 2, 0, 0, 0] S1x1x24x2x128.size hw.2.1).toLoadRect M.f9) k else k
  v c :=
    let v := valAt M ⟨12 * i.val + (first + c.val), by omega⟩
    if c.val = 0 then withNew ⟨i.val % 2, by omega⟩ (View.readAt (Elt F) M.arg10.view
      (Rect.unit (s := S3x4x24x2x128) ![(Scalar.indexCast w : Index).toNat, i.val / 2, 0, 0, 0] S1x1x24x2x128.size hw.2.1).toLoadRect M.f10) v else v
  b c := biasAt M i ⟨first + c.val, by omega⟩

/-- The block sequence `i`'s head of slot `r` writes, `w` being the word that names the head. -/
def blk (M : Mem F) (i : Fin 8) (r : Fin 3) (w : BitVec 32) (hw : Chk i.val (i.val / 2) w) : Vec F S1x20x1x8x128 .bf16 :=
  match r with
  | 0 => head6 (inAt M i w hw 0 6 (by omega))
  | 1 => head4 (inAt M i w hw 6 4 (by omega))
  | 2 => head2 (inAt M i w hw 10 2 (by omega))

/-- … and where. -/
def piece (M : Mem F) (i : Fin 8) (r : Fin 3) (w : BitVec 32) (hw : Chk i.val (i.val / 2) w) : View.Piece (Elt F) S8x20x3x8x128 .bf16 :=
  ⟨Rect.unit (s := S8x20x3x8x128) ![i.val, 0, (Scalar.indexCast w : Index).toNat, 0, 0] S1x20x1x8x128.size hw.1, blk M i r w hw⟩

end Cert.KernelIdeal.Heads

end
-- ==== Proof.Value.InAt.lean ====
/-
  What a head of the body reads, entry by entry, when the body's buffers hold the blocks of the argument arrays.
-/
module

public import proofs.«01_k».proof.Proof.Value.Blocks
public import proofs.«01_k».proof.Proof.Value.Nibble
public import Idealize.ShloMosaic.Lib.BitcastPair
public import Idealize.ShloMosaic.Lib.Pointwise

@[expose] public section

set_option maxRecDepth 16384

noncomputable section

namespace Cert.KernelIdeal.Heads

open Idealize.ShloMosaic Idealize.ShloMosaic.TcCoe Cert.KernelIdeal Cert.KernelIdeal.Facts Cert.KernelIdeal.Gen Cert.Attn

/-- The buffers hold block `t` of the arrays of `D`: eight sequences, their queries, their cached words and biases, and, in the
    two scratch buffers, their new keys and values, two sequences interleaved. -/
structure Holds (D : Data) (t : Fin 32) (M : Mem Ideal) : Prop where
  x0 : ∀ (i : Fin 8) (s : Fin 20) (h : Fin 3) (g : Fin 8) (d : Fin 128),
    M.x0 (ix5 i s h g d) = D.q ⟨8 * t.val + i.val, by omega⟩ s ⟨h.val * 8 + g.val, by omega⟩ d
  x3 : ∀ (a : Fin 768) (e : Fin 2) (d : Fin 128), M.x3 (ix3 a e d) = D.kd ⟨768 * t.val + a.val, by omega⟩ e d
  x4 : ∀ (a : Fin 96) (e : Fin 24) (l : Fin 128), M.x4 (ix3 a e l) = D.vd ⟨96 * t.val + a.val, by omega⟩ e l
  x5 : ∀ (i : Fin 8) (c : Fin 16) (l : Fin 128), M.x5 (ix3 i c l) = D.bias ⟨8 * t.val + i.val, by omega⟩ c l
  f9 : ∀ (h : Fin 3) (p : Fin 4) (j : Fin 20) (e : Fin 2) (l : Fin 128),
    M.arg9.view.read (Elt Ideal) M.f9 (ix5 h p ⟨j.val, by omega⟩ e l) = D.kn ⟨8 * t.val + (2 * p.val + e.val), by omega⟩ j h l
  f10 : ∀ (h : Fin 3) (p : Fin 4) (j : Fin 20) (e : Fin 2) (l : Fin 128),
    M.arg10.view.read (Elt Ideal) M.f10 (ix5 h p ⟨j.val, by omega⟩ e l) = D.vn ⟨8 * t.val + (2 * p.val + e.val), by omega⟩ j h l

theorem scaleAt_at (M : Mem Ideal) (n : Fin 96) (g : Fin 24) (l : Fin 128) : scaleAt M n g (ix3 0 0 l) = M.x4 (ix3 n g l) := by
  unfold scaleAt
  rw [View.readAt_apply, M.harg6.read_unread]
  refine congrArg M.x4 (funext fun a => Fin.ext ?_)
  fin_cases a <;> simp [Rect.toLoadRect, Rect.unit]

theorem rowWords_at (r : Vec Ideal S1x1x128 .i32) (j : Fin 16) (l : Fin 128) :
    broadcastTo S16x128 (shapeCast S1x128 (shapeCast S1x128 (shapeCast S128 (r : IVec S1x1x128 32)
      shapeCasts_S1x1x128_S128) shapeCasts_S128_S1x128) shapeCasts_S1x128_S1x128) broadcasts_S1x128_S16x128 (ix2 j l) = r (ix3 0 0 l) := by
  pointwise

theorem scaleRow_at (r : Vec Ideal S1x1x128 .i32) (d : Fin 32) (l : Fin 128) : scaleRow r (ix2 d l) = half (r (ix3 0 0 l)) (d.val % 2) := by
  unfold scaleRow
  show Ideal.ofBits .bf16 (bitcast S32x128 16 _ _ _) = _
  rw [bitcast_32_16]
  unfold half
  refine congrArg (fun w : BitVec 32 => Ideal.ofBits .bf16 (w.extractLsb' (16 * (d.val % 2)) 16)) ?_
  refine Eq.trans (congrArg _ ?_) (rowWords_at r ⟨d.val / 2, by omega⟩ l)
  funext a
  fin_cases a
  · rfl
  · rfl

theorem scales_at (r : Fin 4 → Vec Ideal S1x1x128 .i32) (d l : Fin 128) :
    scales r (ix2 d l) = half (r ⟨d.val / 32, by omega⟩ (ix3 0 0 l)) (d.val % 2) := by
  unfold scales
  pointwise
  have hd := d.isLt
  simp only [scaleRow_at]
  split
  · rw [show (⟨d.val / 32, by omega⟩ : Fin 4) = 0 from Fin.ext (by show d.val / 32 = 0; omega)]
  · split
    · rw [show (⟨d.val / 32, by omega⟩ : Fin 4) = 1 from Fin.ext (by show d.val / 32 = 1; omega), show (d.val - 32) % 2 = d.val % 2 by omega]
    · split
      · rw [show (⟨d.val / 32, by omega⟩ : Fin 4) = 2 from Fin.ext (by show d.val / 32 = 2; omega), show (d.val - 32 - 32) % 2 = d.val % 2 by omega]
      · rw [show (⟨d.val / 32, by omega⟩ : Fin 4) = 3 from Fin.ext (by show d.val / 32 = 3; omega), show (d.val - 32 - 32 - 32) % 2 = d.val % 2 by omega]

theorem keyC_at (w : Vec Ideal S8x2x128 .i32) (r : Fin 4 → Vec Ideal S1x1x128 .i32) (d l : Fin 128) :
    keyC w r (ix2 d l) = (code (w (ix3 ⟨l.val / 16, by omega⟩ ⟨l.val / 8 % 2, by omega⟩ d)) (l.val % 8)
      * half (r ⟨d.val / 32, by omega⟩ (ix3 0 0 l)) (d.val % 2) : EReal) := by
  rw [← scales_at]
  unfold keyC codes
  pointwise
  simp only [nibble_shifts _ _ (show l.val % 8 < 8 by omega), show l.val / 8 / 2 = l.val / 16 by omega]
  rfl

theorem valC_at (w : Vec Ideal S1x16x128 .i32) (r : Fin 4 → Vec Ideal S1x1x128 .i32) (d l : Fin 128) :
    valC w r (ix2 d l) = (code (w (ix3 0 ⟨d.val / 8, by omega⟩ l)) (d.val % 8)
      * half (r ⟨d.val / 32, by omega⟩ (ix3 0 0 l)) (d.val % 2) : EReal) := by
  rw [← scales_at]
  unfold valC codes
  pointwise
  simp only [nibble_shifts _ _ (show d.val % 8 < 8 by omega)]
  rfl

theorem new_words : ∀ l : Fin 128, IntOp.cmpi .slt (BitVec.ofNat 32 l.val) 32#32 = if l.val < 32 then 1#1 else 0#1 := by decide +kernel

theorem withNew_at (p : Fin 2) (raw : Vec Ideal S1x1x24x2x128 .bf16) (k : FVec Ideal S128x128 .bf16) (d l : Fin 128) :
    withNew p raw k (ix2 d l) = (if l.val < 32 then if h : l.val < 20 then raw (ix5 0 0 ⟨l.val, by omega⟩ p d) else 0 else k (ix2 d l) : EReal) := by
  unfold withNew isNew newT
  pointwise
  rw [new_words, select_ite]

variable {D : Data} {t : Fin 32} {M : Mem Ideal} (H : Holds D t M)
include H

/-- Chunk `c` of sequence `i`: its keys. -/
theorem keyAt_at (i : Fin 8) (c : ℕ) (hc : c < 12) (d l : Fin 128) :
    keyAt M ⟨12 * i.val + c, by omega⟩ (ix2 d l) = D.key ⟨8 * t.val + i.val, by omega⟩ ⟨128 * c + l.val, by omega⟩ d := by
  unfold keyAt
  rw [keyC_at, scaleAt_at, H.x4, View.readAt_apply, M.harg5.read_unread]
  have e : (Rect.unit (s := S768x2x128) ![8 * (12 * i.val + c), 0, 0] S8x2x128.size (inb5 ⟨12 * i.val + c, by omega⟩)).toLoadRect.idx
      (ix3 ⟨l.val / 16, by omega⟩ ⟨l.val / 8 % 2, by omega⟩ d) = ix3 ⟨8 * (12 * i.val + c) + l.val / 16, by omega⟩ ⟨l.val / 8 % 2, by omega⟩ d := by
    refine funext fun a => Fin.ext ?_
    fin_cases a <;> simp [Rect.toLoadRect, Rect.unit]
  refine (congrArg₂ (fun x y : EReal => x * y) (congrArg (fun w => code w (l.val % 8)) ((congrArg M.x3 e).trans (H.x3 _ _ _))) rfl).trans ?_
  unfold Data.key
  refine congrArg₂ (fun x y : EReal => x * y) (congrArg₂ code (congrArg₂ (fun a e => D.kd a e d) (Fin.ext ?_) (Fin.ext ?_)) ?_)
    (congrArg₂ half (congrArg₂ (fun a e => D.vd a _ e) (Fin.ext ?_) (Fin.ext ?_)) rfl) <;> dsimp only <;> omega

/-- Its values. -/
theorem valAt_at (i : Fin 8) (c : ℕ) (hc : c < 12) (d l : Fin 128) :
    valAt M ⟨12 * i.val + c, by omega⟩ (ix2 d l) = D.val ⟨8 * t.val + i.val, by omega⟩ ⟨128 * c + l.val, by omega⟩ d := by
  unfold valAt
  rw [valC_at, scaleAt_at, H.x4, View.readAt_apply, M.harg6.read_unread]
  have e : (Rect.unit (s := S96x24x128) ![12 * i.val + c, 0, 0] S1x16x128.size (inb6 ⟨12 * i.val + c, by omega⟩)).toLoadRect.idx
      (ix3 0 ⟨d.val / 8, by omega⟩ l) = ix3 ⟨12 * i.val + c, by omega⟩ ⟨d.val / 8, by omega⟩ l := by
    refine funext fun a => Fin.ext ?_
    fin_cases a <;> simp [Rect.toLoadRect, Rect.unit]
  refine (congrArg₂ (fun x y : EReal => x * y) (congrArg (fun w => code w (d.val % 8)) ((congrArg M.x4 e).trans (H.x4 _ _ _))) rfl).trans ?_
  unfold Data.val
  congr! 4 <;> first | omega | (dsimp only; omega)

/-- Its biases. -/
theorem biasAt_at (i : Fin 8) (c : Fin 16) (l : Fin 128) : biasAt M i c (ix2 0 l) = D.bias ⟨8 * t.val + i.val, by omega⟩ c l := by
  unfold biasAt biasRow
  pointwise
  rw [View.readAt_apply, M.harg7.read_unread, ← H.x5]
  refine congrArg M.x5 (funext fun a => Fin.ext ?_)
  fin_cases a <;> simp [Rect.toLoadRect, Rect.unit]

/-- The queries of head `h`. -/
theorem queries_at (i : Fin 8) (h : Fin 3) (off : ℕ) (ho : off = h.val)
    (inb : ∀ a, (![i.val, 0, off, 0, 0] : Fin 5 → ℕ) a + S1x20x1x8x128.size a ≤ S8x20x3x8x128.size a) (s : Fin 20) (g : Fin 8) (d : Fin 128) :
    queries (View.readAt (Elt Ideal) M.arg2.view (Rect.unit (s := S8x20x3x8x128) ![i.val, 0, off, 0, 0] S1x20x1x8x128.size inb).toLoadRect
      (M.harg2.unread M.x0)) (ix2 ⟨s.val * 8 + g.val, by omega⟩ d) = D.q ⟨8 * t.val + i.val, by omega⟩ s ⟨h.val * 8 + g.val, by omega⟩ d := by
  subst ho
  unfold queries
  pointwise
  rw [View.readAt_apply, M.harg2.read_unread, ← H.x0]
  refine congrArg M.x0 (funext fun a => Fin.ext ?_)
  fin_cases a <;> simp [Rect.toLoadRect, Rect.unit]
  all_goals trace_state
  all_goals omega

/-- The new keys of head `h`. -/
theorem newK_at (i : Fin 8) (h : Fin 3) (off : ℕ) (ho : off = h.val)
    (inb : ∀ a, (![off, i.val / 2, 0, 0, 0] : Fin 5 → ℕ) a + S1x1x24x2x128.size a ≤ S3x4x24x2x128.size a) (j : Fin 20) (d : Fin 128) :
    View.readAt (Elt Ideal) M.arg9.view (Rect.unit (s := S3x4x24x2x128) ![off, i.val / 2, 0, 0, 0] S1x1x24x2x128.size inb).toLoadRect
      M.f9 (ix5 0 0 ⟨j.val, by omega⟩ ⟨i.val % 2, by omega⟩ d) = D.kn ⟨8 * t.val + i.val, by omega⟩ j h d := by
  subst ho
  rw [View.readAt_apply]
  have e := H.f9 h ⟨i.val / 2, by omega⟩ j ⟨i.val % 2, by omega⟩ d
  rw [show (⟨8 * t.val + (2 * (i.val / 2) + i.val % 2), by omega⟩ : Fin 256) = ⟨8 * t.val + i.val, by omega⟩ from Fin.ext (by dsimp only; omega)] at e
  rw [← e]
  refine congrArg (M.arg9.view.read (Elt Ideal) M.f9) (funext fun a => Fin.ext ?_)
  fin_cases a <;> simp [Rect.toLoadRect, Rect.unit]

/-- The new values of head `h`. -/
theorem newV_at (i : Fin 8) (h : Fin 3) (off : ℕ) (ho : off = h.val)
    (inb : ∀ a, (![off, i.val / 2, 0, 0, 0] : Fin 5 → ℕ) a + S1x1x24x2x128.size a ≤ S3x4x24x2x128.size a) (j : Fin 20) (d : Fin 128) :
    View.readAt (Elt Ideal) M.arg10.view (Rect.unit (s := S3x4x24x2x128) ![off, i.val / 2, 0, 0, 0] S1x1x24x2x128.size inb).toLoadRect
      M.f10 (ix5 0 0 ⟨j.val, by omega⟩ ⟨i.val % 2, by omega⟩ d) = D.vn ⟨8 * t.val + i.val, by omega⟩ j h d := by
  subst ho
  rw [View.readAt_apply]
  have e := H.f10 h ⟨i.val / 2, by omega⟩ j ⟨i.val % 2, by omega⟩ d
  rw [show (⟨8 * t.val + (2 * (i.val / 2) + i.val % 2), by omega⟩ : Fin 256) = ⟨8 * t.val + i.val, by omega⟩ from Fin.ext (by dsimp only; omega)] at e
  rw [← e]
  refine congrArg (M.arg10.view.read (Elt Ideal) M.f10) (funext fun a => Fin.ext ?_)
  fin_cases a <;> simp [Rect.toLoadRect, Rect.unit]

end Cert.KernelIdeal.Heads

end
-- ==== Proof.Value.HeadAt.lean ====
/-
  A head's block over the extended reals: at each query row and feature it is a softmax-weighted average over the columns of its
  chunks.
-/
module

public import proofs.«01_k».proof.Proof.Value.Heads
public import proofs.«01_k».proof.Proof.Value.Softmax

@[expose] public section

set_option maxRecDepth 16384

noncomputable section

namespace Cert.KernelIdeal.Heads

open Idealize.ShloMosaic Cert.KernelIdeal Cert.KernelIdeal.Facts Cert.KernelIdeal.Gen Cert.Attn

theorem ofBits_neg_inf : Ideal.ofBits FTy.f32 0xFF800000#32 = ⊥ := by rfl

theorem mask_eq : (Named.named κ "mask" 0xF149F2CA#32 : Ideal .f32) = (⊥ : EReal) := rfl

theorem seq_words : ∀ r : Fin 160, ∀ l : Fin 128, causal (ix2 r l) = if 32 ≤ l.val ∨ l.val ≤ r.val / 8 then 1#1 else 0#1 := by
  intro r l
  unfold causal
  pointwise
  revert r l
  decide +kernel

theorem masked_at (t : FVec Ideal S160x128 .f32) (r : Fin 160) (l : Fin 128) :
    masked t (ix2 r l) = if 32 ≤ l.val ∨ l.val ≤ r.val / 8 then t (ix2 r l) else (⊥ : EReal) := by
  show Scalar.select (causal (ix2 r l)) (t (ix2 r l)) (Named.named κ "mask" 0xF149F2CA#32 : Ideal .f32) = _
  rw [seq_words, mask_eq]
  split <;> rfl

theorem scoreL_at (q : FVec Ideal S160x128 .bf16) (k0 k1 : FVec Ideal S128x128 .bf16) (b : FVec Ideal S1x128 .f32) (r : Fin 160) (l : Fin 128) :
    scoreL q k0 k1 b (ix2 r l) = ((∑ d, (q (ix2 r d) : EReal) * k0 (ix2 d l)) * Ideal.ofBits .f32 0x3DB504F3#32 + b (ix2 0 l) : EReal) := by
  unfold scoreL dots; pointwise

theorem scoreR_at (q : FVec Ideal S160x128 .bf16) (k0 k1 : FVec Ideal S128x128 .bf16) (b : FVec Ideal S1x128 .f32) (r : Fin 160) (l : Fin 128) :
    scoreR q k0 k1 b (ix2 r l) = ((∑ d, (q (ix2 r d) : EReal) * k1 (ix2 d l)) * Ideal.ofBits .f32 0x3DB504F3#32 + b (ix2 0 l) : EReal) := by
  unfold scoreR dots; pointwise

theorem rowMax_at (t : FVec Ideal S160x128 .f32) (r : Fin 160) :
    rowMax t (ix2 r 0) = Finset.univ.sup fun l : Fin 128 => (t (ix2 r l) : EReal) := by
  unfold rowMax; pointwise; rw [ofBits_neg_inf]; rfl

theorem rowSum_at (t : FVec Ideal S160x128 .f32) (r : Fin 160) : rowSum t (ix2 r 0) = ∑ l : Fin 128, (t (ix2 r l) : EReal) := by
  unfold rowSum; pointwise

theorem wgt_at (t : FVec Ideal S160x128 .f32) (m : FVec Ideal S160x1 .f32) (r : Fin 160) (l : Fin 128) :
    wgt t m (ix2 r l) = Ideal.exp ((t (ix2 r l) : EReal) - m (ix2 r 0)) := by
  unfold wgt; pointwise

theorem inv_at (t : FVec Ideal S160x1 .f32) (r : Fin 160) : inv t (ix2 r 0) = Ideal.div 1 (t (ix2 r 0)) := by
  unfold inv; pointwise

theorem part_at (e0 e1 : FVec Ideal S160x128 .f32) (n : FVec Ideal S160x1 .f32) (v0 v1 : FVec Ideal S128x128 .bf16) (r : Fin 160) (d : Fin 128) :
    part e0 e1 n v0 v1 (ix2 r d) = ((∑ l, (e0 (ix2 r l) : EReal) * n (ix2 r 0) * v0 (ix2 d l)) + ∑ l, (e1 (ix2 r l) : EReal) * n (ix2 r 0) * v1 (ix2 d l) : EReal) := by
  unfold part; pointwise

/-- Row `8 s + g` of the outputs is query head `g` of token `s`. -/
theorem outBlk_at (o : FVec Ideal S160x128 .f32) (s : Fin 20) (g : Fin 8) (d : Fin 128) :
    outBlk o (ix5 0 s 0 g d) = o (ix2 ⟨s.val * 8 + g.val, by omega⟩ d) := by
  unfold outBlk; pointwise

/-- The score a column of a head gives to query row `r`; `⊥` where the row may not see it. -/
def scoreAt {n : ℕ} (x : In Ideal n) (r : Fin 160) (p : Fin n × Fin 128) : EReal :=
  if p.1.val ≠ 0 ∨ 32 ≤ p.2.val ∨ p.2.val ≤ r.val / 8 then
    (∑ d, (x.q (ix2 r d) : EReal) * x.k p.1 (ix2 d p.2)) * Ideal.ofBits .f32 0x3DB504F3#32 + x.b p.1 (ix2 0 p.2)
  else ⊥

theorem addf_at (a b : FVec Ideal S160x128 .f32) (i : S160x128.Idx) : addf a b i = (a i + b i : EReal) := rfl
theorem maximumf_at (a b : FVec Ideal S160x128 .f32) (i : S160x128.Idx) : maximumf a b i = (max (a i) (b i) : EReal) := rfl
theorem zeroOut_at (i : S160x128.Idx) : (zeroOut i : Ideal .f32) = (0 : EReal) := by unfold zeroOut; pointwise

theorem head2_at (x : In Ideal 2) (s : Fin 20) (g : Fin 8) (d : Fin 128) :
    head2 x (ix5 0 s 0 g d) = softmaxAvg (scoreAt x ⟨s.val * 8 + g.val, by omega⟩) fun p => x.v p.1 (ix2 d p.2) := by
  rw [softmaxAvg_prod]
  unfold head2
  simp only [outBlk_at, addf_at, maximumf_at, zeroOut_at, part_at, inv_at, wgt_at, rowSum_at, rowMax_at, masked_at, scoreL_at, scoreR_at,
    Fin.sum_univ_two, sup_fin2, scoreAt, zero_add]
  simp

theorem head4_at (x : In Ideal 4) (s : Fin 20) (g : Fin 8) (d : Fin 128) :
    head4 x (ix5 0 s 0 g d) = softmaxAvg (scoreAt x ⟨s.val * 8 + g.val, by omega⟩) fun p => x.v p.1 (ix2 d p.2) := by
  rw [softmaxAvg_prod]
  unfold head4
  simp only [outBlk_at, addf_at, maximumf_at, zeroOut_at, part_at, inv_at, wgt_at, rowSum_at, rowMax_at, masked_at, scoreL_at, scoreR_at,
    Fin.sum_univ_four, sup_fin4, scoreAt, zero_add]
  simp [add_assoc]

theorem head6_at (x : In Ideal 6) (s : Fin 20) (g : Fin 8) (d : Fin 128) :
    head6 x (ix5 0 s 0 g d) = softmaxAvg (scoreAt x ⟨s.val * 8 + g.val, by omega⟩) fun p => x.v p.1 (ix2 d p.2) := by
  rw [softmaxAvg_prod]
  unfold head6
  simp only [outBlk_at, addf_at, maximumf_at, zeroOut_at, part_at, inv_at, wgt_at, rowSum_at, rowMax_at, masked_at, scoreL_at, scoreR_at,
    Fin.sum_univ_six, sup_fin6, scoreAt, zero_add]
  simp [add_assoc]

end Cert.KernelIdeal.Heads

end
-- ==== Proof.Value.Block.lean ====
/-
  A block the body writes is the attention of its sequence and head.
-/
module

public import proofs.«01_k».proof.Proof.Value.InAt
public import proofs.«01_k».proof.Proof.Value.HeadAt
public import proofs.«01_k».proof.Proof.Value.Spec

@[expose] public section

set_option maxRecDepth 16384

noncomputable section

namespace Cert.KernelIdeal.Heads

open Idealize.ShloMosaic Idealize.ShloMosaic.TcCoe Cert.KernelIdeal Cert.KernelIdeal.Facts Cert.KernelIdeal.Gen Cert.Attn

/-- The tokens that count for a head of `n` chunks: the columns of its chunks but the first thirty-two, and the new tokens. -/
abbrev Tok (n : ℕ) : Type := {p : Fin n × Fin 128 // p.1.val ≠ 0 ∨ 32 ≤ p.2.val} ⊕ Fin 20

/-- Where the body keeps them: the new tokens in the first columns. -/
def toCol {n : ℕ} (h0 : 0 < n) : Tok n → Fin n × Fin 128
  | .inl p => p.1
  | .inr j => (⟨0, h0⟩, ⟨j.val, by omega⟩)

/-- Where the specification keeps them: `first` being the head's first chunk. -/
def toTok {n : ℕ} (first : ℕ) (hn : first + n ≤ 12) : Tok n → Fin 1536 ⊕ Fin 20
  | .inl p => .inl ⟨128 * (first + p.1.1.val) + p.1.2.val, by omega⟩
  | .inr j => .inr j

theorem toCol_inj {n : ℕ} (h0 : 0 < n) : Function.Injective (toCol h0) := by
  rintro (⟨⟨c, l⟩, hp⟩ | j) (⟨⟨c', l'⟩, hp'⟩ | j') h <;> simp only [toCol, Prod.mk.injEq] at h
  · obtain ⟨rfl, rfl⟩ := h; rfl
  · obtain ⟨rfl, rfl⟩ := h; dsimp only at hp; omega
  · obtain ⟨rfl, rfl⟩ := h; dsimp only at hp'; omega
  · rw [Fin.ext_iff] at h; exact congrArg Sum.inr (Fin.ext (by simpa using h))

theorem toTok_inj {n : ℕ} (first : ℕ) (hn : first + n ≤ 12) : Function.Injective (toTok (n := n) first hn) := by
  rintro (⟨⟨c, l⟩, hp⟩ | j) (⟨⟨c', l'⟩, hp'⟩ | j') h <;> simp only [toTok, Sum.inl.injEq, Sum.inr.injEq, reduceCtorEq, Fin.mk.injEq] at h
  · have e1 : c = c' := Fin.ext (by omega)
    have e2 : l = l' := Fin.ext (by omega)
    subst e1 e2; rfl
  · subst h; rfl

/-- A score is the score of equal terms. -/
theorem score_congr {f f' : Fin 128 → EReal} (hf : ∀ d, f d = f' d) (k : EReal) {b b' : EReal} (hb : b = b') :
    (∑ d, f d) * k + b = (∑ d, f' d) * k + b' := by
  rw [funext hf, hb]

variable {D : Data} {t : Fin 32} {M : Mem Ideal}

section keys
variable (H : Holds D t M) (i : Fin 8) (w : BitVec 32) (hw : Chk i.val (i.val / 2) w) (h : Fin 3)
  (hwh : (Scalar.indexCast w : Index).toNat = h.val) (first n : ℕ) (hn : first + n ≤ 12)
include H hwh

theorem inK_old (p : Fin n × Fin 128) (hp : p.1.val ≠ 0 ∨ 32 ≤ p.2.val) (d : Fin 128) :
    (inAt M i w hw first n hn).k p.1 (ix2 d p.2) = D.key ⟨8 * t.val + i.val, by omega⟩ ⟨128 * (first + p.1.val) + p.2.val, by omega⟩ d := by
  rw [← keyAt_at H i (first + p.1.val) (by omega) d p.2]
  unfold inAt
  dsimp only
  split
  · rw [withNew_at, if_neg (by omega)]
  · rfl

theorem inV_old (p : Fin n × Fin 128) (hp : p.1.val ≠ 0 ∨ 32 ≤ p.2.val) (d : Fin 128) :
    (inAt M i w hw first n hn).v p.1 (ix2 d p.2) = D.val ⟨8 * t.val + i.val, by omega⟩ ⟨128 * (first + p.1.val) + p.2.val, by omega⟩ d := by
  rw [← valAt_at H i (first + p.1.val) (by omega) d p.2]
  unfold inAt
  dsimp only
  split
  · rw [withNew_at, if_neg (by omega)]
  · rfl

theorem inK_new (h0 : 0 < n) (j : Fin 20) (d : Fin 128) :
    (inAt M i w hw first n hn).k ⟨0, h0⟩ (ix2 d ⟨j.val, by omega⟩) = D.kn ⟨8 * t.val + i.val, by omega⟩ j h d := by
  rw [← newK_at H i h _ hwh hw.2.1 j d]
  unfold inAt
  dsimp only
  rw [if_pos rfl, withNew_at, if_pos (by dsimp only; omega), dif_pos j.isLt]

theorem inV_new (h0 : 0 < n) (j : Fin 20) (d : Fin 128) :
    (inAt M i w hw first n hn).v ⟨0, h0⟩ (ix2 d ⟨j.val, by omega⟩) = D.vn ⟨8 * t.val + i.val, by omega⟩ j h d := by
  rw [← newV_at H i h _ hwh hw.2.1 j d]
  unfold inAt
  dsimp only
  rw [if_pos rfl, withNew_at, if_pos (by dsimp only; omega), dif_pos j.isLt]

/-- The body's average over a head's columns is the specification's over the tokens. -/
theorem avg_eq (h0 : 0 < n) (hslot : ∀ k : Fin 1536, D.order ⟨8 * t.val + i.val, by omega⟩ (slot k.val) = BitVec.ofNat 32 h.val
      ↔ 128 * first ≤ k.val ∧ k.val < 128 * (first + n))
    (hlive : ∀ (c : Fin n) (l : Fin 128), live (128 * (first + c.val) + l.val) ↔ c.val ≠ 0 ∨ 32 ≤ l.val)
    (hfirst : (D.first ⟨8 * t.val + i.val, by omega⟩ h).val = first) (s : Fin 20) (g : Fin 8) (d : Fin 128) :
    softmaxAvg (scoreAt (inAt M i w hw first n hn) ⟨s.val * 8 + g.val, by omega⟩) (fun p => (inAt M i w hw first n hn).v p.1 (ix2 d p.2))
      = D.out ⟨8 * t.val + i.val, by omega⟩ s h g d := by
  have hq : ∀ d, (inAt M i w hw first n hn).q (ix2 ⟨s.val * 8 + g.val, by omega⟩ d) = D.q ⟨8 * t.val + i.val, by omega⟩ s ⟨h.val * 8 + g.val, by omega⟩ d :=
    fun d => queries_at H i h _ hwh hw.1 s g d
  unfold Data.out
  rw [softmaxAvg_embed (toCol h0) (toCol_inj h0), softmaxAvg_embed (toTok first hn) (toTok_inj first hn)]
  · refine softmaxAvg_congr ?_ ?_
    · rintro (⟨p, hp⟩ | j)
      · have hp1 := p.1.isLt
        refine Eq.trans (if_pos (show p.1.val ≠ 0 ∨ 32 ≤ p.2.val ∨ p.2.val ≤ (s.val * 8 + g.val) / 8 by omega)) (Eq.trans ?_ (Eq.symm (if_pos
          ⟨(hslot ⟨128 * (first + p.1.val) + p.2.val, by omega⟩).2 ⟨by dsimp only; omega, by dsimp only; omega⟩, (hlive p.1 p.2).2 hp⟩)))
        refine score_congr (fun e => congrArg₂ (fun x y : EReal => x * y) (hq e) (inK_old H i w hw h hwh first n hn p hp e)) _ ?_
        refine (biasAt_at H i ⟨first + p.1.val, by omega⟩ p.2).trans ?_
        refine congrArg₂ (fun x y => D.bias _ x y) (Fin.ext ?_) (Fin.ext ?_) <;> dsimp only <;> omega
      · have hs := s.isLt
        refine if_congr ?_ ?_ rfl
        · show (0 ≠ 0 ∨ 32 ≤ j.val ∨ j.val ≤ (s.val * 8 + g.val) / 8) ↔ j.val ≤ s.val
          omega
        refine score_congr (fun e => congrArg₂ (fun x y : EReal => x * y) (hq e) (inK_new H i w hw h hwh first n hn h0 j e)) _ ?_
        refine (biasAt_at H i ⟨first, by omega⟩ ⟨j.val, by omega⟩).trans ?_
        exact congrArg (fun x => D.bias _ x _) (Fin.ext hfirst.symm)
    · rintro (⟨p, hp⟩ | j)
      · exact inV_old H i w hw h hwh first n hn p hp d
      · exact inV_new H i w hw h hwh first n hn h0 j d
  · rintro (k | j) hk
    · refine if_neg ?_
      rintro ⟨h1, h2⟩
      have h3 := (hslot k).1 h1
      have hk' := k.isLt
      have hc : k.val / 128 - first < n := by omega
      have e : 128 * (first + (k.val / 128 - first)) + k.val % 128 = k.val := by omega
      have hl := hlive ⟨k.val / 128 - first, hc⟩ ⟨k.val % 128, by omega⟩
      dsimp only at hl
      rw [e] at hl
      exact hk (.inl ⟨(⟨k.val / 128 - first, hc⟩, ⟨k.val % 128, by omega⟩), hl.1 h2⟩) (congrArg Sum.inl (Fin.ext e))
    · exact absurd rfl (hk (.inr j))
  · rintro ⟨c, l⟩ hk
    refine if_neg ?_
    show ¬ (c.val ≠ 0 ∨ 32 ≤ l.val ∨ l.val ≤ (s.val * 8 + g.val) / 8)
    intro h1
    have hs := s.isLt
    by_cases h2 : c.val ≠ 0 ∨ 32 ≤ l.val
    · exact hk (.inl ⟨(c, l), h2⟩) rfl
    · exact hk (.inr ⟨l.val, by omega⟩) (Prod.ext (Fin.ext (by show 0 = c.val; omega)) rfl)

end keys

/-- The block of slot `r` is the attention of the head the table names there. -/
theorem blk_at (H : Holds D t M) (i : Fin 8) (w : BitVec 32) (hw : Chk i.val (i.val / 2) w) (h : Fin 3)
    (hwh : (Scalar.indexCast w : Index).toNat = h.val) (r : Fin 3) (hord : ∀ r', D.order ⟨8 * t.val + i.val, by omega⟩ r' = BitVec.ofNat 32 h.val ↔ r' = r)
    (s : Fin 20) (g : Fin 8) (d : Fin 128) : blk M i r w hw (ix5 0 s 0 g d) = D.out ⟨8 * t.val + i.val, by omega⟩ s h g d := by
  have hslot : ∀ (r : Fin 3) (f n : ℕ), (f, n) = (match r with | 0 => (0, 6) | 1 => (6, 4) | 2 => (10, 2)) →
      ∀ k : Fin 1536, slot k.val = r ↔ 128 * f ≤ k.val ∧ k.val < 128 * (f + n) := by
    intro r f n e k
    have hk := k.isLt
    unfold slot
    fin_cases r <;> simp only [Prod.mk.injEq] at e <;> obtain ⟨rfl, rfl⟩ := e <;> split_ifs <;> simp <;> omega
  fin_cases r
  · refine (head6_at _ s g d).trans (avg_eq H i w hw h hwh 0 6 (by omega) (by omega) (fun k => (hord _).trans (hslot 0 0 6 rfl k)) ?_ ?_ s g d)
    · intro c l; unfold live; omega
    · unfold Data.first; rw [if_pos ((hord 0).2 rfl)]; rfl
  · refine (head4_at _ s g d).trans (avg_eq H i w hw h hwh 6 4 (by omega) (by omega) (fun k => (hord _).trans (hslot 1 6 4 rfl k)) ?_ ?_ s g d)
    · intro c l; unfold live; omega
    · unfold Data.first; rw [if_neg (fun e => absurd ((hord 0).1 e) (by decide)), if_pos ((hord 1).2 rfl)]; rfl
  · refine (head2_at _ s g d).trans (avg_eq H i w hw h hwh 10 2 (by omega) (by omega) (fun k => (hord _).trans (hslot 2 10 2 rfl k)) ?_ ?_ s g d)
    · intro c l; unfold live; omega
    · unfold Data.first
      rw [if_neg (fun e => absurd ((hord 0).1 e) (by decide)), if_neg (fun e => absurd ((hord 1).1 e) (by decide))]; rfl

end Cert.KernelIdeal.Heads

end
-- ==== Proof.Value.Pieces.lean ====
/-
  What the run of the body leaves in the output block: the twenty-four blocks of Blocks.lean, the last written first.
-/
module

public import proofs.«01_k».proof.Proof.Value.Blocks
public import proofs.«01_k».proof.Proof.RealFrame.RunV

@[expose] public section

set_option maxRecDepth 16384

noncomputable section

namespace Cert.KernelIdeal.Heads

open Idealize.ShloMosaic Idealize.ShloMosaic.TcCoe Cert.KernelIdeal Cert.KernelIdeal.Facts Cert.KernelIdeal.Gen

variable {F : FTy → Type} [FloatOps F] [Named F]

-- the vector operations are compared as they stand, by their arguments
attribute [local irreducible] shapeCast broadcastTo broadcast concatenate multiReduction mulf addf subf divf exp truncf extf select cmpi sitofp shrsi shli subi muli iota transpose extractStridedSlice rowsOfParity bitcast bitcastToFloat View.readAt View.writes maximumf constant divsi remsi ori andi extui

set_option maxHeartbeats 4000000 in
/-- The pieces the body's run writes, block by block. -/
theorem pieces_eq  (c : Dev nD) (i : grid0.Coords) (arg2 : Memref sig .tc .vmem S8x20x3x8x128 .bf16) (harg2 : arg2.IsWhole) (arg3 : Memref sig .tc .vmem S20x3x8x128 .bf16) (harg3 : arg3.IsWhole) (arg4 : Memref sig .tc .vmem S20x3x8x128 .bf16) (harg4 : arg4.IsWhole) (arg5 : Memref sig .tc .vmem S768x2x128 .i32) (harg5 : arg5.IsWhole) (arg6 : Memref sig .tc .vmem S96x24x128 .i32) (harg6 : arg6.IsWhole) (arg7 : Memref sig .tc .vmem S8x16x128 .f32) (harg7 : arg7.IsWhole) (arg8 : Memref sig .tc .vmem S8x20x3x8x128 .bf16) (harg8 : arg8.IsWhole) (arg9 : Memref sig .tc .vmem S3x4x24x2x128 .bf16) (harg9 : arg9.IsWhole) (arg10 : Memref sig .tc .vmem S3x4x24x2x128 .bf16) (harg10 : arg10.IsWhole)
    (x0 : Vec F S8x20x3x8x128 .bf16) (x1 : Vec F S20x3x8x128 .bf16) (x2 : Vec F S20x3x8x128 .bf16) (x3 : Vec F S768x2x128 .i32) (x4 : Vec F S96x24x128 .i32) (x5 : Vec F S8x16x128 .f32) (xt0 : TbBuf0 (F := F) c tbM0_0) (k0_hw1 : k0_chk1 (tbM0_0.view.readAt (Elt F) (Rect.unit (s := S768) (k0_off1 i) S1.size (k0_off1_inb i)).toLoadRect xt0 (Shape.Idx.first (numel1_S1.symm ▸ Nat.one_pos)))) (k0_hw2 : k0_chk2 (tbM0_0.view.readAt (Elt F) (Rect.unit (s := S768) (k0_off4 i) S1.size (k0_off4_inb i)).toLoadRect xt0 (Shape.Idx.first (numel1_S1.symm ▸ Nat.one_pos)))) (k0_hw3 : k0_chk3 (tbM0_0.view.readAt (Elt F) (Rect.unit (s := S768) (k0_off7 i) S1.size (k0_off7_inb i)).toLoadRect xt0 (Shape.Idx.first (numel1_S1.symm ▸ Nat.one_pos)))) (k0_hw4 : k0_chk4 (tbM0_0.view.readAt (Elt F) (Rect.unit (s := S768) (k0_off10 i) S1.size (k0_off10_inb i)).toLoadRect xt0 (Shape.Idx.first (numel1_S1.symm ▸ Nat.one_pos)))) (k0_hw5 : k0_chk5 (tbM0_0.view.readAt (Elt F) (Rect.unit (s := S768) (k0_off13 i) S1.size (k0_off13_inb i)).toLoadRect xt0 (Shape.Idx.first (numel1_S1.symm ▸ Nat.one_pos)))) (k0_hw6 : k0_chk6 (tbM0_0.view.readAt (Elt F) (Rect.unit (s := S768) (k0_off16 i) S1.size (k0_off16_inb i)).toLoadRect xt0 (Shape.Idx.first (numel1_S1.symm ▸ Nat.one_pos)))) (k0_hw7 : k0_chk7 (tbM0_0.view.readAt (Elt F) (Rect.unit (s := S768) (k0_off19 i) S1.size (k0_off19_inb i)).toLoadRect xt0 (Shape.Idx.first (numel1_S1.symm ▸ Nat.one_pos)))) (k0_hw8 : k0_chk8 (tbM0_0.view.readAt (Elt F) (Rect.unit (s := S768) (k0_off22 i) S1.size (k0_off22_inb i)).toLoadRect xt0 (Shape.Idx.first (numel1_S1.symm ▸ Nat.one_pos)))) (k0_hw9 : k0_chk9 (tbM0_0.view.readAt (Elt F) (Rect.unit (s := S768) (k0_off25 i) S1.size (k0_off25_inb i)).toLoadRect xt0 (Shape.Idx.first (numel1_S1.symm ▸ Nat.one_pos)))) (k0_hw10 : k0_chk10 (tbM0_0.view.readAt (Elt F) (Rect.unit (s := S768) (k0_off28 i) S1.size (k0_off28_inb i)).toLoadRect xt0 (Shape.Idx.first (numel1_S1.symm ▸ Nat.one_pos)))) (k0_hw11 : k0_chk11 (tbM0_0.view.readAt (Elt F) (Rect.unit (s := S768) (k0_off31 i) S1.size (k0_off31_inb i)).toLoadRect xt0 (Shape.Idx.first (numel1_S1.symm ▸ Nat.one_pos)))) (k0_hw12 : k0_chk12 (tbM0_0.view.readAt (Elt F) (Rect.unit (s := S768) (k0_off34 i) S1.size (k0_off34_inb i)).toLoadRect xt0 (Shape.Idx.first (numel1_S1.symm ▸ Nat.one_pos)))) (k0_hw13 : k0_chk13 (tbM0_0.view.readAt (Elt F) (Rect.unit (s := S768) (k0_off37 i) S1.size (k0_off37_inb i)).toLoadRect xt0 (Shape.Idx.first (numel1_S1.symm ▸ Nat.one_pos)))) (k0_hw14 : k0_chk14 (tbM0_0.view.readAt (Elt F) (Rect.unit (s := S768) (k0_off40 i) S1.size (k0_off40_inb i)).toLoadRect xt0 (Shape.Idx.first (numel1_S1.symm ▸ Nat.one_pos)))) (k0_hw15 : k0_chk15 (tbM0_0.view.readAt (Elt F) (Rect.unit (s := S768) (k0_off43 i) S1.size (k0_off43_inb i)).toLoadRect xt0 (Shape.Idx.first (numel1_S1.symm ▸ Nat.one_pos)))) (k0_hw16 : k0_chk16 (tbM0_0.view.readAt (Elt F) (Rect.unit (s := S768) (k0_off46 i) S1.size (k0_off46_inb i)).toLoadRect xt0 (Shape.Idx.first (numel1_S1.symm ▸ Nat.one_pos)))) (k0_hw17 : k0_chk17 (tbM0_0.view.readAt (Elt F) (Rect.unit (s := S768) (k0_off49 i) S1.size (k0_off49_inb i)).toLoadRect xt0 (Shape.Idx.first (numel1_S1.symm ▸ Nat.one_pos)))) (k0_hw18 : k0_chk18 (tbM0_0.view.readAt (Elt F) (Rect.unit (s := S768) (k0_off52 i) S1.size (k0_off52_inb i)).toLoadRect xt0 (Shape.Idx.first (numel1_S1.symm ▸ Nat.one_pos)))) (k0_hw19 : k0_chk19 (tbM0_0.view.readAt (Elt F) (Rect.unit (s := S768) (k0_off55 i) S1.size (k0_off55_inb i)).toLoadRect xt0 (Shape.Idx.first (numel1_S1.symm ▸ Nat.one_pos)))) (k0_hw20 : k0_chk20 (tbM0_0.view.readAt (Elt F) (Rect.unit (s := S768) (k0_off58 i) S1.size (k0_off58_inb i)).toLoadRect xt0 (Shape.Idx.first (numel1_S1.symm ▸ Nat.one_pos)))) (k0_hw21 : k0_chk21 (tbM0_0.view.readAt (Elt F) (Rect.unit (s := S768) (k0_off61 i) S1.size (k0_off61_inb i)).toLoadRect xt0 (Shape.Idx.first (numel1_S1.symm ▸ Nat.one_pos)))) (k0_hw22 : k0_chk22 (tbM0_0.view.readAt (Elt F) (Rect.unit (s := S768) (k0_off64 i) S1.size (k0_off64_inb i)).toLoadRect xt0 (Shape.Idx.first (numel1_S1.symm ▸ Nat.one_pos)))) (k0_hw23 : k0_chk23 (tbM0_0.view.readAt (Elt F) (Rect.unit (s := S768) (k0_off67 i) S1.size (k0_off67_inb i)).toLoadRect xt0 (Shape.Idx.first (numel1_S1.symm ▸ Nat.one_pos)))) (k0_hw24 : k0_chk24 (tbM0_0.view.readAt (Elt F) (Rect.unit (s := S768) (k0_off70 i) S1.size (k0_off70_inb i)).toLoadRect xt0 (Shape.Idx.first (numel1_S1.symm ▸ Nat.one_pos)))) (fs0 : arg9.view.ty.Contents (Elt F)) (fs1 : arg10.view.ty.Contents (Elt F)) : let M : Mem F := ⟨arg2, harg2, arg5, harg5, arg6, harg6, arg7, harg7, arg9, arg10, x0, x3, x4, x5, arg9.view.writes (Elt F) fs0 (bodyRun.sl.HS0_12 c arg3 harg3 x1), arg10.view.writes (Elt F) fs1 (bodyRun.sl.HS1_12 c arg4 harg4 x2)⟩;
 (bodyRun c i arg2 harg2 arg3 harg3 arg4 harg4 arg5 harg5 arg6 harg6 arg7 harg7 arg8 harg8 arg9 harg9 arg10 harg10 x0 x1 x2 x3 x4 x5 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24).1 fs0 fs1 = [piece M 7 2 (tbM0_0.view.readAt (Elt F) (Rect.unit (s := S768) (k0_off70 i) S1.size (k0_off70_inb i)).toLoadRect xt0 (Shape.Idx.first (numel1_S1.symm ▸ Nat.one_pos))) k0_hw24,
    piece M 7 1 (tbM0_0.view.readAt (Elt F) (Rect.unit (s := S768) (k0_off67 i) S1.size (k0_off67_inb i)).toLoadRect xt0 (Shape.Idx.first (numel1_S1.symm ▸ Nat.one_pos))) k0_hw23,
    piece M 7 0 (tbM0_0.view.readAt (Elt F) (Rect.unit (s := S768) (k0_off64 i) S1.size (k0_off64_inb i)).toLoadRect xt0 (Shape.Idx.first (numel1_S1.symm ▸ Nat.one_pos))) k0_hw22,
    piece M 6 2 (tbM0_0.view.readAt (Elt F) (Rect.unit (s := S768) (k0_off61 i) S1.size (k0_off61_inb i)).toLoadRect xt0 (Shape.Idx.first (numel1_S1.symm ▸ Nat.one_pos))) k0_hw21,
    piece M 6 1 (tbM0_0.view.readAt (Elt F) (Rect.unit (s := S768) (k0_off58 i) S1.size (k0_off58_inb i)).toLoadRect xt0 (Shape.Idx.first (numel1_S1.symm ▸ Nat.one_pos))) k0_hw20,
    piece M 6 0 (tbM0_0.view.readAt (Elt F) (Rect.unit (s := S768) (k0_off55 i) S1.size (k0_off55_inb i)).toLoadRect xt0 (Shape.Idx.first (numel1_S1.symm ▸ Nat.one_pos))) k0_hw19,
    piece M 5 2 (tbM0_0.view.readAt (Elt F) (Rect.unit (s := S768) (k0_off52 i) S1.size (k0_off52_inb i)).toLoadRect xt0 (Shape.Idx.first (numel1_S1.symm ▸ Nat.one_pos))) k0_hw18,
    piece M 5 1 (tbM0_0.view.readAt (Elt F) (Rect.unit (s := S768) (k0_off49 i) S1.size (k0_off49_inb i)).toLoadRect xt0 (Shape.Idx.first (numel1_S1.symm ▸ Nat.one_pos))) k0_hw17,
    piece M 5 0 (tbM0_0.view.readAt (Elt F) (Rect.unit (s := S768) (k0_off46 i) S1.size (k0_off46_inb i)).toLoadRect xt0 (Shape.Idx.first (numel1_S1.symm ▸ Nat.one_pos))) k0_hw16,
    piece M 4 2 (tbM0_0.view.readAt (Elt F) (Rect.unit (s := S768) (k0_off43 i) S1.size (k0_off43_inb i)).toLoadRect xt0 (Shape.Idx.first (numel1_S1.symm ▸ Nat.one_pos))) k0_hw15,
    piece M 4 1 (tbM0_0.view.readAt (Elt F) (Rect.unit (s := S768) (k0_off40 i) S1.size (k0_off40_inb i)).toLoadRect xt0 (Shape.Idx.first (numel1_S1.symm ▸ Nat.one_pos))) k0_hw14,
    piece M 4 0 (tbM0_0.view.readAt (Elt F) (Rect.unit (s := S768) (k0_off37 i) S1.size (k0_off37_inb i)).toLoadRect xt0 (Shape.Idx.first (numel1_S1.symm ▸ Nat.one_pos))) k0_hw13,
    piece M 3 2 (tbM0_0.view.readAt (Elt F) (Rect.unit (s := S768) (k0_off34 i) S1.size (k0_off34_inb i)).toLoadRect xt0 (Shape.Idx.first (numel1_S1.symm ▸ Nat.one_pos))) k0_hw12,
    piece M 3 1 (tbM0_0.view.readAt (Elt F) (Rect.unit (s := S768) (k0_off31 i) S1.size (k0_off31_inb i)).toLoadRect xt0 (Shape.Idx.first (numel1_S1.symm ▸ Nat.one_pos))) k0_hw11,
    piece M 3 0 (tbM0_0.view.readAt (Elt F) (Rect.unit (s := S768) (k0_off28 i) S1.size (k0_off28_inb i)).toLoadRect xt0 (Shape.Idx.first (numel1_S1.symm ▸ Nat.one_pos))) k0_hw10,
    piece M 2 2 (tbM0_0.view.readAt (Elt F) (Rect.unit (s := S768) (k0_off25 i) S1.size (k0_off25_inb i)).toLoadRect xt0 (Shape.Idx.first (numel1_S1.symm ▸ Nat.one_pos))) k0_hw9,
    piece M 2 1 (tbM0_0.view.readAt (Elt F) (Rect.unit (s := S768) (k0_off22 i) S1.size (k0_off22_inb i)).toLoadRect xt0 (Shape.Idx.first (numel1_S1.symm ▸ Nat.one_pos))) k0_hw8,
    piece M 2 0 (tbM0_0.view.readAt (Elt F) (Rect.unit (s := S768) (k0_off19 i) S1.size (k0_off19_inb i)).toLoadRect xt0 (Shape.Idx.first (numel1_S1.symm ▸ Nat.one_pos))) k0_hw7,
    piece M 1 2 (tbM0_0.view.readAt (Elt F) (Rect.unit (s := S768) (k0_off16 i) S1.size (k0_off16_inb i)).toLoadRect xt0 (Shape.Idx.first (numel1_S1.symm ▸ Nat.one_pos))) k0_hw6,
    piece M 1 1 (tbM0_0.view.readAt (Elt F) (Rect.unit (s := S768) (k0_off13 i) S1.size (k0_off13_inb i)).toLoadRect xt0 (Shape.Idx.first (numel1_S1.symm ▸ Nat.one_pos))) k0_hw5,
    piece M 1 0 (tbM0_0.view.readAt (Elt F) (Rect.unit (s := S768) (k0_off10 i) S1.size (k0_off10_inb i)).toLoadRect xt0 (Shape.Idx.first (numel1_S1.symm ▸ Nat.one_pos))) k0_hw4,
    piece M 0 2 (tbM0_0.view.readAt (Elt F) (Rect.unit (s := S768) (k0_off7 i) S1.size (k0_off7_inb i)).toLoadRect xt0 (Shape.Idx.first (numel1_S1.symm ▸ Nat.one_pos))) k0_hw3,
    piece M 0 1 (tbM0_0.view.readAt (Elt F) (Rect.unit (s := S768) (k0_off4 i) S1.size (k0_off4_inb i)).toLoadRect xt0 (Shape.Idx.first (numel1_S1.symm ▸ Nat.one_pos))) k0_hw2,
    piece M 0 0 (tbM0_0.view.readAt (Elt F) (Rect.unit (s := S768) (k0_off1 i) S1.size (k0_off1_inb i)).toLoadRect xt0 (Shape.Idx.first (numel1_S1.symm ▸ Nat.one_pos))) k0_hw1] := rfl

end Cert.KernelIdeal.Heads

end
-- ==== Proof.Value.Scratch.lean ====
/-
  What the two scratch buffers hold once the body has put the new keys and values in them: two sequences' rows interleaved, head by
  head and pair by pair.
-/
module

public import proofs.«01_k».proof.Proof.Value.Pieces
public import Idealize.ShloMosaic.Lib.Pointwise
public import Idealize.ShloMosaic.Lib.WritesUnit

@[expose] public section

set_option maxRecDepth 16384

noncomputable section

namespace Cert.KernelIdeal.Heads

open Idealize.ShloMosaic Idealize.ShloMosaic.TcCoe Cert.KernelIdeal Cert.KernelIdeal.Facts Cert.KernelIdeal.Gen

/-- In a list of writes whose payloads all agree with one function `G` of the index, an index some write covers reads as `G`. -/
theorem read_writes_of_pieces {Val : EltTy → Type} {sig : RefSig} {κ : Kind} {sp : Space} {s : Shape} {e : EltTy} (v : View sig κ sp s e)
    (f : v.ty.Contents Val) (G : s.Idx → Val e) :
    ∀ (L : List (View.Piece Val s e)) (_ : ∀ p ∈ L, ∀ x : p.1.shape.Idx, p.2 x = G (p.1.emb x)) (y : s.Idx) (_ : ∃ p ∈ L, y ∈ p.1.set),
      v.read Val (v.writes Val f L) y = G y
  | [], _, _, hy => by obtain ⟨p, hp, _⟩ := hy; simp at hp
  | p :: L, hL, y, hy => by
    by_cases hm : y ∈ p.1.set
    · obtain ⟨x, rfl⟩ := p.1.exists_idx_of_mem hm
      exact (View.read_writes_cons_emb v f p.1 p.2 L x).trans (hL p (by simp) x)
    · rw [View.writes_cons, View.read_slice_write_of_not_mem p.1 _ _ _ (by rwa [Rect.map_emb_univ])]
      refine read_writes_of_pieces v f G L (fun q hq => hL q (by simp [hq])) y ?_
      obtain ⟨q, hq, hyq⟩ := hy
      rcases List.mem_cons.mp hq with rfl | hq'
      · exact absurd hyq hm
      · exact ⟨q, hq', hyq⟩

variable {F : FTy → Type} [FloatOps F] [Named F]

/-- The rows of one parity of a head's new tokens. -/
def rowsOf (e : Fin 2) (raw : Vec F S20x1x8x128 .bf16) : FVec F S20x4x128 .bf16 :=
  shapeCast S20x4x128 (rowsOfParity e S20x1x4x128 raw bitcasts_S20x1x8x128_w16_S20x1x4x128_w32) shapeCasts_S20x1x4x128_S20x4x128

theorem slicesP (p : Fin 4) : S20x4x128.Slices ![0, p.val, 0] S20x1x128 := by fin_cases p <;> decide

/-- One pair of sequences' rows, out of these. -/
def pairOf (p : Fin 4) (x : FVec F S20x4x128 .bf16) : FVec F S1x1x20x1x128 .bf16 :=
  shapeCast S1x1x20x1x128 (shapeCast S1x1x20x128 (shapeCast S20x128 (extractStridedSlice S20x1x128 ![0, p.val, 0] x (slicesP p))
    shapeCasts_S20x1x128_S20x128) shapeCasts_S20x128_S1x1x20x128) shapeCasts_S1x1x20x128_S1x1x20x1x128

/-- The two sequences of a pair, interleaved. -/
def newRows (p : Fin 4) (raw : Vec F S20x1x8x128 .bf16) : Vec F S1x1x20x2x128 .bf16 :=
  interleaveRows S1x1x20x2x128 (pairOf p (rowsOf 0 raw)) (pairOf p (rowsOf 1 raw)) bitcasts_S1x1x20x2x128_w16_S1x1x20x1x128_w32

theorem pairOf_at (p : Fin 4) (e : Fin 2) (raw : Vec F S20x1x8x128 .bf16) (j : Fin 20) (l : Fin 128) :
    pairOf p (rowsOf e raw) (ix5 0 0 j 0 l) = raw (ix4 j 0 ⟨2 * p.val + e.val, by omega⟩ l) := by
  unfold pairOf rowsOf
  pointwise

theorem newRows_at (p : Fin 4) (raw : Vec F S20x1x8x128 .bf16) (j : Fin 20) (e : Fin 2) (l : Fin 128) :
    newRows p raw (ix5 0 0 j e l) = raw (ix4 j 0 ⟨2 * p.val + e.val, by omega⟩ l) := by
  refine Eq.trans ?_ (pairOf_at p e raw j l)
  unfold newRows interleaveRows
  have hrow : S1x1x20x2x128.row (ix5 0 0 j e l) = e.val := rfl
  rw [hrow]
  have hidx : ∀ k : S1x1x20x1x128.Idx, (∀ a, (k a).val = ((ix5 0 0 j 0 l : S1x1x20x1x128.Idx) a).val) → k = ix5 0 0 j 0 l :=
    fun k hk => funext fun a => Fin.ext (hk a)
  have he := e.isLt
  have h1 : ∀ w : Fin 2, w = e → ∀ k : S1x1x20x1x128.Idx, (∀ a, (k a).val = ((ix5 0 0 j 0 l : S1x1x20x1x128.Idx) a).val) →
      pairOf p (rowsOf w raw) k = pairOf p (rowsOf e raw) (ix5 0 0 j 0 l) := by
    rintro w rfl k hk; rw [hidx k hk]
  by_cases h0 : e.val % 2 = 0
  · refine (if_pos h0).trans (h1 0 (Fin.ext (by show 0 = e.val; omega)) _ ?_)
    intro a; fin_cases a <;> first | rfl | (show e.val / 2 = 0; omega)
  · refine (if_neg h0).trans (h1 1 (Fin.ext (by show 1 = e.val; omega)) _ ?_)
    intro a; fin_cases a <;> first | rfl | (show e.val / 2 = 0; omega)

theorem inbN (h : Fin 3) (p : Fin 4) : ∀ a, (![h.val, p.val, 0, 0, 0] : Fin 5 → ℕ) a + S1x1x20x2x128.size a ≤ S3x4x24x2x128.size a := by
  have := h.isLt; have := p.isLt
  intro a; fin_cases a
  · show h.val + 1 ≤ 3; omega
  · show p.val + 1 ≤ 4; omega
  · exact (by decide : 0 + 20 ≤ 24)
  · exact Nat.le_refl 2
  · exact Nat.le_refl 128

theorem inbR (h : Fin 3) : ∀ a, (![0, h.val, 0, 0] : Fin 4 → ℕ) a + S20x1x8x128.size a ≤ S20x3x8x128.size a := by
  have := h.isLt
  intro a; fin_cases a
  · exact Nat.le_refl 20
  · show h.val + 1 ≤ 3; omega
  · exact Nat.le_refl 8
  · exact Nat.le_refl 128

/-- The write of head `h`'s new tokens of pair `p`, from the buffer `arg` that holds `x`. -/
def newPiece (arg : Memref sig .tc .vmem S20x3x8x128 .bf16) (harg : arg.IsWhole) (x : Vec F S20x3x8x128 .bf16) (h : Fin 3) (p : Fin 4) :
    View.Piece (Elt F) S3x4x24x2x128 .bf16 :=
  ⟨Rect.unit (s := S3x4x24x2x128) ![h.val, p.val, 0, 0, 0] S1x1x20x2x128.size (inbN h p),
    newRows p (View.readAt (Elt F) arg.view (Rect.unit (s := S20x3x8x128) ![0, h.val, 0, 0] S20x1x8x128.size (inbR h)).toLoadRect (harg.unread x))⟩

section
attribute [local irreducible] shapeCast extractStridedSlice rowsOfParity interleaveRows View.readAt

theorem keys_eq (c : Dev nD) (arg : Memref sig .tc .vmem S20x3x8x128 .bf16) (harg : arg.IsWhole) (x : Vec F S20x3x8x128 .bf16) :
    bodyRun.sl.HS0_12 c arg harg x = [newPiece arg harg x 2 3, newPiece arg harg x 2 2, newPiece arg harg x 2 1, newPiece arg harg x 2 0,
      newPiece arg harg x 1 3, newPiece arg harg x 1 2, newPiece arg harg x 1 1, newPiece arg harg x 1 0,
      newPiece arg harg x 0 3, newPiece arg harg x 0 2, newPiece arg harg x 0 1, newPiece arg harg x 0 0] := rfl

theorem values_eq (c : Dev nD) (arg : Memref sig .tc .vmem S20x3x8x128 .bf16) (harg : arg.IsWhole) (x : Vec F S20x3x8x128 .bf16) :
    bodyRun.sl.HS1_12 c arg harg x = [newPiece arg harg x 2 3, newPiece arg harg x 2 2, newPiece arg harg x 2 1, newPiece arg harg x 2 0,
      newPiece arg harg x 1 3, newPiece arg harg x 1 2, newPiece arg harg x 1 1, newPiece arg harg x 1 0,
      newPiece arg harg x 0 3, newPiece arg harg x 0 2, newPiece arg harg x 0 1, newPiece arg harg x 0 0] := rfl
end

/-- What a scratch buffer holds at an index, of the new tokens `x`. -/
def scr (x : Vec F S20x3x8x128 .bf16) (y : S3x4x24x2x128.Idx) : Elt F .bf16 :=
  x (ix4 ⟨(y 2).val % 20, by omega⟩ (y 0) ⟨2 * (y 1).val + (y 3).val, by have h1 : (y 1).val < 4 := (y 1).isLt; have h3 : (y 3).val < 2 := (y 3).isLt; omega⟩ (y 4))

theorem newPiece_eq (arg : Memref sig .tc .vmem S20x3x8x128 .bf16) (harg : arg.IsWhole) (x : Vec F S20x3x8x128 .bf16) (h : Fin 3) (p : Fin 4)
    (y : (newPiece arg harg x h p).1.shape.Idx) : (newPiece arg harg x h p).2 y = scr x ((newPiece arg harg x h p).1.emb y) := by
  have key : ∀ y : S1x1x20x2x128.Idx, newRows p (View.readAt (Elt F) arg.view (Rect.unit (s := S20x3x8x128) ![0, h.val, 0, 0] S20x1x8x128.size
      (inbR h)).toLoadRect (harg.unread x)) y = scr x ((Rect.unit (s := S3x4x24x2x128) ![h.val, p.val, 0, 0, 0] S1x1x20x2x128.size (inbN h p)).emb y) := by
    intro y
    idx_vars y
    obtain rfl : y0 = 0 := Subsingleton.elim _ _
    obtain rfl : y1 = 0 := Subsingleton.elim _ _
    have hy : (Rect.unit (s := S3x4x24x2x128) ![h.val, p.val, 0, 0, 0] S1x1x20x2x128.size (inbN h p)).emb (ix5 0 0 y2 y3 y4)
        = ix5 h p ⟨y2.val, by omega⟩ y3 y4 := by
      refine funext fun a => Fin.ext ?_
      fin_cases a
      · show h.val + 1 * 0 = h.val; omega
      · show p.val + 1 * 0 = p.val; omega
      · show 0 + 1 * y2.val = y2.val; omega
      · show 0 + 1 * y3.val = y3.val; omega
      · show 0 + 1 * y4.val = y4.val; omega
    refine Eq.trans ?_ (congrArg (scr x) hy).symm
    refine (newRows_at p _ y2 y3 y4).trans ?_
    rw [View.readAt_apply, harg.read_unread]
    unfold scr
    refine congrArg x (funext fun a => Fin.ext ?_)
    have h2 := y2.isLt
    fin_cases a <;> simp [Rect.toLoadRect, Rect.unit, Nat.mod_eq_of_lt h2]
  exact key y

theorem scr_at {sg : RefSig} {κ : Kind} {sp : Space} (v : View sg κ sp S3x4x24x2x128 .bf16) (f : v.ty.Contents (Elt F)) (arg : Memref sig .tc .vmem S20x3x8x128 .bf16) (harg : arg.IsWhole) (x : Vec F S20x3x8x128 .bf16)
    (h : Fin 3) (p : Fin 4) (j : Fin 20) (e : Fin 2) (l : Fin 128) :
    v.read (Elt F) (v.writes (Elt F) f [newPiece arg harg x 2 3, newPiece arg harg x 2 2, newPiece arg harg x 2 1, newPiece arg harg x 2 0,
      newPiece arg harg x 1 3, newPiece arg harg x 1 2, newPiece arg harg x 1 1, newPiece arg harg x 1 0,
      newPiece arg harg x 0 3, newPiece arg harg x 0 2, newPiece arg harg x 0 1, newPiece arg harg x 0 0]) (ix5 h p ⟨j.val, by omega⟩ e l)
      = x (ix4 j h ⟨2 * p.val + e.val, by omega⟩ l) := by
  refine (read_writes_of_pieces v f (scr x) _ ?_ _ ?_).trans ?_
  · intro q hq
    have hq' : ∃ h p, q = newPiece arg harg x h p := by
      simp only [List.mem_cons, List.not_mem_nil, or_false] at hq
      rcases hq with rfl | rfl | rfl | rfl | rfl | rfl | rfl | rfl | rfl | rfl | rfl | rfl <;> exact ⟨_, _, rfl⟩
    obtain ⟨h, p, rfl⟩ := hq'
    exact newPiece_eq arg harg x h p
  · refine ⟨newPiece arg harg x h p, ?_, ?_⟩
    · fin_cases h <;> fin_cases p <;> simp
    · refine (Rect.mem_set_unit (inb := inbN h p)).2 fun a => ?_
      have hj := j.isLt
      have he := e.isLt
      have hl := l.isLt
      fin_cases a <;> simp <;> omega
  · unfold scr
    refine congrArg x (funext fun a => Fin.ext ?_)
    fin_cases a
    · exact Nat.mod_eq_of_lt j.isLt
    · rfl
    · rfl
    · rfl

end Cert.KernelIdeal.Heads

end
-- ==== Proof.Value.Body.lean ====
/-
  The body's twenty-four writes leave the attention of its eight sequences in the output block.
-/
module

public import proofs.«01_k».proof.Proof.Value.Block
public import proofs.«01_k».proof.Proof.Value.Scratch

@[expose] public section

set_option maxRecDepth 16384

noncomputable section

namespace Cert.KernelIdeal.Heads

open Idealize.ShloMosaic Idealize.ShloMosaic.TcCoe Cert.KernelIdeal Cert.KernelIdeal.Facts Cert.KernelIdeal.Gen Cert.Attn

/-- The table names every head of every sequence once. -/
structure Names (D : Data) : Prop where
  word : ∀ b r, ∃ h : Fin 3, D.order b r = BitVec.ofNat 32 h.val
  inj : ∀ b r r', D.order b r = D.order b r' → r = r'

theorem Names.surj {D : Data} (N : Names D) (b : Fin 256) (h : Fin 3) : ∃ r, D.order b r = BitVec.ofNat 32 h.val := by
  choose f hf using N.word b
  have hinj : Function.Injective f := fun r r' e => N.inj b r r' (by rw [hf, hf, e])
  obtain ⟨r, hr⟩ := Finite.surjective_of_injective hinj h
  exact ⟨r, by rw [hf, hr]⟩

theorem head_toNat : ∀ h : Fin 3, (Scalar.indexCast (BitVec.ofNat 32 h.val) : Index).toNat = h.val := by decide

/-- The block of the result at point `t`. -/
def outBlock (D : Data) (t : Fin 32) : Vec Ideal S8x20x3x8x128 .bf16 :=
  fun y => D.out ⟨8 * t.val + (y 0).val, by have h : (y 0).val < 8 := (y 0).isLt; omega⟩ (y 1) (y 2) (y 3) (y 4)

theorem outBlock_at (D : Data) (t : Fin 32) (i : Fin 8) (s : Fin 20) (h : Fin 3) (g : Fin 8) (d : Fin 128) :
    outBlock D t (ix5 i s h g d) = D.out ⟨8 * t.val + i.val, by omega⟩ s h g d := rfl

theorem emb_at (i : Fin 8) (h : Fin 3) (off : ℕ) (ho : off = h.val)
    (inb : ∀ a, (![i.val, 0, off, 0, 0] : Fin 5 → ℕ) a + S1x20x1x8x128.size a ≤ S8x20x3x8x128.size a) (s : Fin 20) (g : Fin 8) (d : Fin 128) :
    (Rect.unit (s := S8x20x3x8x128) ![i.val, 0, off, 0, 0] S1x20x1x8x128.size inb).emb (ix5 0 s 0 g d) = ix5 i s h g d := by
  subst ho
  refine funext fun a => Fin.ext ?_
  fin_cases a
  · show i.val + 1 * 0 = i.val; omega
  · show 0 + 1 * s.val = s.val; omega
  · show h.val + 1 * 0 = h.val; omega
  · show 0 + 1 * g.val = g.val; omega
  · show 0 + 1 * d.val = d.val; omega

variable {D : Data} {t : Fin 32} {M : Mem Ideal}

/-- Each write agrees with the block of the result. -/
theorem piece_eq (H : Holds D t M) (N : Names D) (i : Fin 8) (r : Fin 3) (w : BitVec 32) (hw : Chk i.val (i.val / 2) w)
    (e : w = D.order ⟨8 * t.val + i.val, by omega⟩ r) (x : (piece M i r w hw).1.shape.Idx) :
    (piece M i r w hw).2 x = outBlock D t ((piece M i r w hw).1.emb x) := by
  obtain ⟨h, hh⟩ := N.word ⟨8 * t.val + i.val, by omega⟩ r
  have hwh : (Scalar.indexCast w : Index).toNat = h.val := by rw [e, hh]; exact head_toNat h
  have key : ∀ x : S1x20x1x8x128.Idx, blk M i r w hw x = outBlock D t
      ((Rect.unit (s := S8x20x3x8x128) ![i.val, 0, (Scalar.indexCast w : Index).toNat, 0, 0] S1x20x1x8x128.size hw.1).emb x) := by
    intro x
    idx_vars x
    obtain rfl : x0 = 0 := Subsingleton.elim _ _
    obtain rfl : x2 = 0 := Subsingleton.elim _ _
    refine Eq.trans ?_ (congrArg (outBlock D t) (emb_at i h _ hwh hw.1 x1 x3 x4)).symm
    refine blk_at H i w hw h hwh r (fun r' => ⟨fun h' => N.inj _ _ _ (h'.trans hh.symm), fun h' => h' ▸ hh⟩) x1 x3 x4
  exact key x

/-- … and together they cover it. -/
theorem body_at (H : Holds D t M) (N : Names D) (L : List (View.Piece (Elt Ideal) S8x20x3x8x128 .bf16)) (hlen : L.length = 24)
    (hL : ∀ (i : Fin 8) (r : Fin 3), ∃ (w : BitVec 32) (hw : Chk i.val (i.val / 2) w),
      L[23 - (3 * i.val + r.val)]? = some (piece M i r w hw) ∧ w = D.order ⟨8 * t.val + i.val, by omega⟩ r)
    {sg : RefSig} {κ : Kind} {sp : Space} (v : View sg κ sp S8x20x3x8x128 .bf16) (f : v.ty.Contents (Elt Ideal)) :
    v.read (Elt Ideal) (v.writes (Elt Ideal) f L) = outBlock D t := by
  funext y
  refine read_writes_of_pieces v f (outBlock D t) L ?_ y ?_
  · intro q hq
    obtain ⟨k, hk, rfl⟩ := List.getElem_of_mem hq
    rw [hlen] at hk
    obtain ⟨w, hw, h1, h2⟩ := hL ⟨(23 - k) / 3, by omega⟩ ⟨(23 - k) % 3, by omega⟩
    have e : 23 - (3 * ((23 - k) / 3) + (23 - k) % 3) = k := by omega
    dsimp only at h1
    rw [e, List.getElem?_eq_getElem (by omega), Option.some.injEq] at h1
    rw [h1]
    exact piece_eq H N _ _ w hw h2
  · idx_vars y
    rename' y0 => i, y1 => s, y2 => h, y3 => g, y4 => d
    obtain ⟨r, hr⟩ := N.surj ⟨8 * t.val + i.val, by omega⟩ h
    obtain ⟨w, hw, h1, h2⟩ := hL i r
    have hwh : (Scalar.indexCast w : Index).toNat = h.val := by rw [h2, hr]; exact head_toNat h
    refine ⟨_, List.mem_of_getElem? h1, ?_⟩
    have hm : (Rect.unit (s := S8x20x3x8x128) ![i.val, 0, (Scalar.indexCast w : Index).toNat, 0, 0] S1x20x1x8x128.size hw.1).emb (ix5 0 s 0 g d)
        ∈ (Rect.unit (s := S8x20x3x8x128) ![i.val, 0, (Scalar.indexCast w : Index).toNat, 0, 0] S1x20x1x8x128.size hw.1).set := by
      rw [← Rect.map_emb_univ]; exact Finset.mem_map_of_mem _ (Finset.mem_univ _)
    rw [emb_at i h _ hwh hw.1 s g d] at hm
    exact hm

end Cert.KernelIdeal.Heads

end
-- ==== Proof.Value.Windows.lean ====
/-
  What the launch's blocks hold, in terms of the kernel's arguments.
-/
module

public import proofs.«01_k».proof.Proof.Value.Launch
public import proofs.«01_k».proof.Proof.Value.Body
public import proofs.«01_k».proof.Proof.RealFrame.Table
public import Idealize.ShloMosaic.Lib.ValueLayout
public import Idealize.ShloMosaic.Lib.Pointwise
public import Idealize.ShloMosaic.Lib.Pipeline.ValueKit.Geometry

@[expose] public section

set_option maxRecDepth 16384

noncomputable section

namespace Cert.KernelIdeal.Out

open Idealize.ShloMosaic Idealize.ShloMosaic.TcCoe Cert.KernelIdeal Cert.KernelIdeal.Facts Cert.KernelIdeal.Gen Cert.KernelIdeal.Heads Cert.Attn

variable (m : (ℓ : Loc nD τ sig) → Buf (Elt Ideal) ℓ)

/-- The arguments, entry by entry. -/
def data (c : Dev nD) : Data where
  order b r := (m ((c : Thread nD τ).loc main_arg0) : IVec S256x3 32) (ix2 b r)
  q b s h d := (m ((c : Thread nD τ).loc main_arg1) : FVec Ideal S256x20x24x128 .bf16) (ix4 b s h d)
  kn b j h d := (m ((c : Thread nD τ).loc main_arg2) : FVec Ideal S256x20x3x128 .bf16) (ix4 b j h d)
  vn b j h d := (m ((c : Thread nD τ).loc main_arg3) : FVec Ideal S256x20x3x128 .bf16) (ix4 b j h d)
  kd a p d := (m ((c : Thread nD τ).loc main_arg4) : IVec S24576x2x128 32) (ix3 a p d)
  vd a p l := (m ((c : Thread nD τ).loc main_arg5) : IVec S3072x24x128 32) (ix3 a p l)
  bias b c' l := (m ((c : Thread nD τ).loc main_arg6) : FVec Ideal S256x16x128 .f32) (ix3 b c' l)

/-! ## The arrays the launch finds -/

theorem V_main_v1 (c : Dev nD) : V m c main_v1
    = (shapeCast S256x20x3x8x128 (m ((c : Thread nD τ).loc main_arg1) : FVec Ideal S256x20x24x128 .bf16) shapeCasts_S256x20x24x128_S256x20x3x8x128 : FVec Ideal S256x20x3x8x128 .bf16) := by
  show StableHlo.after hostOps0 _ (Proc.devRef .tc main_v1) = _
  after_results
  rfl

theorem V_main_v2 (c : Dev nD) : V m c main_v2
    = (transpose S20x3x256x128 [1, 2, 0, 3] (m ((c : Thread nD τ).loc main_arg2) : FVec Ideal S256x20x3x128 .bf16) transposes_S256x20x3x128_S20x3x256x128_1_2_0_3 : FVec Ideal S20x3x256x128 .bf16) := by
  show StableHlo.after hostOps0 _ (Proc.devRef .tc main_v2) = _
  after_results

theorem V_main_v3 (c : Dev nD) : V m c main_v3
    = (transpose S20x3x256x128 [1, 2, 0, 3] (m ((c : Thread nD τ).loc main_arg3) : FVec Ideal S256x20x3x128 .bf16) transposes_S256x20x3x128_S20x3x256x128_1_2_0_3 : FVec Ideal S20x3x256x128 .bf16) := by
  show StableHlo.after hostOps0 _ (Proc.devRef .tc main_v3) = _
  after_results

theorem split_at (X : FVec Ideal S256x20x24x128 .bf16) (b : Fin 256) (s : Fin 20) (h : Fin 3) (g : Fin 8) (d : Fin 128) :
    shapeCast S256x20x3x8x128 X shapeCasts_S256x20x24x128_S256x20x3x8x128 (ix5 b s h g d) = X (ix4 b s ⟨h.val * 8 + g.val, by omega⟩ d) := by
  refine shapeCast_apply _ _ _ _ ?_
  erw [Shape.rowMajor_val_four, Shape.rowMajor_val_five]
  show ((b.val * 20 + s.val) * 24 + (h.val * 8 + g.val)) * 128 + d.val = (((b.val * 20 + s.val) * 3 + h.val) * 8 + g.val) * 128 + d.val
  omega

theorem turn_at (X : FVec Ideal S256x20x3x128 .bf16) (b : Fin 256) (j : Fin 20) (h : Fin 3) (d : Fin 128) :
    transpose S20x3x256x128 [1, 2, 0, 3] X transposes_S256x20x3x128_S20x3x256x128_1_2_0_3 (ix4 j h b d) = X (ix4 b j h d) := by
  pointwise

theorem v1_at (c : Dev nD) (b : Fin 256) (s : Fin 20) (h : Fin 3) (g : Fin 8) (d : Fin 128) :
    (V m c main_v1 : FVec Ideal S256x20x3x8x128 .bf16) (ix5 b s h g d) = (data m c).q b s ⟨h.val * 8 + g.val, by omega⟩ d :=
  (congrFun (V_main_v1 m c) _).trans (split_at _ b s h g d)

theorem v2_at (c : Dev nD) (b : Fin 256) (j : Fin 20) (h : Fin 3) (d : Fin 128) :
    (V m c main_v2 : FVec Ideal S20x3x256x128 .bf16) (ix4 j h b d) = (data m c).kn b j h d :=
  (congrFun (V_main_v2 m c) _).trans (turn_at _ b j h d)

theorem v3_at (c : Dev nD) (b : Fin 256) (j : Fin 20) (h : Fin 3) (d : Fin 128) :
    (V m c main_v3 : FVec Ideal S20x3x256x128 .bf16) (ix4 j h b d) = (data m c).vn b j h d :=
  (congrFun (V_main_v3 m c) _).trans (turn_at _ b j h d)

/-! ## The blocks -/

theorem points : grid0.N = 32 := by decide +kernel

/-- The grid's point, as the number of its block. -/
def pt (t : Fin grid0.N) : Fin 32 := ⟨t.val, points ▸ t.isLt⟩

theorem idx0 : ∀ t : Fin grid0.N, cc0_transform_0 (grid0.coords t) = ![t.val, 0, 0, 0, 0] := by decide +kernel
theorem idx1 : ∀ t : Fin grid0.N, cc0_transform_1 (grid0.coords t) = ![0, 0, t.val, 0] := by decide +kernel
theorem idx2 : ∀ t : Fin grid0.N, cc0_transform_2 (grid0.coords t) = ![0, 0, t.val, 0] := by decide +kernel
theorem idx3 : ∀ t : Fin grid0.N, cc0_transform_3 (grid0.coords t) = ![t.val, 0, 0] := by decide +kernel
theorem idx4 : ∀ t : Fin grid0.N, cc0_transform_4 (grid0.coords t) = ![t.val, 0, 0] := by decide +kernel
theorem idx5 : ∀ t : Fin grid0.N, cc0_transform_5 (grid0.coords t) = ![t.val, 0, 0] := by decide +kernel
theorem idx6 : ∀ t : Fin grid0.N, cc0_transform_6 (grid0.coords t) = ![t.val, 0, 0, 0, 0] := by decide +kernel

variable (hO : Ok m) (c : Dev nD) (t : Fin grid0.N)

theorem iblk0_at (i : Fin 8) (s : Fin 20) (h : Fin 3) (g : Fin 8) (d : Fin 128) :
    (iblk m hO c 0 t : Vec Ideal S8x20x3x8x128 .bf16) (ix5 i s h g d) = (data m c).q ⟨8 * (pt t).val + i.val, by omega⟩ s ⟨h.val * 8 + g.val, by omega⟩ d := by
  refine Eq.trans (congrArg (V m c main_v1 : FVec Ideal S256x20x3x8x128 .bf16) (funext fun a => Fin.ext ?_)) (v1_at m c ⟨8 * (pt t).val + i.val, by omega⟩ s h g d)
  have e := congrFun (idx0 t)
  fin_cases a
  · show cc0_transform_0 (grid0.coords t) 0 * 8 + 1 * i.val = 8 * t.val + i.val
    rw [e]; show t.val * 8 + 1 * i.val = _; omega
  · show cc0_transform_0 (grid0.coords t) 1 * 20 + 1 * s.val = s.val
    rw [e]; show 0 * 20 + 1 * s.val = _; omega
  · show cc0_transform_0 (grid0.coords t) 2 * 3 + 1 * h.val = h.val
    rw [e]; show 0 * 3 + 1 * h.val = _; omega
  · show cc0_transform_0 (grid0.coords t) 3 * 8 + 1 * g.val = g.val
    rw [e]; show 0 * 8 + 1 * g.val = _; omega
  · show cc0_transform_0 (grid0.coords t) 4 * 128 + 1 * d.val = d.val
    rw [e]; show 0 * 128 + 1 * d.val = _; omega

theorem iblk1_at (j : Fin 20) (h : Fin 3) (i : Fin 8) (d : Fin 128) :
    (iblk m hO c 1 t : Vec Ideal S20x3x8x128 .bf16) (ix4 j h i d) = (data m c).kn ⟨8 * (pt t).val + i.val, by omega⟩ j h d := by
  refine Eq.trans (congrArg (V m c main_v2 : FVec Ideal S20x3x256x128 .bf16) (funext fun a => Fin.ext ?_)) (v2_at m c ⟨8 * (pt t).val + i.val, by omega⟩ j h d)
  have e := congrFun (idx1 t)
  fin_cases a
  · show cc0_transform_1 (grid0.coords t) 0 * 20 + 1 * j.val = j.val
    rw [e]; show 0 * 20 + 1 * j.val = _; omega
  · show cc0_transform_1 (grid0.coords t) 1 * 3 + 1 * h.val = h.val
    rw [e]; show 0 * 3 + 1 * h.val = _; omega
  · show cc0_transform_1 (grid0.coords t) 2 * 8 + 1 * i.val = 8 * t.val + i.val
    rw [e]; show t.val * 8 + 1 * i.val = _; omega
  · show cc0_transform_1 (grid0.coords t) 3 * 128 + 1 * d.val = d.val
    rw [e]; show 0 * 128 + 1 * d.val = _; omega

theorem iblk2_at (j : Fin 20) (h : Fin 3) (i : Fin 8) (d : Fin 128) :
    (iblk m hO c 2 t : Vec Ideal S20x3x8x128 .bf16) (ix4 j h i d) = (data m c).vn ⟨8 * (pt t).val + i.val, by omega⟩ j h d := by
  refine Eq.trans (congrArg (V m c main_v3 : FVec Ideal S20x3x256x128 .bf16) (funext fun a => Fin.ext ?_)) (v3_at m c ⟨8 * (pt t).val + i.val, by omega⟩ j h d)
  have e := congrFun (idx2 t)
  fin_cases a
  · show cc0_transform_2 (grid0.coords t) 0 * 20 + 1 * j.val = j.val
    rw [e]; show 0 * 20 + 1 * j.val = _; omega
  · show cc0_transform_2 (grid0.coords t) 1 * 3 + 1 * h.val = h.val
    rw [e]; show 0 * 3 + 1 * h.val = _; omega
  · show cc0_transform_2 (grid0.coords t) 2 * 8 + 1 * i.val = 8 * t.val + i.val
    rw [e]; show t.val * 8 + 1 * i.val = _; omega
  · show cc0_transform_2 (grid0.coords t) 3 * 128 + 1 * d.val = d.val
    rw [e]; show 0 * 128 + 1 * d.val = _; omega

theorem iblk3_at (i : Fin 768) (j : Fin 2) (l : Fin 128) :
    (iblk m hO c 3 t : Vec Ideal S768x2x128 .i32) (ix3 i j l) = (data m c).kd ⟨768 * (pt t).val + i.val, by omega⟩ j l := by
  refine Eq.trans (congrArg (V m c main_arg4 : IVec S24576x2x128 32) (funext fun a => Fin.ext ?_)) (congrFun (V_main_arg4 m c) (ix3 ⟨768 * (pt t).val + i.val, by omega⟩ j l))
  have e := congrFun (idx3 t)
  fin_cases a
  · show cc0_transform_3 (grid0.coords t) 0 * 768 + 1 * i.val = 768 * t.val + i.val
    rw [e]; show t.val * 768 + 1 * i.val = _; omega
  · show cc0_transform_3 (grid0.coords t) 1 * 2 + 1 * j.val = j.val
    rw [e]; show 0 * 2 + 1 * j.val = _; omega
  · show cc0_transform_3 (grid0.coords t) 2 * 128 + 1 * l.val = l.val
    rw [e]; show 0 * 128 + 1 * l.val = _; omega

theorem iblk4_at (i : Fin 96) (j : Fin 24) (l : Fin 128) :
    (iblk m hO c 4 t : Vec Ideal S96x24x128 .i32) (ix3 i j l) = (data m c).vd ⟨96 * (pt t).val + i.val, by omega⟩ j l := by
  refine Eq.trans (congrArg (V m c main_arg5 : IVec S3072x24x128 32) (funext fun a => Fin.ext ?_)) (congrFun (V_main_arg5 m c) (ix3 ⟨96 * (pt t).val + i.val, by omega⟩ j l))
  have e := congrFun (idx4 t)
  fin_cases a
  · show cc0_transform_4 (grid0.coords t) 0 * 96 + 1 * i.val = 96 * t.val + i.val
    rw [e]; show t.val * 96 + 1 * i.val = _; omega
  · show cc0_transform_4 (grid0.coords t) 1 * 24 + 1 * j.val = j.val
    rw [e]; show 0 * 24 + 1 * j.val = _; omega
  · show cc0_transform_4 (grid0.coords t) 2 * 128 + 1 * l.val = l.val
    rw [e]; show 0 * 128 + 1 * l.val = _; omega

theorem iblk5_at (i : Fin 8) (j : Fin 16) (l : Fin 128) :
    (iblk m hO c 5 t : Vec Ideal S8x16x128 .f32) (ix3 i j l) = (data m c).bias ⟨8 * (pt t).val + i.val, by omega⟩ j l := by
  refine Eq.trans (congrArg (V m c main_arg6 : FVec Ideal S256x16x128 .f32) (funext fun a => Fin.ext ?_)) (congrFun (V_main_arg6 m c) (ix3 ⟨8 * (pt t).val + i.val, by omega⟩ j l))
  have e := congrFun (idx5 t)
  fin_cases a
  · show cc0_transform_5 (grid0.coords t) 0 * 8 + 1 * i.val = 8 * t.val + i.val
    rw [e]; show t.val * 8 + 1 * i.val = _; omega
  · show cc0_transform_5 (grid0.coords t) 1 * 16 + 1 * j.val = j.val
    rw [e]; show 0 * 16 + 1 * j.val = _; omega
  · show cc0_transform_5 (grid0.coords t) 2 * 128 + 1 * l.val = l.val
    rw [e]; show 0 * 128 + 1 * l.val = _; omega

end Cert.KernelIdeal.Out

end
-- ==== Proof.Value.Out.lean ====
/-
  The kernel's result: the attention of `Spec` at its arguments.
-/
module

public import proofs.«01_k».proof.Proof.Value.Windows
public import proofs.«01_k».proof.Proof.RealFrame.Frame

@[expose] public section

set_option maxRecDepth 16384

noncomputable section

namespace Cert.KernelIdeal.Out

open Idealize.ShloMosaic Idealize.ShloMosaic.TcCoe Idealize.SL.Sem Cert.KernelIdeal Cert.KernelIdeal.Facts Cert.KernelIdeal.Gen Cert.KernelIdeal.Heads Cert.Attn Cert.Order

variable (m : (ℓ : Loc nD τ sig) → Buf (Elt Ideal) ℓ)

/-- The words of the table name the heads, each once a row. -/
theorem names (c : Dev nD) (hp : Perm (m ((0 : Dev nD).tc.loc main_arg0) : S256x3.Idx → BitVec 32)) : Names (data m c) := by
  obtain rfl : c = 0 := Subsingleton.elim _ _
  constructor
  · intro b r
    rcases hp.word (ix2 b r) with h | h | h
    · exact ⟨0, h⟩
    · exact ⟨1, h⟩
    · exact ⟨2, h⟩
  · intro b r r' h
    have h01 := hp.ne01 b
    have h02 := hp.ne02 b
    have h12 := hp.ne12 b
    change (m ((0 : Dev nD).tc.loc main_arg0) : S256x3.Idx → BitVec 32) (ix2 b r) = (m ((0 : Dev nD).tc.loc main_arg0) : S256x3.Idx → BitVec 32) (ix2 b r') at h
    fin_cases r <;> fin_cases r' <;> first | rfl | exact absurd h h01 | exact absurd h h02 | exact absurd h h12 | exact absurd h.symm h01 | exact absurd h.symm h02 | exact absurd h.symm h12

/-- Where the word of slot `r` of the block's sequence `i` is in the table. -/
theorem word_at (c : Dev nD) (t : Fin grid0.N) (i : Fin 8) (r : Fin 3) (off : Fin 1 → ℕ) (inb : ∀ a, off a + S1.size a ≤ S768.size a)
    (e : off 0 = 24 * t.val + (3 * i.val + r.val)) :
    tbM0_0.view.readAt (Elt Ideal) (Rect.unit (s := S768) off S1.size inb).toLoadRect (tbl m 0) (Shape.Idx.first (numel1_S1.symm ▸ Nat.one_pos))
      = (data m c).order ⟨8 * (pt t).val + i.val, by omega⟩ r := by
  obtain rfl : c = 0 := Subsingleton.elim _ _
  have ht := (pt t).isLt
  refine Eq.trans (congrArg (tbl m 0 : S768.Idx → BitVec 32) (funext fun a => Fin.ext ?_))
    (tbl_word m ⟨8 * (pt t).val + i.val, by omega⟩ r ⟨24 * (pt t).val + (3 * i.val + r.val), by omega⟩ (by dsimp only; omega))
  fin_cases a
  show off 0 + 1 * 0 = 24 * t.val + (3 * i.val + r.val)
  omega

/-- The offsets of the words, as the body computes them. -/
def wordOff : Fin 8 → Fin 3 → grid0.Coords → Fin 1 → ℕ :=
  ![![k0_off1, k0_off4, k0_off7],
    ![k0_off10, k0_off13, k0_off16],
    ![k0_off19, k0_off22, k0_off25],
    ![k0_off28, k0_off31, k0_off34],
    ![k0_off37, k0_off40, k0_off43],
    ![k0_off46, k0_off49, k0_off52],
    ![k0_off55, k0_off58, k0_off61],
    ![k0_off64, k0_off67, k0_off70]]

theorem wordOff_eq : ∀ (t : Fin grid0.N) (i : Fin 8) (r : Fin 3), wordOff i r (grid0.coords t) 0 = 24 * t.val + (3 * i.val + r.val) := by
  decide +kernel

theorem keys_at (c : Dev nD) (arg : Memref sig .tc .vmem S20x3x8x128 .bf16) (harg : arg.IsWhole) (x : Vec Ideal S20x3x8x128 .bf16)
    {sg : RefSig} {κ : Kind} {sp : Space} (v : View sg κ sp S3x4x24x2x128 .bf16) (f : v.ty.Contents (Elt Ideal)) (h : Fin 3) (p : Fin 4) (j : Fin 20) (e : Fin 2) (l : Fin 128) :
    v.read (Elt Ideal) (v.writes (Elt Ideal) f (bodyRun.sl.HS0_12 c arg harg x)) (ix5 h p ⟨j.val, by omega⟩ e l) = x (ix4 j h ⟨2 * p.val + e.val, by omega⟩ l) := by
  rw [keys_eq]
  exact scr_at v f arg harg x h p j e l

theorem values_at (c : Dev nD) (arg : Memref sig .tc .vmem S20x3x8x128 .bf16) (harg : arg.IsWhole) (x : Vec Ideal S20x3x8x128 .bf16)
    {sg : RefSig} {κ : Kind} {sp : Space} (v : View sg κ sp S3x4x24x2x128 .bf16) (f : v.ty.Contents (Elt Ideal)) (h : Fin 3) (p : Fin 4) (j : Fin 20) (e : Fin 2) (l : Fin 128) :
    v.read (Elt Ideal) (v.writes (Elt Ideal) f (bodyRun.sl.HS1_12 c arg harg x)) (ix5 h p ⟨j.val, by omega⟩ e l) = x (ix4 j h ⟨2 * p.val + e.val, by omega⟩ l) := by
  rw [values_eq]
  exact scr_at v f arg harg x h p j e l

variable (hO : Ok m)

/-- The body's buffers at a point. -/
def mem (c : Dev nD) (t : Fin grid0.N) (fs0 : scM0_0.view.ty.Contents (Elt Ideal)) (fs1 : scM0_1.view.ty.Contents (Elt Ideal)) : Mem Ideal :=
  ⟨ms0_0 m hO t, hs0_0 m hO t, ms0_3 m hO t, hs0_3 m hO t, ms0_4 m hO t, hs0_4 m hO t, ms0_5 m hO t, hs0_5 m hO t, scM0_0, scM0_1,
      iblk m hO c 0 t, iblk m hO c 3 t, iblk m hO c 4 t, iblk m hO c 5 t,
      scM0_0.view.writes (Elt Ideal) fs0 (bodyRun.sl.HS0_12 c (ms0_1 m hO t) (hs0_1 m hO t) (iblk m hO c 1 t)),
      scM0_1.view.writes (Elt Ideal) fs1 (bodyRun.sl.HS1_12 c (ms0_2 m hO t) (hs0_2 m hO t) (iblk m hO c 2 t))⟩

section
variable (c : Dev nD) (t : Fin grid0.N) (fs0 : scM0_0.view.ty.Contents (Elt Ideal)) (fs1 : scM0_1.view.ty.Contents (Elt Ideal))

theorem mem_x0 : (mem m hO c t fs0 fs1).x0 = (iblk m hO c 0 t : Vec Ideal S8x20x3x8x128 .bf16) := rfl
theorem mem_x3 : (mem m hO c t fs0 fs1).x3 = (iblk m hO c 3 t : Vec Ideal S768x2x128 .i32) := rfl
theorem mem_x4 : (mem m hO c t fs0 fs1).x4 = (iblk m hO c 4 t : Vec Ideal S96x24x128 .i32) := rfl
theorem mem_x5 : (mem m hO c t fs0 fs1).x5 = (iblk m hO c 5 t : Vec Ideal S8x16x128 .f32) := rfl

theorem mem_f9 (h : Fin 3) (p : Fin 4) (j : Fin 20) (e : Fin 2) (l : Fin 128) :
    (mem m hO c t fs0 fs1).arg9.view.read (Elt Ideal) (mem m hO c t fs0 fs1).f9 (ix5 h p ⟨j.val, by omega⟩ e l)
      = (data m c).kn ⟨8 * (pt t).val + (2 * p.val + e.val), by omega⟩ j h l := by
  have h1 := keys_at c (ms0_1 m hO t) (hs0_1 m hO t) (iblk m hO c 1 t) scM0_0.view fs0 h p j e l
  have h2 := iblk1_at m hO c t j h ⟨2 * p.val + e.val, by omega⟩ l
  have h3 := h1.trans h2
  unfold mem
  dsimp only
  exact h3

theorem mem_f10 (h : Fin 3) (p : Fin 4) (j : Fin 20) (e : Fin 2) (l : Fin 128) :
    (mem m hO c t fs0 fs1).arg10.view.read (Elt Ideal) (mem m hO c t fs0 fs1).f10 (ix5 h p ⟨j.val, by omega⟩ e l)
      = (data m c).vn ⟨8 * (pt t).val + (2 * p.val + e.val), by omega⟩ j h l := by
  have h1 := values_at c (ms0_2 m hO t) (hs0_2 m hO t) (iblk m hO c 2 t) scM0_1.view fs1 h p j e l
  have h2 := iblk2_at m hO c t j h ⟨2 * p.val + e.val, by omega⟩ l
  have h3 := h1.trans h2
  unfold mem
  dsimp only
  exact h3

theorem holds : Holds (data m c) (pt t) (mem m hO c t fs0 fs1) where
  x0 i s h g d := (congrFun (mem_x0 m hO c t fs0 fs1) _).trans (iblk0_at m hO c t i s h g d)
  x3 a e d := (congrFun (mem_x3 m hO c t fs0 fs1) _).trans (iblk3_at m hO c t a e d)
  x4 a e d := (congrFun (mem_x4 m hO c t fs0 fs1) _).trans (iblk4_at m hO c t a e d)
  x5 a e d := (congrFun (mem_x5 m hO c t fs0 fs1) _).trans (iblk5_at m hO c t a e d)
  f9 := mem_f9 m hO c t fs0 fs1
  f10 := mem_f10 m hO c t fs0 fs1
end

variable (hH : Hyps m hO)

/-- What the body leaves in its output block. -/
theorem leaves (hp : Perm (m ((0 : Dev nD).tc.loc main_arg0) : S256x3.Idx → BitVec 32)) :
    Named.Leaves m hO hH (fun c t => outBlock (data m c) (pt t)) := by
  intro c t fs0 fs1 f6
  unfold Named.pieces
  refine (congrArg (fun L => (ms0_6 m hO t).view.read (Elt Ideal) ((ms0_6 m hO t).view.writes (Elt Ideal) f6 L)) (pieces_eq ..)).trans ?_
  refine body_at (holds m hO c t fs0 fs1) (names m c hp) _ rfl ?_ _ _
  intro i r
  have e := wordOff_eq t i r
  fin_cases i <;> fin_cases r <;> exact ⟨_, _, rfl, word_at m c t _ _ _ _ e⟩

/-- The result, entry by entry. -/
def result (c : Dev nD) : FVec Ideal S256x20x3x8x128 .bf16 := fun y => (data m c).out (y 0) (y 1) (y 2) (y 3) (y 4)

/-- The output's blocks do not depend on the table: at any one of them they cover the array. -/
def someTable : (pcfg0 (F := Ideal)).Adm := ⟨fun | 0 => fun _ => (0#32 : BitVec 32), trivial⟩

theorem covers_some : ((cfg0 (F := Ideal) someTable).win 6).Covers := by decide +kernel

theorem covers : ((cfgM m hO).win 6).Covers := covers_some

theorem emb6 (t : Fin grid0.N) (i : Fin 8) (s : Fin 20) (h : Fin 3) (g : Fin 8) (d : Fin 128) :
    ((((cfgM m hO).win 6).blk t).view.emb (ix5 i s h g d : S8x20x3x8x128.Idx) : S256x20x3x8x128.Idx) = ix5 ⟨8 * (pt t).val + i.val, by omega⟩ s h g d := by
  refine funext fun a => Fin.ext ?_
  have e := congrFun (idx6 t)
  fin_cases a
  · show cc0_transform_6 (grid0.coords t) 0 * 8 + 1 * i.val = 8 * t.val + i.val
    rw [e]; show t.val * 8 + 1 * i.val = _; omega
  · show cc0_transform_6 (grid0.coords t) 1 * 20 + 1 * s.val = s.val
    rw [e]; show 0 * 20 + 1 * s.val = _; omega
  · show cc0_transform_6 (grid0.coords t) 2 * 3 + 1 * h.val = h.val
    rw [e]; show 0 * 3 + 1 * h.val = _; omega
  · show cc0_transform_6 (grid0.coords t) 3 * 8 + 1 * g.val = g.val
    rw [e]; show 0 * 8 + 1 * g.val = _; omega
  · show cc0_transform_6 (grid0.coords t) 4 * 128 + 1 * d.val = d.val
    rw [e]; show 0 * 128 + 1 * d.val = _; omega

/-- The array the blocks make. -/
theorem arr_eq (c : Dev nD) : (Named.dats m hO (fun c t => outBlock (data m c) (pt t)) 0 c).arrAt 6 (cfgM m hO).N = result m c := by
  refine (Named.dats m hO (fun c t => outBlock (data m c) (pt t)) 0 c).arrAt_eq_of_covers 6 _ (covers m hO) fun t hf y => ?_
  have key : ∀ y : S8x20x3x8x128.Idx, outBlock (data m c) (pt t) y = result m c ((((cfgM m hO).win 6).blk t).view.emb y : S256x20x3x8x128.Idx) := by
    intro y
    idx_vars y
    exact (congrArg (result m c) (emb6 m hO t y0 y1 y2 y3 y4)).symm
  exact key y

/-- The kernel's run leaves the attention in its result. -/
theorem run (g : Dev nD → PrngReg) (hp : Perm (m ((0 : Dev nD).tc.loc main_arg0) : S256x3.Idx → BitVec 32)) :
    θ_run defs (onTc (τ := τ) (main (F := Ideal))) ⟨m, fun _ => 0, g⟩ fun r => ∀ c : Dev nD,
      r.2.mem ((c.tc : Thread nD τ).loc main_v4) = result m c :=
  (θ_run defs _ _).mono (fun r h c => ((h c).1 6).trans (arr_eq m trivial c))
    (Named.run_main m g trivial _ (hyps_of_perm m hp _) (leaves m trivial (hyps_of_perm m hp _) hp))

end Cert.KernelIdeal.Out

end
-- ==== Proof.Value.Equal.lean ====
/-
  The two programs' results are one: both are the attention of `Spec` at their arguments.
-/
module

public import proofs.«01_k».proof.Defs
public import proofs.«01_k».proof.Proof.Gen.Pre_permutes_heads
public import proofs.«01_k».proof.Proof.Value.RefAt
public import proofs.«01_k».proof.Proof.Value.Out

@[expose] public section

set_option maxRecDepth 16384

noncomputable section

namespace Cert.Proof

open Idealize.ShloMosaic Idealize.ShloMosaic.TcCoe Idealize.ShloMosaic.StableHlo Idealize.SL.Sem Cert.Order Cert.Attn

/-- The arguments of an attention, from their arrays. -/
def dataOf (a0 : IVec Cert.KernelIdeal.S256x3 32) (a1 : FVec Ideal Cert.KernelIdeal.S256x20x24x128 .bf16) (a2 a3 : FVec Ideal Cert.KernelIdeal.S256x20x3x128 .bf16)
    (a4 : IVec Cert.KernelIdeal.S24576x2x128 32) (a5 : IVec Cert.KernelIdeal.S3072x24x128 32) (a6 : FVec Ideal Cert.KernelIdeal.S256x16x128 .f32) : Data where
  order b r := a0 (ix2 b r)
  q b s h d := a1 (ix4 b s h d)
  kn b j h d := a2 (ix4 b j h d)
  vn b j h d := a3 (ix4 b j h d)
  kd a p d := a4 (ix3 a p d)
  vd a p l := a5 (ix3 a p l)
  bias b c l := a6 (ix3 b c l)

theorem dataOf_congr {a0 b0 : IVec Cert.KernelIdeal.S256x3 32} {a1 b1 : FVec Ideal Cert.KernelIdeal.S256x20x24x128 .bf16}
    {a2 b2 a3 b3 : FVec Ideal Cert.KernelIdeal.S256x20x3x128 .bf16} {a4 b4 : IVec Cert.KernelIdeal.S24576x2x128 32}
    {a5 b5 : IVec Cert.KernelIdeal.S3072x24x128 32} {a6 b6 : FVec Ideal Cert.KernelIdeal.S256x16x128 .f32}
    (e0 : a0 = b0) (e1 : a1 = b1) (e2 : a2 = b2) (e3 : a3 = b3) (e4 : a4 = b4) (e5 : a5 = b5) (e6 : a6 = b6) :
    dataOf a0 a1 a2 a3 a4 a5 a6 = dataOf b0 b1 b2 b3 b4 b5 b6 := by
  subst e0 e1 e2 e3 e4 e5 e6; rfl

/-- The reference's result at arguments that are the kernel's is the kernel's. -/
theorem result_eq (V0 : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (e : Cert.ReferenceIdeal.Value.data V0 = Cert.KernelIdeal.Out.data m c) :
    Cert.ReferenceIdeal.Value.result V0 = Cert.KernelIdeal.Out.result m c := by
  funext y
  have key : ∀ (b : Fin 256) (s : Fin 20) (h : Fin 3) (g : Fin 8) (d : Fin 128),
      Cert.ReferenceIdeal.Value.result V0 (ix5 b s h g d) = Cert.KernelIdeal.Out.result m c (ix5 b s h g d) := by
    intro b s h g d
    rw [Cert.ReferenceIdeal.Value.result_at, e]
    rfl
  have hy : y = (ix5 (y 0) (y 1) (y 2) (y 3) (y 4) : Cert.KernelIdeal.S256x20x3x8x128.Idx) := by
    funext a; fin_cases a <;> rfl
  rw [hy]
  exact key _ _ _ _ _

theorem algebraic : Cert.algebraic_KernelIdeal_ReferenceIdeal := by
  intro m g m' g' hpre h
  have hp := perm_of_fn _ _ _ _ _ _ _ (hpre 0)
  refine ⟨fun c => Cert.KernelIdeal.Out.result m c, ?_, ?_⟩
  · refine (θ_run _ _ _).mono (fun r hr c => ⟨hr.1 c, hr.2 c⟩) (θ_run_and (Cert.KernelIdeal.Out.run m g hp)
      (Cert.KernelIdeal.Gen.unchanged m g trivial (Cert.KernelIdeal.Gen.hyps_of_perm m hp _)))
  · refine (θ_run _ _ _).mono (fun r hr c => ⟨(hr c).1.trans (result_eq (launchContents m' c) m c ?_), (hr c).2⟩) (Cert.ReferenceIdeal.Value.run (F := Ideal) m' g')
    obtain ⟨e0, e1, e2, e3, e4, e5, e6⟩ := h c
    exact dataOf_congr e0 e1 e2 e3 e4 e5 e6

end Cert.Proof

end
-- ==== Proof.Preserves.lean ====
/-
  The rewrites that take the kernel to its idealization, each by its rule.
-/
module

public import proofs.«01_k».proof.Defs
public import Idealize.ShloMosaic.Lib.Bf16Pair
public import Idealize.ShloMosaic.Lib.Bf16PairInverse

@[expose] public section

namespace Cert.Proof

open Idealize.ShloMosaic

theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _, IdealRules.named_const.statement Cert.KernelIdeal.κ "mask" _ _ _ rfl⟩

end Cert.Proof
-- ==== Proof.lean ====
/-
  The claims, assembled: the frames of the kernel as printed, of its idealization and of the reference; that the idealization
  is the kernel's; and that the idealized kernel and the reference compute the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_permutes_heads
public import proofs.«01_k».proof.Proof.BitsFrame.Frame
public import proofs.«01_k».proof.Proof.BitsFrame.Table
public import proofs.«01_k».proof.Proof.RealFrame.Frame
public import proofs.«01_k».proof.Proof.RealFrame.Table
public import proofs.«01_k».proof.Proof.Value.Equal
public import proofs.«01_k».proof.Proof.Preserves
public import Idealize.ShloMosaic.Adequacy
public import Idealize.ShloMosaic.Init

@[expose] public section

noncomputable section

namespace Cert.Proof

open Idealize.ShloMosaic Idealize.SL.Sem Cert.Order

theorem frame_bits : Cert.quiescent_Kernel := fun m g h =>
  Cert.Kernel.Gen.frame m g trivial (Cert.Kernel.Gen.hyps_of_perm m (perm_of_fn _ _ _ _ _ _ _ (h 0)) _)

theorem frame_ideal : Cert.quiescent_KernelIdeal := fun m g h =>
  Cert.KernelIdeal.Gen.frame m g trivial (Cert.KernelIdeal.Gen.hyps_of_perm m (perm_of_fn _ _ _ _ _ _ _ (h 0)) _)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Pre_permutes_heads.Gen.facts,
    frame_bits, frame_ideal, frame_reference, fun m g h => frame_reference m g trivial, preserves, algebraic⟩

end Cert.Proof

end
